-- ==== Defs.lean ====
def Pre_Flash (m : (ℓ : Loc Cert.Flash.nD Cert.Flash.τ Cert.Flash.sig) → Buf (Elt Bits) ℓ) : Prop :=
  True

def Pre_FlashIdeal (m : (ℓ : Loc Cert.FlashIdeal.nD Cert.FlashIdeal.τ Cert.FlashIdeal.sig) → Buf (Elt Ideal) ℓ) : Prop :=
  True

def Pre_FlashIdeal_finite [hPre_finite : Cert.Pre_finite.Facts] (m : (ℓ : Loc Cert.FlashIdeal.nD Cert.FlashIdeal.τ Cert.FlashIdeal.sig) → Buf (Elt Ideal) ℓ) : Prop :=
  ∀ c : Dev Cert.FlashIdeal.nD,
    (Cert.Pre_finite.fn (F := Ideal) (m ((c.tc : Thread Cert.FlashIdeal.nD Cert.FlashIdeal.τ).loc Cert.FlashIdeal.main_arg0)) (m ((c.tc : Thread Cert.FlashIdeal.nD Cert.FlashIdeal.τ).loc Cert.FlashIdeal.main_arg1)) (m ((c.tc : Thread Cert.FlashIdeal.nD Cert.FlashIdeal.τ).loc Cert.FlashIdeal.main_arg2))) = (fun _ => 1#1)

def Pre_FlashRefIdeal (m : (ℓ : Loc Cert.FlashRefIdeal.nD Cert.FlashRefIdeal.τ Cert.FlashRefIdeal.sig) → Buf (Elt Ideal) ℓ) : Prop :=
  True

def Pre_FlashRefIdeal_finite [hPre_finite : Cert.Pre_finite.Facts] (m : (ℓ : Loc Cert.FlashRefIdeal.nD Cert.FlashRefIdeal.τ Cert.FlashRefIdeal.sig) → Buf (Elt Ideal) ℓ) : Prop :=
  ∀ c : Dev Cert.FlashRefIdeal.nD,
    (Cert.Pre_finite.fn (F := Ideal) (m ((c.tc : Thread Cert.FlashRefIdeal.nD Cert.FlashRefIdeal.τ).loc Cert.FlashRefIdeal.main_arg0)) (m ((c.tc : Thread Cert.FlashRefIdeal.nD Cert.FlashRefIdeal.τ).loc Cert.FlashRefIdeal.main_arg1)) (m ((c.tc : Thread Cert.FlashRefIdeal.nD Cert.FlashRefIdeal.τ).loc Cert.FlashRefIdeal.main_arg2))) = (fun _ => 1#1)

def Pre_ProjB (m : (ℓ : Loc Cert.ProjB.nD Cert.ProjB.τ Cert.ProjB.sig) → Buf (Elt Bits) ℓ) : Prop :=
  True

def Pre_ProjBIdeal (m : (ℓ : Loc Cert.ProjBIdeal.nD Cert.ProjBIdeal.τ Cert.ProjBIdeal.sig) → Buf (Elt Ideal) ℓ) : Prop :=
  True

def Pre_ProjBRefIdeal (m : (ℓ : Loc Cert.ProjBRefIdeal.nD Cert.ProjBRefIdeal.τ Cert.ProjBRefIdeal.sig) → Buf (Elt Ideal) ℓ) : Prop :=
  True

def Pre_ProjS (m : (ℓ : Loc Cert.ProjS.nD Cert.ProjS.τ Cert.ProjS.sig) → Buf (Elt Bits) ℓ) : Prop :=
  True

def Pre_ProjSIdeal (m : (ℓ : Loc Cert.ProjSIdeal.nD Cert.ProjSIdeal.τ Cert.ProjSIdeal.sig) → Buf (Elt Ideal) ℓ) : Prop :=
  True

def Pre_ProjSIdeal_finite_weights [hPre_finite_weights : Cert.Pre_finite_weights.Facts] (m : (ℓ : Loc Cert.ProjSIdeal.nD Cert.ProjSIdeal.τ Cert.ProjSIdeal.sig) → Buf (Elt Ideal) ℓ) : Prop :=
  ∀ c : Dev Cert.ProjSIdeal.nD,
    (Cert.Pre_finite_weights.fn (F := Ideal) (m ((c.tc : Thread Cert.ProjSIdeal.nD Cert.ProjSIdeal.τ).loc Cert.ProjSIdeal.main_arg0)) (m ((c.tc : Thread Cert.ProjSIdeal.nD Cert.ProjSIdeal.τ).loc Cert.ProjSIdeal.main_arg1))) = (fun _ => 1#1)

def Pre_ProjSRefIdeal (m : (ℓ : Loc Cert.ProjSRefIdeal.nD Cert.ProjSRefIdeal.τ Cert.ProjSRefIdeal.sig) → Buf (Elt Ideal) ℓ) : Prop :=
  True

def Pre_ProjSRefIdeal_finite_weights [hPre_finite_weights : Cert.Pre_finite_weights.Facts] (m : (ℓ : Loc Cert.ProjSRefIdeal.nD Cert.ProjSRefIdeal.τ Cert.ProjSRefIdeal.sig) → Buf (Elt Ideal) ℓ) : Prop :=
  ∀ c : Dev Cert.ProjSRefIdeal.nD,
    (Cert.Pre_finite_weights.fn (F := Ideal) (m ((c.tc : Thread Cert.ProjSRefIdeal.nD Cert.ProjSRefIdeal.τ).loc Cert.ProjSRefIdeal.main_arg0)) (m ((c.tc : Thread Cert.ProjSRefIdeal.nD Cert.ProjSRefIdeal.τ).loc Cert.ProjSRefIdeal.main_arg1))) = (fun _ => 1#1)

def Pre_ProjG (m : (ℓ : Loc Cert.ProjG.nD Cert.ProjG.τ Cert.ProjG.sig) → Buf (Elt Bits) ℓ) : Prop :=
  True

def Pre_ProjGIdeal (m : (ℓ : Loc Cert.ProjGIdeal.nD Cert.ProjGIdeal.τ Cert.ProjGIdeal.sig) → Buf (Elt Ideal) ℓ) : Prop :=
  True

def Pre_ProjGRefIdeal (m : (ℓ : Loc Cert.ProjGRefIdeal.nD Cert.ProjGRefIdeal.τ Cert.ProjGRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_LatKV (m : (ℓ : Loc Cert.LatKV.nD Cert.LatKV.τ Cert.LatKV.sig) → Buf (Elt Bits) ℓ) : Prop :=
  True

def Pre_LatKVIdeal (m : (ℓ : Loc Cert.LatKVIdeal.nD Cert.LatKVIdeal.τ Cert.LatKVIdeal.sig) → Buf (Elt Ideal) ℓ) : Prop :=
  True

def Pre_LatKVRefIdeal (m : (ℓ : Loc Cert.LatKVRefIdeal.nD Cert.LatKVRefIdeal.τ Cert.LatKVRefIdeal.sig) → Buf (Elt Ideal) ℓ) : Prop :=
  True

def Pre_LatQ (m : (ℓ : Loc Cert.LatQ.nD Cert.LatQ.τ Cert.LatQ.sig) → Buf (Elt Bits) ℓ) : Prop :=
  True

def Pre_LatQIdeal (m : (ℓ : Loc Cert.LatQIdeal.nD Cert.LatQIdeal.τ Cert.LatQIdeal.sig) → Buf (Elt Ideal) ℓ) : Prop :=
  True

def Pre_LatQRefIdeal (m : (ℓ : Loc Cert.LatQRefIdeal.nD Cert.LatQRefIdeal.τ Cert.LatQRefIdeal.sig) → Buf (Elt Ideal) ℓ) : Prop :=
  True

def Pre_Router (m : (ℓ : Loc Cert.Router.nD Cert.Router.τ Cert.Router.sig) → Buf (Elt Bits) ℓ) : Prop :=
  True

def Pre_RouterIdeal (m : (ℓ : Loc Cert.RouterIdeal.nD Cert.RouterIdeal.τ Cert.RouterIdeal.sig) → Buf (Elt Ideal) ℓ) : Prop :=
  True

def Pre_RouterIdeal_finite_router [hPre_finite_router : Cert.Pre_finite_router.Facts] (m : (ℓ : Loc Cert.RouterIdeal.nD Cert.RouterIdeal.τ Cert.RouterIdeal.sig) → Buf (Elt Ideal) ℓ) : Prop :=
  ∀ c : Dev Cert.RouterIdeal.nD,
    (Cert.Pre_finite_router.fn (F := Ideal) (m ((c.tc : Thread Cert.RouterIdeal.nD Cert.RouterIdeal.τ).loc Cert.RouterIdeal.main_arg0)) (m ((c.tc : Thread Cert.RouterIdeal.nD Cert.RouterIdeal.τ).loc Cert.RouterIdeal.main_arg1)) (m ((c.tc : Thread Cert.RouterIdeal.nD Cert.RouterIdeal.τ).loc Cert.RouterIdeal.main_arg2)) (m ((c.tc : Thread Cert.RouterIdeal.nD Cert.RouterIdeal.τ).loc Cert.RouterIdeal.main_arg3)) (m ((c.tc : Thread Cert.RouterIdeal.nD Cert.RouterIdeal.τ).loc Cert.RouterIdeal.main_arg4))) = (fun _ => 1#1)

def Pre_RouterRefIdeal (m : (ℓ : Loc Cert.RouterRefIdeal.nD Cert.RouterRefIdeal.τ Cert.RouterRefIdeal.sig) → Buf (Elt Ideal) ℓ) : Prop :=
  True

def Pre_RouterRefIdeal_finite_router [hPre_finite_router : Cert.Pre_finite_router.Facts] (m : (ℓ : Loc Cert.RouterRefIdeal.nD Cert.RouterRefIdeal.τ Cert.RouterRefIdeal.sig) → Buf (Elt Ideal) ℓ) : Prop :=
  ∀ c : Dev Cert.RouterRefIdeal.nD,
    (Cert.Pre_finite_router.fn (F := Ideal) (m ((c.tc : Thread Cert.RouterRefIdeal.nD Cert.RouterRefIdeal.τ).loc Cert.RouterRefIdeal.main_arg0)) (m ((c.tc : Thread Cert.RouterRefIdeal.nD Cert.RouterRefIdeal.τ).loc Cert.RouterRefIdeal.main_arg1)) (m ((c.tc : Thread Cert.RouterRefIdeal.nD Cert.RouterRefIdeal.τ).loc Cert.RouterRefIdeal.main_arg2)) (m ((c.tc : Thread Cert.RouterRefIdeal.nD Cert.RouterRefIdeal.τ).loc Cert.RouterRefIdeal.main_arg3)) (m ((c.tc : Thread Cert.RouterRefIdeal.nD Cert.RouterRefIdeal.τ).loc Cert.RouterRefIdeal.main_arg4))) = (fun _ => 1#1)

def quiescent_Flash [hFlash : Cert.Flash.Facts] : Prop :=
  ∀ (m : (ℓ : Loc Cert.Flash.nD Cert.Flash.τ Cert.Flash.sig) → Buf (Elt Bits) ℓ) (g : Dev Cert.Flash.nD → PrngReg), Pre_Flash m →
    θ_run (Cert.Flash.defs (F := Bits)) (onTc (τ := Cert.Flash.τ) (Cert.Flash.main (F := Bits))) ⟨m, fun _ => 0, g⟩ (fun r => (∀ c : Dev Cert.Flash.nD,
      r.2.mem ((c.tc : Thread Cert.Flash.nD Cert.Flash.τ).loc Cert.Flash.main_arg0) = m ((c.tc : Thread Cert.Flash.nD Cert.Flash.τ).loc Cert.Flash.main_arg0)
      ∧ r.2.mem ((c.tc : Thread Cert.Flash.nD Cert.Flash.τ).loc Cert.Flash.main_arg1) = m ((c.tc : Thread Cert.Flash.nD Cert.Flash.τ).loc Cert.Flash.main_arg1)
      ∧ r.2.mem ((c.tc : Thread Cert.Flash.nD Cert.Flash.τ).loc Cert.Flash.main_arg2) = m ((c.tc : Thread Cert.Flash.nD Cert.Flash.τ).loc Cert.Flash.main_arg2))
      ∧ r.2.sem = fun _ => 0)

def quiescent_FlashIdeal [hFlashIdeal : Cert.FlashIdeal.Facts] : Prop :=
  ∀ (m : (ℓ : Loc Cert.FlashIdeal.nD Cert.FlashIdeal.τ Cert.FlashIdeal.sig) → Buf (Elt Ideal) ℓ) (g : Dev Cert.FlashIdeal.nD → PrngReg), Pre_FlashIdeal m →
    θ_run (Cert.FlashIdeal.defs (F := Ideal)) (onTc (τ := Cert.FlashIdeal.τ) (Cert.FlashIdeal.main (F := Ideal))) ⟨m, fun _ => 0, g⟩ (fun r => (∀ c : Dev Cert.FlashIdeal.nD,
      r.2.mem ((c.tc : Thread Cert.FlashIdeal.nD Cert.FlashIdeal.τ).loc Cert.FlashIdeal.main_arg0) = m ((c.tc : Thread Cert.FlashIdeal.nD Cert.FlashIdeal.τ).loc Cert.FlashIdeal.main_arg0)
      ∧ r.2.mem ((c.tc : Thread Cert.FlashIdeal.nD Cert.FlashIdeal.τ).loc Cert.FlashIdeal.main_arg1) = m ((c.tc : Thread Cert.FlashIdeal.nD Cert.FlashIdeal.τ).loc Cert.FlashIdeal.main_arg1)
      ∧ r.2.mem ((c.tc : Thread Cert.FlashIdeal.nD Cert.FlashIdeal.τ).loc Cert.FlashIdeal.main_arg2) = m ((c.tc : Thread Cert.FlashIdeal.nD Cert.FlashIdeal.τ).loc Cert.FlashIdeal.main_arg2))
      ∧ r.2.sem = fun _ => 0)

def quiescent_FlashIdeal_pre_finite [hFlashIdeal : Cert.FlashIdeal.Facts] [hPre_finite : Cert.Pre_finite.Facts] : Prop :=
  ∀ (m : (ℓ : Loc Cert.FlashIdeal.nD Cert.FlashIdeal.τ Cert.FlashIdeal.sig) → Buf (Elt Ideal) ℓ) (g : Dev Cert.FlashIdeal.nD → PrngReg), Pre_FlashIdeal_finite m →
    θ_run (Cert.FlashIdeal.defs (F := Ideal)) (onTc (τ := Cert.FlashIdeal.τ) (Cert.FlashIdeal.main (F := Ideal))) ⟨m, fun _ => 0, g⟩ (fun r => (∀ c : Dev Cert.FlashIdeal.nD,
      r.2.mem ((c.tc : Thread Cert.FlashIdeal.nD Cert.FlashIdeal.τ).loc Cert.FlashIdeal.main_arg0) = m ((c.tc : Thread Cert.FlashIdeal.nD Cert.FlashIdeal.τ).loc Cert.FlashIdeal.main_arg0)
      ∧ r.2.mem ((c.tc : Thread Cert.FlashIdeal.nD Cert.FlashIdeal.τ).loc Cert.FlashIdeal.main_arg1) = m ((c.tc : Thread Cert.FlashIdeal.nD Cert.FlashIdeal.τ).loc Cert.FlashIdeal.main_arg1)
      ∧ r.2.mem ((c.tc : Thread Cert.FlashIdeal.nD Cert.FlashIdeal.τ).loc Cert.FlashIdeal.main_arg2) = m ((c.tc : Thread Cert.FlashIdeal.nD Cert.FlashIdeal.τ).loc Cert.FlashIdeal.main_arg2))
      ∧ r.2.sem = fun _ => 0)

def quiescent_FlashRefIdeal [hFlashRefIdeal : Cert.FlashRefIdeal.Facts] : Prop :=
  ∀ (m : (ℓ : Loc Cert.FlashRefIdeal.nD Cert.FlashRefIdeal.τ Cert.FlashRefIdeal.sig) → Buf (Elt Ideal) ℓ) (g : Dev Cert.FlashRefIdeal.nD → PrngReg), Pre_FlashRefIdeal m →
    θ_run (Cert.FlashRefIdeal.defs (F := Ideal)) (onTc (τ := Cert.FlashRefIdeal.τ) (Cert.FlashRefIdeal.main (F := Ideal))) ⟨m, fun _ => 0, g⟩ (fun r => (∀ c : Dev Cert.FlashRefIdeal.nD,
      r.2.mem ((c.tc : Thread Cert.FlashRefIdeal.nD Cert.FlashRefIdeal.τ).loc Cert.FlashRefIdeal.main_arg0) = m ((c.tc : Thread Cert.FlashRefIdeal.nD Cert.FlashRefIdeal.τ).loc Cert.FlashRefIdeal.main_arg0)
      ∧ r.2.mem ((c.tc : Thread Cert.FlashRefIdeal.nD Cert.FlashRefIdeal.τ).loc Cert.FlashRefIdeal.main_arg1) = m ((c.tc : Thread Cert.FlashRefIdeal.nD Cert.FlashRefIdeal.τ).loc Cert.FlashRefIdeal.main_arg1)
      ∧ r.2.mem ((c.tc : Thread Cert.FlashRefIdeal.nD Cert.FlashRefIdeal.τ).loc Cert.FlashRefIdeal.main_arg2) = m ((c.tc : Thread Cert.FlashRefIdeal.nD Cert.FlashRefIdeal.τ).loc Cert.FlashRefIdeal.main_arg2))
      ∧ r.2.sem = fun _ => 0)

def quiescent_FlashRefIdeal_pre_finite [hFlashRefIdeal : Cert.FlashRefIdeal.Facts] [hPre_finite : Cert.Pre_finite.Facts] : Prop :=
  ∀ (m : (ℓ : Loc Cert.FlashRefIdeal.nD Cert.FlashRefIdeal.τ Cert.FlashRefIdeal.sig) → Buf (Elt Ideal) ℓ) (g : Dev Cert.FlashRefIdeal.nD → PrngReg), Pre_FlashRefIdeal_finite m →
    θ_run (Cert.FlashRefIdeal.defs (F := Ideal)) (onTc (τ := Cert.FlashRefIdeal.τ) (Cert.FlashRefIdeal.main (F := Ideal))) ⟨m, fun _ => 0, g⟩ (fun r => (∀ c : Dev Cert.FlashRefIdeal.nD,
      r.2.mem ((c.tc : Thread Cert.FlashRefIdeal.nD Cert.FlashRefIdeal.τ).loc Cert.FlashRefIdeal.main_arg0) = m ((c.tc : Thread Cert.FlashRefIdeal.nD Cert.FlashRefIdeal.τ).loc Cert.FlashRefIdeal.main_arg0)
      ∧ r.2.mem ((c.tc : Thread Cert.FlashRefIdeal.nD Cert.FlashRefIdeal.τ).loc Cert.FlashRefIdeal.main_arg1) = m ((c.tc : Thread Cert.FlashRefIdeal.nD Cert.FlashRefIdeal.τ).loc Cert.FlashRefIdeal.main_arg1)
      ∧ r.2.mem ((c.tc : Thread Cert.FlashRefIdeal.nD Cert.FlashRefIdeal.τ).loc Cert.FlashRefIdeal.main_arg2) = m ((c.tc : Thread Cert.FlashRefIdeal.nD Cert.FlashRefIdeal.τ).loc Cert.FlashRefIdeal.main_arg2))
      ∧ r.2.sem = fun _ => 0)

def quiescent_ProjB [hProjB : Cert.ProjB.Facts] : Prop :=
  ∀ (m : (ℓ : Loc Cert.ProjB.nD Cert.ProjB.τ Cert.ProjB.sig) → Buf (Elt Bits) ℓ) (g : Dev Cert.ProjB.nD → PrngReg), Pre_ProjB m →
    θ_run (Cert.ProjB.defs (F := Bits)) (onTc (τ := Cert.ProjB.τ) (Cert.ProjB.main (F := Bits))) ⟨m, fun _ => 0, g⟩ (fun r => (∀ c : Dev Cert.ProjB.nD,
      r.2.mem ((c.tc : Thread Cert.ProjB.nD Cert.ProjB.τ).loc Cert.ProjB.main_arg0) = m ((c.tc : Thread Cert.ProjB.nD Cert.ProjB.τ).loc Cert.ProjB.main_arg0)
      ∧ r.2.mem ((c.tc : Thread Cert.ProjB.nD Cert.ProjB.τ).loc Cert.ProjB.main_arg1) = m ((c.tc : Thread Cert.ProjB.nD Cert.ProjB.τ).loc Cert.ProjB.main_arg1))
      ∧ r.2.sem = fun _ => 0)

def quiescent_ProjBIdeal [hProjBIdeal : Cert.ProjBIdeal.Facts] : Prop :=
  ∀ (m : (ℓ : Loc Cert.ProjBIdeal.nD Cert.ProjBIdeal.τ Cert.ProjBIdeal.sig) → Buf (Elt Ideal) ℓ) (g : Dev Cert.ProjBIdeal.nD → PrngReg), Pre_ProjBIdeal m →
    θ_run (Cert.ProjBIdeal.defs (F := Ideal)) (onTc (τ := Cert.ProjBIdeal.τ) (Cert.ProjBIdeal.main (F := Ideal))) ⟨m, fun _ => 0, g⟩ (fun r => (∀ c : Dev Cert.ProjBIdeal.nD,
      r.2.mem ((c.tc : Thread Cert.ProjBIdeal.nD Cert.ProjBIdeal.τ).loc Cert.ProjBIdeal.main_arg0) = m ((c.tc : Thread Cert.ProjBIdeal.nD Cert.ProjBIdeal.τ).loc Cert.ProjBIdeal.main_arg0)
      ∧ r.2.mem ((c.tc : Thread Cert.ProjBIdeal.nD Cert.ProjBIdeal.τ).loc Cert.ProjBIdeal.main_arg1) = m ((c.tc : Thread Cert.ProjBIdeal.nD Cert.ProjBIdeal.τ).loc Cert.ProjBIdeal.main_arg1))
      ∧ r.2.sem = fun _ => 0)

def quiescent_ProjBRefIdeal [hProjBRefIdeal : Cert.ProjBRefIdeal.Facts] : Prop :=
  ∀ (m : (ℓ : Loc Cert.ProjBRefIdeal.nD Cert.ProjBRefIdeal.τ Cert.ProjBRefIdeal.sig) → Buf (Elt Ideal) ℓ) (g : Dev Cert.ProjBRefIdeal.nD → PrngReg), Pre_ProjBRefIdeal m →
    θ_run (Cert.ProjBRefIdeal.defs (F := Ideal)) (onTc (τ := Cert.ProjBRefIdeal.τ) (Cert.ProjBRefIdeal.main (F := Ideal))) ⟨m, fun _ => 0, g⟩ (fun r => (∀ c : Dev Cert.ProjBRefIdeal.nD,
      r.2.mem ((c.tc : Thread Cert.ProjBRefIdeal.nD Cert.ProjBRefIdeal.τ).loc Cert.ProjBRefIdeal.main_arg0) = m ((c.tc : Thread Cert.ProjBRefIdeal.nD Cert.ProjBRefIdeal.τ).loc Cert.ProjBRefIdeal.main_arg0)
      ∧ r.2.mem ((c.tc : Thread Cert.ProjBRefIdeal.nD Cert.ProjBRefIdeal.τ).loc Cert.ProjBRefIdeal.main_arg1) = m ((c.tc : Thread Cert.ProjBRefIdeal.nD Cert.ProjBRefIdeal.τ).loc Cert.ProjBRefIdeal.main_arg1))
      ∧ r.2.sem = fun _ => 0)

def quiescent_ProjS [hProjS : Cert.ProjS.Facts] : Prop :=
  ∀ (m : (ℓ : Loc Cert.ProjS.nD Cert.ProjS.τ Cert.ProjS.sig) → Buf (Elt Bits) ℓ) (g : Dev Cert.ProjS.nD → PrngReg), Pre_ProjS m →
    θ_run (Cert.ProjS.defs (F := Bits)) (onTc (τ := Cert.ProjS.τ) (Cert.ProjS.main (F := Bits))) ⟨m, fun _ => 0, g⟩ (fun r => (∀ c : Dev Cert.ProjS.nD,
      r.2.mem ((c.tc : Thread Cert.ProjS.nD Cert.ProjS.τ).loc Cert.ProjS.main_arg0) = m ((c.tc : Thread Cert.ProjS.nD Cert.ProjS.τ).loc Cert.ProjS.main_arg0)
      ∧ r.2.mem ((c.tc : Thread Cert.ProjS.nD Cert.ProjS.τ).loc Cert.ProjS.main_arg1) = m ((c.tc : Thread Cert.ProjS.nD Cert.ProjS.τ).loc Cert.ProjS.main_arg1))
      ∧ r.2.sem = fun _ => 0)

def quiescent_ProjSIdeal [hProjSIdeal : Cert.ProjSIdeal.Facts] : Prop :=
  ∀ (m : (ℓ : Loc Cert.ProjSIdeal.nD Cert.ProjSIdeal.τ Cert.ProjSIdeal.sig) → Buf (Elt Ideal) ℓ) (g : Dev Cert.ProjSIdeal.nD → PrngReg), Pre_ProjSIdeal m →
    θ_run (Cert.ProjSIdeal.defs (F := Ideal)) (onTc (τ := Cert.ProjSIdeal.τ) (Cert.ProjSIdeal.main (F := Ideal))) ⟨m, fun _ => 0, g⟩ (fun r => (∀ c : Dev Cert.ProjSIdeal.nD,
      r.2.mem ((c.tc : Thread Cert.ProjSIdeal.nD Cert.ProjSIdeal.τ).loc Cert.ProjSIdeal.main_arg0) = m ((c.tc : Thread Cert.ProjSIdeal.nD Cert.ProjSIdeal.τ).loc Cert.ProjSIdeal.main_arg0)
      ∧ r.2.mem ((c.tc : Thread Cert.ProjSIdeal.nD Cert.ProjSIdeal.τ).loc Cert.ProjSIdeal.main_arg1) = m ((c.tc : Thread Cert.ProjSIdeal.nD Cert.ProjSIdeal.τ).loc Cert.ProjSIdeal.main_arg1))
      ∧ r.2.sem = fun _ => 0)

def quiescent_ProjSIdeal_pre_finite_weights [hProjSIdeal : Cert.ProjSIdeal.Facts] [hPre_finite_weights : Cert.Pre_finite_weights.Facts] : Prop :=
  ∀ (m : (ℓ : Loc Cert.ProjSIdeal.nD Cert.ProjSIdeal.τ Cert.ProjSIdeal.sig) → Buf (Elt Ideal) ℓ) (g : Dev Cert.ProjSIdeal.nD → PrngReg), Pre_ProjSIdeal_finite_weights m →
    θ_run (Cert.ProjSIdeal.defs (F := Ideal)) (onTc (τ := Cert.ProjSIdeal.τ) (Cert.ProjSIdeal.main (F := Ideal))) ⟨m, fun _ => 0, g⟩ (fun r => (∀ c : Dev Cert.ProjSIdeal.nD,
      r.2.mem ((c.tc : Thread Cert.ProjSIdeal.nD Cert.ProjSIdeal.τ).loc Cert.ProjSIdeal.main_arg0) = m ((c.tc : Thread Cert.ProjSIdeal.nD Cert.ProjSIdeal.τ).loc Cert.ProjSIdeal.main_arg0)
      ∧ r.2.mem ((c.tc : Thread Cert.ProjSIdeal.nD Cert.ProjSIdeal.τ).loc Cert.ProjSIdeal.main_arg1) = m ((c.tc : Thread Cert.ProjSIdeal.nD Cert.ProjSIdeal.τ).loc Cert.ProjSIdeal.main_arg1))
      ∧ r.2.sem = fun _ => 0)

def quiescent_ProjSRefIdeal [hProjSRefIdeal : Cert.ProjSRefIdeal.Facts] : Prop :=
  ∀ (m : (ℓ : Loc Cert.ProjSRefIdeal.nD Cert.ProjSRefIdeal.τ Cert.ProjSRefIdeal.sig) → Buf (Elt Ideal) ℓ) (g : Dev Cert.ProjSRefIdeal.nD → PrngReg), Pre_ProjSRefIdeal m →
    θ_run (Cert.ProjSRefIdeal.defs (F := Ideal)) (onTc (τ := Cert.ProjSRefIdeal.τ) (Cert.ProjSRefIdeal.main (F := Ideal))) ⟨m, fun _ => 0, g⟩ (fun r => (∀ c : Dev Cert.ProjSRefIdeal.nD,
      r.2.mem ((c.tc : Thread Cert.ProjSRefIdeal.nD Cert.ProjSRefIdeal.τ).loc Cert.ProjSRefIdeal.main_arg0) = m ((c.tc : Thread Cert.ProjSRefIdeal.nD Cert.ProjSRefIdeal.τ).loc Cert.ProjSRefIdeal.main_arg0)
      ∧ r.2.mem ((c.tc : Thread Cert.ProjSRefIdeal.nD Cert.ProjSRefIdeal.τ).loc Cert.ProjSRefIdeal.main_arg1) = m ((c.tc : Thread Cert.ProjSRefIdeal.nD Cert.ProjSRefIdeal.τ).loc Cert.ProjSRefIdeal.main_arg1))
      ∧ r.2.sem = fun _ => 0)

def quiescent_ProjSRefIdeal_pre_finite_weights [hProjSRefIdeal : Cert.ProjSRefIdeal.Facts] [hPre_finite_weights : Cert.Pre_finite_weights.Facts] : Prop :=
  ∀ (m : (ℓ : Loc Cert.ProjSRefIdeal.nD Cert.ProjSRefIdeal.τ Cert.ProjSRefIdeal.sig) → Buf (Elt Ideal) ℓ) (g : Dev Cert.ProjSRefIdeal.nD → PrngReg), Pre_ProjSRefIdeal_finite_weights m →
    θ_run (Cert.ProjSRefIdeal.defs (F := Ideal)) (onTc (τ := Cert.ProjSRefIdeal.τ) (Cert.ProjSRefIdeal.main (F := Ideal))) ⟨m, fun _ => 0, g⟩ (fun r => (∀ c : Dev Cert.ProjSRefIdeal.nD,
      r.2.mem ((c.tc : Thread Cert.ProjSRefIdeal.nD Cert.ProjSRefIdeal.τ).loc Cert.ProjSRefIdeal.main_arg0) = m ((c.tc : Thread Cert.ProjSRefIdeal.nD Cert.ProjSRefIdeal.τ).loc Cert.ProjSRefIdeal.main_arg0)
      ∧ r.2.mem ((c.tc : Thread Cert.ProjSRefIdeal.nD Cert.ProjSRefIdeal.τ).loc Cert.ProjSRefIdeal.main_arg1) = m ((c.tc : Thread Cert.ProjSRefIdeal.nD Cert.ProjSRefIdeal.τ).loc Cert.ProjSRefIdeal.main_arg1))
      ∧ r.2.sem = fun _ => 0)

def quiescent_ProjG [hProjG : Cert.ProjG.Facts] : Prop :=
  ∀ (m : (ℓ : Loc Cert.ProjG.nD Cert.ProjG.τ Cert.ProjG.sig) → Buf (Elt Bits) ℓ) (g : Dev Cert.ProjG.nD → PrngReg), Pre_ProjG m →
    θ_run (Cert.ProjG.defs (F := Bits)) (onTc (τ := Cert.ProjG.τ) (Cert.ProjG.main (F := Bits))) ⟨m, fun _ => 0, g⟩ (fun r => (∀ c : Dev Cert.ProjG.nD,
      r.2.mem ((c.tc : Thread Cert.ProjG.nD Cert.ProjG.τ).loc Cert.ProjG.main_arg0) = m ((c.tc : Thread Cert.ProjG.nD Cert.ProjG.τ).loc Cert.ProjG.main_arg0)
      ∧ r.2.mem ((c.tc : Thread Cert.ProjG.nD Cert.ProjG.τ).loc Cert.ProjG.main_arg1) = m ((c.tc : Thread Cert.ProjG.nD Cert.ProjG.τ).loc Cert.ProjG.main_arg1))
      ∧ r.2.sem = fun _ => 0)

def quiescent_ProjGIdeal [hProjGIdeal : Cert.ProjGIdeal.Facts] : Prop :=
  ∀ (m : (ℓ : Loc Cert.ProjGIdeal.nD Cert.ProjGIdeal.τ Cert.ProjGIdeal.sig) → Buf (Elt Ideal) ℓ) (g : Dev Cert.ProjGIdeal.nD → PrngReg), Pre_ProjGIdeal m →
    θ_run (Cert.ProjGIdeal.defs (F := Ideal)) (onTc (τ := Cert.ProjGIdeal.τ) (Cert.ProjGIdeal.main (F := Ideal))) ⟨m, fun _ => 0, g⟩ (fun r => (∀ c : Dev Cert.ProjGIdeal.nD,
      r.2.mem ((c.tc : Thread Cert.ProjGIdeal.nD Cert.ProjGIdeal.τ).loc Cert.ProjGIdeal.main_arg0) = m ((c.tc : Thread Cert.ProjGIdeal.nD Cert.ProjGIdeal.τ).loc Cert.ProjGIdeal.main_arg0)
      ∧ r.2.mem ((c.tc : Thread Cert.ProjGIdeal.nD Cert.ProjGIdeal.τ).loc Cert.ProjGIdeal.main_arg1) = m ((c.tc : Thread Cert.ProjGIdeal.nD Cert.ProjGIdeal.τ).loc Cert.ProjGIdeal.main_arg1))
      ∧ r.2.sem = fun _ => 0)

def quiescent_ProjGRefIdeal [hProjGRefIdeal : Cert.ProjGRefIdeal.Facts] : Prop :=
  ∀ (m : (ℓ : Loc Cert.ProjGRefIdeal.nD Cert.ProjGRefIdeal.τ Cert.ProjGRefIdeal.sig) → Buf (Elt Ideal) ℓ) (g : Dev Cert.ProjGRefIdeal.nD → PrngReg), Pre_ProjGRefIdeal m →
    θ_run (Cert.ProjGRefIdeal.defs (F := Ideal)) (onTc (τ := Cert.ProjGRefIdeal.τ) (Cert.ProjGRefIdeal.main (F := Ideal))) ⟨m, fun _ => 0, g⟩ (fun r => (∀ c : Dev Cert.ProjGRefIdeal.nD,
      r.2.mem ((c.tc : Thread Cert.ProjGRefIdeal.nD Cert.ProjGRefIdeal.τ).loc Cert.ProjGRefIdeal.main_arg0) = m ((c.tc : Thread Cert.ProjGRefIdeal.nD Cert.ProjGRefIdeal.τ).loc Cert.ProjGRefIdeal.main_arg0)
      ∧ r.2.mem ((c.tc : Thread Cert.ProjGRefIdeal.nD Cert.ProjGRefIdeal.τ).loc Cert.ProjGRefIdeal.main_arg1) = m ((c.tc : Thread Cert.ProjGRefIdeal.nD Cert.ProjGRefIdeal.τ).loc Cert.ProjGRefIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4))
      ∧ r.2.sem = fun _ => 0)

def quiescent_LatKV [hLatKV : Cert.LatKV.Facts] : Prop :=
  ∀ (m : (ℓ : Loc Cert.LatKV.nD Cert.LatKV.τ Cert.LatKV.sig) → Buf (Elt Bits) ℓ) (g : Dev Cert.LatKV.nD → PrngReg), Pre_LatKV m →
    θ_run (Cert.LatKV.defs (F := Bits)) (onTc (τ := Cert.LatKV.τ) (Cert.LatKV.main (F := Bits))) ⟨m, fun _ => 0, g⟩ (fun r => (∀ c : Dev Cert.LatKV.nD,
      r.2.mem ((c.tc : Thread Cert.LatKV.nD Cert.LatKV.τ).loc Cert.LatKV.main_arg0) = m ((c.tc : Thread Cert.LatKV.nD Cert.LatKV.τ).loc Cert.LatKV.main_arg0)
      ∧ r.2.mem ((c.tc : Thread Cert.LatKV.nD Cert.LatKV.τ).loc Cert.LatKV.main_arg1) = m ((c.tc : Thread Cert.LatKV.nD Cert.LatKV.τ).loc Cert.LatKV.main_arg1)
      ∧ r.2.mem ((c.tc : Thread Cert.LatKV.nD Cert.LatKV.τ).loc Cert.LatKV.main_arg2) = m ((c.tc : Thread Cert.LatKV.nD Cert.LatKV.τ).loc Cert.LatKV.main_arg2))
      ∧ r.2.sem = fun _ => 0)

def quiescent_LatKVIdeal [hLatKVIdeal : Cert.LatKVIdeal.Facts] : Prop :=
  ∀ (m : (ℓ : Loc Cert.LatKVIdeal.nD Cert.LatKVIdeal.τ Cert.LatKVIdeal.sig) → Buf (Elt Ideal) ℓ) (g : Dev Cert.LatKVIdeal.nD → PrngReg), Pre_LatKVIdeal m →
    θ_run (Cert.LatKVIdeal.defs (F := Ideal)) (onTc (τ := Cert.LatKVIdeal.τ) (Cert.LatKVIdeal.main (F := Ideal))) ⟨m, fun _ => 0, g⟩ (fun r => (∀ c : Dev Cert.LatKVIdeal.nD,
      r.2.mem ((c.tc : Thread Cert.LatKVIdeal.nD Cert.LatKVIdeal.τ).loc Cert.LatKVIdeal.main_arg0) = m ((c.tc : Thread Cert.LatKVIdeal.nD Cert.LatKVIdeal.τ).loc Cert.LatKVIdeal.main_arg0)
      ∧ r.2.mem ((c.tc : Thread Cert.LatKVIdeal.nD Cert.LatKVIdeal.τ).loc Cert.LatKVIdeal.main_arg1) = m ((c.tc : Thread Cert.LatKVIdeal.nD Cert.LatKVIdeal.τ).loc Cert.LatKVIdeal.main_arg1)
      ∧ r.2.mem ((c.tc : Thread Cert.LatKVIdeal.nD Cert.LatKVIdeal.τ).loc Cert.LatKVIdeal.main_arg2) = m ((c.tc : Thread Cert.LatKVIdeal.nD Cert.LatKVIdeal.τ).loc Cert.LatKVIdeal.main_arg2))
      ∧ r.2.sem = fun _ => 0)

def quiescent_LatKVRefIdeal [hLatKVRefIdeal : Cert.LatKVRefIdeal.Facts] : Prop :=
  ∀ (m : (ℓ : Loc Cert.LatKVRefIdeal.nD Cert.LatKVRefIdeal.τ Cert.LatKVRefIdeal.sig) → Buf (Elt Ideal) ℓ) (g : Dev Cert.LatKVRefIdeal.nD → PrngReg), Pre_LatKVRefIdeal m →
    θ_run (Cert.LatKVRefIdeal.defs (F := Ideal)) (onTc (τ := Cert.LatKVRefIdeal.τ) (Cert.LatKVRefIdeal.main (F := Ideal))) ⟨m, fun _ => 0, g⟩ (fun r => (∀ c : Dev Cert.LatKVRefIdeal.nD,
      r.2.mem ((c.tc : Thread Cert.LatKVRefIdeal.nD Cert.LatKVRefIdeal.τ).loc Cert.LatKVRefIdeal.main_arg0) = m ((c.tc : Thread Cert.LatKVRefIdeal.nD Cert.LatKVRefIdeal.τ).loc Cert.LatKVRefIdeal.main_arg0)
      ∧ r.2.mem ((c.tc : Thread Cert.LatKVRefIdeal.nD Cert.LatKVRefIdeal.τ).loc Cert.LatKVRefIdeal.main_arg1) = m ((c.tc : Thread Cert.LatKVRefIdeal.nD Cert.LatKVRefIdeal.τ).loc Cert.LatKVRefIdeal.main_arg1)
      ∧ r.2.mem ((c.tc : Thread Cert.LatKVRefIdeal.nD Cert.LatKVRefIdeal.τ).loc Cert.LatKVRefIdeal.main_arg2) = m ((c.tc : Thread Cert.LatKVRefIdeal.nD Cert.LatKVRefIdeal.τ).loc Cert.LatKVRefIdeal.main_arg2))
      ∧ r.2.sem = fun _ => 0)

def quiescent_LatQ [hLatQ : Cert.LatQ.Facts] : Prop :=
  ∀ (m : (ℓ : Loc Cert.LatQ.nD Cert.LatQ.τ Cert.LatQ.sig) → Buf (Elt Bits) ℓ) (g : Dev Cert.LatQ.nD → PrngReg), Pre_LatQ m →
    θ_run (Cert.LatQ.defs (F := Bits)) (onTc (τ := Cert.LatQ.τ) (Cert.LatQ.main (F := Bits))) ⟨m, fun _ => 0, g⟩ (fun r => (∀ c : Dev Cert.LatQ.nD,
      r.2.mem ((c.tc : Thread Cert.LatQ.nD Cert.LatQ.τ).loc Cert.LatQ.main_arg0) = m ((c.tc : Thread Cert.LatQ.nD Cert.LatQ.τ).loc Cert.LatQ.main_arg0))
      ∧ r.2.sem = fun _ => 0)

def quiescent_LatQIdeal [hLatQIdeal : Cert.LatQIdeal.Facts] : Prop :=
  ∀ (m : (ℓ : Loc Cert.LatQIdeal.nD Cert.LatQIdeal.τ Cert.LatQIdeal.sig) → Buf (Elt Ideal) ℓ) (g : Dev Cert.LatQIdeal.nD → PrngReg), Pre_LatQIdeal m →
    θ_run (Cert.LatQIdeal.defs (F := Ideal)) (onTc (τ := Cert.LatQIdeal.τ) (Cert.LatQIdeal.main (F := Ideal))) ⟨m, fun _ => 0, g⟩ (fun r => (∀ c : Dev Cert.LatQIdeal.nD,
      r.2.mem ((c.tc : Thread Cert.LatQIdeal.nD Cert.LatQIdeal.τ).loc Cert.LatQIdeal.main_arg0) = m ((c.tc : Thread Cert.LatQIdeal.nD Cert.LatQIdeal.τ).loc Cert.LatQIdeal.main_arg0))
      ∧ r.2.sem = fun _ => 0)

def quiescent_LatQRefIdeal [hLatQRefIdeal : Cert.LatQRefIdeal.Facts] : Prop :=
  ∀ (m : (ℓ : Loc Cert.LatQRefIdeal.nD Cert.LatQRefIdeal.τ Cert.LatQRefIdeal.sig) → Buf (Elt Ideal) ℓ) (g : Dev Cert.LatQRefIdeal.nD → PrngReg), Pre_LatQRefIdeal m →
    θ_run (Cert.LatQRefIdeal.defs (F := Ideal)) (onTc (τ := Cert.LatQRefIdeal.τ) (Cert.LatQRefIdeal.main (F := Ideal))) ⟨m, fun _ => 0, g⟩ (fun r => (∀ c : Dev Cert.LatQRefIdeal.nD,
      r.2.mem ((c.tc : Thread Cert.LatQRefIdeal.nD Cert.LatQRefIdeal.τ).loc Cert.LatQRefIdeal.main_arg0) = m ((c.tc : Thread Cert.LatQRefIdeal.nD Cert.LatQRefIdeal.τ).loc Cert.LatQRefIdeal.main_arg0))
      ∧ r.2.sem = fun _ => 0)

def quiescent_Router [hRouter : Cert.Router.Facts] : Prop :=
  ∀ (m : (ℓ : Loc Cert.Router.nD Cert.Router.τ Cert.Router.sig) → Buf (Elt Bits) ℓ) (g : Dev Cert.Router.nD → PrngReg), Pre_Router m →
    θ_run (Cert.Router.defs (F := Bits)) (onTc (τ := Cert.Router.τ) (Cert.Router.main (F := Bits))) ⟨m, fun _ => 0, g⟩ (fun r => (∀ c : Dev Cert.Router.nD,
      r.2.mem ((c.tc : Thread Cert.Router.nD Cert.Router.τ).loc Cert.Router.main_arg0) = m ((c.tc : Thread Cert.Router.nD Cert.Router.τ).loc Cert.Router.main_arg0)
      ∧ r.2.mem ((c.tc : Thread Cert.Router.nD Cert.Router.τ).loc Cert.Router.main_arg1) = m ((c.tc : Thread Cert.Router.nD Cert.Router.τ).loc Cert.Router.main_arg1)
      ∧ r.2.mem ((c.tc : Thread Cert.Router.nD Cert.Router.τ).loc Cert.Router.main_arg2) = m ((c.tc : Thread Cert.Router.nD Cert.Router.τ).loc Cert.Router.main_arg2)
      ∧ r.2.mem ((c.tc : Thread Cert.Router.nD Cert.Router.τ).loc Cert.Router.main_arg3) = m ((c.tc : Thread Cert.Router.nD Cert.Router.τ).loc Cert.Router.main_arg3)
      ∧ r.2.mem ((c.tc : Thread Cert.Router.nD Cert.Router.τ).loc Cert.Router.main_arg4) = m ((c.tc : Thread Cert.Router.nD Cert.Router.τ).loc Cert.Router.main_arg4))
      ∧ r.2.sem = fun _ => 0)

def quiescent_RouterIdeal [hRouterIdeal : Cert.RouterIdeal.Facts] : Prop :=
  ∀ (m : (ℓ : Loc Cert.RouterIdeal.nD Cert.RouterIdeal.τ Cert.RouterIdeal.sig) → Buf (Elt Ideal) ℓ) (g : Dev Cert.RouterIdeal.nD → PrngReg), Pre_RouterIdeal m →
    θ_run (Cert.RouterIdeal.defs (F := Ideal)) (onTc (τ := Cert.RouterIdeal.τ) (Cert.RouterIdeal.main (F := Ideal))) ⟨m, fun _ => 0, g⟩ (fun r => (∀ c : Dev Cert.RouterIdeal.nD,
      r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
      ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
      ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2)
      ∧ r.2.mem ((c.tc : Thread Cert.RouterIdeal.nD Cert.RouterIdeal.τ).loc Cert.RouterIdeal.main_arg3) = m ((c.tc : Thread Cert.RouterIdeal.nD Cert.RouterIdeal.τ).loc Cert.RouterIdeal.main_arg3)
      ∧ r.2.mem ((c.tc : Thread Cert.RouterIdeal.nD Cert.RouterIdeal.τ).loc Cert.RouterIdeal.main_arg4) = m ((c.tc : Thread Cert.RouterIdeal.nD Cert.RouterIdeal.τ).loc Cert.RouterIdeal.main_arg4))
      ∧ r.2.sem = fun _ => 0)

def quiescent_RouterIdeal_pre_finite_router [hRouterIdeal : Cert.RouterIdeal.Facts] [hPre_finite_router : Cert.Pre_finite_router.Facts] : Prop :=
  ∀ (m : (ℓ : Loc Cert.RouterIdeal.nD Cert.RouterIdeal.τ Cert.RouterIdeal.sig) → Buf (Elt Ideal) ℓ) (g : Dev Cert.RouterIdeal.nD → PrngReg), Pre_RouterIdeal_finite_router m →
    θ_run (Cert.RouterIdeal.defs (F := Ideal)) (onTc (τ := Cert.RouterIdeal.τ) (Cert.RouterIdeal.main (F := Ideal))) ⟨m, fun _ => 0, g⟩ (fun r => (∀ c : Dev Cert.RouterIdeal.nD,
      r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
      ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
      ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2)
      ∧ r.2.mem ((c.tc : Thread Cert.RouterIdeal.nD Cert.RouterIdeal.τ).loc Cert.RouterIdeal.main_arg3) = m ((c.tc : Thread Cert.RouterIdeal.nD Cert.RouterIdeal.τ).loc Cert.RouterIdeal.main_arg3)
      ∧ r.2.mem ((c.tc : Thread Cert.RouterIdeal.nD Cert.RouterIdeal.τ).loc Cert.RouterIdeal.main_arg4) = m ((c.tc : Thread Cert.RouterIdeal.nD Cert.RouterIdeal.τ).loc Cert.RouterIdeal.main_arg4))
      ∧ r.2.sem = fun _ => 0)

def quiescent_RouterRefIdeal [hRouterRefIdeal : Cert.RouterRefIdeal.Facts] : Prop :=
  ∀ (m : (ℓ : Loc Cert.RouterRefIdeal.nD Cert.RouterRefIdeal.τ Cert.RouterRefIdeal.sig) → Buf (Elt Ideal) ℓ) (g : Dev Cert.RouterRefIdeal.nD → PrngReg), Pre_RouterRefIdeal m →
    θ_run (Cert.RouterRefIdeal.defs (F := Ideal)) (onTc (τ := Cert.RouterRefIdeal.τ) (Cert.RouterRefIdeal.main (F := Ideal))) ⟨m, fun _ => 0, g⟩ (fun r => (∀ c : Dev Cert.RouterRefIdeal.nD,
      r.2.mem ((c.tc : Thread Cert.RouterRefIdeal.nD Cert.RouterRefIdeal.τ).loc Cert.RouterRefIdeal.main_arg0) = m ((c.tc : Thread Cert.RouterRefIdeal.nD Cert.RouterRefIdeal.τ).loc Cert.RouterRefIdeal.main_arg0)
      ∧ r.2.mem ((c.tc : Thread Cert.RouterRefIdeal.nD Cert.RouterRefIdeal.τ).loc Cert.RouterRefIdeal.main_arg1) = m ((c.tc : Thread Cert.RouterRefIdeal.nD Cert.RouterRefIdeal.τ).loc Cert.RouterRefIdeal.main_arg1)
      ∧ r.2.mem ((c.tc : Thread Cert.RouterRefIdeal.nD Cert.RouterRefIdeal.τ).loc Cert.RouterRefIdeal.main_arg2) = m ((c.tc : Thread Cert.RouterRefIdeal.nD Cert.RouterRefIdeal.τ).loc Cert.RouterRefIdeal.main_arg2)
      ∧ r.2.mem ((c.tc : Thread Cert.RouterRefIdeal.nD Cert.RouterRefIdeal.τ).loc Cert.RouterRefIdeal.main_arg3) = m ((c.tc : Thread Cert.RouterRefIdeal.nD Cert.RouterRefIdeal.τ).loc Cert.RouterRefIdeal.main_arg3)
      ∧ r.2.mem ((c.tc : Thread Cert.RouterRefIdeal.nD Cert.RouterRefIdeal.τ).loc Cert.RouterRefIdeal.main_arg4) = m ((c.tc : Thread Cert.RouterRefIdeal.nD Cert.RouterRefIdeal.τ).loc Cert.RouterRefIdeal.main_arg4))
      ∧ r.2.sem = fun _ => 0)

def quiescent_RouterRefIdeal_pre_finite_router [hRouterRefIdeal : Cert.RouterRefIdeal.Facts] [hPre_finite_router : Cert.Pre_finite_router.Facts] : Prop :=
  ∀ (m : (ℓ : Loc Cert.RouterRefIdeal.nD Cert.RouterRefIdeal.τ Cert.RouterRefIdeal.sig) → Buf (Elt Ideal) ℓ) (g : Dev Cert.RouterRefIdeal.nD → PrngReg), Pre_RouterRefIdeal_finite_router m →
    θ_run (Cert.RouterRefIdeal.defs (F := Ideal)) (onTc (τ := Cert.RouterRefIdeal.τ) (Cert.RouterRefIdeal.main (F := Ideal))) ⟨m, fun _ => 0, g⟩ (fun r => (∀ c : Dev Cert.RouterRefIdeal.nD,
      r.2.mem ((c.tc : Thread Cert.RouterRefIdeal.nD Cert.RouterRefIdeal.τ).loc Cert.RouterRefIdeal.main_arg0) = m ((c.tc : Thread Cert.RouterRefIdeal.nD Cert.RouterRefIdeal.τ).loc Cert.RouterRefIdeal.main_arg0)
      ∧ r.2.mem ((c.tc : Thread Cert.RouterRefIdeal.nD Cert.RouterRefIdeal.τ).loc Cert.RouterRefIdeal.main_arg1) = m ((c.tc : Thread Cert.RouterRefIdeal.nD Cert.RouterRefIdeal.τ).loc Cert.RouterRefIdeal.main_arg1)
      ∧ r.2.mem ((c.tc : Thread Cert.RouterRefIdeal.nD Cert.RouterRefIdeal.τ).loc Cert.RouterRefIdeal.main_arg2) = m ((c.tc : Thread Cert.RouterRefIdeal.nD Cert.RouterRefIdeal.τ).loc Cert.RouterRefIdeal.main_arg2)
      ∧ r.2.mem ((c.tc : Thread Cert.RouterRefIdeal.nD Cert.RouterRefIdeal.τ).loc Cert.RouterRefIdeal.main_arg3) = m ((c.tc : Thread Cert.RouterRefIdeal.nD Cert.RouterRefIdeal.τ).loc Cert.RouterRefIdeal.main_arg3)
      ∧ r.2.mem ((c.tc : Thread Cert.RouterRefIdeal.nD Cert.RouterRefIdeal.τ).loc Cert.RouterRefIdeal.main_arg4) = m ((c.tc : Thread Cert.RouterRefIdeal.nD Cert.RouterRefIdeal.τ).loc Cert.RouterRefIdeal.main_arg4))
      ∧ r.2.sem = fun _ => 0)

def preserves_Flash_FlashIdeal : Prop :=
  IdealRules.named_const.Statement Cert.FlashIdeal.κ "mask" .f32 0xF149F2CA#32 ⊥

def algebraic_FlashIdeal_FlashRefIdeal_pre_finite [hFlashIdeal : Cert.FlashIdeal.Facts] [hFlashRefIdeal : Cert.FlashRefIdeal.Facts] [hPre_finite : Cert.Pre_finite.Facts] : Prop :=
  ∀ (m : (ℓ : Loc Cert.FlashIdeal.nD Cert.FlashIdeal.τ Cert.FlashIdeal.sig) → Buf (Elt Ideal) ℓ) (g : Dev Cert.FlashIdeal.nD → PrngReg)
    (m' : (ℓ : Loc Cert.FlashRefIdeal.nD Cert.FlashRefIdeal.τ Cert.FlashRefIdeal.sig) → Buf (Elt Ideal) ℓ) (g' : Dev Cert.FlashRefIdeal.nD → PrngReg), Pre_FlashIdeal_finite m →
    (∀ c : Dev Cert.FlashIdeal.nD,
      m' ((c.tc : Thread Cert.FlashRefIdeal.nD Cert.FlashRefIdeal.τ).loc Cert.FlashRefIdeal.main_arg0) = m ((c.tc : Thread Cert.FlashIdeal.nD Cert.FlashIdeal.τ).loc Cert.FlashIdeal.main_arg0)
      ∧ m' ((c.tc : Thread Cert.FlashRefIdeal.nD Cert.FlashRefIdeal.τ).loc Cert.FlashRefIdeal.main_arg1) = m ((c.tc : Thread Cert.FlashIdeal.nD Cert.FlashIdeal.τ).loc Cert.FlashIdeal.main_arg1)
      ∧ m' ((c.tc : Thread Cert.FlashRefIdeal.nD Cert.FlashRefIdeal.τ).loc Cert.FlashRefIdeal.main_arg2) = m ((c.tc : Thread Cert.FlashIdeal.nD Cert.FlashIdeal.τ).loc Cert.FlashIdeal.main_arg2)) →
    ∃ (v0 : (c : Dev Cert.FlashIdeal.nD) → Buf (Elt Ideal) ((c.tc : Thread Cert.FlashIdeal.nD Cert.FlashIdeal.τ).loc Cert.FlashIdeal.main_v0)),
      θ_run (Cert.FlashIdeal.defs (F := Ideal)) (onTc (τ := Cert.FlashIdeal.τ) (Cert.FlashIdeal.main (F := Ideal))) ⟨m, fun _ => 0, g⟩ (fun r => ∀ c : Dev Cert.FlashIdeal.nD,
          r.2.mem ((c.tc : Thread Cert.FlashIdeal.nD Cert.FlashIdeal.τ).loc Cert.FlashIdeal.main_v0) = v0 c
          ∧ r.2.mem ((c.tc : Thread Cert.FlashIdeal.nD Cert.FlashIdeal.τ).loc Cert.FlashIdeal.main_arg0) = m ((c.tc : Thread Cert.FlashIdeal.nD Cert.FlashIdeal.τ).loc Cert.FlashIdeal.main_arg0)
          ∧ r.2.mem ((c.tc : Thread Cert.FlashIdeal.nD Cert.FlashIdeal.τ).loc Cert.FlashIdeal.main_arg1) = m ((c.tc : Thread Cert.FlashIdeal.nD Cert.FlashIdeal.τ).loc Cert.FlashIdeal.main_arg1)
          ∧ r.2.mem ((c.tc : Thread Cert.FlashIdeal.nD Cert.FlashIdeal.τ).loc Cert.FlashIdeal.main_arg2) = m ((c.tc : Thread Cert.FlashIdeal.nD Cert.FlashIdeal.τ).loc Cert.FlashIdeal.main_arg2))
      ∧ θ_run (Cert.FlashRefIdeal.defs (F := Ideal)) (onTc (τ := Cert.FlashRefIdeal.τ) (Cert.FlashRefIdeal.main (F := Ideal))) ⟨m', fun _ => 0, g'⟩ (fun r => ∀ c : Dev Cert.FlashRefIdeal.nD,
          r.2.mem ((c.tc : Thread Cert.FlashRefIdeal.nD Cert.FlashRefIdeal.τ).loc Cert.FlashRefIdeal.main_v29) = v0 c
          ∧ r.2.mem ((c.tc : Thread Cert.FlashRefIdeal.nD Cert.FlashRefIdeal.τ).loc Cert.FlashRefIdeal.main_arg0) = m' ((c.tc : Thread Cert.FlashRefIdeal.nD Cert.FlashRefIdeal.τ).loc Cert.FlashRefIdeal.main_arg0)
          ∧ r.2.mem ((c.tc : Thread Cert.FlashRefIdeal.nD Cert.FlashRefIdeal.τ).loc Cert.FlashRefIdeal.main_arg1) = m' ((c.tc : Thread Cert.FlashRefIdeal.nD Cert.FlashRefIdeal.τ).loc Cert.FlashRefIdeal.main_arg1)
          ∧ r.2.mem ((c.tc : Thread Cert.FlashRefIdeal.nD Cert.FlashRefIdeal.τ).loc Cert.FlashRefIdeal.main_arg2) = m' ((c.tc : Thread Cert.FlashRefIdeal.nD Cert.FlashRefIdeal.τ).loc Cert.FlashRefIdeal.main_arg2))

def preserves_ProjB_ProjBIdeal : Prop :=
  True

def algebraic_ProjBIdeal_ProjBRefIdeal [hProjBIdeal : Cert.ProjBIdeal.Facts] [hProjBRefIdeal : Cert.ProjBRefIdeal.Facts] : Prop :=
  ∀ (m : (ℓ : Loc Cert.ProjBIdeal.nD Cert.ProjBIdeal.τ Cert.ProjBIdeal.sig) → Buf (Elt Ideal) ℓ) (g : Dev Cert.ProjBIdeal.nD → PrngReg)
    (m' : (ℓ : Loc Cert.ProjBRefIdeal.nD Cert.ProjBRefIdeal.τ Cert.ProjBRefIdeal.sig) → Buf (Elt Ideal) ℓ) (g' : Dev Cert.ProjBRefIdeal.nD → PrngReg), Pre_ProjBIdeal m →
    (∀ c : Dev Cert.ProjBIdeal.nD,
      m' ((c.tc : Thread Cert.ProjBRefIdeal.nD Cert.ProjBRefIdeal.τ).loc Cert.ProjBRefIdeal.main_arg0) = m ((c.tc : Thread Cert.ProjBIdeal.nD Cert.ProjBIdeal.τ).loc Cert.ProjBIdeal.main_arg0)
      ∧ m' ((c.tc : Thread Cert.ProjBRefIdeal.nD Cert.ProjBRefIdeal.τ).loc Cert.ProjBRefIdeal.main_arg1) = m ((c.tc : Thread Cert.ProjBIdeal.nD Cert.ProjBIdeal.τ).loc Cert.ProjBIdeal.main_arg1)) →
    ∃ (v0 : (c : Dev Cert.ProjBIdeal.nD) → Buf (Elt Ideal) ((c.tc : Thread Cert.ProjBIdeal.nD Cert.ProjBIdeal.τ).loc Cert.ProjBIdeal.main_v13_0)) (v1 : (c : Dev Cert.ProjBIdeal.nD) → Buf (Elt Ideal) ((c.tc : Thread Cert.ProjBIdeal.nD Cert.ProjBIdeal.τ).loc Cert.ProjBIdeal.main_v13_1)),
      θ_run (Cert.ProjBIdeal.defs (F := Ideal)) (onTc (τ := Cert.ProjBIdeal.τ) (Cert.ProjBIdeal.main (F := Ideal))) ⟨m, fun _ => 0, g⟩ (fun r => ∀ c : Dev Cert.ProjBIdeal.nD,
          r.2.mem ((c.tc : Thread Cert.ProjBIdeal.nD Cert.ProjBIdeal.τ).loc Cert.ProjBIdeal.main_v13_0) = v0 c
          ∧ r.2.mem ((c.tc : Thread Cert.ProjBIdeal.nD Cert.ProjBIdeal.τ).loc Cert.ProjBIdeal.main_v13_1) = v1 c
          ∧ r.2.mem ((c.tc : Thread Cert.ProjBIdeal.nD Cert.ProjBIdeal.τ).loc Cert.ProjBIdeal.main_arg0) = m ((c.tc : Thread Cert.ProjBIdeal.nD Cert.ProjBIdeal.τ).loc Cert.ProjBIdeal.main_arg0)
          ∧ r.2.mem ((c.tc : Thread Cert.ProjBIdeal.nD Cert.ProjBIdeal.τ).loc Cert.ProjBIdeal.main_arg1) = m ((c.tc : Thread Cert.ProjBIdeal.nD Cert.ProjBIdeal.τ).loc Cert.ProjBIdeal.main_arg1))
      ∧ θ_run (Cert.ProjBRefIdeal.defs (F := Ideal)) (onTc (τ := Cert.ProjBRefIdeal.τ) (Cert.ProjBRefIdeal.main (F := Ideal))) ⟨m', fun _ => 0, g'⟩ (fun r => ∀ c : Dev Cert.ProjBRefIdeal.nD,
          r.2.mem ((c.tc : Thread Cert.ProjBRefIdeal.nD Cert.ProjBRefIdeal.τ).loc Cert.ProjBRefIdeal.main_v13) = v0 c
          ∧ r.2.mem ((c.tc : Thread Cert.ProjBRefIdeal.nD Cert.ProjBRefIdeal.τ).loc Cert.ProjBRefIdeal.main_v15) = v1 c
          ∧ r.2.mem ((c.tc : Thread Cert.ProjBRefIdeal.nD Cert.ProjBRefIdeal.τ).loc Cert.ProjBRefIdeal.main_arg0) = m' ((c.tc : Thread Cert.ProjBRefIdeal.nD Cert.ProjBRefIdeal.τ).loc Cert.ProjBRefIdeal.main_arg0)
          ∧ r.2.mem ((c.tc : Thread Cert.ProjBRefIdeal.nD Cert.ProjBRefIdeal.τ).loc Cert.ProjBRefIdeal.main_arg1) = m' ((c.tc : Thread Cert.ProjBRefIdeal.nD Cert.ProjBRefIdeal.τ).loc Cert.ProjBRefIdeal.main_arg1))

def preserves_ProjS_ProjSIdeal : Prop :=
  True

def algebraic_ProjSIdeal_ProjSRefIdeal_pre_finite_weights [hProjSIdeal : Cert.ProjSIdeal.Facts] [hProjSRefIdeal : Cert.ProjSRefIdeal.Facts] [hPre_finite_weights : Cert.Pre_finite_weights.Facts] : Prop :=
  ∀ (m : (ℓ : Loc Cert.ProjSIdeal.nD Cert.ProjSIdeal.τ Cert.ProjSIdeal.sig) → Buf (Elt Ideal) ℓ) (g : Dev Cert.ProjSIdeal.nD → PrngReg)
    (m' : (ℓ : Loc Cert.ProjSRefIdeal.nD Cert.ProjSRefIdeal.τ Cert.ProjSRefIdeal.sig) → Buf (Elt Ideal) ℓ) (g' : Dev Cert.ProjSRefIdeal.nD → PrngReg), Pre_ProjSIdeal_finite_weights m →
    (∀ c : Dev Cert.ProjSIdeal.nD,
      m' ((c.tc : Thread Cert.ProjSRefIdeal.nD Cert.ProjSRefIdeal.τ).loc Cert.ProjSRefIdeal.main_arg0) = m ((c.tc : Thread Cert.ProjSIdeal.nD Cert.ProjSIdeal.τ).loc Cert.ProjSIdeal.main_arg0)
      ∧ m' ((c.tc : Thread Cert.ProjSRefIdeal.nD Cert.ProjSRefIdeal.τ).loc Cert.ProjSRefIdeal.main_arg1) = m ((c.tc : Thread Cert.ProjSIdeal.nD Cert.ProjSIdeal.τ).loc Cert.ProjSIdeal.main_arg1)) →
    ∃ (v0 : (c : Dev Cert.ProjSIdeal.nD) → Buf (Elt Ideal) ((c.tc : Thread Cert.ProjSIdeal.nD Cert.ProjSIdeal.τ).loc Cert.ProjSIdeal.main_v27)),
      θ_run (Cert.ProjSIdeal.defs (F := Ideal)) (onTc (τ := Cert.ProjSIdeal.τ) (Cert.ProjSIdeal.main (F := Ideal))) ⟨m, fun _ => 0, g⟩ (fun r => ∀ c : Dev Cert.ProjSIdeal.nD,
          r.2.mem ((c.tc : Thread Cert.ProjSIdeal.nD Cert.ProjSIdeal.τ).loc Cert.ProjSIdeal.main_v27) = v0 c
          ∧ r.2.mem ((c.tc : Thread Cert.ProjSIdeal.nD Cert.ProjSIdeal.τ).loc Cert.ProjSIdeal.main_arg0) = m ((c.tc : Thread Cert.ProjSIdeal.nD Cert.ProjSIdeal.τ).loc Cert.ProjSIdeal.main_arg0)
          ∧ r.2.mem ((c.tc : Thread Cert.ProjSIdeal.nD Cert.ProjSIdeal.τ).loc Cert.ProjSIdeal.main_arg1) = m ((c.tc : Thread Cert.ProjSIdeal.nD Cert.ProjSIdeal.τ).loc Cert.ProjSIdeal.main_arg1))
      ∧ θ_run (Cert.ProjSRefIdeal.defs (F := Ideal)) (onTc (τ := Cert.ProjSRefIdeal.τ) (Cert.ProjSRefIdeal.main (F := Ideal))) ⟨m', fun _ => 0, g'⟩ (fun r => ∀ c : Dev Cert.ProjSRefIdeal.nD,
          r.2.mem ((c.tc : Thread Cert.ProjSRefIdeal.nD Cert.ProjSRefIdeal.τ).loc Cert.ProjSRefIdeal.main_v27) = v0 c
          ∧ r.2.mem ((c.tc : Thread Cert.ProjSRefIdeal.nD Cert.ProjSRefIdeal.τ).loc Cert.ProjSRefIdeal.main_arg0) = m' ((c.tc : Thread Cert.ProjSRefIdeal.nD Cert.ProjSRefIdeal.τ).loc Cert.ProjSRefIdeal.main_arg0)
          ∧ r.2.mem ((c.tc : Thread Cert.ProjSRefIdeal.nD Cert.ProjSRefIdeal.τ).loc Cert.ProjSRefIdeal.main_arg1) = m' ((c.tc : Thread Cert.ProjSRefIdeal.nD Cert.ProjSRefIdeal.τ).loc Cert.ProjSRefIdeal.main_arg1))

def preserves_ProjG_ProjGIdeal : Prop :=
  True

def algebraic_ProjGIdeal_ProjGRefIdeal [hProjGIdeal : Cert.ProjGIdeal.Facts] [hProjGRefIdeal : Cert.ProjGRefIdeal.Facts] : Prop :=
  ∀ (m : (ℓ : Loc Cert.ProjGIdeal.nD Cert.ProjGIdeal.τ Cert.ProjGIdeal.sig) → Buf (Elt Ideal) ℓ) (g : Dev Cert.ProjGIdeal.nD → PrngReg)
    (m' : (ℓ : Loc Cert.ProjGRefIdeal.nD Cert.ProjGRefIdeal.τ Cert.ProjGRefIdeal.sig) → Buf (Elt Ideal) ℓ) (g' : Dev Cert.ProjGRefIdeal.nD → PrngReg), Pre_ProjGIdeal m →
    (∀ c : Dev Cert.ProjGIdeal.nD,
      m' ((c.tc : Thread Cert.ProjGRefIdeal.nD Cert.ProjGRefIdeal.τ).loc Cert.ProjGRefIdeal.main_arg0) = m ((c.tc : Thread Cert.ProjGIdeal.nD Cert.ProjGIdeal.τ).loc Cert.ProjGIdeal.main_arg0)
      ∧ m' ((c.tc : Thread Cert.ProjGRefIdeal.nD Cert.ProjGRefIdeal.τ).loc Cert.ProjGRefIdeal.main_arg1) = m ((c.tc : Thread Cert.ProjGIdeal.nD Cert.ProjGIdeal.τ).loc Cert.ProjGIdeal.main_arg1)) →
    ∃ (v0 : (c : Dev Cert.ProjGIdeal.nD) → Buf (Elt Ideal) ((c.tc : Thread Cert.ProjGIdeal.nD Cert.ProjGIdeal.τ).loc Cert.ProjGIdeal.main_v11)),
      θ_run (Cert.ProjGIdeal.defs (F := Ideal)) (onTc (τ := Cert.ProjGIdeal.τ) (Cert.ProjGIdeal.main (F := Ideal))) ⟨m, fun _ => 0, g⟩ (fun r => ∀ c : Dev Cert.ProjGIdeal.nD,
          r.2.mem ((c.tc : Thread Cert.ProjGIdeal.nD Cert.ProjGIdeal.τ).loc Cert.ProjGIdeal.main_v11) = v0 c
          ∧ r.2.mem ((c.tc : Thread Cert.ProjGIdeal.nD Cert.ProjGIdeal.τ).loc Cert.ProjGIdeal.main_arg0) = m ((c.tc : Thread Cert.ProjGIdeal.nD Cert.ProjGIdeal.τ).loc Cert.ProjGIdeal.main_arg0)
          ∧ r.2.mem ((c.tc : Thread Cert.ProjGIdeal.nD Cert.ProjGIdeal.τ).loc Cert.ProjGIdeal.main_arg1) = m ((c.tc : Thread Cert.ProjGIdeal.nD Cert.ProjGIdeal.τ).loc Cert.ProjGIdeal.main_arg1))
      ∧ θ_run (Cert.ProjGRefIdeal.defs (F := Ideal)) (onTc (τ := Cert.ProjGRefIdeal.τ) (Cert.ProjGRefIdeal.main (F := Ideal))) ⟨m', fun _ => 0, g'⟩ (fun r => ∀ c : Dev Cert.ProjGRefIdeal.nD,
          r.2.mem ((c.tc : Thread Cert.ProjGRefIdeal.nD Cert.ProjGRefIdeal.τ).loc Cert.ProjGRefIdeal.main_v11) = v0 c
          ∧ r.2.mem ((c.tc : Thread Cert.ProjGRefIdeal.nD Cert.ProjGRefIdeal.τ).loc Cert.ProjGRefIdeal.main_arg0) = m' ((c.tc : Thread Cert.ProjGRefIdeal.nD Cert.ProjGRefIdeal.τ).loc Cert.ProjGRefIdeal.main_arg0)
          ∧ r.2.mem ((c.tc : Thread Cert.ProjGRefIdeal.nD Cert.ProjGRefIdeal.τ).loc Cert.ProjGRefIdeal.main_arg1) = m' ((c.tc : Thread Cert.ProjGRefIdeal.nD Cert.ProjGRefIdeal.τ).loc Cert.ProjGRefIdeal.main_arg1))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)) →
    ∃ (v0 : (c : Dev Cert.MergeIdeal.nD) → Buf (Elt Ideal) ((c.tc : Thread Cert.MergeIdeal.nD Cert.MergeIdeal.τ).loc Cert.MergeIdeal.main_v2)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v2) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v21) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)) →
    ∃ (v0 : (c : Dev Cert.OutProjIdeal.nD) → Buf (Elt Ideal) ((c.tc : Thread Cert.OutProjIdeal.nD Cert.OutProjIdeal.τ).loc Cert.OutProjIdeal.main_v4_0)) (v1 : (c : Dev Cert.OutProjIdeal.nD) → Buf (Elt Ideal) ((c.tc : Thread Cert.OutProjIdeal.nD Cert.OutProjIdeal.τ).loc Cert.OutProjIdeal.main_v4_1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v4_0) = v0 c
          ∧ r.2.mem ((c.tc : Thread Cert.OutProjIdeal.nD Cert.OutProjIdeal.τ).loc Cert.OutProjIdeal.main_v4_1) = v1 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v29) = v0 c
          ∧ r.2.mem ((c.tc : Thread Cert.OutProjRefIdeal.nD Cert.OutProjRefIdeal.τ).loc Cert.OutProjRefIdeal.main_v30) = v1 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4))

def preserves_LatKV_LatKVIdeal : Prop :=
  True

def algebraic_LatKVIdeal_LatKVRefIdeal [hLatKVIdeal : Cert.LatKVIdeal.Facts] [hLatKVRefIdeal : Cert.LatKVRefIdeal.Facts] : Prop :=
  ∀ (m : (ℓ : Loc Cert.LatKVIdeal.nD Cert.LatKVIdeal.τ Cert.LatKVIdeal.sig) → Buf (Elt Ideal) ℓ) (g : Dev Cert.LatKVIdeal.nD → PrngReg)
    (m' : (ℓ : Loc Cert.LatKVRefIdeal.nD Cert.LatKVRefIdeal.τ Cert.LatKVRefIdeal.sig) → Buf (Elt Ideal) ℓ) (g' : Dev Cert.LatKVRefIdeal.nD → PrngReg), Pre_LatKVIdeal m →
    (∀ c : Dev Cert.LatKVIdeal.nD,
      m' ((c.tc : Thread Cert.LatKVRefIdeal.nD Cert.LatKVRefIdeal.τ).loc Cert.LatKVRefIdeal.main_arg0) = m ((c.tc : Thread Cert.LatKVIdeal.nD Cert.LatKVIdeal.τ).loc Cert.LatKVIdeal.main_arg0)
      ∧ m' ((c.tc : Thread Cert.LatKVRefIdeal.nD Cert.LatKVRefIdeal.τ).loc Cert.LatKVRefIdeal.main_arg1) = m ((c.tc : Thread Cert.LatKVIdeal.nD Cert.LatKVIdeal.τ).loc Cert.LatKVIdeal.main_arg1)
      ∧ m' ((c.tc : Thread Cert.LatKVRefIdeal.nD Cert.LatKVRefIdeal.τ).loc Cert.LatKVRefIdeal.main_arg2) = m ((c.tc : Thread Cert.LatKVIdeal.nD Cert.LatKVIdeal.τ).loc Cert.LatKVIdeal.main_arg2)) →
    ∃ (v0 : (c : Dev Cert.LatKVIdeal.nD) → Buf (Elt Ideal) ((c.tc : Thread Cert.LatKVIdeal.nD Cert.LatKVIdeal.τ).loc Cert.LatKVIdeal.main_v23_0)) (v1 : (c : Dev Cert.LatKVIdeal.nD) → Buf (Elt Ideal) ((c.tc : Thread Cert.LatKVIdeal.nD Cert.LatKVIdeal.τ).loc Cert.LatKVIdeal.main_v23_1)),
      θ_run (Cert.LatKVIdeal.defs (F := Ideal)) (onTc (τ := Cert.LatKVIdeal.τ) (Cert.LatKVIdeal.main (F := Ideal))) ⟨m, fun _ => 0, g⟩ (fun r => ∀ c : Dev Cert.LatKVIdeal.nD,
          r.2.mem ((c.tc : Thread Cert.LatKVIdeal.nD Cert.LatKVIdeal.τ).loc Cert.LatKVIdeal.main_v23_0) = v0 c
          ∧ r.2.mem ((c.tc : Thread Cert.LatKVIdeal.nD Cert.LatKVIdeal.τ).loc Cert.LatKVIdeal.main_v23_1) = v1 c
          ∧ r.2.mem ((c.tc : Thread Cert.LatKVIdeal.nD Cert.LatKVIdeal.τ).loc Cert.LatKVIdeal.main_arg0) = m ((c.tc : Thread Cert.LatKVIdeal.nD Cert.LatKVIdeal.τ).loc Cert.LatKVIdeal.main_arg0)
          ∧ r.2.mem ((c.tc : Thread Cert.LatKVIdeal.nD Cert.LatKVIdeal.τ).loc Cert.LatKVIdeal.main_arg1) = m ((c.tc : Thread Cert.LatKVIdeal.nD Cert.LatKVIdeal.τ).loc Cert.LatKVIdeal.main_arg1)
          ∧ r.2.mem ((c.tc : Thread Cert.LatKVIdeal.nD Cert.LatKVIdeal.τ).loc Cert.LatKVIdeal.main_arg2) = m ((c.tc : Thread Cert.LatKVIdeal.nD Cert.LatKVIdeal.τ).loc Cert.LatKVIdeal.main_arg2))
      ∧ θ_run (Cert.LatKVRefIdeal.defs (F := Ideal)) (onTc (τ := Cert.LatKVRefIdeal.τ) (Cert.LatKVRefIdeal.main (F := Ideal))) ⟨m', fun _ => 0, g'⟩ (fun r => ∀ c : Dev Cert.LatKVRefIdeal.nD,
          r.2.mem ((c.tc : Thread Cert.LatKVRefIdeal.nD Cert.LatKVRefIdeal.τ).loc Cert.LatKVRefIdeal.main_v57) = v0 c
          ∧ r.2.mem ((c.tc : Thread Cert.LatKVRefIdeal.nD Cert.LatKVRefIdeal.τ).loc Cert.LatKVRefIdeal.main_v59) = v1 c
          ∧ r.2.mem ((c.tc : Thread Cert.LatKVRefIdeal.nD Cert.LatKVRefIdeal.τ).loc Cert.LatKVRefIdeal.main_arg0) = m' ((c.tc : Thread Cert.LatKVRefIdeal.nD Cert.LatKVRefIdeal.τ).loc Cert.LatKVRefIdeal.main_arg0)
          ∧ r.2.mem ((c.tc : Thread Cert.LatKVRefIdeal.nD Cert.LatKVRefIdeal.τ).loc Cert.LatKVRefIdeal.main_arg1) = m' ((c.tc : Thread Cert.LatKVRefIdeal.nD Cert.LatKVRefIdeal.τ).loc Cert.LatKVRefIdeal.main_arg1)
          ∧ r.2.mem ((c.tc : Thread Cert.LatKVRefIdeal.nD Cert.LatKVRefIdeal.τ).loc Cert.LatKVRefIdeal.main_arg2) = m' ((c.tc : Thread Cert.LatKVRefIdeal.nD Cert.LatKVRefIdeal.τ).loc Cert.LatKVRefIdeal.main_arg2))

def preserves_LatQ_LatQIdeal : Prop :=
  IdealRules.named_const.Statement Cert.LatQIdeal.κ "scale" .f32 0x3DD53B95#32 ((((Real.sqrt 192) * (Real.log 2))⁻¹ : ℝ) : EReal)

def algebraic_LatQIdeal_LatQRefIdeal [hLatQIdeal : Cert.LatQIdeal.Facts] [hLatQRefIdeal : Cert.LatQRefIdeal.Facts] : Prop :=
  ∀ (m : (ℓ : Loc Cert.LatQIdeal.nD Cert.LatQIdeal.τ Cert.LatQIdeal.sig) → Buf (Elt Ideal) ℓ) (g : Dev Cert.LatQIdeal.nD → PrngReg)
    (m' : (ℓ : Loc Cert.LatQRefIdeal.nD Cert.LatQRefIdeal.τ Cert.LatQRefIdeal.sig) → Buf (Elt Ideal) ℓ) (g' : Dev Cert.LatQRefIdeal.nD → PrngReg), Pre_LatQIdeal m →
    (∀ c : Dev Cert.LatQIdeal.nD,
      m' ((c.tc : Thread Cert.LatQRefIdeal.nD Cert.LatQRefIdeal.τ).loc Cert.LatQRefIdeal.main_arg0) = m ((c.tc : Thread Cert.LatQIdeal.nD Cert.LatQIdeal.τ).loc Cert.LatQIdeal.main_arg0)) →
    ∃ (v0 : (c : Dev Cert.LatQIdeal.nD) → Buf (Elt Ideal) ((c.tc : Thread Cert.LatQIdeal.nD Cert.LatQIdeal.τ).loc Cert.LatQIdeal.main_v22)),
      θ_run (Cert.LatQIdeal.defs (F := Ideal)) (onTc (τ := Cert.LatQIdeal.τ) (Cert.LatQIdeal.main (F := Ideal))) ⟨m, fun _ => 0, g⟩ (fun r => ∀ c : Dev Cert.LatQIdeal.nD,
          r.2.mem ((c.tc : Thread Cert.LatQIdeal.nD Cert.LatQIdeal.τ).loc Cert.LatQIdeal.main_v22) = v0 c
          ∧ r.2.mem ((c.tc : Thread Cert.LatQIdeal.nD Cert.LatQIdeal.τ).loc Cert.LatQIdeal.main_arg0) = m ((c.tc : Thread Cert.LatQIdeal.nD Cert.LatQIdeal.τ).loc Cert.LatQIdeal.main_arg0))
      ∧ θ_run (Cert.LatQRefIdeal.defs (F := Ideal)) (onTc (τ := Cert.LatQRefIdeal.τ) (Cert.LatQRefIdeal.main (F := Ideal))) ⟨m', fun _ => 0, g'⟩ (fun r => ∀ c : Dev Cert.LatQRefIdeal.nD,
          r.2.mem ((c.tc : Thread Cert.LatQRefIdeal.nD Cert.LatQRefIdeal.τ).loc Cert.LatQRefIdeal.main_v45) = v0 c
          ∧ r.2.mem ((c.tc : Thread Cert.LatQRefIdeal.nD Cert.LatQRefIdeal.τ).loc Cert.LatQRefIdeal.main_arg0) = m' ((c.tc : Thread Cert.LatQRefIdeal.nD Cert.LatQRefIdeal.τ).loc Cert.LatQRefIdeal.main_arg0))

def preserves_Router_RouterIdeal : Prop :=
  True

def algebraic_RouterIdeal_RouterRefIdeal_pre_finite_router [hRouterIdeal : Cert.RouterIdeal.Facts] [hRouterRefIdeal : Cert.RouterRefIdeal.Facts] [hPre_finite_router : Cert.Pre_finite_router.Facts] : Prop :=
  ∀ (m : (ℓ : Loc Cert.RouterIdeal.nD Cert.RouterIdeal.τ Cert.RouterIdeal.sig) → Buf (Elt Ideal) ℓ) (g : Dev Cert.RouterIdeal.nD → PrngReg)
    (m' : (ℓ : Loc Cert.RouterRefIdeal.nD Cert.RouterRefIdeal.τ Cert.RouterRefIdeal.sig) → Buf (Elt Ideal) ℓ) (g' : Dev Cert.RouterRefIdeal.nD → PrngReg), Pre_RouterIdeal_finite_router m →
    (∀ c : Dev Cert.RouterIdeal.nD,
      m' ((c.tc : Thread Cert.RouterRefIdeal.nD Cert.RouterRefIdeal.τ).loc Cert.RouterRefIdeal.main_arg0) = m ((c.tc : Thread Cert.RouterIdeal.nD Cert.RouterIdeal.τ).loc Cert.RouterIdeal.main_arg0)
      ∧ m' ((c.tc : Thread Cert.RouterRefIdeal.nD Cert.RouterRefIdeal.τ).loc Cert.RouterRefIdeal.main_arg1) = m ((c.tc : Thread Cert.RouterIdeal.nD Cert.RouterIdeal.τ).loc Cert.RouterIdeal.main_arg1)
      ∧ m' ((c.tc : Thread Cert.RouterRefIdeal.nD Cert.RouterRefIdeal.τ).loc Cert.RouterRefIdeal.main_arg2) = m ((c.tc : Thread Cert.RouterIdeal.nD Cert.RouterIdeal.τ).loc Cert.RouterIdeal.main_arg2)
      ∧ m' ((c.tc : Thread Cert.RouterRefIdeal.nD Cert.RouterRefIdeal.τ).loc Cert.RouterRefIdeal.main_arg3) = m ((c.tc : Thread Cert.RouterIdeal.nD Cert.RouterIdeal.τ).loc Cert.RouterIdeal.main_arg3)
      ∧ m' ((c.tc : Thread Cert.RouterRefIdeal.nD Cert.RouterRefIdeal.τ).loc Cert.RouterRefIdeal.main_arg4) = m ((c.tc : Thread Cert.RouterIdeal.nD Cert.RouterIdeal.τ).loc Cert.RouterIdeal.main_arg4)) →
    ∃ (v0 : (c : Dev Cert.RouterIdeal.nD) → Buf (Elt Ideal) ((c.tc : Thread Cert.RouterIdeal.nD Cert.RouterIdeal.τ).loc Cert.RouterIdeal.main_v9_0)) (v1 : (c : Dev Cert.RouterIdeal.nD) → Buf (Elt Ideal) ((c.tc : Thread Cert.RouterIdeal.nD Cert.RouterIdeal.τ).loc Cert.RouterIdeal.main_v9_1)),
      θ_run (Cert.RouterIdeal.defs (F := Ideal)) (onTc (τ := Cert.RouterIdeal.τ) (Cert.RouterIdeal.main (F := Ideal))) ⟨m, fun _ => 0, g⟩ (fun r => ∀ c : Dev Cert.RouterIdeal.nD,
          r.2.mem ((c.tc : Thread Cert.RouterIdeal.nD Cert.RouterIdeal.τ).loc Cert.RouterIdeal.main_v9_0) = v0 c
          ∧ r.2.mem ((c.tc : Thread Cert.RouterIdeal.nD Cert.RouterIdeal.τ).loc Cert.RouterIdeal.main_v9_1) = v1 c
          ∧ r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
          ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
          ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2)
          ∧ r.2.mem ((c.tc : Thread Cert.RouterIdeal.nD Cert.RouterIdeal.τ).loc Cert.RouterIdeal.main_arg3) = m ((c.tc : Thread Cert.RouterIdeal.nD Cert.RouterIdeal.τ).loc Cert.RouterIdeal.main_arg3)
          ∧ r.2.mem ((c.tc : Thread Cert.RouterIdeal.nD Cert.RouterIdeal.τ).loc Cert.RouterIdeal.main_arg4) = m ((c.tc : Thread Cert.RouterIdeal.nD Cert.RouterIdeal.τ).loc Cert.RouterIdeal.main_arg4))
      ∧ θ_run (Cert.RouterRefIdeal.defs (F := Ideal)) (onTc (τ := Cert.RouterRefIdeal.τ) (Cert.RouterRefIdeal.main (F := Ideal))) ⟨m', fun _ => 0, g'⟩ (fun r => ∀ c : Dev Cert.RouterRefIdeal.nD,
          r.2.mem ((c.tc : Thread Cert.RouterRefIdeal.nD Cert.RouterRefIdeal.τ).loc Cert.RouterRefIdeal.main_v45) = v0 c
          ∧ r.2.mem ((c.tc : Thread Cert.RouterRefIdeal.nD Cert.RouterRefIdeal.τ).loc Cert.RouterRefIdeal.main_v47) = v1 c
          ∧ r.2.mem ((c.tc : Thread Cert.RouterRefIdeal.nD Cert.RouterRefIdeal.τ).loc Cert.RouterRefIdeal.main_arg0) = m' ((c.tc : Thread Cert.RouterRefIdeal.nD Cert.RouterRefIdeal.τ).loc Cert.RouterRefIdeal.main_arg0)
          ∧ r.2.mem ((c.tc : Thread Cert.RouterRefIdeal.nD Cert.RouterRefIdeal.τ).loc Cert.RouterRefIdeal.main_arg1) = m' ((c.tc : Thread Cert.RouterRefIdeal.nD Cert.RouterRefIdeal.τ).loc Cert.RouterRefIdeal.main_arg1)
          ∧ r.2.mem ((c.tc : Thread Cert.RouterRefIdeal.nD Cert.RouterRefIdeal.τ).loc Cert.RouterRefIdeal.main_arg2) = m' ((c.tc : Thread Cert.RouterRefIdeal.nD Cert.RouterRefIdeal.τ).loc Cert.RouterRefIdeal.main_arg2)
          ∧ r.2.mem ((c.tc : Thread Cert.RouterRefIdeal.nD Cert.RouterRefIdeal.τ).loc Cert.RouterRefIdeal.main_arg3) = m' ((c.tc : Thread Cert.RouterRefIdeal.nD Cert.RouterRefIdeal.τ).loc Cert.RouterRefIdeal.main_arg3)
          ∧ r.2.mem ((c.tc : Thread Cert.RouterRefIdeal.nD Cert.RouterRefIdeal.τ).loc Cert.RouterRefIdeal.main_arg4) = m' ((c.tc : Thread Cert.RouterRefIdeal.nD Cert.RouterRefIdeal.τ).loc Cert.RouterRefIdeal.main_arg4))

def Claim : Prop :=
  ∃ (hFlash : Cert.Flash.Facts) (hFlashIdeal : Cert.FlashIdeal.Facts) (hFlashRefIdeal : Cert.FlashRefIdeal.Facts) (hProjB : Cert.ProjB.Facts) (hProjBIdeal : Cert.ProjBIdeal.Facts) (hProjBRefIdeal : Cert.ProjBRefIdeal.Facts) (hProjS : Cert.ProjS.Facts) (hProjSIdeal : Cert.ProjSIdeal.Facts) (hProjSRefIdeal : Cert.ProjSRefIdeal.Facts) (hProjG : Cert.ProjG.Facts) (hProjGIdeal : Cert.ProjGIdeal.Facts) (hProjGRefIdeal : Cert.ProjGRefIdeal.Facts) (hMerge : Cert.Merge.Facts) (hMergeIdeal : Cert.MergeIdeal.Facts) (hMergeRefIdeal : Cert.MergeRefIdeal.Facts) (hOutProj : Cert.OutProj.Facts) (hOutProjIdeal : Cert.OutProjIdeal.Facts) (hOutProjRefIdeal : Cert.OutProjRefIdeal.Facts) (hLatKV : Cert.LatKV.Facts) (hLatKVIdeal : Cert.LatKVIdeal.Facts) (hLatKVRefIdeal : Cert.LatKVRefIdeal.Facts) (hLatQ : Cert.LatQ.Facts) (hLatQIdeal : Cert.LatQIdeal.Facts) (hLatQRefIdeal : Cert.LatQRefIdeal.Facts) (hRouter : Cert.Router.Facts) (hRouterIdeal : Cert.RouterIdeal.Facts) (hRouterRefIdeal : Cert.RouterRefIdeal.Facts) (hPre_finite : Cert.Pre_finite.Facts) (hPre_finite_weights : Cert.Pre_finite_weights.Facts) (hPre_finite_router : Cert.Pre_finite_router.Facts),
    quiescent_Flash (hFlash := hFlash)
    ∧ quiescent_FlashIdeal (hFlashIdeal := hFlashIdeal)
    ∧ quiescent_FlashIdeal_pre_finite (hFlashIdeal := hFlashIdeal) (hPre_finite := hPre_finite)
    ∧ quiescent_FlashRefIdeal (hFlashRefIdeal := hFlashRefIdeal)
    ∧ quiescent_FlashRefIdeal_pre_finite (hFlashRefIdeal := hFlashRefIdeal) (hPre_finite := hPre_finite)
    ∧ quiescent_ProjB (hProjB := hProjB)
    ∧ quiescent_ProjBIdeal (hProjBIdeal := hProjBIdeal)
    ∧ quiescent_ProjBRefIdeal (hProjBRefIdeal := hProjBRefIdeal)
    ∧ quiescent_ProjS (hProjS := hProjS)
    ∧ quiescent_ProjSIdeal (hProjSIdeal := hProjSIdeal)
    ∧ quiescent_ProjSIdeal_pre_finite_weights (hProjSIdeal := hProjSIdeal) (hPre_finite_weights := hPre_finite_weights)
    ∧ quiescent_ProjSRefIdeal (hProjSRefIdeal := hProjSRefIdeal)
    ∧ quiescent_ProjSRefIdeal_pre_finite_weights (hProjSRefIdeal := hProjSRefIdeal) (hPre_finite_weights := hPre_finite_weights)
    ∧ quiescent_ProjG (hProjG := hProjG)
    ∧ quiescent_ProjGIdeal (hProjGIdeal := hProjGIdeal)
    ∧ quiescent_ProjGRefIdeal (hProjGRefIdeal := hProjGRefIdeal)
    ∧ quiescent_Merge (hMerge := hMerge)
    ∧ quiescent_MergeIdeal (hMergeIdeal := hMergeIdeal)
    ∧ quiescent_MergeRefIdeal (hMergeRefIdeal := hMergeRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_LatKV (hLatKV := hLatKV)
    ∧ quiescent_LatKVIdeal (hLatKVIdeal := hLatKVIdeal)
    ∧ quiescent_LatKVRefIdeal (hLatKVRefIdeal := hLatKVRefIdeal)
    ∧ quiescent_LatQ (hLatQ := hLatQ)
    ∧ quiescent_LatQIdeal (hLatQIdeal := hLatQIdeal)
    ∧ quiescent_LatQRefIdeal (hLatQRefIdeal := hLatQRefIdeal)
    ∧ quiescent_Router (hRouter := hRouter)
    ∧ quiescent_RouterIdeal (hRouterIdeal := hRouterIdeal)
    ∧ quiescent_RouterIdeal_pre_finite_router (hRouterIdeal := hRouterIdeal) (hPre_finite_router := hPre_finite_router)
    ∧ quiescent_RouterRefIdeal (hRouterRefIdeal := hRouterRefIdeal)
    ∧ quiescent_RouterRefIdeal_pre_finite_router (hRouterRefIdeal := hRouterRefIdeal) (hPre_finite_router := hPre_finite_router)
    ∧ preserves_Flash_FlashIdeal
    ∧ algebraic_FlashIdeal_FlashRefIdeal_pre_finite (hFlashIdeal := hFlashIdeal) (hFlashRefIdeal := hFlashRefIdeal) (hPre_finite := hPre_finite)
    ∧ preserves_ProjB_ProjBIdeal
    ∧ algebraic_ProjBIdeal_ProjBRefIdeal (hProjBIdeal := hProjBIdeal) (hProjBRefIdeal := hProjBRefIdeal)
    ∧ preserves_ProjS_ProjSIdeal
    ∧ algebraic_ProjSIdeal_ProjSRefIdeal_pre_finite_weights (hProjSIdeal := hProjSIdeal) (hProjSRefIdeal := hProjSRefIdeal) (hPre_finite_weights := hPre_finite_weights)
    ∧ preserves_ProjG_ProjGIdeal
    ∧ algebraic_ProjGIdeal_ProjGRefIdeal (hProjGIdeal := hProjGIdeal) (hProjGRefIdeal := hProjGRefIdeal)
    ∧ preserves_Merge_MergeIdeal
    ∧ algebraic_MergeIdeal_MergeRefIdeal (hMergeIdeal := hMergeIdeal) (hMergeRefIdeal := hMergeRefIdeal)
    ∧ preserves_OutProj_OutProjIdeal
    ∧ algebraic_OutProjIdeal_OutProjRefIdeal (hOutProjIdeal := hOutProjIdeal) (hOutProjRefIdeal := hOutProjRefIdeal)
    ∧ preserves_LatKV_LatKVIdeal
    ∧ algebraic_LatKVIdeal_LatKVRefIdeal (hLatKVIdeal := hLatKVIdeal) (hLatKVRefIdeal := hLatKVRefIdeal)
    ∧ preserves_LatQ_LatQIdeal
    ∧ algebraic_LatQIdeal_LatQRefIdeal (hLatQIdeal := hLatQIdeal) (hLatQRefIdeal := hLatQRefIdeal)
    ∧ preserves_Router_RouterIdeal
    ∧ algebraic_RouterIdeal_RouterRefIdeal_pre_finite_router (hRouterIdeal := hRouterIdeal) (hRouterRefIdeal := hRouterRefIdeal) (hPre_finite_router := hPre_finite_router)
-- ==== Pre_finite.lean ====
abbrev S4x8x4096x192 : Shape := ⟨4, ![4, 8, 4096, 192]⟩
abbrev S4x8x4096x128 : Shape := ⟨4, ![4, 8, 4096, 128]⟩
abbrev S_ : Shape := ⟨0, ![]⟩

class Facts : Prop where
  bcast_S_S4x8x4096x192 : S_.BroadcastsInDim S4x8x4096x192 (![] : Fin 0 → Fin S4x8x4096x192.rank)
  reducesTo_S4x8x4096x192_S_d0_1_2_3 : S4x8x4096x192.ReducesTo [0, 1, 2, 3] S_
  h_S_ : 0 < S_.numel

variable [Facts]

def fn {F : FTy → Type} [FloatOps F] (main_arg0 : FVec F S4x8x4096x192 .bf16) (main_arg1 : FVec F S4x8x4096x192 .bf16) (main_arg2 : FVec F S4x8x4096x128 .bf16) : IVec S_ 1 :=
  let main_v0 : FVec F S4x8x4096x192 .bf16 := Host.absf main_arg0
  let main_cst : FVec F S_ .bf16 := constant S_ .bf16 0x7F80#16
  let main_v1 : FVec F S4x8x4096x192 .bf16 := broadcastInDim S4x8x4096x192 ![] bcast_S_S4x8x4096x192 main_cst
  let main_v2 : IVec S4x8x4096x192 1 := cmpf .olt main_v0 main_v1
  let main_c : IVec S_ 1 := constantI S_ 1 1#1
  let main_v3 : IVec S_ 1 := (fun x v => Host.reduce IntOp.andi x v reducesTo_S4x8x4096x192_S_d0_1_2_3 h_S_) main_v2 main_c
  let main_v4 : FVec F S4x8x4096x192 .bf16 := Host.absf main_arg1
  let main_cst_0 : FVec F S_ .bf16 := constant S_ .bf16 0x7F80#16
  let main_v5 : FVec F S4x8x4096x192 .bf16 := broadcastInDim S4x8x4096x192 ![] bcast_S_S4x8x4096x192 main_cst_0
  let main_v6 : IVec S4x8x4096x192 1 := cmpf .olt main_v4 main_v5
  let main_c_1 : IVec S_ 1 := constantI S_ 1 1#1
  let main_v7 : IVec S_ 1 := (fun x v => Host.reduce IntOp.andi x v reducesTo_S4x8x4096x192_S_d0_1_2_3 h_S_) main_v6 main_c_1
  let main_v8 : IVec S_ 1 := andi main_v3 main_v7
  main_v8
-- ==== Pre_finite_router.lean ====
abbrev S16384x2048 : Shape := ⟨2, ![16384, 2048]⟩
abbrev S2048x8 : Shape := ⟨2, ![2048, 8]⟩
abbrev S8 : Shape := ⟨1, ![8]⟩
abbrev S2048x64 : Shape := ⟨2, ![2048, 64]⟩
abbrev S64 : Shape := ⟨1, ![64]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S2048x8 : S_.BroadcastsInDim S2048x8 (![] : Fin 0 → Fin S2048x8.rank)
  reducesTo_S2048x8_S_d0_1 : S2048x8.ReducesTo [0, 1] S_
  bcast_S_S2048x64 : S_.BroadcastsInDim S2048x64 (![] : Fin 0 → Fin S2048x64.rank)
  reducesTo_S2048x64_S_d0_1 : S2048x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S16384x2048 .f32) (main_arg1 : FVec F S2048x8 .f32) (main_arg2 : FVec F S8 .f32) (main_arg3 : FVec F S2048x64 .f32) (main_arg4 : FVec F S64 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S2048x8 .f32 := Host.absf main_arg1
  let main_cst_0 : FVec F S_ .f32 := constant S_ .f32 0x7F800000#32
  let main_v5 : FVec F S2048x8 .f32 := broadcastInDim S2048x8 ![] bcast_S_S2048x8 main_cst_0
  let main_v6 : IVec S2048x8 1 := cmpf .olt main_v4 main_v5
  let main_c_1 : IVec S_ 1 := constantI S_ 1 1#1
  let main_v7 : IVec S_ 1 := (fun x v => Host.reduce IntOp.andi x v reducesTo_S2048x8_S_d0_1 h_S_) main_v6 main_c_1
  let main_v8 : IVec S_ 1 := andi main_v3 main_v7
  let main_v9 : FVec F S2048x64 .f32 := Host.absf main_arg3
  let main_cst_2 : FVec F S_ .f32 := constant S_ .f32 0x7F800000#32
  let main_v10 : FVec F S2048x64 .f32 := broadcastInDim S2048x64 ![] bcast_S_S2048x64 main_cst_2
  let main_v11 : IVec S2048x64 1 := cmpf .olt main_v9 main_v10
  let main_c_3 : IVec S_ 1 := constantI S_ 1 1#1
  let main_v12 : IVec S_ 1 := (fun x v => Host.reduce IntOp.andi x v reducesTo_S2048x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Pre_finite_weights.lean ====
abbrev S16384x2048 : Shape := ⟨2, ![16384, 2048]⟩
abbrev S2048x8848 : Shape := ⟨2, ![2048, 8848]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S2048x8848 : S_.BroadcastsInDim S2048x8848 (![] : Fin 0 → Fin S2048x8848.rank)
  reducesTo_S2048x8848_S_d0_1 : S2048x8848.ReducesTo [0, 1] S_

variable [Facts]

def fn {F : FTy → Type} [FloatOps F] (main_arg0 : FVec F S16384x2048 .bf16) (main_arg1 : FVec F S2048x8848 .f32) : IVec S_ 1 :=
  let main_v0 : FVec F S16384x2048 .bf16 := Host.absf main_arg0
  let main_cst : FVec F S_ .bf16 := constant S_ .bf16 0x7F80#16
  let main_v1 : FVec F S16384x2048 .bf16 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S2048x8848 .f32 := Host.absf main_arg1
  let main_cst_0 : FVec F S_ .f32 := constant S_ .f32 0x7F800000#32
  let main_v5 : FVec F S2048x8848 .f32 := broadcastInDim S2048x8848 ![] bcast_S_S2048x8848 main_cst_0
  let main_v6 : IVec S2048x8848 1 := cmpf .olt main_v4 main_v5
  let main_c_1 : IVec S_ 1 := constantI S_ 1 1#1
  let main_v7 : IVec S_ 1 := (fun x v => Host.reduce IntOp.andi x v reducesTo_S2048x8848_S_d0_1 h_S_) main_v6 main_c_1
  let main_v8 : IVec S_ 1 := andi main_v3 main_v7
  main_v8
-- ==== Flash.lean ====
abbrev S4x8x4096x192 : Shape := ⟨4, ![4, 8, 4096, 192]⟩
abbrev S4x8x4096x128 : Shape := ⟨4, ![4, 8, 4096, 128]⟩
abbrev S4x4096x1024 : Shape := ⟨3, ![4, 4096, 1024]⟩
abbrev S1x1x512x192 : Shape := ⟨4, ![1, 1, 512, 192]⟩
abbrev S1x1x4096x192 : Shape := ⟨4, ![1, 1, 4096, 192]⟩
abbrev S1x1x4096x128 : Shape := ⟨4, ![1, 1, 4096, 128]⟩
abbrev S1x512x128 : Shape := ⟨3, ![1, 512, 128]⟩
abbrev S2x512x512 : Shape := ⟨3, ![2, 512, 512]⟩
abbrev S512x1 : Shape := ⟨2, ![512, 1]⟩
abbrev S512x128 : Shape := ⟨2, ![512, 128]⟩
abbrev S512x192 : Shape := ⟨2, ![512, 192]⟩
abbrev S512x512 : Shape := ⟨2, ![512, 512]⟩
abbrev S1x512x512 : Shape := ⟨3, ![1, 512, 512]⟩
abbrev S512 : Shape := ⟨1, ![512]⟩
abbrev S1x1x512x128 : Shape := ⟨4, ![1, 1, 512, 128]⟩

abbrev nBuf : Space → Nat
  | .hbm => 4
  | .vmem => 12
  | .smem => 0
  | _ => 0

abbrev bufTy : (tb : Table) → Fin (tcTables nBuf tb) → BufTy
  | .hbm, ⟨0, _⟩ => ⟨S4x8x4096x192, .bf16⟩
  | .hbm, ⟨1, _⟩ => ⟨S4x8x4096x192, .bf16⟩
  | .hbm, ⟨2, _⟩ => ⟨S4x8x4096x128, .bf16⟩
  | .hbm, ⟨3, _⟩ => ⟨S4x4096x1024, .bf16⟩
  | .local _ .vmem, ⟨0, _⟩ => ⟨S1x1x512x192, .bf16⟩
  | .local _ .vmem, ⟨1, _⟩ => ⟨S1x1x512x192, .bf16⟩
  | .local _ .vmem, ⟨2, _⟩ => ⟨S1x1x4096x192, .bf16⟩
  | .local _ .vmem, ⟨3, _⟩ => ⟨S1x1x4096x192, .bf16⟩
  | .local _ .vmem, ⟨4, _⟩ => ⟨S1x1x4096x128, .bf16⟩
  | .local _ .vmem, ⟨5, _⟩ => ⟨S1x1x4096x128, .bf16⟩
  | .local _ .vmem, ⟨6, _⟩ => ⟨S1x512x128, .bf16⟩
  | .local _ .vmem, ⟨7, _⟩ => ⟨S1x512x128, .bf16⟩
  | .local _ .vmem, ⟨8, _⟩ => ⟨S2x512x512, .f32⟩
  | .local _ .vmem, ⟨9, _⟩ => ⟨S512x1, .f32⟩
  | .local _ .vmem, ⟨10, _⟩ => ⟨S512x1, .f32⟩
  | .local _ .vmem, ⟨11, _⟩ => ⟨S512x128, .f32⟩
  | _, _ => ⟨S4x8x4096x192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 8], ![false, false, false]⟩

def k0_mult1 : BitVec 32 :=
  let c0_i32 : BitVec 32 := 0#32
  c0_i32
@[reducible] def k0_t1_loop (i : grid0.Coords) : Scf.Loop 32 :=
  let c0_i32_24 : BitVec 32 := 0#32
  let arg2 : BitVec 32 := BitVec.ofNat 32 (i 2).val
  let c0_i32_18 : BitVec 32 := 0#32
  let v23 : BitVec 1 := Scalar.cmpi .sgt arg2 c0_i32_18
  let v24 : BitVec 32 := Scalar.extui v23
  let c0_i32_19 : BitVec 32 := 0#32
  let v25 : BitVec 1 := Scalar.cmpi .slt arg2 c0_i32_19
  let v26 : BitVec 32 := Scalar.extui v25
  let v27 : BitVec 32 := Scalar.subi v24 v26
  let c2_i32 : BitVec 32 := 2#32
  let c0_i32_20 : BitVec 32 := 0#32
  let v28 : BitVec 1 := Scalar.cmpi .sgt c2_i32 c0_i32_20
  let v29 : BitVec 32 := Scalar.extui v28
  let c0_i32_21 : BitVec 32 := 0#32
  let v30 : BitVec 1 := Scalar.cmpi .slt c2_i32 c0_i32_21
  let v31 : BitVec 32 := Scalar.extui v30
  let v32 : BitVec 32 := Scalar.subi v29 v31
  let v33 : BitVec 1 := Scalar.cmpi .ne v27 v32
  let v34 : BitVec 32 := Scalar.remsi arg2 c2_i32
  let c0_i32_22 : BitVec 32 := 0#32
  let v35 : BitVec 1 := Scalar.cmpi .ne v34 c0_i32_22
  let v36 : BitVec 1 := Scalar.andi v33 v35
  let v22 : BitVec 32 := Scalar.divsi arg2 c2_i32
  let c1_i32 : BitVec 32 := 1#32
  let v37 : BitVec 32 := Scalar.subi v22 c1_i32
  let v38 : BitVec 32 := Scalar.select v36 v37 v22
  let v39 : BitVec 32 := Scalar.subi v38 c0_i32_24
  let c1_i32_25 : BitVec 32 := 1#32
  let v41 : BitVec 32 := Scalar.divsi v39 c1_i32_25
  let v42 : BitVec 32 := Scalar.muli v41 c1_i32_25
  let v43 : BitVec 32 := Scalar.addi c0_i32_24 v42
  let c1_i32_26 : BitVec 32 := 1#32
  ⟨c0_i32_24, v43, c1_i32_26⟩
def k0_mult2 (i : grid0.Coords) (k0_t1 : Fin (k0_t1_loop i).trips) : BitVec 32 :=
  let c2_i32_39 : BitVec 32 := 2#32
  let c0_i32_24 : BitVec 32 := 0#32
  let c1_i32_26 : BitVec 32 := 1#32
  let arg11 : BitVec 32 := Scf.iv c0_i32_24 c1_i32_26 k0_t1
  let v60 : BitVec 32 := Scalar.muli c2_i32_39 arg11
  let c1_i32_40 : BitVec 32 := 1#32
  let v61 : BitVec 32 := Scalar.addi v60 c1_i32_40
  let c512_i32 : BitVec 32 := 512#32
  let v62 : BitVec 32 := Scalar.muli v61 c512_i32
  v62
def k0_off1 (i : grid0.Coords) (k0_t1 : Fin (k0_t1_loop i).trips) (c1_i32_40 : BitVec 32) : Fin 4 → Nat :=
  let c0_41 : Index := 0#32
  let c0_42 : Index := 0#32
  let c2_i32_39 : BitVec 32 := 2#32
  let c0_i32_24 : BitVec 32 := 0#32
  let c1_i32_26 : BitVec 32 := 1#32
  let arg11 : BitVec 32 := Scf.iv c0_i32_24 c1_i32_26 k0_t1
  let v60 : BitVec 32 := Scalar.muli c2_i32_39 arg11
  let v61 : BitVec 32 := Scalar.addi v60 c1_i32_40
  let c512_i32 : BitVec 32 := 512#32
  let v62 : BitVec 32 := Scalar.muli v61 c512_i32
  let v63 : BitVec 32 := v62
  let v64 : Index := Scalar.indexCast v63
  let c0_43 : Index := 0#32
  ![0, 0, v64.toNat, 0]
def k0_mult3 (i : grid0.Coords) (k0_t1 : Fin (k0_t1_loop i).trips) : BitVec 32 :=
  let c2_i32_39 : BitVec 32 := 2#32
  let c0_i32_24 : BitVec 32 := 0#32
  let c1_i32_26 : BitVec 32 := 1#32
  let arg11 : BitVec 32 := Scf.iv c0_i32_24 c1_i32_26 k0_t1
  let v60 : BitVec 32 := Scalar.muli c2_i32_39 arg11
  let c512_i32_47 : BitVec 32 := 512#32
  let v71 : BitVec 32 := Scalar.muli v60 c512_i32_47
  v71
def k0_off2 (i : grid0.Coords) (k0_t1 : Fin (k0_t1_loop i).trips) : Fin 4 → Nat :=
  let c0_61 : Index := 0#32
  let c0_62 : Index := 0#32
  let c2_i32_39 : BitVec 32 := 2#32
  let c0_i32_24 : BitVec 32 := 0#32
  let c1_i32_26 : BitVec 32 := 1#32
  let arg11 : BitVec 32 := Scf.iv c0_i32_24 c1_i32_26 k0_t1
  let v60 : BitVec 32 := Scalar.muli c2_i32_39 arg11
  let c512_i32_47 : BitVec 32 := 512#32
  let v71 : BitVec 32 := Scalar.muli v60 c512_i32_47
  let v72 : BitVec 32 := v71
  let v110 : Index := Scalar.indexCast v72
  let c0_63 : Index := 0#32
  ![0, 0, v110.toNat, 0]
def k0_mult4 (i : grid0.Coords) (k0_t1 : Fin (k0_t1_loop i).trips) : BitVec 32 :=
  let c2_i32_39 : BitVec 32 := 2#32
  let c0_i32_24 : BitVec 32 := 0#32
  let c1_i32_26 : BitVec 32 := 1#32
  let arg11 : BitVec 32 := Scf.iv c0_i32_24 c1_i32_26 k0_t1
  let v60 : BitVec 32 := Scalar.muli c2_i32_39 arg11
  let c2_i32_69 : BitVec 32 := 2#32
  let v121 : BitVec 32 := Scalar.addi v60 c2_i32_69
  let c512_i32_70 : BitVec 32 := 512#32
  let v122 : BitVec 32 := Scalar.muli v121 c512_i32_70
  v122
def k0_mult5 (i : grid0.Coords) (k0_t1 : Fin (k0_t1_loop i).trips) : BitVec 32 :=
  let c2_i32_39 : BitVec 32 := 2#32
  let c0_i32_24 : BitVec 32 := 0#32
  let c1_i32_26 : BitVec 32 := 1#32
  let arg11 : BitVec 32 := Scf.iv c0_i32_24 c1_i32_26 k0_t1
  let v60 : BitVec 32 := Scalar.muli c2_i32_39 arg11
  let c1_i32_78 : BitVec 32 := 1#32
  let v131 : BitVec 32 := Scalar.addi v60 c1_i32_78
  let c512_i32_79 : BitVec 32 := 512#32
  let v132 : BitVec 32 := Scalar.muli v131 c512_i32_79
  v132
def k0_off3 (i : grid0.Coords) (k0_t1 : Fin (k0_t1_loop i).trips) : Fin 4 → Nat :=
  let c0_93 : Index := 0#32
  let c0_94 : Index := 0#32
  let c2_i32_39 : BitVec 32 := 2#32
  let c0_i32_24 : BitVec 32 := 0#32
  let c1_i32_26 : BitVec 32 := 1#32
  let arg11 : BitVec 32 := Scf.iv c0_i32_24 c1_i32_26 k0_t1
  let v60 : BitVec 32 := Scalar.muli c2_i32_39 arg11
  let c1_i32_78 : BitVec 32 := 1#32
  let v131 : BitVec 32 := Scalar.addi v60 c1_i32_78
  let c512_i32_79 : BitVec 32 := 512#32
  let v132 : BitVec 32 := Scalar.muli v131 c512_i32_79
  let v133 : BitVec 32 := v132
  let v171 : Index := Scalar.indexCast v133
  let c0_95 : Index := 0#32
  ![0, 0, v171.toNat, 0]
@[reducible] def k0_t2_loop (i : grid0.Coords) : Scf.Loop 32 :=
  let c0_i32_24 : BitVec 32 := 0#32
  let arg2 : BitVec 32 := BitVec.ofNat 32 (i 2).val
  let c0_i32_18 : BitVec 32 := 0#32
  let v23 : BitVec 1 := Scalar.cmpi .sgt arg2 c0_i32_18
  let v24 : BitVec 32 := Scalar.extui v23
  let c0_i32_19 : BitVec 32 := 0#32
  let v25 : BitVec 1 := Scalar.cmpi .slt arg2 c0_i32_19
  let v26 : BitVec 32 := Scalar.extui v25
  let v27 : BitVec 32 := Scalar.subi v24 v26
  let c2_i32 : BitVec 32 := 2#32
  let c0_i32_20 : BitVec 32 := 0#32
  let v28 : BitVec 1 := Scalar.cmpi .sgt c2_i32 c0_i32_20
  let v29 : BitVec 32 := Scalar.extui v28
  let c0_i32_21 : BitVec 32 := 0#32
  let v30 : BitVec 1 := Scalar.cmpi .slt c2_i32 c0_i32_21
  let v31 : BitVec 32 := Scalar.extui v30
  let v32 : BitVec 32 := Scalar.subi v29 v31
  let v33 : BitVec 1 := Scalar.cmpi .ne v27 v32
  let v34 : BitVec 32 := Scalar.remsi arg2 c2_i32
  let c0_i32_22 : BitVec 32 := 0#32
  let v35 : BitVec 1 := Scalar.cmpi .ne v34 c0_i32_22
  let v36 : BitVec 1 := Scalar.andi v33 v35
  let v22 : BitVec 32 := Scalar.divsi arg2 c2_i32
  let c1_i32 : BitVec 32 := 1#32
  let v37 : BitVec 32 := Scalar.subi v22 c1_i32
  let v38 : BitVec 32 := Scalar.select v36 v37 v22
  let v39 : BitVec 32 := Scalar.subi v38 c0_i32_24
  let c1_i32_25 : BitVec 32 := 1#32
  let v41 : BitVec 32 := Scalar.divsi v39 c1_i32_25
  let v42 : BitVec 32 := Scalar.muli v41 c1_i32_25
  let v43 : BitVec 32 := Scalar.addi c0_i32_24 v42
  let v40 : BitVec 32 := Scalar.addi c0_i32_24 v39
  let c1_i32_27 : BitVec 32 := 1#32
  ⟨v43, v40, c1_i32_27⟩
def k0_mult6 (i : grid0.Coords) (k0_t2 : Fin (k0_t2_loop i).trips) : BitVec 32 :=
  let c2_i32_39 : BitVec 32 := 2#32
  let c0_i32_24 : BitVec 32 := 0#32
  let arg2 : BitVec 32 := BitVec.ofNat 32 (i 2).val
  let c0_i32_18 : BitVec 32 := 0#32
  let v23 : BitVec 1 := Scalar.cmpi .sgt arg2 c0_i32_18
  let v24 : BitVec 32 := Scalar.extui v23
  let c0_i32_19 : BitVec 32 := 0#32
  let v25 : BitVec 1 := Scalar.cmpi .slt arg2 c0_i32_19
  let v26 : BitVec 32 := Scalar.extui v25
  let v27 : BitVec 32 := Scalar.subi v24 v26
  let c2_i32 : BitVec 32 := 2#32
  let c0_i32_20 : BitVec 32 := 0#32
  let v28 : BitVec 1 := Scalar.cmpi .sgt c2_i32 c0_i32_20
  let v29 : BitVec 32 := Scalar.extui v28
  let c0_i32_21 : BitVec 32 := 0#32
  let v30 : BitVec 1 := Scalar.cmpi .slt c2_i32 c0_i32_21
  let v31 : BitVec 32 := Scalar.extui v30
  let v32 : BitVec 32 := Scalar.subi v29 v31
  let v33 : BitVec 1 := Scalar.cmpi .ne v27 v32
  let v34 : BitVec 32 := Scalar.remsi arg2 c2_i32
  let c0_i32_22 : BitVec 32 := 0#32
  let v35 : BitVec 1 := Scalar.cmpi .ne v34 c0_i32_22
  let v36 : BitVec 1 := Scalar.andi v33 v35
  let v22 : BitVec 32 := Scalar.divsi arg2 c2_i32
  let c1_i32 : BitVec 32 := 1#32
  let v37 : BitVec 32 := Scalar.subi v22 c1_i32
  let v38 : BitVec 32 := Scalar.select v36 v37 v22
  let v39 : BitVec 32 := Scalar.subi v38 c0_i32_24
  let c1_i32_25 : BitVec 32 := 1#32
  let v41 : BitVec 32 := Scalar.divsi v39 c1_i32_25
  let v42 : BitVec 32 := Scalar.muli v41 c1_i32_25
  let v43 : BitVec 32 := Scalar.addi c0_i32_24 v42
  let c1_i32_27 : BitVec 32 := 1#32
  let arg11 : BitVec 32 := Scf.iv v43 c1_i32_27 k0_t2
  let v60 : BitVec 32 := Scalar.muli c2_i32_39 arg11
  let c1_i32_40 : BitVec 32 := 1#32
  let v61 : BitVec 32 := Scalar.addi v60 c1_i32_40
  let c512_i32 : BitVec 32 := 512#32
  let v62 : BitVec 32 := Scalar.muli v61 c512_i32
  v62
def k0_off4 (i : grid0.Coords) (k0_t2 : Fin (k0_t2_loop i).trips) (c1_i32_40 : BitVec 32) : Fin 4 → Nat :=
  let c0_41 : Index := 0#32
  let c0_42 : Index := 0#32
  let c2_i32_39 : BitVec 32 := 2#32
  let c0_i32_24 : BitVec 32 := 0#32
  let arg2 : BitVec 32 := BitVec.ofNat 32 (i 2).val
  let c0_i32_18 : BitVec 32 := 0#32
  let v23 : BitVec 1 := Scalar.cmpi .sgt arg2 c0_i32_18
  let v24 : BitVec 32 := Scalar.extui v23
  let c0_i32_19 : BitVec 32 := 0#32
  let v25 : BitVec 1 := Scalar.cmpi .slt arg2 c0_i32_19
  let v26 : BitVec 32 := Scalar.extui v25
  let v27 : BitVec 32 := Scalar.subi v24 v26
  let c2_i32 : BitVec 32 := 2#32
  let c0_i32_20 : BitVec 32 := 0#32
  let v28 : BitVec 1 := Scalar.cmpi .sgt c2_i32 c0_i32_20
  let v29 : BitVec 32 := Scalar.extui v28
  let c0_i32_21 : BitVec 32 := 0#32
  let v30 : BitVec 1 := Scalar.cmpi .slt c2_i32 c0_i32_21
  let v31 : BitVec 32 := Scalar.extui v30
  let v32 : BitVec 32 := Scalar.subi v29 v31
  let v33 : BitVec 1 := Scalar.cmpi .ne v27 v32
  let v34 : BitVec 32 := Scalar.remsi arg2 c2_i32
  let c0_i32_22 : BitVec 32 := 0#32
  let v35 : BitVec 1 := Scalar.cmpi .ne v34 c0_i32_22
  let v36 : BitVec 1 := Scalar.andi v33 v35
  let v22 : BitVec 32 := Scalar.divsi arg2 c2_i32
  let c1_i32 : BitVec 32 := 1#32
  let v37 : BitVec 32 := Scalar.subi v22 c1_i32
  let v38 : BitVec 32 := Scalar.select v36 v37 v22
  let v39 : BitVec 32 := Scalar.subi v38 c0_i32_24
  let c1_i32_25 : BitVec 32 := 1#32
  let v41 : BitVec 32 := Scalar.divsi v39 c1_i32_25
  let v42 : BitVec 32 := Scalar.muli v41 c1_i32_25
  let v43 : BitVec 32 := Scalar.addi c0_i32_24 v42
  let c1_i32_27 : BitVec 32 := 1#32
  let arg11 : BitVec 32 := Scf.iv v43 c1_i32_27 k0_t2
  let v60 : BitVec 32 := Scalar.muli c2_i32_39 arg11
  let v61 : BitVec 32 := Scalar.addi v60 c1_i32_40
  let c512_i32 : BitVec 32 := 512#32
  let v62 : BitVec 32 := Scalar.muli v61 c512_i32
  let v63 : BitVec 32 := v62
  let v64 : Index := Scalar.indexCast v63
  let c0_43 : Index := 0#32
  ![0, 0, v64.toNat, 0]
def k0_mult7 (i : grid0.Coords) (k0_t2 : Fin (k0_t2_loop i).trips) : BitVec 32 :=
  let c2_i32_39 : BitVec 32 := 2#32
  let c0_i32_24 : BitVec 32 := 0#32
  let arg2 : BitVec 32 := BitVec.ofNat 32 (i 2).val
  let c0_i32_18 : BitVec 32 := 0#32
  let v23 : BitVec 1 := Scalar.cmpi .sgt arg2 c0_i32_18
  let v24 : BitVec 32 := Scalar.extui v23
  let c0_i32_19 : BitVec 32 := 0#32
  let v25 : BitVec 1 := Scalar.cmpi .slt arg2 c0_i32_19
  let v26 : BitVec 32 := Scalar.extui v25
  let v27 : BitVec 32 := Scalar.subi v24 v26
  let c2_i32 : BitVec 32 := 2#32
  let c0_i32_20 : BitVec 32 := 0#32
  let v28 : BitVec 1 := Scalar.cmpi .sgt c2_i32 c0_i32_20
  let v29 : BitVec 32 := Scalar.extui v28
  let c0_i32_21 : BitVec 32 := 0#32
  let v30 : BitVec 1 := Scalar.cmpi .slt c2_i32 c0_i32_21
  let v31 : BitVec 32 := Scalar.extui v30
  let v32 : BitVec 32 := Scalar.subi v29 v31
  let v33 : BitVec 1 := Scalar.cmpi .ne v27 v32
  let v34 : BitVec 32 := Scalar.remsi arg2 c2_i32
  let c0_i32_22 : BitVec 32 := 0#32
  let v35 : BitVec 1 := Scalar.cmpi .ne v34 c0_i32_22
  let v36 : BitVec 1 := Scalar.andi v33 v35
  let v22 : BitVec 32 := Scalar.divsi arg2 c2_i32
  let c1_i32 : BitVec 32 := 1#32
  let v37 : BitVec 32 := Scalar.subi v22 c1_i32
  let v38 : BitVec 32 := Scalar.select v36 v37 v22
  let v39 : BitVec 32 := Scalar.subi v38 c0_i32_24
  let c1_i32_25 : BitVec 32 := 1#32
  let v41 : BitVec 32 := Scalar.divsi v39 c1_i32_25
  let v42 : BitVec 32 := Scalar.muli v41 c1_i32_25
  let v43 : BitVec 32 := Scalar.addi c0_i32_24 v42
  let c1_i32_27 : BitVec 32 := 1#32
  let arg11 : BitVec 32 := Scf.iv v43 c1_i32_27 k0_t2
  let v60 : BitVec 32 := Scalar.muli c2_i32_39 arg11
  let c512_i32_47 : BitVec 32 := 512#32
  let v71 : BitVec 32 := Scalar.muli v60 c512_i32_47
  v71
def k0_off5 (i : grid0.Coords) (k0_t2 : Fin (k0_t2_loop i).trips) : Fin 4 → Nat :=
  let c0_61 : Index := 0#32
  let c0_62 : Index := 0#32
  let c2_i32_39 : BitVec 32 := 2#32
  let c0_i32_24 : BitVec 32 := 0#32
  let arg2 : BitVec 32 := BitVec.ofNat 32 (i 2).val
  let c0_i32_18 : BitVec 32 := 0#32
  let v23 : BitVec 1 := Scalar.cmpi .sgt arg2 c0_i32_18
  let v24 : BitVec 32 := Scalar.extui v23
  let c0_i32_19 : BitVec 32 := 0#32
  let v25 : BitVec 1 := Scalar.cmpi .slt arg2 c0_i32_19
  let v26 : BitVec 32 := Scalar.extui v25
  let v27 : BitVec 32 := Scalar.subi v24 v26
  let c2_i32 : BitVec 32 := 2#32
  let c0_i32_20 : BitVec 32 := 0#32
  let v28 : BitVec 1 := Scalar.cmpi .sgt c2_i32 c0_i32_20
  let v29 : BitVec 32 := Scalar.extui v28
  let c0_i32_21 : BitVec 32 := 0#32
  let v30 : BitVec 1 := Scalar.cmpi .slt c2_i32 c0_i32_21
  let v31 : BitVec 32 := Scalar.extui v30
  let v32 : BitVec 32 := Scalar.subi v29 v31
  let v33 : BitVec 1 := Scalar.cmpi .ne v27 v32
  let v34 : BitVec 32 := Scalar.remsi arg2 c2_i32
  let c0_i32_22 : BitVec 32 := 0#32
  let v35 : BitVec 1 := Scalar.cmpi .ne v34 c0_i32_22
  let v36 : BitVec 1 := Scalar.andi v33 v35
  let v22 : BitVec 32 := Scalar.divsi arg2 c2_i32
  let c1_i32 : BitVec 32 := 1#32
  let v37 : BitVec 32 := Scalar.subi v22 c1_i32
  let v38 : BitVec 32 := Scalar.select v36 v37 v22
  let v39 : BitVec 32 := Scalar.subi v38 c0_i32_24
  let c1_i32_25 : BitVec 32 := 1#32
  let v41 : BitVec 32 := Scalar.divsi v39 c1_i32_25
  let v42 : BitVec 32 := Scalar.muli v41 c1_i32_25
  let v43 : BitVec 32 := Scalar.addi c0_i32_24 v42
  let c1_i32_27 : BitVec 32 := 1#32
  let arg11 : BitVec 32 := Scf.iv v43 c1_i32_27 k0_t2
  let v60 : BitVec 32 := Scalar.muli c2_i32_39 arg11
  let c512_i32_47 : BitVec 32 := 512#32
  let v71 : BitVec 32 := Scalar.muli v60 c512_i32_47
  let v72 : BitVec 32 := v71
  let v110 : Index := Scalar.indexCast v72
  let c0_63 : Index := 0#32
  ![0, 0, v110.toNat, 0]
def k0_mult8 (i : grid0.Coords) (k0_t2 : Fin (k0_t2_loop i).trips) : BitVec 32 :=
  let c2_i32_39 : BitVec 32 := 2#32
  let c0_i32_24 : BitVec 32 := 0#32
  let arg2 : BitVec 32 := BitVec.ofNat 32 (i 2).val
  let c0_i32_18 : BitVec 32 := 0#32
  let v23 : BitVec 1 := Scalar.cmpi .sgt arg2 c0_i32_18
  let v24 : BitVec 32 := Scalar.extui v23
  let c0_i32_19 : BitVec 32 := 0#32
  let v25 : BitVec 1 := Scalar.cmpi .slt arg2 c0_i32_19
  let v26 : BitVec 32 := Scalar.extui v25
  let v27 : BitVec 32 := Scalar.subi v24 v26
  let c2_i32 : BitVec 32 := 2#32
  let c0_i32_20 : BitVec 32 := 0#32
  let v28 : BitVec 1 := Scalar.cmpi .sgt c2_i32 c0_i32_20
  let v29 : BitVec 32 := Scalar.extui v28
  let c0_i32_21 : BitVec 32 := 0#32
  let v30 : BitVec 1 := Scalar.cmpi .slt c2_i32 c0_i32_21
  let v31 : BitVec 32 := Scalar.extui v30
  let v32 : BitVec 32 := Scalar.subi v29 v31
  let v33 : BitVec 1 := Scalar.cmpi .ne v27 v32
  let v34 : BitVec 32 := Scalar.remsi arg2 c2_i32
  let c0_i32_22 : BitVec 32 := 0#32
  let v35 : BitVec 1 := Scalar.cmpi .ne v34 c0_i32_22
  let v36 : BitVec 1 := Scalar.andi v33 v35
  let v22 : BitVec 32 := Scalar.divsi arg2 c2_i32
  let c1_i32 : BitVec 32 := 1#32
  let v37 : BitVec 32 := Scalar.subi v22 c1_i32
  let v38 : BitVec 32 := Scalar.select v36 v37 v22
  let v39 : BitVec 32 := Scalar.subi v38 c0_i32_24
  let c1_i32_25 : BitVec 32 := 1#32
  let v41 : BitVec 32 := Scalar.divsi v39 c1_i32_25
  let v42 : BitVec 32 := Scalar.muli v41 c1_i32_25
  let v43 : BitVec 32 := Scalar.addi c0_i32_24 v42
  let c1_i32_27 : BitVec 32 := 1#32
  let arg11 : BitVec 32 := Scf.iv v43 c1_i32_27 k0_t2
  let v60 : BitVec 32 := Scalar.muli c2_i32_39 arg11
  let c2_i32_69 : BitVec 32 := 2#32
  let v121 : BitVec 32 := Scalar.addi v60 c2_i32_69
  let c512_i32_70 : BitVec 32 := 512#32
  let v122 : BitVec 32 := Scalar.muli v121 c512_i32_70
  v122
def k0_mult9 (i : grid0.Coords) (k0_t2 : Fin (k0_t2_loop i).trips) : BitVec 32 :=
  let c2_i32_39 : BitVec 32 := 2#32
  let c0_i32_24 : BitVec 32 := 0#32
  let arg2 : BitVec 32 := BitVec.ofNat 32 (i 2).val
  let c0_i32_18 : BitVec 32 := 0#32
  let v23 : BitVec 1 := Scalar.cmpi .sgt arg2 c0_i32_18
  let v24 : BitVec 32 := Scalar.extui v23
  let c0_i32_19 : BitVec 32 := 0#32
  let v25 : BitVec 1 := Scalar.cmpi .slt arg2 c0_i32_19
  let v26 : BitVec 32 := Scalar.extui v25
  let v27 : BitVec 32 := Scalar.subi v24 v26
  let c2_i32 : BitVec 32 := 2#32
  let c0_i32_20 : BitVec 32 := 0#32
  let v28 : BitVec 1 := Scalar.cmpi .sgt c2_i32 c0_i32_20
  let v29 : BitVec 32 := Scalar.extui v28
  let c0_i32_21 : BitVec 32 := 0#32
  let v30 : BitVec 1 := Scalar.cmpi .slt c2_i32 c0_i32_21
  let v31 : BitVec 32 := Scalar.extui v30
  let v32 : BitVec 32 := Scalar.subi v29 v31
  let v33 : BitVec 1 := Scalar.cmpi .ne v27 v32
  let v34 : BitVec 32 := Scalar.remsi arg2 c2_i32
  let c0_i32_22 : BitVec 32 := 0#32
  let v35 : BitVec 1 := Scalar.cmpi .ne v34 c0_i32_22
  let v36 : BitVec 1 := Scalar.andi v33 v35
  let v22 : BitVec 32 := Scalar.divsi arg2 c2_i32
  let c1_i32 : BitVec 32 := 1#32
  let v37 : BitVec 32 := Scalar.subi v22 c1_i32
  let v38 : BitVec 32 := Scalar.select v36 v37 v22
  let v39 : BitVec 32 := Scalar.subi v38 c0_i32_24
  let c1_i32_25 : BitVec 32 := 1#32
  let v41 : BitVec 32 := Scalar.divsi v39 c1_i32_25
  let v42 : BitVec 32 := Scalar.muli v41 c1_i32_25
  let v43 : BitVec 32 := Scalar.addi c0_i32_24 v42
  let c1_i32_27 : BitVec 32 := 1#32
  let arg11 : BitVec 32 := Scf.iv v43 c1_i32_27 k0_t2
  let v60 : BitVec 32 := Scalar.muli c2_i32_39 arg11
  let c1_i32_78 : BitVec 32 := 1#32
  let v131 : BitVec 32 := Scalar.addi v60 c1_i32_78
  let c512_i32_79 : BitVec 32 := 512#32
  let v132 : BitVec 32 := Scalar.muli v131 c512_i32_79
  v132
def k0_off6 (i : grid0.Coords) (k0_t2 : Fin (k0_t2_loop i).trips) : Fin 4 → Nat :=
  let c0_93 : Index := 0#32
  let c0_94 : Index := 0#32
  let c2_i32_39 : BitVec 32 := 2#32
  let c0_i32_24 : BitVec 32 := 0#32
  let arg2 : BitVec 32 := BitVec.ofNat 32 (i 2).val
  let c0_i32_18 : BitVec 32 := 0#32
  let v23 : BitVec 1 := Scalar.cmpi .sgt arg2 c0_i32_18
  let v24 : BitVec 32 := Scalar.extui v23
  let c0_i32_19 : BitVec 32 := 0#32
  let v25 : BitVec 1 := Scalar.cmpi .slt arg2 c0_i32_19
  let v26 : BitVec 32 := Scalar.extui v25
  let v27 : BitVec 32 := Scalar.subi v24 v26
  let c2_i32 : BitVec 32 := 2#32
  let c0_i32_20 : BitVec 32 := 0#32
  let v28 : BitVec 1 := Scalar.cmpi .sgt c2_i32 c0_i32_20
  let v29 : BitVec 32 := Scalar.extui v28
  let c0_i32_21 : BitVec 32 := 0#32
  let v30 : BitVec 1 := Scalar.cmpi .slt c2_i32 c0_i32_21
  let v31 : BitVec 32 := Scalar.extui v30
  let v32 : BitVec 32 := Scalar.subi v29 v31
  let v33 : BitVec 1 := Scalar.cmpi .ne v27 v32
  let v34 : BitVec 32 := Scalar.remsi arg2 c2_i32
  let c0_i32_22 : BitVec 32 := 0#32
  let v35 : BitVec 1 := Scalar.cmpi .ne v34 c0_i32_22
  let v36 : BitVec 1 := Scalar.andi v33 v35
  let v22 : BitVec 32 := Scalar.divsi arg2 c2_i32
  let c1_i32 : BitVec 32 := 1#32
  let v37 : BitVec 32 := Scalar.subi v22 c1_i32
  let v38 : BitVec 32 := Scalar.select v36 v37 v22
  let v39 : BitVec 32 := Scalar.subi v38 c0_i32_24
  let c1_i32_25 : BitVec 32 := 1#32
  let v41 : BitVec 32 := Scalar.divsi v39 c1_i32_25
  let v42 : BitVec 32 := Scalar.muli v41 c1_i32_25
  let v43 : BitVec 32 := Scalar.addi c0_i32_24 v42
  let c1_i32_27 : BitVec 32 := 1#32
  let arg11 : BitVec 32 := Scf.iv v43 c1_i32_27 k0_t2
  let v60 : BitVec 32 := Scalar.muli c2_i32_39 arg11
  let c1_i32_78 : BitVec 32 := 1#32
  let v131 : BitVec 32 := Scalar.addi v60 c1_i32_78
  let c512_i32_79 : BitVec 32 := 512#32
  let v132 : BitVec 32 := Scalar.muli v131 c512_i32_79
  let v133 : BitVec 32 := v132
  let v171 : Index := Scalar.indexCast v133
  let c0_95 : Index := 0#32
  ![0, 0, v171.toNat, 0]
def k0_cond1 (i : grid0.Coords) : BitVec 1 :=
  let arg2 : BitVec 32 := BitVec.ofNat 32 (i 2).val
  let c2_i32_28 : BitVec 32 := 2#32
  let c0_i32_18 : BitVec 32 := 0#32
  let v23 : BitVec 1 := Scalar.cmpi .sgt arg2 c0_i32_18
  let v24 : BitVec 32 := Scalar.extui v23
  let c0_i32_19 : BitVec 32 := 0#32
  let v25 : BitVec 1 := Scalar.cmpi .slt arg2 c0_i32_19
  let v26 : BitVec 32 := Scalar.extui v25
  let v27 : BitVec 32 := Scalar.subi v24 v26
  let c2_i32 : BitVec 32 := 2#32
  let c0_i32_20 : BitVec 32 := 0#32
  let v28 : BitVec 1 := Scalar.cmpi .sgt c2_i32 c0_i32_20
  let v29 : BitVec 32 := Scalar.extui v28
  let c0_i32_21 : BitVec 32 := 0#32
  let v30 : BitVec 1 := Scalar.cmpi .slt c2_i32 c0_i32_21
  let v31 : BitVec 32 := Scalar.extui v30
  let v32 : BitVec 32 := Scalar.subi v29 v31
  let v33 : BitVec 1 := Scalar.cmpi .ne v27 v32
  let v34 : BitVec 32 := Scalar.remsi arg2 c2_i32
  let c0_i32_22 : BitVec 32 := 0#32
  let v35 : BitVec 1 := Scalar.cmpi .ne v34 c0_i32_22
  let v36 : BitVec 1 := Scalar.andi v33 v35
  let v22 : BitVec 32 := Scalar.divsi arg2 c2_i32
  let c1_i32 : BitVec 32 := 1#32
  let v37 : BitVec 32 := Scalar.subi v22 c1_i32
  let v38 : BitVec 32 := Scalar.select v36 v37 v22
  let v44 : BitVec 32 := Scalar.muli c2_i32_28 v38
  let v45 : BitVec 32 := Scalar.subi arg2 v44
  let c1_i32_29 : BitVec 32 := 1#32
  let v46 : BitVec 1 := Scalar.cmpi .eq v45 c1_i32_29
  let v47 : BitVec 32 := Scalar.extui v46
  let c0_i32_30 : BitVec 32 := 0#32
  let v48 : BitVec 1 := Scalar.cmpi .ne v47 c0_i32_30
  v48

def k0_mult10 (i : grid0.Coords) : BitVec 32 :=
  let c2_i32_28 : BitVec 32 := 2#32
  let arg2 : BitVec 32 := BitVec.ofNat 32 (i 2).val
  let c0_i32_18 : BitVec 32 := 0#32
  let v23 : BitVec 1 := Scalar.cmpi .sgt arg2 c0_i32_18
  let v24 : BitVec 32 := Scalar.extui v23
  let c0_i32_19 : BitVec 32 := 0#32
  let v25 : BitVec 1 := Scalar.cmpi .slt arg2 c0_i32_19
  let v26 : BitVec 32 := Scalar.extui v25
  let v27 : BitVec 32 := Scalar.subi v24 v26
  let c2_i32 : BitVec 32 := 2#32
  let c0_i32_20 : BitVec 32 := 0#32
  let v28 : BitVec 1 := Scalar.cmpi .sgt c2_i32 c0_i32_20
  let v29 : BitVec 32 := Scalar.extui v28
  let c0_i32_21 : BitVec 32 := 0#32
  let v30 : BitVec 1 := Scalar.cmpi .slt c2_i32 c0_i32_21
  let v31 : BitVec 32 := Scalar.extui v30
  let v32 : BitVec 32 := Scalar.subi v29 v31
  let v33 : BitVec 1 := Scalar.cmpi .ne v27 v32
  let v34 : BitVec 32 := Scalar.remsi arg2 c2_i32
  let c0_i32_22 : BitVec 32 := 0#32
  let v35 : BitVec 1 := Scalar.cmpi .ne v34 c0_i32_22
  let v36 : BitVec 1 := Scalar.andi v33 v35
  let v22 : BitVec 32 := Scalar.divsi arg2 c2_i32
  let c1_i32 : BitVec 32 := 1#32
  let v37 : BitVec 32 := Scalar.subi v22 c1_i32
  let v38 : BitVec 32 := Scalar.select v36 v37 v22
  let v44 : BitVec 32 := Scalar.muli c2_i32_28 v38
  let c1_i32_39 : BitVec 32 := 1#32
  let v60 : BitVec 32 := Scalar.addi v44 c1_i32_39
  let c512_i32 : BitVec 32 := 512#32
  let v61 : BitVec 32 := Scalar.muli v60 c512_i32
  v61
def k0_off7 (i : grid0.Coords) : Fin 4 → Nat :=
  let c0_40 : Index := 0#32
  let c0_41 : Index := 0#32
  let c2_i32_28 : BitVec 32 := 2#32
  let arg2 : BitVec 32 := BitVec.ofNat 32 (i 2).val
  let c0_i32_18 : BitVec 32 := 0#32
  let v23 : BitVec 1 := Scalar.cmpi .sgt arg2 c0_i32_18
  let v24 : BitVec 32 := Scalar.extui v23
  let c0_i32_19 : BitVec 32 := 0#32
  let v25 : BitVec 1 := Scalar.cmpi .slt arg2 c0_i32_19
  let v26 : BitVec 32 := Scalar.extui v25
  let v27 : BitVec 32 := Scalar.subi v24 v26
  let c2_i32 : BitVec 32 := 2#32
  let c0_i32_20 : BitVec 32 := 0#32
  let v28 : BitVec 1 := Scalar.cmpi .sgt c2_i32 c0_i32_20
  let v29 : BitVec 32 := Scalar.extui v28
  let c0_i32_21 : BitVec 32 := 0#32
  let v30 : BitVec 1 := Scalar.cmpi .slt c2_i32 c0_i32_21
  let v31 : BitVec 32 := Scalar.extui v30
  let v32 : BitVec 32 := Scalar.subi v29 v31
  let v33 : BitVec 1 := Scalar.cmpi .ne v27 v32
  let v34 : BitVec 32 := Scalar.remsi arg2 c2_i32
  let c0_i32_22 : BitVec 32 := 0#32
  let v35 : BitVec 1 := Scalar.cmpi .ne v34 c0_i32_22
  let v36 : BitVec 1 := Scalar.andi v33 v35
  let v22 : BitVec 32 := Scalar.divsi arg2 c2_i32
  let c1_i32 : BitVec 32 := 1#32
  let v37 : BitVec 32 := Scalar.subi v22 c1_i32
  let v38 : BitVec 32 := Scalar.select v36 v37 v22
  let v44 : BitVec 32 := Scalar.muli c2_i32_28 v38
  let c1_i32_39 : BitVec 32 := 1#32
  let v60 : BitVec 32 := Scalar.addi v44 c1_i32_39
  let c512_i32 : BitVec 32 := 512#32
  let v61 : BitVec 32 := Scalar.muli v60 c512_i32
  let v62 : BitVec 32 := v61
  let v63 : Index := Scalar.indexCast v62
  let c0_42 : Index := 0#32
  ![0, 0, v63.toNat, 0]
def k0_mult11 (i : grid0.Coords) : BitVec 32 :=
  let c2_i32_28 : BitVec 32 := 2#32
  let arg2 : BitVec 32 := BitVec.ofNat 32 (i 2).val
  let c0_i32_18 : BitVec 32 := 0#32
  let v23 : BitVec 1 := Scalar.cmpi .sgt arg2 c0_i32_18
  let v24 : BitVec 32 := Scalar.extui v23
  let c0_i32_19 : BitVec 32 := 0#32
  let v25 : BitVec 1 := Scalar.cmpi .slt arg2 c0_i32_19
  let v26 : BitVec 32 := Scalar.extui v25
  let v27 : BitVec 32 := Scalar.subi v24 v26
  let c2_i32 : BitVec 32 := 2#32
  let c0_i32_20 : BitVec 32 := 0#32
  let v28 : BitVec 1 := Scalar.cmpi .sgt c2_i32 c0_i32_20
  let v29 : BitVec 32 := Scalar.extui v28
  let c0_i32_21 : BitVec 32 := 0#32
  let v30 : BitVec 1 := Scalar.cmpi .slt c2_i32 c0_i32_21
  let v31 : BitVec 32 := Scalar.extui v30
  let v32 : BitVec 32 := Scalar.subi v29 v31
  let v33 : BitVec 1 := Scalar.cmpi .ne v27 v32
  let v34 : BitVec 32 := Scalar.remsi arg2 c2_i32
  let c0_i32_22 : BitVec 32 := 0#32
  let v35 : BitVec 1 := Scalar.cmpi .ne v34 c0_i32_22
  let v36 : BitVec 1 := Scalar.andi v33 v35
  let v22 : BitVec 32 := Scalar.divsi arg2 c2_i32
  let c1_i32 : BitVec 32 := 1#32
  let v37 : BitVec 32 := Scalar.subi v22 c1_i32
  let v38 : BitVec 32 := Scalar.select v36 v37 v22
  let v44 : BitVec 32 := Scalar.muli c2_i32_28 v38
  let c512_i32_46 : BitVec 32 := 512#32
  let v70 : BitVec 32 := Scalar.muli v44 c512_i32_46
  v70
def k0_off8 (i : grid0.Coords) : Fin 4 → Nat :=
  let c0_60 : Index := 0#32
  let c0_61 : Index := 0#32
  let c2_i32_28 : BitVec 32 := 2#32
  let arg2 : BitVec 32 := BitVec.ofNat 32 (i 2).val
  let c0_i32_18 : BitVec 32 := 0#32
  let v23 : BitVec 1 := Scalar.cmpi .sgt arg2 c0_i32_18
  let v24 : BitVec 32 := Scalar.extui v23
  let c0_i32_19 : BitVec 32 := 0#32
  let v25 : BitVec 1 := Scalar.cmpi .slt arg2 c0_i32_19
  let v26 : BitVec 32 := Scalar.extui v25
  let v27 : BitVec 32 := Scalar.subi v24 v26
  let c2_i32 : BitVec 32 := 2#32
  let c0_i32_20 : BitVec 32 := 0#32
  let v28 : BitVec 1 := Scalar.cmpi .sgt c2_i32 c0_i32_20
  let v29 : BitVec 32 := Scalar.extui v28
  let c0_i32_21 : BitVec 32 := 0#32
  let v30 : BitVec 1 := Scalar.cmpi .slt c2_i32 c0_i32_21
  let v31 : BitVec 32 := Scalar.extui v30
  let v32 : BitVec 32 := Scalar.subi v29 v31
  let v33 : BitVec 1 := Scalar.cmpi .ne v27 v32
  let v34 : BitVec 32 := Scalar.remsi arg2 c2_i32
  let c0_i32_22 : BitVec 32 := 0#32
  let v35 : BitVec 1 := Scalar.cmpi .ne v34 c0_i32_22
  let v36 : BitVec 1 := Scalar.andi v33 v35
  let v22 : BitVec 32 := Scalar.divsi arg2 c2_i32
  let c1_i32 : BitVec 32 := 1#32
  let v37 : BitVec 32 := Scalar.subi v22 c1_i32
  let v38 : BitVec 32 := Scalar.select v36 v37 v22
  let v44 : BitVec 32 := Scalar.muli c2_i32_28 v38
  let c512_i32_46 : BitVec 32 := 512#32
  let v70 : BitVec 32 := Scalar.muli v44 c512_i32_46
  let v71 : BitVec 32 := v70
  let v109 : Index := Scalar.indexCast v71
  let c0_62 : Index := 0#32
  ![0, 0, v109.toNat, 0]
def k0_mult12 (i : grid0.Coords) : BitVec 32 :=
  let c2_i32_28 : BitVec 32 := 2#32
  let arg2 : BitVec 32 := BitVec.ofNat 32 (i 2).val
  let c0_i32_18 : BitVec 32 := 0#32
  let v23 : BitVec 1 := Scalar.cmpi .sgt arg2 c0_i32_18
  let v24 : BitVec 32 := Scalar.extui v23
  let c0_i32_19 : BitVec 32 := 0#32
  let v25 : BitVec 1 := Scalar.cmpi .slt arg2 c0_i32_19
  let v26 : BitVec 32 := Scalar.extui v25
  let v27 : BitVec 32 := Scalar.subi v24 v26
  let c2_i32 : BitVec 32 := 2#32
  let c0_i32_20 : BitVec 32 := 0#32
  let v28 : BitVec 1 := Scalar.cmpi .sgt c2_i32 c0_i32_20
  let v29 : BitVec 32 := Scalar.extui v28
  let c0_i32_21 : BitVec 32 := 0#32
  let v30 : BitVec 1 := Scalar.cmpi .slt c2_i32 c0_i32_21
  let v31 : BitVec 32 := Scalar.extui v30
  let v32 : BitVec 32 := Scalar.subi v29 v31
  let v33 : BitVec 1 := Scalar.cmpi .ne v27 v32
  let v34 : BitVec 32 := Scalar.remsi arg2 c2_i32
  let c0_i32_22 : BitVec 32 := 0#32
  let v35 : BitVec 1 := Scalar.cmpi .ne v34 c0_i32_22
  let v36 : BitVec 1 := Scalar.andi v33 v35
  let v22 : BitVec 32 := Scalar.divsi arg2 c2_i32
  let c1_i32 : BitVec 32 := 1#32
  let v37 : BitVec 32 := Scalar.subi v22 c1_i32
  let v38 : BitVec 32 := Scalar.select v36 v37 v22
  let v44 : BitVec 32 := Scalar.muli c2_i32_28 v38
  let c1_i32_68 : BitVec 32 := 1#32
  let v120 : BitVec 32 := Scalar.addi v44 c1_i32_68
  let c512_i32_69 : BitVec 32 := 512#32
  let v121 : BitVec 32 := Scalar.muli v120 c512_i32_69
  v121
def k0_off9 (i : grid0.Coords) : Fin 4 → Nat :=
  let c0_84 : Index := 0#32
  let c0_85 : Index := 0#32
  let c2_i32_28 : BitVec 32 := 2#32
  let arg2 : BitVec 32 := BitVec.ofNat 32 (i 2).val
  let c0_i32_18 : BitVec 32 := 0#32
  let v23 : BitVec 1 := Scalar.cmpi .sgt arg2 c0_i32_18
  let v24 : BitVec 32 := Scalar.extui v23
  let c0_i32_19 : BitVec 32 := 0#32
  let v25 : BitVec 1 := Scalar.cmpi .slt arg2 c0_i32_19
  let v26 : BitVec 32 := Scalar.extui v25
  let v27 : BitVec 32 := Scalar.subi v24 v26
  let c2_i32 : BitVec 32 := 2#32
  let c0_i32_20 : BitVec 32 := 0#32
  let v28 : BitVec 1 := Scalar.cmpi .sgt c2_i32 c0_i32_20
  let v29 : BitVec 32 := Scalar.extui v28
  let c0_i32_21 : BitVec 32 := 0#32
  let v30 : BitVec 1 := Scalar.cmpi .slt c2_i32 c0_i32_21
  let v31 : BitVec 32 := Scalar.extui v30
  let v32 : BitVec 32 := Scalar.subi v29 v31
  let v33 : BitVec 1 := Scalar.cmpi .ne v27 v32
  let v34 : BitVec 32 := Scalar.remsi arg2 c2_i32
  let c0_i32_22 : BitVec 32 := 0#32
  let v35 : BitVec 1 := Scalar.cmpi .ne v34 c0_i32_22
  let v36 : BitVec 1 := Scalar.andi v33 v35
  let v22 : BitVec 32 := Scalar.divsi arg2 c2_i32
  let c1_i32 : BitVec 32 := 1#32
  let v37 : BitVec 32 := Scalar.subi v22 c1_i32
  let v38 : BitVec 32 := Scalar.select v36 v37 v22
  let v44 : BitVec 32 := Scalar.muli c2_i32_28 v38
  let c1_i32_68 : BitVec 32 := 1#32
  let v120 : BitVec 32 := Scalar.addi v44 c1_i32_68
  let c512_i32_69 : BitVec 32 := 512#32
  let v121 : BitVec 32 := Scalar.muli v120 c512_i32_69
  let v122 : BitVec 32 := v121
  let v165 : Index := Scalar.indexCast v122
  let c0_86 : Index := 0#32
  ![0, 0, v165.toNat, 0]
def k0_cond2 (i : grid0.Coords) : BitVec 1 :=
  let arg2 : BitVec 32 := BitVec.ofNat 32 (i 2).val
  let c2_i32_28 : BitVec 32 := 2#32
  let c0_i32_18 : BitVec 32 := 0#32
  let v23 : BitVec 1 := Scalar.cmpi .sgt arg2 c0_i32_18
  let v24 : BitVec 32 := Scalar.extui v23
  let c0_i32_19 : BitVec 32 := 0#32
  let v25 : BitVec 1 := Scalar.cmpi .slt arg2 c0_i32_19
  let v26 : BitVec 32 := Scalar.extui v25
  let v27 : BitVec 32 := Scalar.subi v24 v26
  let c2_i32 : BitVec 32 := 2#32
  let c0_i32_20 : BitVec 32 := 0#32
  let v28 : BitVec 1 := Scalar.cmpi .sgt c2_i32 c0_i32_20
  let v29 : BitVec 32 := Scalar.extui v28
  let c0_i32_21 : BitVec 32 := 0#32
  let v30 : BitVec 1 := Scalar.cmpi .slt c2_i32 c0_i32_21
  let v31 : BitVec 32 := Scalar.extui v30
  let v32 : BitVec 32 := Scalar.subi v29 v31
  let v33 : BitVec 1 := Scalar.cmpi .ne v27 v32
  let v34 : BitVec 32 := Scalar.remsi arg2 c2_i32
  let c0_i32_22 : BitVec 32 := 0#32
  let v35 : BitVec 1 := Scalar.cmpi .ne v34 c0_i32_22
  let v36 : BitVec 1 := Scalar.andi v33 v35
  let v22 : BitVec 32 := Scalar.divsi arg2 c2_i32
  let c1_i32 : BitVec 32 := 1#32
  let v37 : BitVec 32 := Scalar.subi v22 c1_i32
  let v38 : BitVec 32 := Scalar.select v36 v37 v22
  let v44 : BitVec 32 := Scalar.muli c2_i32_28 v38
  let v49 : BitVec 1 := Scalar.cmpi .eq arg2 v44
  let v50 : BitVec 32 := Scalar.extui v49
  let c0_i32_31 : BitVec 32 := 0#32
  let v51 : BitVec 1 := Scalar.cmpi .ne v50 c0_i32_31
  v51

def k0_mult13 (i : grid0.Coords) : BitVec 32 :=
  let c2_i32_28 : BitVec 32 := 2#32
  let arg2 : BitVec 32 := BitVec.ofNat 32 (i 2).val
  let c0_i32_18 : BitVec 32 := 0#32
  let v23 : BitVec 1 := Scalar.cmpi .sgt arg2 c0_i32_18
  let v24 : BitVec 32 := Scalar.extui v23
  let c0_i32_19 : BitVec 32 := 0#32
  let v25 : BitVec 1 := Scalar.cmpi .slt arg2 c0_i32_19
  let v26 : BitVec 32 := Scalar.extui v25
  let v27 : BitVec 32 := Scalar.subi v24 v26
  let c2_i32 : BitVec 32 := 2#32
  let c0_i32_20 : BitVec 32 := 0#32
  let v28 : BitVec 1 := Scalar.cmpi .sgt c2_i32 c0_i32_20
  let v29 : BitVec 32 := Scalar.extui v28
  let c0_i32_21 : BitVec 32 := 0#32
  let v30 : BitVec 1 := Scalar.cmpi .slt c2_i32 c0_i32_21
  let v31 : BitVec 32 := Scalar.extui v30
  let v32 : BitVec 32 := Scalar.subi v29 v31
  let v33 : BitVec 1 := Scalar.cmpi .ne v27 v32
  let v34 : BitVec 32 := Scalar.remsi arg2 c2_i32
  let c0_i32_22 : BitVec 32 := 0#32
  let v35 : BitVec 1 := Scalar.cmpi .ne v34 c0_i32_22
  let v36 : BitVec 1 := Scalar.andi v33 v35
  let v22 : BitVec 32 := Scalar.divsi arg2 c2_i32
  let c1_i32 : BitVec 32 := 1#32
  let v37 : BitVec 32 := Scalar.subi v22 c1_i32
  let v38 : BitVec 32 := Scalar.select v36 v37 v22
  let v44 : BitVec 32 := Scalar.muli c2_i32_28 v38
  let c512_i32 : BitVec 32 := 512#32
  let v60 : BitVec 32 := Scalar.muli v44 c512_i32
  v60
def k0_off10 (i : grid0.Coords) : Fin 4 → Nat :=
  let c0_53 : Index := 0#32
  let c0_54 : Index := 0#32
  let c2_i32_28 : BitVec 32 := 2#32
  let arg2 : BitVec 32 := BitVec.ofNat 32 (i 2).val
  let c0_i32_18 : BitVec 32 := 0#32
  let v23 : BitVec 1 := Scalar.cmpi .sgt arg2 c0_i32_18
  let v24 : BitVec 32 := Scalar.extui v23
  let c0_i32_19 : BitVec 32 := 0#32
  let v25 : BitVec 1 := Scalar.cmpi .slt arg2 c0_i32_19
  let v26 : BitVec 32 := Scalar.extui v25
  let v27 : BitVec 32 := Scalar.subi v24 v26
  let c2_i32 : BitVec 32 := 2#32
  let c0_i32_20 : BitVec 32 := 0#32
  let v28 : BitVec 1 := Scalar.cmpi .sgt c2_i32 c0_i32_20
  let v29 : BitVec 32 := Scalar.extui v28
  let c0_i32_21 : BitVec 32 := 0#32
  let v30 : BitVec 1 := Scalar.cmpi .slt c2_i32 c0_i32_21
  let v31 : BitVec 32 := Scalar.extui v30
  let v32 : BitVec 32 := Scalar.subi v29 v31
  let v33 : BitVec 1 := Scalar.cmpi .ne v27 v32
  let v34 : BitVec 32 := Scalar.remsi arg2 c2_i32
  let c0_i32_22 : BitVec 32 := 0#32
  let v35 : BitVec 1 := Scalar.cmpi .ne v34 c0_i32_22
  let v36 : BitVec 1 := Scalar.andi v33 v35
  let v22 : BitVec 32 := Scalar.divsi arg2 c2_i32
  let c1_i32 : BitVec 32 := 1#32
  let v37 : BitVec 32 := Scalar.subi v22 c1_i32
  let v38 : BitVec 32 := Scalar.select v36 v37 v22
  let v44 : BitVec 32 := Scalar.muli c2_i32_28 v38
  let c512_i32 : BitVec 32 := 512#32
  let v60 : BitVec 32 := Scalar.muli v44 c512_i32
  let v61 : BitVec 32 := v60
  let v104 : Index := Scalar.indexCast v61
  let c0_55 : Index := 0#32
  ![0, 0, v104.toNat, 0]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1x512x192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x4096x192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== FlashIdeal.lean ====
variable {F : FTy → Type} [FloatOps F] [Named F]
def κ : String → Option EReal := fun
  | "mask" => some ⊥
  | _ => none
-- ==== FlashRefIdeal.lean ====
abbrev S4x8x4096x192 : Shape := ⟨4, ![4, 8, 4096, 192]⟩
abbrev S4x8x4096x128 : Shape := ⟨4, ![4, 8, 4096, 128]⟩
abbrev S4x8x4096x4096 : Shape := ⟨4, ![4, 8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x1x4096x4096 : Shape := ⟨4, ![1, 1, 4096, 4096]⟩
abbrev S4x8x4096 : Shape := ⟨3, ![4, 8, 4096]⟩
abbrev S4x8x4096x1 : Shape := ⟨4, ![4, 8, 4096, 1]⟩
abbrev S4x8x128x4096 : Shape := ⟨4, ![4, 8, 128, 4096]⟩
abbrev S4x4096x8x128 : Shape := ⟨4, ![4, 4096, 8, 128]⟩
abbrev S4x4096x1024 : Shape := ⟨3, ![4, 4096, 1024]⟩

abbrev nBuf : Space → Nat
  | .hbm => 41
  | .vmem => 0
  | .smem => 0
  | _ => 0

abbrev bufTy : (tb : Table) → Fin (tcTables nBuf tb) → BufTy
  | .hbm, ⟨0, _⟩ => ⟨S4x8x4096x192, .bf16⟩
  | .hbm, ⟨1, _⟩ => ⟨S4x8x4096x192, .bf16⟩
  | .hbm, ⟨2, _⟩ => ⟨S4x8x4096x128, .bf16⟩
  | .hbm, ⟨3, _⟩ => ⟨S4x8x4096x192, .f32⟩
  | .hbm, ⟨4, _⟩ => ⟨S4x8x4096x192, .f32⟩
  | .hbm, ⟨5, _⟩ => ⟨S4x8x4096x128, .f32⟩
  | .hbm, ⟨6, _⟩ => ⟨S4x8x4096x4096, .f32⟩
  | .hbm, ⟨7, _⟩ => ⟨S_, .f32⟩
  | .hbm, ⟨8, _⟩ => ⟨S_, .f32⟩
  | .hbm, ⟨9, _⟩ => ⟨S4x8x4096x4096, .f32⟩
  | .hbm, ⟨10, _⟩ => ⟨S4x8x4096x4096, .f32⟩
  | .hbm, ⟨11, _⟩ => ⟨S4096, .i32⟩
  | .hbm, ⟨12, _⟩ => ⟨S1x4096, .i32⟩
  | .hbm, ⟨13, _⟩ => ⟨S4096x1, .i32⟩
  | .hbm, ⟨14, _⟩ => ⟨S4096x4096, .i32⟩
  | .hbm, ⟨15, _⟩ => ⟨S4096x4096, .i32⟩
  | .hbm, ⟨16, _⟩ => ⟨S4096x4096, .i1⟩
  | .hbm, ⟨17, _⟩ => ⟨S1x1x4096x4096, .i1⟩
  | .hbm, ⟨18, _⟩ => ⟨S_, .f32⟩
  | .hbm, ⟨19, _⟩ => ⟨S_, .f32⟩
  | .hbm, ⟨20, _⟩ => ⟨S4x8x4096x4096, .i1⟩
  | .hbm, ⟨21, _⟩ => ⟨S4x8x4096x4096, .f32⟩
  | .hbm, ⟨22, _⟩ => ⟨S4x8x4096x4096, .f32⟩
  | .hbm, ⟨23, _⟩ => ⟨S_, .f32⟩
  | .hbm, ⟨24, _⟩ => ⟨S4x8x4096, .f32⟩
  | .hbm, ⟨25, _⟩ => ⟨S_, .f32⟩
  | .hbm, ⟨26, _⟩ => ⟨S4x8x4096, .f32⟩
  | .hbm, ⟨27, _⟩ => ⟨S4x8x4096, .f32⟩
  | .hbm, ⟨28, _⟩ => ⟨S4x8x4096x1, .f32⟩
  | .hbm, ⟨29, _⟩ => ⟨S4x8x4096x4096, .f32⟩
  | .hbm, ⟨30, _⟩ => ⟨S4x8x4096x4096, .f32⟩
  | .hbm, ⟨31, _⟩ => ⟨S4x8x4096x4096, .f32⟩
  | .hbm, ⟨32, _⟩ => ⟨S_, .f32⟩
  | .hbm, ⟨33, _⟩ => ⟨S4x8x4096, .f32⟩
  | .hbm, ⟨34, _⟩ => ⟨S4x8x4096x1, .f32⟩
  | .hbm, ⟨35, _⟩ => ⟨S4x8x4096x4096, .f32⟩
  | .hbm, ⟨36, _⟩ => ⟨S4x8x4096x4096, .f32⟩
  | .hbm, ⟨37, _⟩ => ⟨S4x8x128x4096, .f32⟩
  | .hbm, ⟨38, _⟩ => ⟨S4x4096x8x128, .f32⟩
  | .hbm, ⟨39, _⟩ => ⟨S4x4096x1024, .f32⟩
  | .hbm, ⟨40, _⟩ => ⟨S4x4096x1024, .bf16⟩
  | _, _ => ⟨S4x8x4096x192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== ProjB.lean ====
abbrev S4x4096x2048 : Shape := ⟨3, ![4, 4096, 2048]⟩
abbrev S2048x8848 : Shape := ⟨2, ![2048, 8848]⟩
abbrev S2048x1024 : Shape := ⟨2, ![2048, 1024]⟩
abbrev S2048x256 : Shape := ⟨2, ![2048, 256]⟩
abbrev S2048x64 : Shape := ⟨2, ![2048, 64]⟩
abbrev S2048x16 : Shape := ⟨2, ![2048, 16]⟩
abbrev S2048x1536 : Shape := ⟨2, ![2048, 1536]⟩
abbrev S2048x512 : Shape := ⟨2, ![2048, 512]⟩
abbrev S2048x4096 : Shape := ⟨2, ![2048, 4096]⟩
abbrev S16384x2048 : Shape := ⟨2, ![16384, 2048]⟩
abbrev S16384x1536 : Shape := ⟨2, ![16384, 1536]⟩
abbrev S512x2048 : Shape := ⟨2, ![512, 2048]⟩
abbrev S512x1536 : Shape := ⟨2, ![512, 1536]⟩

abbrev nBuf : Space → Nat
  | .hbm => 17
  | .vmem => 7
  | .smem => 0
  | _ => 0

abbrev bufTy : (tb : Table) → Fin (tcTables nBuf tb) → BufTy
  | .hbm, ⟨0, _⟩ => ⟨S4x4096x2048, .f32⟩
  | .hbm, ⟨1, _⟩ => ⟨S2048x8848, .f32⟩
  | .hbm, ⟨2, _⟩ => ⟨S2048x1024, .f32⟩
  | .hbm, ⟨3, _⟩ => ⟨S2048x256, .f32⟩
  | .hbm, ⟨4, _⟩ => ⟨S2048x256, .f32⟩
  | .hbm, ⟨5, _⟩ => ⟨S2048x1024, .f32⟩
  | .hbm, ⟨6, _⟩ => ⟨S2048x64, .f32⟩
  | .hbm, ⟨7, _⟩ => ⟨S2048x16, .f32⟩
  | .hbm, ⟨8, _⟩ => ⟨S2048x1536, .f32⟩
  | .hbm, ⟨9, _⟩ => ⟨S2048x512, .f32⟩
  | .hbm, ⟨10, _⟩ => ⟨S2048x64, .f32⟩
  | .hbm, ⟨11, _⟩ => ⟨S2048x4096, .f32⟩
  | .hbm, ⟨12, _⟩ => ⟨S2048x1536, .f32⟩
  | .hbm, ⟨13, _⟩ => ⟨S2048x1536, .bf16⟩
  | .hbm, ⟨14, _⟩ => ⟨S16384x2048, .f32⟩
  | .hbm, ⟨15, _⟩ => ⟨S16384x1536, .bf16⟩
  | .hbm, ⟨16, _⟩ => ⟨S16384x2048, .bf16⟩
  | .local _ .vmem, ⟨0, _⟩ => ⟨S512x2048, .f32⟩
  | .local _ .vmem, ⟨1, _⟩ => ⟨S512x2048, .f32⟩
  | .local _ .vmem, ⟨2, _⟩ => ⟨S2048x1536, .bf16⟩
  | .local _ .vmem, ⟨3, _⟩ => ⟨S512x1536, .bf16⟩
  | .local _ .vmem, ⟨4, _⟩ => ⟨S512x1536, .bf16⟩
  | .local _ .vmem, ⟨5, _⟩ => ⟨S512x2048, .bf16⟩
  | .local _ .vmem, ⟨6, _⟩ => ⟨S512x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13_0 : Ref sig .tc := ⟨.hbm, 15, rfl⟩
abbrev main_v13_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ProjBRefIdeal.lean ====
abbrev S4x4096x2048 : Shape := ⟨3, ![4, 4096, 2048]⟩
abbrev S2048x8848 : Shape := ⟨2, ![2048, 8848]⟩
abbrev S4x4096x8848 : Shape := ⟨3, ![4, 4096, 8848]⟩
abbrev S16384x8848 : Shape := ⟨2, ![16384, 8848]⟩
abbrev S16384x1024 : Shape := ⟨2, ![16384, 1024]⟩
abbrev S16384x256 : Shape := ⟨2, ![16384, 256]⟩
abbrev S16384x64 : Shape := ⟨2, ![16384, 64]⟩
abbrev S16384x16 : Shape := ⟨2, ![16384, 16]⟩
abbrev S16384x1536 : Shape := ⟨2, ![16384, 1536]⟩
abbrev S16384x512 : Shape := ⟨2, ![16384, 512]⟩
abbrev S16384x4096 : Shape := ⟨2, ![16384, 4096]⟩
abbrev S16384x2048 : Shape := ⟨2, ![16384, 2048]⟩

abbrev nBuf : Space → Nat
  | .hbm => 18
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048x8848, .f32⟩
  | .hbm, ⟨2, _⟩ => ⟨S4x4096x8848, .f32⟩
  | .hbm, ⟨3, _⟩ => ⟨S16384x8848, .f32⟩
  | .hbm, ⟨4, _⟩ => ⟨S16384x1024, .f32⟩
  | .hbm, ⟨5, _⟩ => ⟨S16384x256, .f32⟩
  | .hbm, ⟨6, _⟩ => ⟨S16384x256, .f32⟩
  | .hbm, ⟨7, _⟩ => ⟨S16384x1024, .f32⟩
  | .hbm, ⟨8, _⟩ => ⟨S16384x64, .f32⟩
  | .hbm, ⟨9, _⟩ => ⟨S16384x16, .f32⟩
  | .hbm, ⟨10, _⟩ => ⟨S16384x1536, .f32⟩
  | .hbm, ⟨11, _⟩ => ⟨S16384x512, .f32⟩
  | .hbm, ⟨12, _⟩ => ⟨S16384x64, .f32⟩
  | .hbm, ⟨13, _⟩ => ⟨S16384x4096, .f32⟩
  | .hbm, ⟨14, _⟩ => ⟨S16384x1536, .f32⟩
  | .hbm, ⟨15, _⟩ => ⟨S16384x1536, .bf16⟩
  | .hbm, ⟨16, _⟩ => ⟨S16384x2048, .f32⟩
  | .hbm, ⟨17, _⟩ => ⟨S16384x2048, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩

abbrev nD : Nat := 1
abbrev τ : Topo := Topo.v7x

variable {F : FTy → Type} [FloatOps F]
-- ==== ProjS.lean ====
abbrev S16384x2048 : Shape := ⟨2, ![16384, 2048]⟩
abbrev S2048x8848 : Shape := ⟨2, ![2048, 8848]⟩
abbrev S2048x1024 : Shape := ⟨2, ![2048, 1024]⟩
abbrev S2048x256 : Shape := ⟨2, ![2048, 256]⟩
abbrev S2048x64 : Shape := ⟨2, ![2048, 64]⟩
abbrev S2048x16 : Shape := ⟨2, ![2048, 16]⟩
abbrev S2048x1536 : Shape := ⟨2, ![2048, 1536]⟩
abbrev S2048x512 : Shape := ⟨2, ![2048, 512]⟩
abbrev S2048x4096 : Shape := ⟨2, ![2048, 4096]⟩
abbrev S2048x8x192 : Shape := ⟨3, ![2048, 8, 192]⟩
abbrev S2048x8x128 : Shape := ⟨3, ![2048, 8, 128]⟩
abbrev S2048x8x64 : Shape := ⟨3, ![2048, 8, 64]⟩
abbrev S2048x8x32 : Shape := ⟨3, ![2048, 8, 32]⟩
abbrev S_ : Shape := ⟨0, ![]⟩
abbrev S2048x48 : Shape := ⟨2, ![2048, 48]⟩
abbrev S2048x32 : Shape := ⟨2, ![2048, 32]⟩
abbrev S2048x3840 : Shape := ⟨2, ![2048, 3840]⟩
abbrev S16384x3840 : Shape := ⟨2, ![16384, 3840]⟩
abbrev S512x2048 : Shape := ⟨2, ![512, 2048]⟩
abbrev S2048x1920 : Shape := ⟨2, ![2048, 1920]⟩
abbrev S512x1920 : Shape := ⟨2, ![512, 1920]⟩

abbrev nBuf : Space → Nat
  | .hbm => 31
  | .vmem => 6
  | .smem => 0
  | _ => 0

abbrev bufTy : (tb : Table) → Fin (tcTables nBuf tb) → BufTy
  | .hbm, ⟨0, _⟩ => ⟨S16384x2048, .bf16⟩
  | .hbm, ⟨1, _⟩ => ⟨S2048x8848, .f32⟩
  | .hbm, ⟨2, _⟩ => ⟨S2048x1024, .f32⟩
  | .hbm, ⟨3, _⟩ => ⟨S2048x256, .f32⟩
  | .hbm, ⟨4, _⟩ => ⟨S2048x256, .f32⟩
  | .hbm, ⟨5, _⟩ => ⟨S2048x1024, .f32⟩
  | .hbm, ⟨6, _⟩ => ⟨S2048x64, .f32⟩
  | .hbm, ⟨7, _⟩ => ⟨S2048x16, .f32⟩
  | .hbm, ⟨8, _⟩ => ⟨S2048x1536, .f32⟩
  | .hbm, ⟨9, _⟩ => ⟨S2048x512, .f32⟩
  | .hbm, ⟨10, _⟩ => ⟨S2048x64, .f32⟩
  | .hbm, ⟨11, _⟩ => ⟨S2048x4096, .f32⟩
  | .hbm, ⟨12, _⟩ => ⟨S2048x8x192, .f32⟩
  | .hbm, ⟨13, _⟩ => ⟨S2048x8x128, .f32⟩
  | .hbm, ⟨14, _⟩ => ⟨S2048x1024, .f32⟩
  | .hbm, ⟨15, _⟩ => ⟨S2048x8x64, .f32⟩
  | .hbm, ⟨16, _⟩ => ⟨S2048x8x32, .f32⟩
  | .hbm, ⟨17, _⟩ => ⟨S2048x8x32, .f32⟩
  | .hbm, ⟨18, _⟩ => ⟨S2048x8x32, .f32⟩
  | .hbm, ⟨19, _⟩ => ⟨S2048x8x64, .f32⟩
  | .hbm, ⟨20, _⟩ => ⟨S_, .f32⟩
  | .hbm, ⟨21, _⟩ => ⟨S2048x48, .f32⟩
  | .hbm, ⟨22, _⟩ => ⟨S2048x512, .f32⟩
  | .hbm, ⟨23, _⟩ => ⟨S2048x512, .f32⟩
  | .hbm, ⟨24, _⟩ => ⟨S2048x32, .f32⟩
  | .hbm, ⟨25, _⟩ => ⟨S2048x32, .f32⟩
  | .hbm, ⟨26, _⟩ => ⟨S2048x32, .f32⟩
  | .hbm, ⟨27, _⟩ => ⟨S2048x64, .f32⟩
  | .hbm, ⟨28, _⟩ => ⟨S2048x3840, .f32⟩
  | .hbm, ⟨29, _⟩ => ⟨S2048x3840, .bf16⟩
  | .hbm, ⟨30, _⟩ => ⟨S16384x3840, .f32⟩
  | .local _ .vmem, ⟨0, _⟩ => ⟨S512x2048, .bf16⟩
  | .local _ .vmem, ⟨1, _⟩ => ⟨S512x2048, .bf16⟩
  | .local _ .vmem, ⟨2, _⟩ => ⟨S2048x1920, .bf16⟩
  | .local _ .vmem, ⟨3, _⟩ => ⟨S2048x1920, .bf16⟩
  | .local _ .vmem, ⟨4, _⟩ => ⟨S512x1920, .f32⟩
  | .local _ .vmem, ⟨5, _⟩ => ⟨S512x1920, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_cst : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1920 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1920 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjSRefIdeal.lean ====
abbrev S16384x2048 : Shape := ⟨2, ![16384, 2048]⟩
abbrev S2048x8848 : Shape := ⟨2, ![2048, 8848]⟩
abbrev S16384x8848 : Shape := ⟨2, ![16384, 8848]⟩
abbrev S16384x1024 : Shape := ⟨2, ![16384, 1024]⟩
abbrev S16384x256 : Shape := ⟨2, ![16384, 256]⟩
abbrev S16384x64 : Shape := ⟨2, ![16384, 64]⟩
abbrev S16384x16 : Shape := ⟨2, ![16384, 16]⟩
abbrev S16384x1536 : Shape := ⟨2, ![16384, 1536]⟩
abbrev S16384x512 : Shape := ⟨2, ![16384, 512]⟩
abbrev S16384x4096 : Shape := ⟨2, ![16384, 4096]⟩
abbrev S16384x8x192 : Shape := ⟨3, ![16384, 8, 192]⟩
abbrev S16384x8x128 : Shape := ⟨3, ![16384, 8, 128]⟩
abbrev S16384x8x64 : Shape := ⟨3, ![16384, 8, 64]⟩
abbrev S16384x8x32 : Shape := ⟨3, ![16384, 8, 32]⟩
abbrev S16384x32 : Shape := ⟨2, ![16384, 32]⟩
abbrev S_ : Shape := ⟨0, ![]⟩
abbrev S16384x48 : Shape := ⟨2, ![16384, 48]⟩
abbrev S16384x3840 : Shape := ⟨2, ![16384, 3840]⟩

abbrev nBuf : Space → Nat
  | .hbm => 31
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x8848, .f32⟩
  | .hbm, ⟨2, _⟩ => ⟨S16384x2048, .f32⟩
  | .hbm, ⟨3, _⟩ => ⟨S16384x8848, .f32⟩
  | .hbm, ⟨4, _⟩ => ⟨S16384x1024, .f32⟩
  | .hbm, ⟨5, _⟩ => ⟨S16384x256, .f32⟩
  | .hbm, ⟨6, _⟩ => ⟨S16384x256, .f32⟩
  | .hbm, ⟨7, _⟩ => ⟨S16384x1024, .f32⟩
  | .hbm, ⟨8, _⟩ => ⟨S16384x64, .f32⟩
  | .hbm, ⟨9, _⟩ => ⟨S16384x16, .f32⟩
  | .hbm, ⟨10, _⟩ => ⟨S16384x1536, .f32⟩
  | .hbm, ⟨11, _⟩ => ⟨S16384x512, .f32⟩
  | .hbm, ⟨12, _⟩ => ⟨S16384x64, .f32⟩
  | .hbm, ⟨13, _⟩ => ⟨S16384x4096, .f32⟩
  | .hbm, ⟨14, _⟩ => ⟨S16384x8x192, .f32⟩
  | .hbm, ⟨15, _⟩ => ⟨S16384x8x128, .f32⟩
  | .hbm, ⟨16, _⟩ => ⟨S16384x8x64, .f32⟩
  | .hbm, ⟨17, _⟩ => ⟨S16384x8x32, .f32⟩
  | .hbm, ⟨18, _⟩ => ⟨S16384x8x32, .f32⟩
  | .hbm, ⟨19, _⟩ => ⟨S16384x8x32, .f32⟩
  | .hbm, ⟨20, _⟩ => ⟨S16384x8x64, .f32⟩
  | .hbm, ⟨21, _⟩ => ⟨S16384x32, .f32⟩
  | .hbm, ⟨22, _⟩ => ⟨S16384x32, .f32⟩
  | .hbm, ⟨23, _⟩ => ⟨S16384x32, .f32⟩
  | .hbm, ⟨24, _⟩ => ⟨S16384x64, .f32⟩
  | .hbm, ⟨25, _⟩ => ⟨S16384x1024, .f32⟩
  | .hbm, ⟨26, _⟩ => ⟨S16384x512, .f32⟩
  | .hbm, ⟨27, _⟩ => ⟨S16384x512, .f32⟩
  | .hbm, ⟨28, _⟩ => ⟨S_, .f32⟩
  | .hbm, ⟨29, _⟩ => ⟨S16384x48, .f32⟩
  | .hbm, ⟨30, _⟩ => ⟨S16384x3840, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_cst : Ref sig .tc := ⟨.hbm, 28, rfl⟩
abbrev main_v26 : Ref sig .tc := ⟨.hbm, 29, rfl⟩
abbrev main_v27 : Ref sig .tc := ⟨.hbm, 30, rfl⟩

abbrev nD : Nat := 1
abbrev τ : Topo := Topo.v7x

variable {F : FTy → Type} [FloatOps F]
-- ==== ProjG.lean ====
abbrev S16384x2048 : Shape := ⟨2, ![16384, 2048]⟩
abbrev S2048x8848 : Shape := ⟨2, ![2048, 8848]⟩
abbrev S2048x1024 : Shape := ⟨2, ![2048, 1024]⟩
abbrev S2048x256 : Shape := ⟨2, ![2048, 256]⟩
abbrev S2048x64 : Shape := ⟨2, ![2048, 64]⟩
abbrev S2048x16 : Shape := ⟨2, ![2048, 16]⟩
abbrev S2048x1536 : Shape := ⟨2, ![2048, 1536]⟩
abbrev S2048x512 : Shape := ⟨2, ![2048, 512]⟩
abbrev S2048x4096 : Shape := ⟨2, ![2048, 4096]⟩
abbrev S16384x4096 : Shape := ⟨2, ![16384, 4096]⟩
abbrev S512x2048 : Shape := ⟨2, ![512, 2048]⟩
abbrev S2048x2048 : Shape := ⟨2, ![2048, 2048]⟩

abbrev nBuf : Space → Nat
  | .hbm => 14
  | .vmem => 6
  | .smem => 0
  | _ => 0

abbrev bufTy : (tb : Table) → Fin (tcTables nBuf tb) → BufTy
  | .hbm, ⟨0, _⟩ => ⟨S16384x2048, .bf16⟩
  | .hbm, ⟨1, _⟩ => ⟨S2048x8848, .f32⟩
  | .hbm, ⟨2, _⟩ => ⟨S2048x1024, .f32⟩
  | .hbm, ⟨3, _⟩ => ⟨S2048x256, .f32⟩
  | .hbm, ⟨4, _⟩ => ⟨S2048x256, .f32⟩
  | .hbm, ⟨5, _⟩ => ⟨S2048x1024, .f32⟩
  | .hbm, ⟨6, _⟩ => ⟨S2048x64, .f32⟩
  | .hbm, ⟨7, _⟩ => ⟨S2048x16, .f32⟩
  | .hbm, ⟨8, _⟩ => ⟨S2048x1536, .f32⟩
  | .hbm, ⟨9, _⟩ => ⟨S2048x512, .f32⟩
  | .hbm, ⟨10, _⟩ => ⟨S2048x64, .f32⟩
  | .hbm, ⟨11, _⟩ => ⟨S2048x4096, .f32⟩
  | .hbm, ⟨12, _⟩ => ⟨S2048x4096, .bf16⟩
  | .hbm, ⟨13, _⟩ => ⟨S16384x4096, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S2048x2048, .bf16⟩
  | .local _ .vmem, ⟨4, _⟩ => ⟨S512x2048, .f32⟩
  | .local _ .vmem, ⟨5, _⟩ => ⟨S512x2048, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjGRefIdeal.lean ====
abbrev S16384x2048 : Shape := ⟨2, ![16384, 2048]⟩
abbrev S2048x8848 : Shape := ⟨2, ![2048, 8848]⟩
abbrev S16384x8848 : Shape := ⟨2, ![16384, 8848]⟩
abbrev S16384x1024 : Shape := ⟨2, ![16384, 1024]⟩
abbrev S16384x256 : Shape := ⟨2, ![16384, 256]⟩
abbrev S16384x64 : Shape := ⟨2, ![16384, 64]⟩
abbrev S16384x16 : Shape := ⟨2, ![16384, 16]⟩
abbrev S16384x1536 : Shape := ⟨2, ![16384, 1536]⟩
abbrev S16384x512 : Shape := ⟨2, ![16384, 512]⟩
abbrev S16384x4096 : Shape := ⟨2, ![16384, 4096]⟩

abbrev nBuf : Space → Nat
  | .hbm => 14
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x8848, .f32⟩
  | .hbm, ⟨2, _⟩ => ⟨S16384x2048, .f32⟩
  | .hbm, ⟨3, _⟩ => ⟨S16384x8848, .f32⟩
  | .hbm, ⟨4, _⟩ => ⟨S16384x1024, .f32⟩
  | .hbm, ⟨5, _⟩ => ⟨S16384x256, .f32⟩
  | .hbm, ⟨6, _⟩ => ⟨S16384x256, .f32⟩
  | .hbm, ⟨7, _⟩ => ⟨S16384x1024, .f32⟩
  | .hbm, ⟨8, _⟩ => ⟨S16384x64, .f32⟩
  | .hbm, ⟨9, _⟩ => ⟨S16384x16, .f32⟩
  | .hbm, ⟨10, _⟩ => ⟨S16384x1536, .f32⟩
  | .hbm, ⟨11, _⟩ => ⟨S16384x512, .f32⟩
  | .hbm, ⟨12, _⟩ => ⟨S16384x64, .f32⟩
  | .hbm, ⟨13, _⟩ => ⟨S16384x4096, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩

abbrev nD : Nat := 1
abbrev τ : Topo := Topo.v7x

variable {F : FTy → Type} [FloatOps F]
-- ==== Merge.lean ====
abbrev S16384x1024 : Shape := ⟨2, ![16384, 1024]⟩
abbrev S1024x2048 : Shape := ⟨2, ![1024, 2048]⟩
abbrev S16384x4096 : Shape := ⟨2, ![16384, 4096]⟩
abbrev S16384x2048 : Shape := ⟨2, ![16384, 2048]⟩
abbrev S512x1024 : Shape := ⟨2, ![512, 1024]⟩
abbrev S1024x1024 : Shape := ⟨2, ![1024, 1024]⟩

abbrev nBuf : Space → Nat
  | .hbm => 8
  | .vmem => 14
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S1024x2048, .f32⟩
  | .hbm, ⟨3, _⟩ => ⟨S1024x2048, .f32⟩
  | .hbm, ⟨4, _⟩ => ⟨S16384x4096, .f32⟩
  | .hbm, ⟨5, _⟩ => ⟨S1024x2048, .bf16⟩
  | .hbm, ⟨6, _⟩ => ⟨S1024x2048, .bf16⟩
  | .hbm, ⟨7, _⟩ => ⟨S16384x2048, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== MergeRefIdeal.lean ====
abbrev S16384x1024 : Shape := ⟨2, ![16384, 1024]⟩
abbrev S1024x2048 : Shape := ⟨2, ![1024, 2048]⟩
abbrev S16384x4096 : Shape := ⟨2, ![16384, 4096]⟩
abbrev S16384x2048 : Shape := ⟨2, ![16384, 2048]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S1024x2048, .f32⟩
  | .hbm, ⟨3, _⟩ => ⟨S1024x2048, .f32⟩
  | .hbm, ⟨4, _⟩ => ⟨S16384x4096, .f32⟩
  | .hbm, ⟨5, _⟩ => ⟨S16384x2048, .f32⟩
  | .hbm, ⟨6, _⟩ => ⟨S16384x2048, .f32⟩
  | .hbm, ⟨7, _⟩ => ⟨S16384x2048, .f32⟩
  | .hbm, ⟨8, _⟩ => ⟨S16384x2048, .f32⟩
  | .hbm, ⟨9, _⟩ => ⟨S_, .f32⟩
  | .hbm, ⟨10, _⟩ => ⟨S16384x2048, .f32⟩
  | .hbm, ⟨11, _⟩ => ⟨S16384x2048, .f32⟩
  | .hbm, ⟨12, _⟩ => ⟨S_, .f32⟩
  | .hbm, ⟨13, _⟩ => ⟨S16384x2048, .f32⟩
  | .hbm, ⟨14, _⟩ => ⟨S16384x2048, .f32⟩
  | .hbm, ⟨15, _⟩ => ⟨S16384x1024, .f32⟩
  | .hbm, ⟨16, _⟩ => ⟨S16384x2048, .f32⟩
  | .hbm, ⟨17, _⟩ => ⟨S16384x2048, .f32⟩
  | .hbm, ⟨18, _⟩ => ⟨S16384x2048, .f32⟩
  | .hbm, ⟨19, _⟩ => ⟨S16384x2048, .f32⟩
  | .hbm, ⟨20, _⟩ => ⟨S_, .f32⟩
  | .hbm, ⟨21, _⟩ => ⟨S16384x2048, .f32⟩
  | .hbm, ⟨22, _⟩ => ⟨S16384x2048, .f32⟩
  | .hbm, ⟨23, _⟩ => ⟨S_, .f32⟩
  | .hbm, ⟨24, _⟩ => ⟨S16384x2048, .f32⟩
  | .hbm, ⟨25, _⟩ => ⟨S16384x2048, .f32⟩
  | .hbm, ⟨26, _⟩ => ⟨S16384x1024, .f32⟩
  | .hbm, ⟨27, _⟩ => ⟨S16384x2048, .f32⟩
  | .hbm, ⟨28, _⟩ => ⟨S16384x2048, .f32⟩
  | .hbm, ⟨29, _⟩ => ⟨S16384x2048, .f32⟩
  | .hbm, ⟨30, _⟩ => ⟨S16384x2048, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== OutProj.lean ====
abbrev S16384x2048 : Shape := ⟨2, ![16384, 2048]⟩
abbrev S2048x2048 : Shape := ⟨2, ![2048, 2048]⟩
abbrev S4x4096x2048 : Shape := ⟨3, ![4, 4096, 2048]⟩
abbrev S2048 : Shape := ⟨1, ![2048]⟩
abbrev S1x2048 : Shape := ⟨2, ![1, 2048]⟩
abbrev S262144x128 : Shape := ⟨2, ![262144, 128]⟩
abbrev S512x2048 : Shape := ⟨2, ![512, 2048]⟩
abbrev S8192x128 : Shape := ⟨2, ![8192, 128]⟩
abbrev S512 : Shape := ⟨1, ![512]⟩
abbrev S512x1 : Shape := ⟨2, ![512, 1]⟩
abbrev S512x128 : Shape := ⟨2, ![512, 128]⟩

abbrev nBuf : Space → Nat
  | .hbm => 11
  | .vmem => 11
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .f32⟩
  | .hbm, ⟨2, _⟩ => ⟨S4x4096x2048, .f32⟩
  | .hbm, ⟨3, _⟩ => ⟨S2048, .f32⟩
  | .hbm, ⟨4, _⟩ => ⟨S2048, .f32⟩
  | .hbm, ⟨5, _⟩ => ⟨S2048x2048, .bf16⟩
  | .hbm, ⟨6, _⟩ => ⟨S16384x2048, .f32⟩
  | .hbm, ⟨7, _⟩ => ⟨S1x2048, .f32⟩
  | .hbm, ⟨8, _⟩ => ⟨S1x2048, .f32⟩
  | .hbm, ⟨9, _⟩ => ⟨S16384x2048, .f32⟩
  | .hbm, ⟨10, _⟩ => ⟨S262144x128, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S8192x128, .f32⟩
  | .local _ .vmem, ⟨10, _⟩ => ⟨S8192x128, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8192x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== OutProjRefIdeal.lean ====
abbrev S16384x2048 : Shape := ⟨2, ![16384, 2048]⟩
abbrev S2048x2048 : Shape := ⟨2, ![2048, 2048]⟩
abbrev S4x4096x2048 : Shape := ⟨3, ![4, 4096, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S262144x128 : Shape := ⟨2, ![262144, 128]⟩

abbrev nBuf : Space → Nat
  | .hbm => 42
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .f32⟩
  | .hbm, ⟨2, _⟩ => ⟨S4x4096x2048, .f32⟩
  | .hbm, ⟨3, _⟩ => ⟨S2048, .f32⟩
  | .hbm, ⟨4, _⟩ => ⟨S2048, .f32⟩
  | .hbm, ⟨5, _⟩ => ⟨S16384x2048, .f32⟩
  | .hbm, ⟨6, _⟩ => ⟨S_, .f32⟩
  | .hbm, ⟨7, _⟩ => ⟨S16384x2048, .f32⟩
  | .hbm, ⟨8, _⟩ => ⟨S16384x2048, .f32⟩
  | .hbm, ⟨9, _⟩ => ⟨S16384x2048, .f32⟩
  | .hbm, ⟨10, _⟩ => ⟨S16384x2048, .f32⟩
  | .hbm, ⟨11, _⟩ => ⟨S16384x2048, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x2048, .f32⟩
  | .hbm, ⟨19, _⟩ => ⟨S16384x2048, .f32⟩
  | .hbm, ⟨20, _⟩ => ⟨S16384x2048, .f32⟩
  | .hbm, ⟨21, _⟩ => ⟨S_, .f32⟩
  | .hbm, ⟨22, _⟩ => ⟨S16384, .f32⟩
  | .hbm, ⟨23, _⟩ => ⟨S16384x1, .f32⟩
  | .hbm, ⟨24, _⟩ => ⟨S_, .f32⟩
  | .hbm, ⟨25, _⟩ => ⟨S16384x1, .f32⟩
  | .hbm, ⟨26, _⟩ => ⟨S16384x1, .f32⟩
  | .hbm, ⟨27, _⟩ => ⟨S16384x2048, .f32⟩
  | .hbm, ⟨28, _⟩ => ⟨S16384x2048, .f32⟩
  | .hbm, ⟨29, _⟩ => ⟨S_, .f32⟩
  | .hbm, ⟨30, _⟩ => ⟨S16384x1, .f32⟩
  | .hbm, ⟨31, _⟩ => ⟨S16384x1, .f32⟩
  | .hbm, ⟨32, _⟩ => ⟨S16384x1, .f32⟩
  | .hbm, ⟨33, _⟩ => ⟨S16384x2048, .f32⟩
  | .hbm, ⟨34, _⟩ => ⟨S16384x2048, .f32⟩
  | .hbm, ⟨35, _⟩ => ⟨S1x2048, .f32⟩
  | .hbm, ⟨36, _⟩ => ⟨S16384x2048, .f32⟩
  | .hbm, ⟨37, _⟩ => ⟨S16384x2048, .f32⟩
  | .hbm, ⟨38, _⟩ => ⟨S1x2048, .f32⟩
  | .hbm, ⟨39, _⟩ => ⟨S16384x2048, .f32⟩
  | .hbm, ⟨40, _⟩ => ⟨S16384x2048, .f32⟩
  | .hbm, ⟨41, _⟩ => ⟨S262144x128, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== LatKV.lean ====
abbrev S16384x3840 : Shape := ⟨2, ![16384, 3840]⟩
abbrev S512 : Shape := ⟨1, ![512]⟩
abbrev S512x8x256 : Shape := ⟨3, ![512, 8, 256]⟩
abbrev S32 : Shape := ⟨1, ![32]⟩
abbrev S_ : Shape := ⟨0, ![]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S512x8x128 : Shape := ⟨3, ![512, 8, 128]⟩
abbrev S512x1024 : Shape := ⟨2, ![512, 1024]⟩
abbrev S512x2048 : Shape := ⟨2, ![512, 2048]⟩
abbrev S1x512 : Shape := ⟨2, ![1, 512]⟩
abbrev S4x8x4096x192 : Shape := ⟨4, ![4, 8, 4096, 192]⟩
abbrev S4x8x4096x128 : Shape := ⟨4, ![4, 8, 4096, 128]⟩
abbrev S512x512 : Shape := ⟨2, ![512, 512]⟩
abbrev S512x128 : Shape := ⟨2, ![512, 128]⟩
abbrev S512x64 : Shape := ⟨2, ![512, 64]⟩
abbrev S1x8x512x192 : Shape := ⟨4, ![1, 8, 512, 192]⟩
abbrev S1x8x512x128 : Shape := ⟨4, ![1, 8, 512, 128]⟩
abbrev S512x1 : Shape := ⟨2, ![512, 1]⟩
abbrev S1x1x512x128 : Shape := ⟨4, ![1, 1, 512, 128]⟩
abbrev S1x1x512x64 : Shape := ⟨4, ![1, 1, 512, 64]⟩

abbrev nBuf : Space → Nat
  | .hbm => 30
  | .vmem => 14
  | .smem => 0
  | _ => 0

abbrev bufTy : (tb : Table) → Fin (tcTables nBuf tb) → BufTy
  | .hbm, ⟨0, _⟩ => ⟨S16384x3840, .f32⟩
  | .hbm, ⟨1, _⟩ => ⟨S512, .f32⟩
  | .hbm, ⟨2, _⟩ => ⟨S512x8x256, .f32⟩
  | .hbm, ⟨3, _⟩ => ⟨S32, .f32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S4096, .f32⟩
  | .hbm, ⟨12, _⟩ => ⟨S4096x1, .f32⟩
  | .hbm, ⟨13, _⟩ => ⟨S1x32, .f32⟩
  | .hbm, ⟨14, _⟩ => ⟨S4096x32, .f32⟩
  | .hbm, ⟨15, _⟩ => ⟨S4096x32, .f32⟩
  | .hbm, ⟨16, _⟩ => ⟨S4096x32, .f32⟩
  | .hbm, ⟨17, _⟩ => ⟨S4096x32, .f32⟩
  | .hbm, ⟨18, _⟩ => ⟨S4096x32, .f32⟩
  | .hbm, ⟨19, _⟩ => ⟨S4096x64, .f32⟩
  | .hbm, ⟨20, _⟩ => ⟨S4096x64, .f32⟩
  | .hbm, ⟨21, _⟩ => ⟨S512x8x128, .f32⟩
  | .hbm, ⟨22, _⟩ => ⟨S512x1024, .f32⟩
  | .hbm, ⟨23, _⟩ => ⟨S512x8x128, .f32⟩
  | .hbm, ⟨24, _⟩ => ⟨S512x1024, .f32⟩
  | .hbm, ⟨25, _⟩ => ⟨S512x2048, .f32⟩
  | .hbm, ⟨26, _⟩ => ⟨S512x2048, .bf16⟩
  | .hbm, ⟨27, _⟩ => ⟨S1x512, .f32⟩
  | .hbm, ⟨28, _⟩ => ⟨S4x8x4096x192, .bf16⟩
  | .hbm, ⟨29, _⟩ => ⟨S4x8x4096x128, .bf16⟩
  | .local _ .vmem, ⟨0, _⟩ => ⟨S512x512, .f32⟩
  | .local _ .vmem, ⟨1, _⟩ => ⟨S512x512, .f32⟩
  | .local _ .vmem, ⟨2, _⟩ => ⟨S512x128, .f32⟩
  | .local _ .vmem, ⟨3, _⟩ => ⟨S512x128, .f32⟩
  | .local _ .vmem, ⟨4, _⟩ => ⟨S1x512, .f32⟩
  | .local _ .vmem, ⟨5, _⟩ => ⟨S512x2048, .bf16⟩
  | .local _ .vmem, ⟨6, _⟩ => ⟨S512x64, .f32⟩
  | .local _ .vmem, ⟨7, _⟩ => ⟨S512x64, .f32⟩
  | .local _ .vmem, ⟨8, _⟩ => ⟨S512x64, .f32⟩
  | .local _ .vmem, ⟨9, _⟩ => ⟨S512x64, .f32⟩
  | .local _ .vmem, ⟨10, _⟩ => ⟨S1x8x512x192, .bf16⟩
  | .local _ .vmem, ⟨11, _⟩ => ⟨S1x8x512x192, .bf16⟩
  | .local _ .vmem, ⟨12, _⟩ => ⟨S1x8x512x128, .bf16⟩
  | .local _ .vmem, ⟨13, _⟩ => ⟨S1x8x512x128, .bf16⟩
  | _, _ => ⟨S16384x3840, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23_0 : Ref sig .tc := ⟨.hbm, 28, rfl⟩
abbrev main_v23_1 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_1 (i : grid0.Coords) : Fin 2 → Nat :=
  let arg0 : BitVec 32 := BitVec.ofNat 32 (i 0).val
  let c29_i32 : BitVec 32 := 29#32
  let c0_i32 : BitVec 32 := 0#32
  ![arg0.toNat, c29_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_7 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x8x512x192 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x8x512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== LatKVRefIdeal.lean ====
abbrev S16384x3840 : Shape := ⟨2, ![16384, 3840]⟩
abbrev S512 : Shape := ⟨1, ![512]⟩
abbrev S512x8x256 : Shape := ⟨3, ![512, 8, 256]⟩
abbrev S16384x512 : Shape := ⟨2, ![16384, 512]⟩
abbrev S4x4096x512 : Shape := ⟨3, ![4, 4096, 512]⟩
abbrev S16384x64 : Shape := ⟨2, ![16384, 64]⟩
abbrev S4x4096x64 : Shape := ⟨3, ![4, 4096, 64]⟩
abbrev S_ : Shape := ⟨0, ![]⟩
abbrev S4x4096 : Shape := ⟨2, ![4, 4096]⟩
abbrev S4x4096x1 : Shape := ⟨3, ![4, 4096, 1]⟩
abbrev S1x1x512 : Shape := ⟨3, ![1, 1, 512]⟩
abbrev S8x256x4x4096 : Shape := ⟨4, ![8, 256, 4, 4096]⟩
abbrev S4x8x4096x256 : Shape := ⟨4, ![4, 8, 4096, 256]⟩
abbrev S32 : Shape := ⟨1, ![32]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S1x4096x32 : Shape := ⟨3, ![1, 4096, 32]⟩
abbrev S4x4096x32 : Shape := ⟨3, ![4, 4096, 32]⟩
abbrev S4x1x4096x64 : Shape := ⟨4, ![4, 1, 4096, 64]⟩
abbrev S4x8x4096x64 : Shape := ⟨4, ![4, 8, 4096, 64]⟩
abbrev S4x8x4096x128 : Shape := ⟨4, ![4, 8, 4096, 128]⟩
abbrev S4x8x4096x192 : Shape := ⟨4, ![4, 8, 4096, 192]⟩

abbrev nBuf : Space → Nat
  | .hbm => 68
  | .vmem => 0
  | .smem => 0
  | _ => 0

abbrev bufTy : (tb : Table) → Fin (tcTables nBuf tb) → BufTy
  | .hbm, ⟨0, _⟩ => ⟨S16384x3840, .f32⟩
  | .hbm, ⟨1, _⟩ => ⟨S512, .f32⟩
  | .hbm, ⟨2, _⟩ => ⟨S512x8x256, .f32⟩
  | .hbm, ⟨3, _⟩ => ⟨S16384x512, .f32⟩
  | .hbm, ⟨4, _⟩ => ⟨S4x4096x512, .f32⟩
  | .hbm, ⟨5, _⟩ => ⟨S16384x64, .f32⟩
  | .hbm, ⟨6, _⟩ => ⟨S4x4096x64, .f32⟩
  | .hbm, ⟨7, _⟩ => ⟨S16384x64, .f32⟩
  | .hbm, ⟨8, _⟩ => ⟨S4x4096x64, .f32⟩
  | .hbm, ⟨9, _⟩ => ⟨S4x4096x512, .f32⟩
  | .hbm, ⟨10, _⟩ => ⟨S_, .f32⟩
  | .hbm, ⟨11, _⟩ => ⟨S4x4096, .f32⟩
  | .hbm, ⟨12, _⟩ => ⟨S4x4096x1, .f32⟩
  | .hbm, ⟨13, _⟩ => ⟨S_, .f32⟩
  | .hbm, ⟨14, _⟩ => ⟨S4x4096x1, .f32⟩
  | .hbm, ⟨15, _⟩ => ⟨S4x4096x1, .f32⟩
  | .hbm, ⟨16, _⟩ => ⟨S_, .f32⟩
  | .hbm, ⟨17, _⟩ => ⟨S4x4096x1, .f32⟩
  | .hbm, ⟨18, _⟩ => ⟨S4x4096x1, .f32⟩
  | .hbm, ⟨19, _⟩ => ⟨S4x4096x1, .f32⟩
  | .hbm, ⟨20, _⟩ => ⟨S4x4096x512, .f32⟩
  | .hbm, ⟨21, _⟩ => ⟨S4x4096x512, .f32⟩
  | .hbm, ⟨22, _⟩ => ⟨S1x1x512, .f32⟩
  | .hbm, ⟨23, _⟩ => ⟨S4x4096x512, .f32⟩
  | .hbm, ⟨24, _⟩ => ⟨S4x4096x512, .f32⟩
  | .hbm, ⟨25, _⟩ => ⟨S8x256x4x4096, .f32⟩
  | .hbm, ⟨26, _⟩ => ⟨S4x8x4096x256, .f32⟩
  | .hbm, ⟨27, _⟩ => ⟨S32, .f32⟩
  | .hbm, ⟨28, _⟩ => ⟨S32, .f32⟩
  | .hbm, ⟨29, _⟩ => ⟨S_, .f32⟩
  | .hbm, ⟨30, _⟩ => ⟨S32, .f32⟩
  | .hbm, ⟨31, _⟩ => ⟨S32, .f32⟩
  | .hbm, ⟨32, _⟩ => ⟨S_, .f32⟩
  | .hbm, ⟨33, _⟩ => ⟨S32, .f32⟩
  | .hbm, ⟨34, _⟩ => ⟨S32, .f32⟩
  | .hbm, ⟨35, _⟩ => ⟨S4096, .i32⟩
  | .hbm, ⟨36, _⟩ => ⟨S4096, .f32⟩
  | .hbm, ⟨37, _⟩ => ⟨S4096x1, .f32⟩
  | .hbm, ⟨38, _⟩ => ⟨S1x32, .f32⟩
  | .hbm, ⟨39, _⟩ => ⟨S4096x32, .f32⟩
  | .hbm, ⟨40, _⟩ => ⟨S4096x32, .f32⟩
  | .hbm, ⟨41, _⟩ => ⟨S4096x32, .f32⟩
  | .hbm, ⟨42, _⟩ => ⟨S4096x32, .f32⟩
  | .hbm, ⟨43, _⟩ => ⟨S1x4096x32, .f32⟩
  | .hbm, ⟨44, _⟩ => ⟨S4096x32, .f32⟩
  | .hbm, ⟨45, _⟩ => ⟨S1x4096x32, .f32⟩
  | .hbm, ⟨46, _⟩ => ⟨S4x4096x32, .f32⟩
  | .hbm, ⟨47, _⟩ => ⟨S4x4096x32, .f32⟩
  | .hbm, ⟨48, _⟩ => ⟨S4x4096x32, .f32⟩
  | .hbm, ⟨49, _⟩ => ⟨S4x4096x32, .f32⟩
  | .hbm, ⟨50, _⟩ => ⟨S4x4096x32, .f32⟩
  | .hbm, ⟨51, _⟩ => ⟨S4x4096x32, .f32⟩
  | .hbm, ⟨52, _⟩ => ⟨S4x4096x32, .f32⟩
  | .hbm, ⟨53, _⟩ => ⟨S4x4096x32, .f32⟩
  | .hbm, ⟨54, _⟩ => ⟨S4x4096x32, .f32⟩
  | .hbm, ⟨55, _⟩ => ⟨S4x4096x32, .f32⟩
  | .hbm, ⟨56, _⟩ => ⟨S4x4096x32, .f32⟩
  | .hbm, ⟨57, _⟩ => ⟨S4x4096x32, .f32⟩
  | .hbm, ⟨58, _⟩ => ⟨S4x4096x32, .f32⟩
  | .hbm, ⟨59, _⟩ => ⟨S4x4096x32, .f32⟩
  | .hbm, ⟨60, _⟩ => ⟨S4x4096x64, .f32⟩
  | .hbm, ⟨61, _⟩ => ⟨S4x1x4096x64, .f32⟩
  | .hbm, ⟨62, _⟩ => ⟨S4x8x4096x64, .f32⟩
  | .hbm, ⟨63, _⟩ => ⟨S4x8x4096x128, .f32⟩
  | .hbm, ⟨64, _⟩ => ⟨S4x8x4096x192, .f32⟩
  | .hbm, ⟨65, _⟩ => ⟨S4x8x4096x192, .bf16⟩
  | .hbm, ⟨66, _⟩ => ⟨S4x8x4096x128, .f32⟩
  | .hbm, ⟨67, _⟩ => ⟨S4x8x4096x128, .bf16⟩
  | _, _ => ⟨S16384x3840, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_v24 : Ref sig .tc := ⟨.hbm, 31, rfl⟩
abbrev main_cst_3 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩

abbrev nD : Nat := 1
abbrev τ : Topo := Topo.v7x

variable {F : FTy → Type} [FloatOps F]
-- ==== LatQ.lean ====
abbrev S16384x3840 : Shape := ⟨2, ![16384, 3840]⟩
abbrev S32 : Shape := ⟨1, ![32]⟩
abbrev S_ : Shape := ⟨0, ![]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S1x4096x1x64 : Shape := ⟨4, ![1, 4096, 1, 64]⟩
abbrev S1x4096x8x64 : Shape := ⟨4, ![1, 4096, 8, 64]⟩
abbrev S4096x512 : Shape := ⟨2, ![4096, 512]⟩
abbrev S4x8x4096x192 : Shape := ⟨4, ![4, 8, 4096, 192]⟩
abbrev S512x1024 : Shape := ⟨2, ![512, 1024]⟩
abbrev S512x512 : Shape := ⟨2, ![512, 512]⟩
abbrev S1x8x512x192 : Shape := ⟨4, ![1, 8, 512, 192]⟩
abbrev S512x128 : Shape := ⟨2, ![512, 128]⟩
abbrev S1x1x512x128 : Shape := ⟨4, ![1, 1, 512, 128]⟩
abbrev S512x64 : Shape := ⟨2, ![512, 64]⟩
abbrev S1x1x512x64 : Shape := ⟨4, ![1, 1, 512, 64]⟩

abbrev nBuf : Space → Nat
  | .hbm => 26
  | .vmem => 12
  | .smem => 0
  | _ => 0

abbrev bufTy : (tb : Table) → Fin (tcTables nBuf tb) → BufTy
  | .hbm, ⟨0, _⟩ => ⟨S16384x3840, .f32⟩
  | .hbm, ⟨1, _⟩ => ⟨S32, .f32⟩
  | .hbm, ⟨2, _⟩ => ⟨S32, .f32⟩
  | .hbm, ⟨3, _⟩ => ⟨S_, .f32⟩
  | .hbm, ⟨4, _⟩ => ⟨S32, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S4096, .f32⟩
  | .hbm, ⟨10, _⟩ => ⟨S4096x1, .f32⟩
  | .hbm, ⟨11, _⟩ => ⟨S1x32, .f32⟩
  | .hbm, ⟨12, _⟩ => ⟨S4096x32, .f32⟩
  | .hbm, ⟨13, _⟩ => ⟨S4096x32, .f32⟩
  | .hbm, ⟨14, _⟩ => ⟨S4096x32, .f32⟩
  | .hbm, ⟨15, _⟩ => ⟨S4096x32, .f32⟩
  | .hbm, ⟨16, _⟩ => ⟨S4096x32, .f32⟩
  | .hbm, ⟨17, _⟩ => ⟨S4096x64, .f32⟩
  | .hbm, ⟨18, _⟩ => ⟨S4096x64, .f32⟩
  | .hbm, ⟨19, _⟩ => ⟨S1x4096x1x64, .f32⟩
  | .hbm, ⟨20, _⟩ => ⟨S1x4096x8x64, .f32⟩
  | .hbm, ⟨21, _⟩ => ⟨S4096x512, .f32⟩
  | .hbm, ⟨22, _⟩ => ⟨S1x4096x1x64, .f32⟩
  | .hbm, ⟨23, _⟩ => ⟨S1x4096x8x64, .f32⟩
  | .hbm, ⟨24, _⟩ => ⟨S4096x512, .f32⟩
  | .hbm, ⟨25, _⟩ => ⟨S4x8x4096x192, .bf16⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S1x8x512x192, .bf16⟩
  | .local _ .vmem, ⟨11, _⟩ => ⟨S1x8x512x192, .bf16⟩
  | _, _ => ⟨S16384x3840, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_3 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8x512x192 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== LatQIdeal.lean ====
variable {F : FTy → Type} [FloatOps F] [Named F]
def κ : String → Option EReal := fun
  | "scale" => some ((((Real.sqrt 192) * (Real.log 2))⁻¹ : ℝ) : EReal)
  | _ => none
-- ==== LatQRefIdeal.lean ====
abbrev S16384x3840 : Shape := ⟨2, ![16384, 3840]⟩
abbrev S16384x1024 : Shape := ⟨2, ![16384, 1024]⟩
abbrev S4x4096x8x128 : Shape := ⟨4, ![4, 4096, 8, 128]⟩
abbrev S16384x512 : Shape := ⟨2, ![16384, 512]⟩
abbrev S4x4096x8x64 : Shape := ⟨4, ![4, 4096, 8, 64]⟩
abbrev S32 : Shape := ⟨1, ![32]⟩
abbrev S_ : Shape := ⟨0, ![]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S1x4096x1x32 : Shape := ⟨4, ![1, 4096, 1, 32]⟩
abbrev S4x4096x8x32 : Shape := ⟨4, ![4, 4096, 8, 32]⟩
abbrev S4x4096x8x192 : Shape := ⟨4, ![4, 4096, 8, 192]⟩
abbrev S4x8x4096x192 : Shape := ⟨4, ![4, 8, 4096, 192]⟩

abbrev nBuf : Space → Nat
  | .hbm => 51
  | .vmem => 0
  | .smem => 0
  | _ => 0

abbrev bufTy : (tb : Table) → Fin (tcTables nBuf tb) → BufTy
  | .hbm, ⟨0, _⟩ => ⟨S16384x3840, .f32⟩
  | .hbm, ⟨1, _⟩ => ⟨S16384x1024, .f32⟩
  | .hbm, ⟨2, _⟩ => ⟨S4x4096x8x128, .f32⟩
  | .hbm, ⟨3, _⟩ => ⟨S16384x512, .f32⟩
  | .hbm, ⟨4, _⟩ => ⟨S4x4096x8x64, .f32⟩
  | .hbm, ⟨5, _⟩ => ⟨S16384x512, .f32⟩
  | .hbm, ⟨6, _⟩ => ⟨S4x4096x8x64, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S4096, .i32⟩
  | .hbm, ⟨16, _⟩ => ⟨S4096, .f32⟩
  | .hbm, ⟨17, _⟩ => ⟨S4096x1, .f32⟩
  | .hbm, ⟨18, _⟩ => ⟨S1x32, .f32⟩
  | .hbm, ⟨19, _⟩ => ⟨S4096x32, .f32⟩
  | .hbm, ⟨20, _⟩ => ⟨S4096x32, .f32⟩
  | .hbm, ⟨21, _⟩ => ⟨S4096x32, .f32⟩
  | .hbm, ⟨22, _⟩ => ⟨S4096x32, .f32⟩
  | .hbm, ⟨23, _⟩ => ⟨S1x4096x1x32, .f32⟩
  | .hbm, ⟨24, _⟩ => ⟨S4096x32, .f32⟩
  | .hbm, ⟨25, _⟩ => ⟨S1x4096x1x32, .f32⟩
  | .hbm, ⟨26, _⟩ => ⟨S4x4096x8x32, .f32⟩
  | .hbm, ⟨27, _⟩ => ⟨S4x4096x8x32, .f32⟩
  | .hbm, ⟨28, _⟩ => ⟨S4x4096x8x32, .f32⟩
  | .hbm, ⟨29, _⟩ => ⟨S4x4096x8x32, .f32⟩
  | .hbm, ⟨30, _⟩ => ⟨S4x4096x8x32, .f32⟩
  | .hbm, ⟨31, _⟩ => ⟨S4x4096x8x32, .f32⟩
  | .hbm, ⟨32, _⟩ => ⟨S4x4096x8x32, .f32⟩
  | .hbm, ⟨33, _⟩ => ⟨S4x4096x8x32, .f32⟩
  | .hbm, ⟨34, _⟩ => ⟨S4x4096x8x32, .f32⟩
  | .hbm, ⟨35, _⟩ => ⟨S4x4096x8x32, .f32⟩
  | .hbm, ⟨36, _⟩ => ⟨S4x4096x8x32, .f32⟩
  | .hbm, ⟨37, _⟩ => ⟨S4x4096x8x32, .f32⟩
  | .hbm, ⟨38, _⟩ => ⟨S4x4096x8x32, .f32⟩
  | .hbm, ⟨39, _⟩ => ⟨S4x4096x8x32, .f32⟩
  | .hbm, ⟨40, _⟩ => ⟨S4x4096x8x64, .f32⟩
  | .hbm, ⟨41, _⟩ => ⟨S4x4096x8x192, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S4x4096x8x192, .f32⟩
  | .hbm, ⟨48, _⟩ => ⟨S4x4096x8x192, .f32⟩
  | .hbm, ⟨49, _⟩ => ⟨S4x8x4096x192, .f32⟩
  | .hbm, ⟨50, _⟩ => ⟨S4x8x4096x192, .bf16⟩
  | _, _ => ⟨S16384x3840, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_cst : Ref sig .tc := ⟨.hbm, 9, rfl⟩
abbrev main_v8 : Ref sig .tc := ⟨.hbm, 10, rfl⟩
abbrev main_v9 : Ref sig .tc := ⟨.hbm, 11, rfl⟩
abbrev main_cst_0 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_cst_1 : Ref sig .tc := ⟨.hbm, 42, rfl⟩
abbrev main_v39 : Ref sig .tc := ⟨.hbm, 43, rfl⟩
abbrev main_cst_2 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩

abbrev nD : Nat := 1
abbrev τ : Topo := Topo.v7x

variable {F : FTy → Type} [FloatOps F]
-- ==== Router.lean ====
abbrev S16384x2048 : Shape := ⟨2, ![16384, 2048]⟩
abbrev S2048x8 : Shape := ⟨2, ![2048, 8]⟩
abbrev S8 : Shape := ⟨1, ![8]⟩
abbrev S2048x64 : Shape := ⟨2, ![2048, 64]⟩
abbrev S64 : Shape := ⟨1, ![64]⟩
abbrev S_ : Shape := ⟨0, ![]⟩
abbrev S2048x56 : Shape := ⟨2, ![2048, 56]⟩
abbrev S2048x128 : Shape := ⟨2, ![2048, 128]⟩
abbrev S56 : Shape := ⟨1, ![56]⟩
abbrev S128 : Shape := ⟨1, ![128]⟩
abbrev S1x128 : Shape := ⟨2, ![1, 128]⟩
abbrev S16384x128 : Shape := ⟨2, ![16384, 128]⟩
abbrev S512x2048 : Shape := ⟨2, ![512, 2048]⟩
abbrev S512x128 : Shape := ⟨2, ![512, 128]⟩
abbrev S512 : Shape := ⟨1, ![512]⟩
abbrev S512x1 : Shape := ⟨2, ![512, 1]⟩

abbrev nBuf : Space → Nat
  | .hbm => 18
  | .vmem => 9
  | .smem => 0
  | _ => 0

abbrev bufTy : (tb : Table) → Fin (tcTables nBuf tb) → BufTy
  | .hbm, ⟨0, _⟩ => ⟨S16384x2048, .f32⟩
  | .hbm, ⟨1, _⟩ => ⟨S2048x8, .f32⟩
  | .hbm, ⟨2, _⟩ => ⟨S8, .f32⟩
  | .hbm, ⟨3, _⟩ => ⟨S2048x64, .f32⟩
  | .hbm, ⟨4, _⟩ => ⟨S64, .f32⟩
  | .hbm, ⟨5, _⟩ => ⟨S_, .f32⟩
  | .hbm, ⟨6, _⟩ => ⟨S2048x56, .f32⟩
  | .hbm, ⟨7, _⟩ => ⟨S2048x128, .f32⟩
  | .hbm, ⟨8, _⟩ => ⟨S2048x128, .bf16⟩
  | .hbm, ⟨9, _⟩ => ⟨S2048x128, .f32⟩
  | .hbm, ⟨10, _⟩ => ⟨S2048x128, .f32⟩
  | .hbm, ⟨11, _⟩ => ⟨S2048x128, .bf16⟩
  | .hbm, ⟨12, _⟩ => ⟨S_, .f32⟩
  | .hbm, ⟨13, _⟩ => ⟨S56, .f32⟩
  | .hbm, ⟨14, _⟩ => ⟨S128, .f32⟩
  | .hbm, ⟨15, _⟩ => ⟨S1x128, .f32⟩
  | .hbm, ⟨16, _⟩ => ⟨S16384x128, .i32⟩
  | .hbm, ⟨17, _⟩ => ⟨S16384x128, .f32⟩
  | .local _ .vmem, ⟨0, _⟩ => ⟨S512x2048, .f32⟩
  | .local _ .vmem, ⟨1, _⟩ => ⟨S512x2048, .f32⟩
  | .local _ .vmem, ⟨2, _⟩ => ⟨S2048x128, .bf16⟩
  | .local _ .vmem, ⟨3, _⟩ => ⟨S2048x128, .bf16⟩
  | .local _ .vmem, ⟨4, _⟩ => ⟨S1x128, .f32⟩
  | .local _ .vmem, ⟨5, _⟩ => ⟨S512x128, .i32⟩
  | .local _ .vmem, ⟨6, _⟩ => ⟨S512x128, .i32⟩
  | .local _ .vmem, ⟨7, _⟩ => ⟨S512x128, .f32⟩
  | .local _ .vmem, ⟨8, _⟩ => ⟨S512x128, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== RouterRefIdeal.lean ====
abbrev S16384x2048 : Shape := ⟨2, ![16384, 2048]⟩
abbrev S2048x8 : Shape := ⟨2, ![2048, 8]⟩
abbrev S8 : Shape := ⟨1, ![8]⟩
abbrev S2048x64 : Shape := ⟨2, ![2048, 64]⟩
abbrev S64 : Shape := ⟨1, ![64]⟩
abbrev S16384x8 : Shape := ⟨2, ![16384, 8]⟩
abbrev S1x8 : Shape := ⟨2, ![1, 8]⟩
abbrev S_ : Shape := ⟨0, ![]⟩
abbrev S16384 : Shape := ⟨1, ![16384]⟩
abbrev S16384x1 : Shape := ⟨2, ![16384, 1]⟩
abbrev S16384x64 : Shape := ⟨2, ![16384, 64]⟩
abbrev S1x64 : Shape := ⟨2, ![1, 64]⟩
abbrev S16384x8x8 : Shape := ⟨3, ![16384, 8, 8]⟩
abbrev S16384x1x1 : Shape := ⟨3, ![16384, 1, 1]⟩
abbrev S1 : Shape := ⟨1, ![1]⟩
abbrev S1x1x1 : Shape := ⟨3, ![1, 1, 1]⟩
abbrev S16384x1x8 : Shape := ⟨3, ![16384, 1, 8]⟩
abbrev S16384x2 : Shape := ⟨2, ![16384, 2]⟩
abbrev S16384x126 : Shape := ⟨2, ![16384, 126]⟩
abbrev S16384x128 : Shape := ⟨2, ![16384, 128]⟩

abbrev nBuf : Space → Nat
  | .hbm => 88
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048x8, .f32⟩
  | .hbm, ⟨2, _⟩ => ⟨S8, .f32⟩
  | .hbm, ⟨3, _⟩ => ⟨S2048x64, .f32⟩
  | .hbm, ⟨4, _⟩ => ⟨S64, .f32⟩
  | .hbm, ⟨5, _⟩ => ⟨S16384x8, .f32⟩
  | .hbm, ⟨6, _⟩ => ⟨S1x8, .f32⟩
  | .hbm, ⟨7, _⟩ => ⟨S16384x8, .f32⟩
  | .hbm, ⟨8, _⟩ => ⟨S16384x8, .f32⟩
  | .hbm, ⟨9, _⟩ => ⟨S_, .f32⟩
  | .hbm, ⟨10, _⟩ => ⟨S16384, .f32⟩
  | .hbm, ⟨11, _⟩ => ⟨S_, .f32⟩
  | .hbm, ⟨12, _⟩ => ⟨S16384, .f32⟩
  | .hbm, ⟨13, _⟩ => ⟨S16384, .f32⟩
  | .hbm, ⟨14, _⟩ => ⟨S16384x1, .f32⟩
  | .hbm, ⟨15, _⟩ => ⟨S16384x8, .f32⟩
  | .hbm, ⟨16, _⟩ => ⟨S16384x8, .f32⟩
  | .hbm, ⟨17, _⟩ => ⟨S16384x8, .f32⟩
  | .hbm, ⟨18, _⟩ => ⟨S_, .f32⟩
  | .hbm, ⟨19, _⟩ => ⟨S16384, .f32⟩
  | .hbm, ⟨20, _⟩ => ⟨S16384x1, .f32⟩
  | .hbm, ⟨21, _⟩ => ⟨S16384x8, .f32⟩
  | .hbm, ⟨22, _⟩ => ⟨S16384x8, .f32⟩
  | .hbm, ⟨23, _⟩ => ⟨S16384x1, .f32⟩
  | .hbm, ⟨24, _⟩ => ⟨S16384x1, .i32⟩
  | .hbm, ⟨25, _⟩ => ⟨S16384x64, .f32⟩
  | .hbm, ⟨26, _⟩ => ⟨S1x64, .f32⟩
  | .hbm, ⟨27, _⟩ => ⟨S16384x64, .f32⟩
  | .hbm, ⟨28, _⟩ => ⟨S16384x64, .f32⟩
  | .hbm, ⟨29, _⟩ => ⟨S16384x8x8, .f32⟩
  | .hbm, ⟨30, _⟩ => ⟨S16384x1x1, .i32⟩
  | .hbm, ⟨31, _⟩ => ⟨S_, .i32⟩
  | .hbm, ⟨32, _⟩ => ⟨S16384x1x1, .i32⟩
  | .hbm, ⟨33, _⟩ => ⟨S16384x1x1, .i1⟩
  | .hbm, ⟨34, _⟩ => ⟨S_, .i32⟩
  | .hbm, ⟨35, _⟩ => ⟨S16384x1x1, .i32⟩
  | .hbm, ⟨36, _⟩ => ⟨S16384x1x1, .i32⟩
  | .hbm, ⟨37, _⟩ => ⟨S16384x1x1, .i32⟩
  | .hbm, ⟨38, _⟩ => ⟨S1, .i32⟩
  | .hbm, ⟨39, _⟩ => ⟨S_, .i32⟩
  | .hbm, ⟨40, _⟩ => ⟨S16384x1x1, .i32⟩
  | .hbm, ⟨41, _⟩ => ⟨S16384x1x1, .i1⟩
  | .hbm, ⟨42, _⟩ => ⟨S1x1x1, .i32⟩
  | .hbm, ⟨43, _⟩ => ⟨S16384x1x1, .i32⟩
  | .hbm, ⟨44, _⟩ => ⟨S16384x1x1, .i1⟩
  | .hbm, ⟨45, _⟩ => ⟨S16384x1x1, .i1⟩
  | .hbm, ⟨46, _⟩ => ⟨S_, .i1⟩
  | .hbm, ⟨47, _⟩ => ⟨S16384x1, .i1⟩
  | .hbm, ⟨48, _⟩ => ⟨S16384x1x8, .f32⟩
  | .hbm, ⟨49, _⟩ => ⟨S16384x1x8, .i1⟩
  | .hbm, ⟨50, _⟩ => ⟨S_, .f32⟩
  | .hbm, ⟨51, _⟩ => ⟨S16384x1x8, .f32⟩
  | .hbm, ⟨52, _⟩ => ⟨S16384x1x8, .f32⟩
  | .hbm, ⟨53, _⟩ => ⟨S16384x8, .f32⟩
  | .hbm, ⟨54, _⟩ => ⟨S_, .f32⟩
  | .hbm, ⟨55, _⟩ => ⟨S16384, .f32⟩
  | .hbm, ⟨56, _⟩ => ⟨S_, .f32⟩
  | .hbm, ⟨57, _⟩ => ⟨S16384, .f32⟩
  | .hbm, ⟨58, _⟩ => ⟨S16384, .f32⟩
  | .hbm, ⟨59, _⟩ => ⟨S16384x1, .f32⟩
  | .hbm, ⟨60, _⟩ => ⟨S16384x8, .f32⟩
  | .hbm, ⟨61, _⟩ => ⟨S16384x8, .f32⟩
  | .hbm, ⟨62, _⟩ => ⟨S16384x8, .f32⟩
  | .hbm, ⟨63, _⟩ => ⟨S_, .f32⟩
  | .hbm, ⟨64, _⟩ => ⟨S16384, .f32⟩
  | .hbm, ⟨65, _⟩ => ⟨S16384x1, .f32⟩
  | .hbm, ⟨66, _⟩ => ⟨S16384x8, .f32⟩
  | .hbm, ⟨67, _⟩ => ⟨S16384x8, .f32⟩
  | .hbm, ⟨68, _⟩ => ⟨S16384x2, .f32⟩
  | .hbm, ⟨69, _⟩ => ⟨S16384x2, .i32⟩
  | .hbm, ⟨70, _⟩ => ⟨S_, .f32⟩
  | .hbm, ⟨71, _⟩ => ⟨S16384, .f32⟩
  | .hbm, ⟨72, _⟩ => ⟨S16384x1, .f32⟩
  | .hbm, ⟨73, _⟩ => ⟨S16384x2, .f32⟩
  | .hbm, ⟨74, _⟩ => ⟨S16384x2, .f32⟩
  | .hbm, ⟨75, _⟩ => ⟨S16384x2, .f32⟩
  | .hbm, ⟨76, _⟩ => ⟨S16384x2, .f32⟩
  | .hbm, ⟨77, _⟩ => ⟨S_, .i32⟩
  | .hbm, ⟨78, _⟩ => ⟨S16384x1, .i32⟩
  | .hbm, ⟨79, _⟩ => ⟨S16384x1, .i32⟩
  | .hbm, ⟨80, _⟩ => ⟨S16384x2, .i32⟩
  | .hbm, ⟨81, _⟩ => ⟨S16384x2, .i32⟩
  | .hbm, ⟨82, _⟩ => ⟨S_, .i32⟩
  | .hbm, ⟨83, _⟩ => ⟨S16384x126, .i32⟩
  | .hbm, ⟨84, _⟩ => ⟨S16384x128, .i32⟩
  | .hbm, ⟨85, _⟩ => ⟨S_, .f32⟩
  | .hbm, ⟨86, _⟩ => ⟨S16384x126, .f32⟩
  | .hbm, ⟨87, _⟩ => ⟨S16384x128, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_values : Ref sig .tc := ⟨.hbm, 23, rfl⟩
abbrev main_indices : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_call0_c : Ref sig .tc := ⟨.hbm, 31, rfl⟩
abbrev main_call0_v0 : Ref sig .tc := ⟨.hbm, 32, rfl⟩
abbrev main_call0_v1 : Ref sig .tc := ⟨.hbm, 33, rfl⟩
abbrev main_call0_c_0 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_call0_c_1 : Ref sig .tc := ⟨.hbm, 38, rfl⟩
abbrev main_call0_c_2 : Ref sig .tc := ⟨.hbm, 39, rfl⟩
abbrev main_call0_v5 : Ref sig .tc := ⟨.hbm, 40, rfl⟩
abbrev main_call0_v6 : Ref sig .tc := ⟨.hbm, 41, rfl⟩
abbrev main_call0_v7 : Ref sig .tc := ⟨.hbm, 42, rfl⟩
abbrev main_call0_v8 : Ref sig .tc := ⟨.hbm, 43, rfl⟩
abbrev main_call0_v9 : Ref sig .tc := ⟨.hbm, 44, rfl⟩
abbrev main_call0_v10 : Ref sig .tc := ⟨.hbm, 45, rfl⟩
abbrev main_call0_c_3 : Ref sig .tc := ⟨.hbm, 46, rfl⟩
abbrev main_call0_v11 : Ref sig .tc := ⟨.hbm, 47, rfl⟩
abbrev main_call0_v12 : Ref sig .tc := ⟨.hbm, 48, rfl⟩
abbrev main_call0_v13 : Ref sig .tc := ⟨.hbm, 49, rfl⟩
abbrev main_call0_cst : Ref sig .tc := ⟨.hbm, 50, rfl⟩
abbrev main_call0_v14 : Ref sig .tc := ⟨.hbm, 51, rfl⟩
abbrev main_v21 : Ref sig .tc := ⟨.hbm, 52, rfl⟩
abbrev main_v22 : Ref sig .tc := ⟨.hbm, 53, rfl⟩
abbrev main_cst_2 : Ref sig .tc := ⟨.hbm, 54, rfl⟩
abbrev main_v23 : Ref sig .tc := ⟨.hbm, 55, rfl⟩
abbrev main_cst_3 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_cst_4 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_values_5 : Ref sig .tc := ⟨.hbm, 68, rfl⟩
abbrev main_indices_6 : Ref sig .tc := ⟨.hbm, 69, rfl⟩
abbrev main_cst_7 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_c : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_c_8 : Ref sig .tc := ⟨.hbm, 82, rfl⟩
abbrev main_v44 : Ref sig .tc := ⟨.hbm, 83, rfl⟩
abbrev main_v45 : Ref sig .tc := ⟨.hbm, 84, rfl⟩
abbrev main_cst_9 : Ref sig .tc := ⟨.hbm, 85, rfl⟩
abbrev main_v46 : Ref sig .tc := ⟨.hbm, 86, rfl⟩
abbrev main_v47 : Ref sig .tc := ⟨.hbm, 87, rfl⟩

abbrev nD : Nat := 1
abbrev τ : Topo := Topo.v7x

variable {F : FTy → Type} [FloatOps F]
-- ==== Proof.PB.lean ====
/- The projection kept in bfloat16: each element of the first result is a row of the input times a column of the
   weights, the columns taken in the order the sparse attention reads them; the second result is the input, a token a row. -/
module

public import proofs.«01_k».proof.Proof.Gen.ProjBIdeal.Value
public import proofs.«01_k».proof.Proof.Gen.ProjBRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.ProjBIdeal.Hand

open Idealize.ShloMosaic Idealize.SL.Sem Cert.ProjBIdeal Cert.ProjBIdeal.Gen
open Idealize.ShloMosaic.Pipeline (Dat)

variable (m : (ℓ : Loc nD τ sig) → Buf (Elt Ideal) ℓ) (c : Dev nD)

/-- A result column's column of the in-projection: the indexer's queries come first. -/
def col (j : Fin 1536) : Fin 8848 := ⟨if j.val < 1024 then 1536 + j.val else j.val, by have := j.isLt; split <;> omega⟩

/-- The weights' columns in that order. -/
def wb (w : Vec Ideal S2048x8848 .f32) : Vec Ideal S2048x1536 .bf16 := fun i => w (ix2 (i 0) (col (i 1)))

/-- The input, a token a row. -/
def rows (x : Vec Ideal S4x4096x2048 .f32) : Vec Ideal S16384x2048 .f32 := ProjBRefIdeal.Read.val_main_v14 (F := Ideal) x

/-- The product of a matrix of rows and a matrix of columns. -/
def prod (x : Vec Ideal S16384x2048 .f32) (w : Vec Ideal S2048x1536 .bf16) : Vec Ideal S16384x1536 .bf16 :=
  fun i => ∑ k : Fin 2048, x (ix2 (i 0) k) * w (ix2 k (i 1))

/-! ## The kernel -/

theorem idx0_0 (t : Fin cfg0.N) : win0_0.index t = ![(grid0.coords t 0).val, 0] :=
  (by decide +kernel : ∀ t : Fin grid0.N, win0_0.index t = ![(grid0.coords t 0).val, 0]) t

theorem idx0_1 (t : Fin cfg0.N) : win0_1.index t = ![0, 0] :=
  (by decide +kernel : ∀ t : Fin grid0.N, win0_1.index t = ![0, 0]) t

theorem idx0_2 (t : Fin cfg0.N) : win0_2.index t = ![(grid0.coords t 0).val, 0] :=
  (by decide +kernel : ∀ t : Fin grid0.N, win0_2.index t = ![(grid0.coords t 0).val, 0]) t

theorem idx0_3 (t : Fin cfg0.N) : win0_3.index t = ![(grid0.coords t 0).val, 0] :=
  (by decide +kernel : ∀ t : Fin grid0.N, win0_3.index t = ![(grid0.coords t 0).val, 0]) t

/-- A block's row in the result. -/
abbrev row (t : Fin cfg0.N) (a : Fin 512) : Fin 16384 :=
  ⟨(grid0.coords t 0).val * 512 + a.val, by have h : (grid0.coords t 0).val < 32 := (grid0.coords t 0).isLt; have := a.isLt; omega⟩

theorem emb_2 (t : Fin cfg0.N) (a : Fin 512) (b : Fin 1536) :
    ((cfg0.win 2).blk t).view.emb (ix2 a b) = ix2 (row t a) b := by
  symm
  have e := idx0_2 t
  blk_ext [e]
  all_goals rfl

theorem emb_3 (t : Fin cfg0.N) (a : Fin 512) (b : Fin 2048) :
    ((cfg0.win 3).blk t).view.emb (ix2 a b) = ix2 (row t a) b := by
  symm
  have e := idx0_3 t
  blk_ext [e]
  all_goals rfl

/-- The slices of the weights, side by side. -/
def cat (w : Vec Ideal S2048x8848 .f32) : FVec Ideal S2048x1536 .f32 :=
  concatenate S2048x1536 1 [⟨S2048x1024, extractStridedSlice S2048x1024 ![0, 1536] w slices_S2048x8848_S2048x1024_0_1536⟩,
    ⟨S2048x256, extractStridedSlice S2048x256 ![0, 1024] w slices_S2048x8848_S2048x256_0_1024⟩,
    ⟨S2048x256, extractStridedSlice S2048x256 ![0, 1280] w slices_S2048x8848_S2048x256_0_1280⟩]
    concatenates_S2048x1024_S2048x256_S2048x256_S2048x1536_d1

theorem V_cat : V m c main_v11 = (truncf .bf16 (cat (m ((c.tc : Thread nD τ).loc main_arg1))) bitsLt_bf16_f32 : FVec Ideal S2048x1536 .bf16) := by
  unfold V hostOps0
  after_results <;> rfl

theorem cat_apply (w : Vec Ideal S2048x8848 .f32) (k : Fin 2048) (j : Fin 1536) : cat w (ix2 k j) = w (ix2 k (col j)) := by
  pointwise [cat, col]
  split_ifs with h h' <;> refine congrArg (fun z => w (ix2 k z)) (Fin.ext ?_) <;> dsimp only <;> omega

/-- The weights as the kernel is given them. -/
theorem V_weights : V m c main_v11 = wb (m ((c.tc : Thread nD τ).loc main_arg1)) := by
  rw [V_cat]
  funext i
  obtain ⟨k, j, rfl⟩ : ∃ (k : Fin 2048) (j : Fin 1536), i = ix2 k j := ⟨i 0, i 1, eq_ix2 (n0 := 2048) (n1 := 1536) i⟩
  exact cat_apply _ k j

theorem V_rows : V m c main_v12 = rows (m ((c.tc : Thread nD τ).loc main_arg0)) := by
  entry_read
  rfl

theorem out_array : (dats m 0 c).arrAt 2 cfg0.N
    = prod (rows (m ((c.tc : Thread nD τ).loc main_arg0))) (wb (m ((c.tc : Thread nD τ).loc main_arg1))) := by
  refine (dats m 0 c).arrAt_eq_of_covers 2 _ (by decide +kernel) fun t hf y => ?_
  blk_simp
  rw [after0_2]
  frame_out
  have e0 := idx0_0 t
  have e1 := idx0_1 t
  obtain ⟨a, b, rfl⟩ : ∃ (a : Fin 512) (b : Fin 1536), y = ix2 a b := ⟨y 0, y 1, eq_ix2 (n0 := 512) (n1 := 1536) y⟩
  erw [emb_2]
  rw [← V_weights, ← V_rows]
  pointwise [k0_pay1, k0_pay2, prod]
  blk_point [iblk, e0, e1]

theorem rows_array : (dats m 0 c).arrAt 3 cfg0.N = rows (m ((c.tc : Thread nD τ).loc main_arg0)) := by
  refine (dats m 0 c).arrAt_eq_of_covers 3 _ (by decide +kernel) fun t hf y => ?_
  blk_simp
  rw [after0_3]
  frame_out
  have e0 := idx0_0 t
  obtain ⟨a, b, rfl⟩ : ∃ (a : Fin 512) (b : Fin 2048), y = ix2 a b := ⟨y 0, y 1, eq_ix2 (n0 := 512) (n1 := 2048) y⟩
  erw [emb_3]
  rw [← V_rows]
  pointwise [k0_pay1]
  blk_ext [iblk, e0]
  all_goals rfl

/-! ## The reference -/

open ProjBRefIdeal.Read in
theorem ref_rows (x : Vec Ideal S4x4096x2048 .f32) : val_main_v15 (F := Ideal) x = rows x := rfl

open ProjBRefIdeal.Read in
/-- The whole projection at an element. -/
theorem proj_apply (x : Vec Ideal S4x4096x2048 .f32) (w : Vec Ideal S2048x8848 .f32) (r : Fin 16384) (d : Fin 8848) :
    val_main_v1 (F := Ideal) x w (ix2 r d) = ∑ k : Fin 2048, rows x (ix2 r k) * w (ix2 k d) := by
  rw [val_main_v1_apply, val_main_v0_apply]
  refine Finset.sum_congr rfl fun k _ => ?_
  unfold rows
  rw [val_main_v14_apply]
  have hr := r.isLt
  have hd := d.isLt
  have hk := k.isLt
  congr 1
  · refine congrArg x (funext fun a => Fin.ext ?_)
    match a with
    | ⟨0, _⟩ => show (r.val * 8848 + d.val) / 36241408 = (r.val * 2048 + k.val) / 8388608; omega
    | ⟨1, _⟩ => show (r.val * 8848 + d.val) / 8848 % 4096 = (r.val * 2048 + k.val) / 2048 % 4096; omega
    | ⟨2, _⟩ => show k.val = (r.val * 2048 + k.val) % 2048; omega
  · refine congrArg w (funext fun a => Fin.ext ?_)
    match a with
    | ⟨0, _⟩ => rfl
    | ⟨1, _⟩ => show (r.val * 8848 + d.val) % 8848 = d.val; omega

open ProjBRefIdeal.Read in
theorem ref_prod (x : Vec Ideal S4x4096x2048 .f32) (w : Vec Ideal S2048x8848 .f32) :
    val_main_v13 (F := Ideal) x w = prod (rows x) (wb w) := by
  funext i
  obtain ⟨r, j, rfl⟩ : ∃ (r : Fin 16384) (j : Fin 1536), i = ix2 r j := ⟨i 0, i 1, eq_ix2 (n0 := 16384) (n1 := 1536) i⟩
  rw [show prod (rows x) (wb w) (ix2 r j) = ∑ k : Fin 2048, rows x (ix2 r k) * w (ix2 k (col j)) from rfl, ← proj_apply]
  generalize hz : val_main_v1 (F := Ideal) x w = z
  pointwise [val_main_v13, val_main_v12, val_main_v3, val_main_v4, val_main_v5, hz, col]
  split_ifs with h h' <;> refine congrArg (fun u => z (ix2 r u)) (Fin.ext ?_) <;> dsimp only <;> omega

end Cert.ProjBIdeal.Hand
end
-- ==== Proof.FV.Alg.lean ====
/- The running softmax of one row, over the extended reals.

   A row has scores `s c`, each real or `⊥` (a masked column), and values `V c`. The running state after the first `n`
   columns is a real `m = μ` with `l = ∑ 2 ^ (s c - μ)` and `a = ∑ 2 ^ (s c - μ) * V c`. One more block of columns keeps
   this form whatever real the new maximum is (`Acc.step`), and the quotient `a / l` at the end is the softmax in base `e`
   of the scores times `log 2` (`Acc.quotient`). -/
module

public import Idealize.ShloMosaic.PureOps.Ideal
public import Idealize.ShloMosaic.PureOps.Ideal.Laws
public import Mathlib.Data.EReal.Operations
public import Mathlib.Analysis.SpecialFunctions.Pow.Real

@[expose] public section

noncomputable section

namespace Cert.Softmax

open Idealize.ShloMosaic

/-- A real factor that is not negative goes through a sum. -/
theorem coe_mul_sum {ι : Type} (t : Finset ι) (r : ℝ) (hr : 0 ≤ r) (f : ι → EReal) :
    (r : EReal) * ∑ c ∈ t, f c = ∑ c ∈ t, (r : EReal) * f c := by
  classical
  induction t using Finset.induction_on with
  | empty => simp
  | insert a t ha ih =>
    rw [Finset.sum_insert ha, Finset.sum_insert ha, EReal.left_distrib_of_nonneg_of_ne_top (by exact_mod_cast hr) (EReal.coe_ne_top r), ih]

/-- A sum of reals is the real sum. -/
theorem coe_sum {ι : Type} (t : Finset ι) (f : ι → ℝ) : (∑ c ∈ t, ((f c : ℝ) : EReal)) = ((∑ c ∈ t, f c : ℝ) : EReal) := by
  classical
  induction t using Finset.induction_on with
  | empty => simp
  | insert a t ha ih => rw [Finset.sum_insert ha, Finset.sum_insert ha, ih, EReal.coe_add]

/-- A score: a real, or `⊥` where masked. -/
def Score (x : EReal) : Prop := x ≠ ⊤

theorem Score.cases {x : EReal} (h : Score x) : x = ⊥ ∨ ∃ r : ℝ, x = r := by
  induction x with
  | bot => exact Or.inl rfl
  | coe r => exact Or.inr ⟨r, rfl⟩
  | top => exact absurd rfl h

/-- The real weight `2 ^ (x - μ)` of a score, zero where masked. -/
def wt (x : EReal) (μ : ℝ) : ℝ := if x = ⊥ then 0 else Real.rpow 2 (x.toReal - μ)

theorem wt_nonneg (x : EReal) (μ : ℝ) : 0 ≤ wt x μ := by
  unfold wt
  split
  · exact le_rfl
  · exact Real.rpow_nonneg (by norm_num) _

theorem wt_pos {x : EReal} (h : x ≠ ⊥) (μ : ℝ) : 0 < wt x μ := by
  unfold wt
  rw [if_neg h]
  exact Real.rpow_pos_of_pos (by norm_num) _

theorem exp2_sub {x : EReal} (h : Score x) (μ : ℝ) : Ideal.exp2 (x - (μ : EReal)) = ((wt x μ : ℝ) : EReal) := by
  rcases h.cases with rfl | ⟨r, rfl⟩
  · simp [wt]
  · rw [← EReal.coe_sub, Ideal.exp2_coe]
    simp [wt]

theorem exp2_coe_sub (μ ν : ℝ) : Ideal.exp2 ((μ : EReal) - (ν : EReal)) = ((Real.rpow 2 (μ - ν) : ℝ) : EReal) := by
  rw [← EReal.coe_sub, Ideal.exp2_coe]

theorem pow_nonneg (x : ℝ) : 0 ≤ Real.rpow 2 x := Real.rpow_nonneg (by norm_num) x

/-- The weights against one maximum, rescaled to another. -/
theorem wt_rescale (x : EReal) (μ ν : ℝ) : Real.rpow 2 (μ - ν) * wt x μ = wt x ν := by
  unfold wt
  split
  · simp
  · show (2 : ℝ) ^ (μ - ν) * (2 : ℝ) ^ (x.toReal - μ) = (2 : ℝ) ^ (x.toReal - ν)
    rw [← Real.rpow_add (by norm_num)]
    congr 1
    ring

/-- In base `e` against any real `ρ`: the same weight times one positive factor. -/
theorem exp_log2 {x : EReal} (h : Score x) (μ ρ : ℝ) :
    Ideal.exp (x * ((Real.log 2 : ℝ) : EReal) - (ρ : EReal)) = ((Real.exp (μ * Real.log 2 - ρ) * wt x μ : ℝ) : EReal) := by
  rcases h.cases with rfl | ⟨r, rfl⟩
  · rw [EReal.bot_mul_coe_of_pos (Real.log_pos (by norm_num))]
    simp [wt]
  · rw [← EReal.coe_mul, ← EReal.coe_sub, Ideal.exp_coe]
    congr 1
    unfold wt
    rw [if_neg (EReal.coe_ne_bot r), EReal.toReal_coe]
    show _ = _ * (2 : ℝ) ^ (r - μ)
    rw [Real.rpow_def_of_pos (by norm_num), ← Real.exp_add]
    congr 1
    ring

/-- The running state `(m, l, a)` of a row after its first `n` columns. -/
def Acc (s V : ℕ → EReal) (n : ℕ) (m l a : EReal) : Prop :=
  (n = 0 ∧ m = ⊥ ∧ l = 0 ∧ a = 0) ∨
  ∃ μ : ℝ, m = μ ∧ l = ∑ c ∈ Finset.range n, ((wt (s c) μ : ℝ) : EReal) ∧ a = ∑ c ∈ Finset.range n, ((wt (s c) μ : ℝ) : EReal) * V c

/-- Before any column. -/
theorem Acc.zero (s V : ℕ → EReal) : Acc s V 0 ⊥ 0 0 := Or.inl ⟨rfl, rfl, rfl, rfl⟩

/-- One block of `k` columns more, against any real new maximum `m'`. -/
theorem Acc.step {s V : ℕ → EReal} {n : ℕ} {m l a : EReal} (hs : ∀ c, Score (s c)) (h : Acc s V n m l a) (k : ℕ) (m' : EReal)
    (hb : m' ≠ ⊥) (ht : m' ≠ ⊤) :
    Acc s V (n + k) m' (Ideal.exp2 (m - m') * l + ∑ x : Fin k, Ideal.exp2 (s (n + x) - m'))
      (Ideal.exp2 (m - m') * a + ∑ x : Fin k, Ideal.exp2 (s (n + x) - m') * V (n + x)) := by
  lift m' to ℝ using ⟨ht, hb⟩
  refine Or.inr ⟨m', rfl, ?_, ?_⟩
  · simp only [exp2_sub (hs _)]
    rw [Finset.sum_range_add, Fin.sum_univ_eq_sum_range (fun x => ((wt (s (n + x)) m' : ℝ) : EReal)) k]
    congr 1
    rcases h with ⟨rfl, rfl, rfl, rfl⟩ | ⟨μ, rfl, rfl, rfl⟩
    · simp
    · rw [exp2_coe_sub, coe_mul_sum _ _ (pow_nonneg _)]
      exact Finset.sum_congr rfl fun c _ => by rw [← EReal.coe_mul, wt_rescale]
  · simp only [exp2_sub (hs _)]
    rw [Finset.sum_range_add, Fin.sum_univ_eq_sum_range (fun x => ((wt (s (n + x)) m' : ℝ) : EReal) * V (n + x)) k]
    congr 1
    rcases h with ⟨rfl, rfl, rfl, rfl⟩ | ⟨μ, rfl, rfl, rfl⟩
    · simp
    · rw [exp2_coe_sub, coe_mul_sum _ _ (pow_nonneg _)]
      exact Finset.sum_congr rfl fun c _ => by rw [← mul_assoc, ← EReal.coe_mul, wt_rescale]

/-- The quotient at the end: the softmax, in base `e`, of the scores times `log 2`, whatever real `M` is taken off first. -/
theorem Acc.quotient {s V : ℕ → EReal} {n : ℕ} {m l a : EReal} (hs : ∀ c, Score (s c)) (h : Acc s V n m l a) (T : ℕ) (hT : n ≤ T)
    (hmask : ∀ c, n ≤ c → s c = ⊥) (hlive : ∃ c, c < n ∧ s c ≠ ⊥) (M : EReal) (hb : M ≠ ⊥) (ht : M ≠ ⊤) :
    Ideal.div a l = ∑ c : Fin T, V c * Ideal.div (Ideal.exp (s c * ((Real.log 2 : ℝ) : EReal) - M))
      (∑ c : Fin T, Ideal.exp (s c * ((Real.log 2 : ℝ) : EReal) - M)) := by
  lift M to ℝ using ⟨ht, hb⟩
  obtain ⟨c₀, hc₀, hlive⟩ := hlive
  rcases h with ⟨rfl, -⟩ | ⟨μ, rfl, rfl, rfl⟩
  · exact absurd hc₀ (Nat.not_lt_zero _)
  have hext : ∀ f : ℕ → EReal, (∀ c, n ≤ c → f c = 0) → ∑ c ∈ Finset.range n, f c = ∑ c : Fin T, f c := fun f hf => by
    rw [Fin.sum_univ_eq_sum_range f T]
    exact Finset.sum_subset (Finset.range_subset_range.2 hT) fun c _ hc => hf c (by simpa using hc)
  have hz : ∀ c, n ≤ c → wt (s c) μ = 0 := fun c hc => by simp [wt, hmask c hc]
  rw [hext (fun c => ((wt (s c) μ : ℝ) : EReal) * V c) fun c hc => by rw [hz c hc, EReal.coe_zero, zero_mul],
    hext (fun c => ((wt (s c) μ : ℝ) : EReal)) fun c hc => by rw [hz c hc, EReal.coe_zero]]
  simp only [exp_log2 (hs _) μ M]
  rw [coe_sum, coe_sum]
  have hL : 0 < ∑ c : Fin T, wt (s c) μ :=
    Finset.sum_pos' (fun c _ => wt_nonneg _ _) ⟨⟨c₀, by omega⟩, Finset.mem_univ _, wt_pos hlive _⟩
  rw [← Finset.mul_sum]
  have hK : 0 < Real.exp (μ * Real.log 2 - M) := Real.exp_pos _
  generalize Real.exp (μ * Real.log 2 - M) = K at hK
  generalize ∑ c : Fin T, wt (s c) μ = L at hL
  rw [Ideal.div_coe hL.ne', mul_comm, coe_mul_sum _ _ (by positivity)]
  refine Finset.sum_congr rfl fun c _ => ?_
  rw [Ideal.div_coe (mul_pos hK hL).ne', ← EReal.coe_mul, mul_comm (V _), ← mul_assoc, ← EReal.coe_mul]
  congr 2
  field_simp

/-- Four groups of 128 lanes, added lane by lane and then summed, are the sum over 512. -/
theorem sum_lanes (f : Fin 512 → EReal) :
    ∑ x : Fin 128, (f ⟨x, by omega⟩ + f ⟨128 + x, by omega⟩ + f ⟨256 + x, by omega⟩ + f ⟨384 + x, by omega⟩) = ∑ x : Fin 512, f x := by
  have e : ∀ g : ℕ → EReal, ∑ x : Fin 512, g x = ∑ x : Fin 128, (g x + g (128 + x) + g (256 + x) + g (384 + x)) := fun g => by
    rw [Fin.sum_univ_eq_sum_range g 512, show Finset.range 512 = Finset.range (128 + 128 + 128 + 128) from rfl,
      Finset.sum_range_add, Finset.sum_range_add, Finset.sum_range_add, Finset.sum_add_distrib, Finset.sum_add_distrib,
      Finset.sum_add_distrib, Fin.sum_univ_eq_sum_range g 128, Fin.sum_univ_eq_sum_range (fun x => g (128 + x)) 128,
      Fin.sum_univ_eq_sum_range (fun x => g (256 + x)) 128, Fin.sum_univ_eq_sum_range (fun x => g (384 + x)) 128]
  have e' := e fun n => if h : n < 512 then f ⟨n, h⟩ else 0
  simp only [Fin.is_lt, dif_pos] at e'
  rw [e']
  refine Finset.sum_congr rfl fun x _ => ?_
  have := x.isLt
  rw [dif_pos (by omega), dif_pos (by omega), dif_pos (by omega), dif_pos (by omega)]

/-- A maximum of entries none of which is `⊤` is not `⊤`; it is not `⊥` once one entry is not. -/
theorem fold_max_ne_top {ι : Type} (t : Finset ι) (f : ι → EReal) (h : ∀ x ∈ t, f x ≠ ⊤) : t.fold max ⊥ f ≠ ⊤ :=
  ((Finset.fold_max_lt _).2 ⟨bot_lt_top, fun x hx => lt_top_iff_ne_top.2 (h x hx)⟩).ne

theorem fold_max_ne_bot {ι : Type} (t : Finset ι) (f : ι → EReal) (x : ι) (hx : x ∈ t) (h : f x ≠ ⊥) : t.fold max ⊥ f ≠ ⊥ :=
  ((bot_lt_iff_ne_bot.2 h).trans_le ((Finset.le_fold_max _).2 (Or.inr ⟨x, hx, le_rfl⟩))).ne'

theorem max_top {x y : EReal} (hx : x ≠ ⊤) (hy : y ≠ ⊤) : max x y ≠ ⊤ :=
  (max_lt (lt_top_iff_ne_top.2 hx) (lt_top_iff_ne_top.2 hy)).ne

theorem max_bot_right {x y : EReal} (hy : y ≠ ⊥) : max x y ≠ ⊥ := fun h => hy (le_bot_iff.1 (h ▸ le_max_right x y))

theorem max_bot_left {x y : EReal} (hx : x ≠ ⊥) : max x y ≠ ⊥ := fun h => hx (le_bot_iff.1 (h ▸ le_max_left x y))

/-- The maximum of 512 entries, four groups of 128 lanes taken lane by lane first. -/
def maxLanes (f : Fin 512 → EReal) : EReal :=
  Finset.univ.fold max ⊥ fun x : Fin 128 => max (max (max (f ⟨x, by omega⟩) (f ⟨128 + x, by omega⟩)) (f ⟨256 + x, by omega⟩)) (f ⟨384 + x, by omega⟩)

theorem maxLanes_ne_top (f : Fin 512 → EReal) (h : ∀ c, f c ≠ ⊤) : maxLanes f ≠ ⊤ :=
  fold_max_ne_top _ _ fun _ _ => max_top (max_top (max_top (h _) (h _)) (h _)) (h _)

theorem maxLanes_ne_bot (f : Fin 512 → EReal) (h : f 0 ≠ ⊥) : maxLanes f ≠ ⊥ :=
  fold_max_ne_bot _ _ (0 : Fin 128) (Finset.mem_univ _) (max_bot_left (max_bot_left (max_bot_left h)))

end Cert.Softmax

end
-- ==== Proof.FV.RefRead.lean ====
/- The reference's result read at an element: the softmax over the causal columns, weighting the values. -/
module

public import proofs.«01_k».proof.Proof.Gen.FlashRefIdeal
public import proofs.«01_k».proof.Proof.Gen.FlashRefIdeal.Read
public import proofs.«01_k».proof.Proof.FV.Alg
public import Idealize.ShloMosaic.Lib.Pointwise

@[expose] public section

set_option maxRecDepth 16384

noncomputable section

namespace Cert.FlashRefIdeal.Hand

open Idealize.ShloMosaic Idealize.SL.Sem Cert.FlashRefIdeal Cert.FlashRefIdeal.Gen Cert.FlashRefIdeal.Read

variable (x0 x1 : Vec Ideal S4x8x4096x192 .bf16) (x2 : Vec Ideal S4x8x4096x128 .bf16) (b : Fin 4) (h : Fin 8) (q c : Fin 4096)

/-- The score of query `q` against key `c`. -/
def score : EReal := ∑ x : Fin 192, x0 (ix4 b h q x) * x1 (ix4 b h c x)

/-- The score, `⊥` at a key after the query. -/
def causalScore : EReal := if c.val ≤ q.val then score x0 x1 b h q c else ⊥

theorem neg_inf : Ideal.ofBits .f32 0xFF800000#32 = ⊥ := by
  simp [Ideal.ofBits, Ideal.ieee]

theorem log_two : Ideal.log (Ideal.ofBits .f32 0x40000000#32) = ((Real.log 2 : ℝ) : EReal) := by
  have : Ideal.ofBits .f32 0x40000000#32 = ((2 : ℝ) : EReal) := by
    simp [Ideal.ofBits, Ideal.ieee]
    rw [← EReal.coe_mul]
    norm_num
  rw [this, Ideal.log_coe, if_neg (by norm_num)]

theorem word_le : IntOp.cmpi .sle (BitVec.ofNat 32 c.val) (BitVec.ofNat 32 q.val) = BitVec.ofBool (decide (c.val ≤ q.val)) := by
  have := c.isLt
  have := q.isLt
  show BitVec.ofBool (BitVec.sle _ _) = _
  congr 1
  rw [Bool.eq_iff_iff, BitVec.sle_iff_toInt_le, decide_eq_true_iff, BitVec.toInt_ofNat', BitVec.toInt_ofNat']
  simp only [Int.bmod]
  omega

theorem masked_apply : val_main_v14 (F := Ideal) x0 x1 (ix4 b h q c) = causalScore x0 x1 b h q c * ((Real.log 2 : ℝ) : EReal) := by
  pointwise [val_main_v14, val_main_v13, val_main_v6, val_main_v3, val_main_v0, val_main_v1, val_main_v4, val_main_v5,
    val_main_v7, val_main_v8, val_main_v9, val_main_v10, val_main_v11, val_main_v12, val_main_call0_v0, val_main_call0_v1,
    val_main_call0_v2, val_main_cst, val_main_cst_0]
  change Scalar.select _ _ (Ideal.ofBits .f32 0xFF800000#32) = _
  rw [word_le, log_two, neg_inf]
  unfold causalScore score
  by_cases hc : c.val ≤ q.val
  · simp [hc, Scalar.select]
  · simp [hc, Scalar.select, EReal.bot_mul_coe_of_pos (Real.log_pos (by norm_num : (1 : ℝ) < 2))]

theorem rowmax (y : FVec Ideal S4x8x4096x4096 .f32) (e : FVec Ideal S_ .f32) (hR : S4x8x4096x4096.ReducesTo [3] S4x8x4096)
    (hr : S4x8x4096x4096.Reduces [3] S4x8x4096) (hu : 0 < S_.numel) :
    Host.reduce FloatOps.maximumf y e hR hu (ix3 b h q)
      = Finset.univ.fold max (e (Shape.Idx.first hu)) fun k : Fin 4096 => y (ix4 b h q k) := by
  rw [Host.reduce_eq_fold_single FloatOps.maximumf y _ hR hr hu]
  refine congrArg (fun f => Finset.fold max (e (Shape.Idx.first hu)) f (Finset.univ : Finset (Fin 4096))) (funext fun k => congrArg y ?_)
  funext a
  apply Fin.ext
  fin_cases a <;> rfl

/-- The maximum the reference takes off a row. -/
def rowTop : EReal := val_main_v17 (F := Ideal) x0 x1 (ix3 b h q)

theorem rowTop_real (hS : ∀ c, score x0 x1 b h q c ≠ ⊥ ∧ score x0 x1 b h q c ≠ ⊤) :
    rowTop x0 x1 b h q ≠ ⊥ ∧ rowTop x0 x1 b h q ≠ ⊤ := by
  have hl : (0 : ℝ) < Real.log 2 := Real.log_pos (by norm_num)
  have e : rowTop x0 x1 b h q = max ⊥ (Finset.univ.fold max ⊥ fun k : Fin 4096 => val_main_v14 (F := Ideal) x0 x1 (ix4 b h q k)) := by
    unfold rowTop
    rw [val_main_v17_apply, val_main_v16_apply]
    unfold val_main_v15
    rw [rowmax b h q _ _ _ (by decide)]
    simp only [val_main_cst_2_apply, val_main_cst_1_apply, Ideal.ofBits_def, neg_inf]
    rfl
  rw [e]
  simp only [masked_apply]
  have ht : ∀ c, causalScore x0 x1 b h q c * ((Real.log 2 : ℝ) : EReal) ≠ ⊤ := fun c => by
    unfold causalScore
    split
    · obtain ⟨h1, h2⟩ := hS c
      lift score x0 x1 b h q c to ℝ using ⟨h2, h1⟩ with r
      exact EReal.coe_ne_top (r * Real.log 2)
    · rw [EReal.bot_mul_coe_of_pos hl]
      exact bot_ne_top
  refine ⟨Cert.Softmax.max_bot_right (Cert.Softmax.fold_max_ne_bot _ _ (0 : Fin 4096) (Finset.mem_univ _) ?_),
    Cert.Softmax.max_top bot_ne_top (Cert.Softmax.fold_max_ne_top _ _ fun c _ => ht c)⟩
  unfold causalScore
  rw [if_pos (show (0 : Fin 4096).val ≤ q.val from Nat.zero_le _)]
  obtain ⟨h1, h2⟩ := hS 0
  lift score x0 x1 b h q 0 to ℝ using ⟨h2, h1⟩ with r
  exact EReal.coe_ne_bot (r * Real.log 2)

/-- The reference's element: head `n / 128`, lane `n % 128`. -/
theorem ref_apply (n : Fin 1024) (h : Fin 8) (d : Fin 128) (hn : n.val = 128 * h + d) :
    val_main_v29 (F := Ideal) x0 x1 x2 (ix3 b q n) = ∑ c : Fin 4096, x2 (ix4 b h c d)
      * Ideal.div (Ideal.exp (causalScore x0 x1 b h q c * ((Real.log 2 : ℝ) : EReal) - rowTop x0 x1 b h q))
        (∑ c : Fin 4096, Ideal.exp (causalScore x0 x1 b h q c * ((Real.log 2 : ℝ) : EReal) - rowTop x0 x1 b h q)) := by
  simp only [← masked_apply]
  unfold rowTop
  pointwise [val_main_v29, val_main_v28, val_main_v27, val_main_v26, val_main_v25, val_main_v24, val_main_v23, val_main_v22, val_main_v21,
    val_main_v20, val_main_v19, val_main_v18, val_main_v2, val_main_cst_3]
  have e1 : (⟨n.val / 128, by omega⟩ : Fin 8) = h := Fin.ext (by show n.val / 128 = _; omega)
  have e2 : (⟨n.val % 128, by omega⟩ : Fin 128) = d := Fin.ext (by show n.val % 128 = _; omega)
  simp only [e1, e2]

end Cert.FlashRefIdeal.Hand

end
-- ==== Proof.FV.Finite.lean ====
/- The precondition read at an element: every query and key element is a real, so every score is. -/
module

public import proofs.«01_k».proof.Proof.Gen.Pre_finite
public import proofs.«01_k».proof.Proof.FV.RefRead
public import Idealize.ShloMosaic.Lib.ReduceAll

@[expose] public section

noncomputable section

namespace Cert.Pre_finite.Hand

open Idealize.ShloMosaic Cert.Pre_finite

theorem inf_bf16 : Ideal.ofBits .bf16 0x7F80#16 = ⊤ := by
  simp [Ideal.ofBits, Ideal.ieee]

/-- An element whose absolute value lies below `⊤` is a real. -/
theorem real_of_abs_lt (x : EReal) (h : Ideal.cmp .olt (max x (-x)) ⊤ = 1#1) : x ≠ ⊥ ∧ x ≠ ⊤ := by
  have h' : max x (-x) < ⊤ := by
    by_contra hn
    have e : Ideal.cmp .olt (max x (-x)) ⊤ = 0#1 := by
      unfold Ideal.cmp
      simp only [decide_eq_false hn]
      rfl
    rw [e] at h
    exact absurd h (by decide)
  refine ⟨?_, ?_⟩
  · rintro rfl
    simp at h'
  · rintro rfl
    simp at h'

instance : Subsingleton S_.Idx := ⟨fun i j => funext fun a => a.elim0⟩

/-- `jnp.all` of `abs x < inf` came out 1: every element of `x` is a real. -/
theorem all_real (x y : FVec Ideal S4x8x4096x192 .bf16) (hy : ∀ i, y i = (⊤ : EReal))
    (hR : S4x8x4096x192.ReducesTo [0, 1, 2, 3] S_) (hu : 0 < S_.numel) (j : S_.Idx)
    (e : Host.reduce IntOp.andi (cmpf .olt (Host.absf x) y) (constantI S_ 1 1#1) hR hu j = 1#1) (i : S4x8x4096x192.Idx) : x i ≠ ⊥ ∧ x i ≠ ⊤ := by
  refine real_of_abs_lt _ ?_
  rw [← hy i]
  exact Host.reduce_andi_all _ _ hR hu j e i

theorem finite_read (x0 x1 : FVec Ideal S4x8x4096x192 .bf16) (x2 : FVec Ideal S4x8x4096x128 .bf16)
    (h : fn (F := Ideal) x0 x1 x2 = fun _ => 1#1) : (∀ i, x0 i ≠ ⊥ ∧ x0 i ≠ ⊤) ∧ ∀ i, x1 i ≠ ⊥ ∧ x1 i ≠ ⊤ := by
  have h0 := congrFun h ix0
  obtain ⟨ha, hb⟩ := IntOp.andi_eq_one.1 h0
  exact ⟨all_real x0 _ (fun _ => inf_bf16) _ _ _ ha, all_real x1 _ (fun _ => inf_bf16) _ _ _ hb⟩

/-- A finite sum of products of reals is a real. -/
theorem sum_real {n : ℕ} (f g : Fin n → EReal) (hf : ∀ i, f i ≠ ⊥ ∧ f i ≠ ⊤) (hg : ∀ i, g i ≠ ⊥ ∧ g i ≠ ⊤) :
    (∑ i, f i * g i) ≠ ⊥ ∧ (∑ i, f i * g i) ≠ ⊤ := by
  have e : (∑ i, f i * g i) = ((∑ i, (f i).toReal * (g i).toReal : ℝ) : EReal) := by
    rw [← Cert.Softmax.coe_sum]
    refine Finset.sum_congr rfl fun i _ => ?_
    rw [EReal.coe_mul, EReal.coe_toReal (hf i).2 (hf i).1, EReal.coe_toReal (hg i).2 (hg i).1]
  rw [e]
  exact ⟨EReal.coe_ne_bot _, EReal.coe_ne_top _⟩

open Cert.FlashRefIdeal.Hand in
theorem score_real (x0 x1 : FVec Ideal S4x8x4096x192 .bf16) (x2 : FVec Ideal S4x8x4096x128 .bf16)
    (h : fn (F := Ideal) x0 x1 x2 = fun _ => 1#1) (b : Fin 4) (hd : Fin 8) (q c : Fin 4096) :
    score x0 x1 b hd q c ≠ ⊥ ∧ score x0 x1 b hd q c ≠ ⊤ :=
  sum_real _ _ (fun _ => (finite_read x0 x1 x2 h).1 _) fun _ => (finite_read x0 x1 x2 h).2 _

end Cert.Pre_finite.Hand
end
-- ==== Proof.PS.lean ====
/- The projection kept in float32: each element of its result is a row of the input times a column of the in-projection
   weights, the columns taken part by part; the exchanged halves of the rotary parts are negated before the product
   in the kernel and after it in the reference, which is the same of real numbers. -/
module

public import proofs.«01_k».proof.Proof.Gen.ProjSIdeal.Value
public import proofs.«01_k».proof.Proof.Gen.ProjSRefIdeal.Read
public import proofs.«01_k».proof.Proof.Gen.Pre_finite_weights
public import proofs.«01_k».proof.Proof.FV.Finite
public import Idealize.ShloMosaic.Lib.Pipeline.ValueKit
public import Idealize.ShloMosaic.Lib.Pointwise
public import Idealize.ShloMosaic.Lib.Claim

@[expose] public section

set_option maxRecDepth 16384

noncomputable section

namespace Cert.ProjSIdeal.Hand

open Idealize.ShloMosaic Idealize.SL.Sem Cert.ProjSIdeal Cert.ProjSIdeal.Gen
open Idealize.ShloMosaic.Pipeline (Dat)

variable (m : (ℓ : Loc nD τ sig) → Buf (Elt Ideal) ℓ) (c : Dev nD)

/-- A row of the in-projection rearranged: the sparse queries; the heads' plain parts; the heads' rotary parts, then the
    same with their halves exchanged; the compressed keys and values; the indexer's key and weights; zeros; the rotary
    key, then the same with its halves exchanged. -/
def arranged (f : Fin 8848 → EReal) (j : Fin 3840) : EReal :=
  if h : j.val < 1024 then f ⟨j.val, by omega⟩
  else if h : j.val < 2048 then f ⟨2640 + (j.val - 1024) / 128 * 192 + (j.val - 1024) % 128, by omega⟩
  else if h : j.val < 2560 then f ⟨2768 + (j.val - 2048) / 64 * 192 + (j.val - 2048) % 64, by omega⟩
  else if h : j.val < 3072 then
    if h' : (j.val - 2560) % 64 < 32 then -f ⟨2800 + (j.val - 2560) / 64 * 192 + (j.val - 2560) % 64, by omega⟩
    else f ⟨2736 + (j.val - 2560) / 64 * 192 + (j.val - 2560) % 64, by omega⟩
  else if h : j.val < 3584 then f ⟨1104 + j.val, by omega⟩
  else if h : j.val < 3648 then f ⟨j.val - 1024, by omega⟩
  else if h : j.val < 3664 then f ⟨j.val - 1024, by omega⟩
  else if h : j.val < 3712 then 0
  else if h : j.val < 3776 then f ⟨976 + j.val, by omega⟩
  else if h : j.val < 3808 then -f ⟨944 + j.val, by omega⟩
  else f ⟨880 + j.val, by have := j.isLt; omega⟩

/-- The weights so rearranged. -/
def ws (w : Vec Ideal S2048x8848 .f32) : Vec Ideal S2048x3840 .bf16 := fun i => arranged (fun d => w (ix2 (i 0) d)) (i 1)

/-- The product of a matrix of rows and a matrix of columns. -/
def prod (x : Vec Ideal S16384x2048 .bf16) (w : Vec Ideal S2048x3840 .bf16) : Vec Ideal S16384x3840 .f32 :=
  fun i => ∑ k : Fin 2048, x (ix2 (i 0) k) * w (ix2 k (i 1))

/-! ## The kernel -/

theorem idx0_0 (t : Fin cfg0.N) : win0_0.index t = ![(grid0.coords t 1).val, 0] :=
  (by decide +kernel : ∀ t : Fin grid0.N, win0_0.index t = ![(grid0.coords t 1).val, 0]) t

theorem idx0_1 (t : Fin cfg0.N) : win0_1.index t = ![0, (grid0.coords t 0).val] :=
  (by decide +kernel : ∀ t : Fin grid0.N, win0_1.index t = ![0, (grid0.coords t 0).val]) t

theorem idx0_2 (t : Fin cfg0.N) : win0_2.index t = ![(grid0.coords t 1).val, (grid0.coords t 0).val] :=
  (by decide +kernel : ∀ t : Fin grid0.N, win0_2.index t = ![(grid0.coords t 1).val, (grid0.coords t 0).val]) t

/-- A block's row and column in the result. -/
abbrev row (t : Fin cfg0.N) (a : Fin 512) : Fin 16384 :=
  ⟨(grid0.coords t 1).val * 512 + a.val, by have h : (grid0.coords t 1).val < 32 := (grid0.coords t 1).isLt; have := a.isLt; omega⟩
abbrev lane (t : Fin cfg0.N) (b : Fin 1920) : Fin 3840 :=
  ⟨(grid0.coords t 0).val * 1920 + b.val, by have h : (grid0.coords t 0).val < 2 := (grid0.coords t 0).isLt; have := b.isLt; omega⟩

theorem emb_2 (t : Fin cfg0.N) (a : Fin 512) (b : Fin 1920) :
    ((cfg0.win 2).blk t).view.emb (ix2 a b) = ix2 (row t a) (lane t b) := by
  symm
  have e := idx0_2 t
  blk_ext [e]
  all_goals rfl

theorem at_col {n : ℕ} {α : Type} (z : Shape.Idx ⟨2, ![n, 8848]⟩ → α) (r : Fin n) {a b : ℕ} {ha hb} (h : a = b) :
    z (ix2 r ⟨a, ha⟩) = z (ix2 r ⟨b, hb⟩) := by subst h; rfl

/-- The heads' queries' columns of the weights. -/
def heads (w : Vec Ideal S2048x8848 .f32) : FVec Ideal S2048x8x192 .f32 :=
  shapeCast _ (extractStridedSlice S2048x1536 ![0, 2640] w slices_S2048x8848_S2048x1536_0_2640) shapeCasts_S2048x1536_S2048x8x192
/-- Their plain parts. -/
def plain (w : Vec Ideal S2048x8848 .f32) : FVec Ideal S2048x1024 .f32 :=
  shapeCast _ (extractStridedSlice S2048x8x128 ![0, 0, 0] (heads w) slices_S2048x8x192_S2048x8x128_0_0_0) shapeCasts_S2048x8x128_S2048x1024
/-- Their rotary parts. -/
def rotary (w : Vec Ideal S2048x8848 .f32) : FVec Ideal S2048x8x64 .f32 :=
  extractStridedSlice S2048x8x64 ![0, 0, 128] (heads w) slices_S2048x8x192_S2048x8x64_0_0_128
/-- The rotary parts, halves exchanged. -/
def turned (w : Vec Ideal S2048x8848 .f32) : FVec Ideal S2048x8x64 .f32 :=
  concatenate S2048x8x64 2 [⟨S2048x8x32, Host.negf (F := Ideal) (φ := .f32) (extractStridedSlice S2048x8x32 ![0, 0, 32] (rotary w) slices_S2048x8x64_S2048x8x32_0_0_32)⟩,
    ⟨S2048x8x32, extractStridedSlice S2048x8x32 ![0, 0, 0] (rotary w) slices_S2048x8x64_S2048x8x32_0_0_0⟩] concatenates_S2048x8x32_S2048x8x32_S2048x8x64_d2
/-- The rotary key's columns. -/
def key (w : Vec Ideal S2048x8848 .f32) : FVec Ideal S2048x64 .f32 :=
  extractStridedSlice S2048x64 ![0, 4688] w slices_S2048x8848_S2048x64_0_4688
/-- The rotary key's columns, halves exchanged. -/
def turnedKey (w : Vec Ideal S2048x8848 .f32) : FVec Ideal S2048x64 .f32 :=
  concatenate S2048x64 1 [⟨S2048x32, Host.negf (F := Ideal) (φ := .f32) (extractStridedSlice S2048x32 ![0, 32] (key w) slices_S2048x64_S2048x32_0_32)⟩,
    ⟨S2048x32, extractStridedSlice S2048x32 ![0, 0] (key w) slices_S2048x64_S2048x32_0_0⟩] concatenates_S2048x32_S2048x32_S2048x64_d1

/-- The weights' parts, side by side. -/
def cat (w : Vec Ideal S2048x8848 .f32) : FVec Ideal S2048x3840 .f32 :=
  concatenate S2048x3840 1 [⟨S2048x1024, extractStridedSlice S2048x1024 ![0, 0] w slices_S2048x8848_S2048x1024_0_0⟩,
    ⟨S2048x1024, plain w⟩,
    ⟨S2048x512, shapeCast S2048x512 (rotary w) shapeCasts_S2048x8x64_S2048x512⟩,
    ⟨S2048x512, shapeCast S2048x512 (turned w) shapeCasts_S2048x8x64_S2048x512⟩,
    ⟨S2048x512, extractStridedSlice S2048x512 ![0, 4176] w slices_S2048x8848_S2048x512_0_4176⟩,
    ⟨S2048x64, extractStridedSlice S2048x64 ![0, 2560] w slices_S2048x8848_S2048x64_0_2560⟩,
    ⟨S2048x16, extractStridedSlice S2048x16 ![0, 2624] w slices_S2048x8848_S2048x16_0_2624⟩,
    ⟨S2048x48, broadcastInDim S2048x48 ![] bcast_S_S2048x48 (constant (F := Ideal) S_ .f32 0x00000000#32)⟩,
    ⟨S2048x64, key w⟩, ⟨S2048x64, turnedKey w⟩]
    concatenates_S2048x1024_S2048x1024_S2048x512_S2048x512_S2048x512_S2048x64_S2048x16_S2048x48_S2048x64_S2048x64_S2048x3840_d1

set_option maxHeartbeats 4000000 in
theorem V_cat : V m c main_v26 = (truncf .bf16 (cat (m ((c.tc : Thread nD τ).loc main_arg1))) bitsLt_bf16_f32 : FVec Ideal S2048x3840 .bf16) := by
  unfold V hostOps0
  after_results <;> rfl

theorem plain_apply (w : Vec Ideal S2048x8848 .f32) (k : Fin 2048) (j : Fin 1024) :
    plain w (ix2 k j) = w (ix2 k ⟨2640 + j.val / 128 * 192 + j.val % 128, by have := j.isLt; omega⟩) := by
  pointwise [plain, heads]
  exact at_col w k (by omega)

theorem rotary_apply (w : Vec Ideal S2048x8848 .f32) (k : Fin 2048) (h : Fin 8) (d : Fin 64) :
    rotary w (ix3 k h d) = w (ix2 k ⟨2768 + h.val * 192 + d.val, by have := h.isLt; have := d.isLt; omega⟩) := by
  pointwise [rotary, heads]
  exact at_col w k (by omega)

theorem turned_apply (w : Vec Ideal S2048x8848 .f32) (k : Fin 2048) (h : Fin 8) (d : Fin 64) :
    turned w (ix3 k h d) = if h' : d.val < 32 then -w (ix2 k ⟨2800 + h.val * 192 + d.val, by have := h.isLt; omega⟩)
      else w (ix2 k ⟨2736 + h.val * 192 + d.val, by have := h.isLt; have := d.isLt; omega⟩) := by
  pointwise [turned]
  simp only [rotary_apply]
  exact dite_congr rfl (fun _ => congrArg Neg.neg (at_col w k (by omega))) fun _ => at_col w k (by omega)

theorem cat_apply (w : Vec Ideal S2048x8848 .f32) (k : Fin 2048) (j : Fin 3840) : cat w (ix2 k j) = arranged (fun d => w (ix2 k d)) j := by
  pointwise [cat, key, turnedKey]
  simp only [plain_apply, rotary_apply, turned_apply]
  unfold arranged
  refine dite_congr rfl (fun _ => rfl) fun _ => ?_
  refine dite_congr (propext (by omega)) (fun _ => at_col w k (by omega)) fun _ => ?_
  refine dite_congr (propext (by omega)) (fun _ => at_col w k (by omega)) fun _ => ?_
  refine dite_congr (propext (by omega)) (fun _ => ?_) fun _ => ?_
  · exact dite_congr (propext (by omega)) (fun _ => congrArg Neg.neg (at_col w k (by omega))) fun _ => at_col w k (by omega)
  refine dite_congr (propext (by omega)) (fun _ => at_col w k (by omega)) fun _ => ?_
  refine dite_congr (propext (by omega)) (fun _ => at_col w k (by omega)) fun _ => ?_
  refine dite_congr (propext (by omega)) (fun _ => at_col w k (by omega)) fun _ => ?_
  refine dite_congr (propext (by omega)) (fun _ => rfl) fun _ => ?_
  refine dite_congr (propext (by omega)) (fun _ => at_col w k (by omega)) fun _ => ?_
  exact dite_congr (propext (by omega)) (fun _ => congrArg Neg.neg (at_col w k (by omega))) fun _ => at_col w k (by omega)

/-- The weights as the kernel is given them. -/
theorem V_weights : V m c main_v26 = ws (m ((c.tc : Thread nD τ).loc main_arg1)) := by
  rw [V_cat]
  funext i
  obtain ⟨k, j, rfl⟩ : ∃ (k : Fin 2048) (j : Fin 3840), i = ix2 k j := ⟨i 0, i 1, eq_ix2 (n0 := 2048) (n1 := 3840) i⟩
  exact cat_apply _ k j

theorem out_array : (dats m 0 c).arrAt 2 cfg0.N
    = prod (m ((c.tc : Thread nD τ).loc main_arg0)) (ws (m ((c.tc : Thread nD τ).loc main_arg1))) := by
  refine (dats m 0 c).arrAt_eq_of_covers 2 _ (by decide +kernel) fun t hf y => ?_
  blk_simp
  rw [after0_2]
  frame_out
  have e0 := idx0_0 t
  have e1 := idx0_1 t
  obtain ⟨a, b, rfl⟩ : ∃ (a : Fin 512) (b : Fin 1920), y = ix2 a b := ⟨y 0, y 1, eq_ix2 (n0 := 512) (n1 := 1920) y⟩
  erw [emb_2]
  rw [← V_weights]
  pointwise [k0_pay1, prod]
  blk_point [iblk, e0, e1]

/-! ## The reference -/

section Reference

open ProjSRefIdeal.Read

/-- The whole projection at an element. -/
theorem proj_apply (x : Vec Ideal S16384x2048 .bf16) (w : Vec Ideal S2048x8848 .f32) (r : Fin 16384) (d : Fin 8848) :
    val_main_v1 (F := Ideal) x w (ix2 r d) = ∑ k : Fin 2048, x (ix2 r k) * w (ix2 k d) := by
  rw [val_main_v1_apply]
  refine Finset.sum_congr rfl fun k _ => ?_
  rw [val_main_v0_apply]
  congr 2
  · exact congrArg x (eq_ix2 (n0 := 16384) (n1 := 2048) _)
  · exact eq_ix2 (n0 := 2048) (n1 := 8848) _

variable (x : Vec Ideal S16384x2048 .bf16) (w : Vec Ideal S2048x8848 .f32) (r : Fin 16384)

theorem ref_plain_apply (j : Fin 1024) : val_main_v23 (F := Ideal) x w (ix2 r j)
    = val_main_v1 (F := Ideal) x w (ix2 r ⟨2640 + j.val / 128 * 192 + j.val % 128, by have := j.isLt; omega⟩) := by
  generalize hz : val_main_v1 (F := Ideal) x w = z
  pointwise [val_main_v23, val_main_v13, val_main_v12, val_main_v8, hz]
  exact at_col z r (by omega)

theorem ref_rotary_apply (h : Fin 8) (d : Fin 64) : val_main_v14 (F := Ideal) x w (ix3 r h d)
    = val_main_v1 (F := Ideal) x w (ix2 r ⟨2768 + h.val * 192 + d.val, by have := h.isLt; have := d.isLt; omega⟩) := by
  generalize hz : val_main_v1 (F := Ideal) x w = z
  pointwise [val_main_v14, val_main_v12, val_main_v8, hz]
  exact at_col z r (by omega)

theorem ref_turned_apply (h : Fin 8) (d : Fin 64) : val_main_v18 (F := Ideal) x w (ix3 r h d)
    = if h' : d.val < 32 then -val_main_v1 (F := Ideal) x w (ix2 r ⟨2800 + h.val * 192 + d.val, by have := h.isLt; omega⟩)
      else val_main_v1 (F := Ideal) x w (ix2 r ⟨2736 + h.val * 192 + d.val, by have := h.isLt; have := d.isLt; omega⟩) := by
  pointwise [val_main_v18, val_main_v17, val_main_v16, val_main_v15]
  simp only [ref_rotary_apply]
  generalize hz : val_main_v1 (F := Ideal) x w = z
  exact dite_congr rfl (fun _ => congrArg Neg.neg (at_col z r (by omega))) fun _ => at_col z r (by omega)

set_option maxHeartbeats 4000000 in
theorem ref_apply (j : Fin 3840) : val_main_v27 (F := Ideal) x w (ix2 r j)
    = arranged (fun d => val_main_v1 (F := Ideal) x w (ix2 r d)) j := by
  pointwise [val_main_v27, val_main_v24, val_main_v25, val_main_v26, val_main_v22, val_main_v21, val_main_v20, val_main_v19,
    val_main_v10, val_main_v9, val_main_v7, val_main_v6, val_main_v2, val_main_cst]
  simp only [ref_plain_apply, ref_rotary_apply, ref_turned_apply]
  unfold arranged
  refine dite_congr rfl (fun _ => rfl) fun _ => ?_
  refine dite_congr (propext (by omega)) (fun _ => at_col (val_main_v1 (F := Ideal) x w) r (by omega)) fun _ => ?_
  refine dite_congr (propext (by omega)) (fun _ => at_col (val_main_v1 (F := Ideal) x w) r (by omega)) fun _ => ?_
  refine dite_congr (propext (by omega)) (fun _ => ?_) fun _ => ?_
  · exact dite_congr (propext (by omega)) (fun _ => congrArg Neg.neg (at_col (val_main_v1 (F := Ideal) x w) r (by omega))) fun _ => at_col (val_main_v1 (F := Ideal) x w) r (by omega)
  refine dite_congr (propext (by omega)) (fun _ => at_col (val_main_v1 (F := Ideal) x w) r (by omega)) fun _ => ?_
  refine dite_congr (propext (by omega)) (fun _ => at_col (val_main_v1 (F := Ideal) x w) r (by omega)) fun _ => ?_
  refine dite_congr (propext (by omega)) (fun _ => at_col (val_main_v1 (F := Ideal) x w) r (by omega)) fun _ => ?_
  refine dite_congr (propext (by omega)) (fun _ => rfl) fun _ => ?_
  refine dite_congr (propext (by omega)) (fun _ => at_col (val_main_v1 (F := Ideal) x w) r (by omega)) fun _ => ?_
  exact dite_congr (propext (by omega)) (fun _ => congrArg Neg.neg (at_col (val_main_v1 (F := Ideal) x w) r (by omega))) fun _ => at_col (val_main_v1 (F := Ideal) x w) r (by omega)

/-- Of real numbers, rearranging the columns of the product is the product with the columns rearranged. -/
theorem arranged_sum (a : Fin 2048 → EReal) (f : Fin 2048 → Fin 8848 → EReal)
    (h : ∀ k d, a k * f k d ≠ ⊥ ∧ a k * f k d ≠ ⊤) (j : Fin 3840) :
    arranged (fun d => ∑ k : Fin 2048, a k * f k d) j = ∑ k : Fin 2048, a k * arranged (f k) j := by
  have neg : ∀ d, -(∑ k : Fin 2048, a k * f k d) = ∑ k : Fin 2048, a k * -f k d := fun d => by
    simp only [mul_neg]
    have key : ∀ s : Finset (Fin 2048), (∑ k ∈ s, a k * f k d ≠ ⊥ ∧ ∑ k ∈ s, a k * f k d ≠ ⊤)
        ∧ -(∑ k ∈ s, a k * f k d) = ∑ k ∈ s, -(a k * f k d) := fun s => by
      induction s using Finset.cons_induction with
      | empty => simp
      | cons k s hk ih =>
        rw [Finset.sum_cons, Finset.sum_cons, ← ih.2]
        refine ⟨⟨?_, ?_⟩, ?_⟩
        · rw [Ne, EReal.add_eq_bot_iff, not_or]; exact ⟨(h k d).1, ih.1.1⟩
        · exact EReal.add_ne_top (h k d).2 ih.1.2
        · rw [EReal.neg_add (.inl (h k d).1) (.inl (h k d).2), sub_eq_add_neg]
    exact (key _).2
  have zero : (0 : EReal) = ∑ k : Fin 2048, a k * 0 := by simp only [mul_zero, Finset.sum_const_zero]
  unfold arranged
  by_cases h₁ : j.val < 1024
  · simp only [h₁, dite_true]
  by_cases h₂ : j.val < 2048
  · simp only [h₁, h₂, dite_true, dite_false]
  by_cases h₃ : j.val < 2560
  · simp only [h₁, h₂, h₃, dite_true, dite_false]
  by_cases h₄ : j.val < 3072
  · by_cases h' : (j.val - 2560) % 64 < 32
    · simp only [h₁, h₂, h₃, h₄, h', dite_true, dite_false]
      exact neg _
    · simp only [h₁, h₂, h₃, h₄, h', dite_true, dite_false]
  by_cases h₅ : j.val < 3584
  · simp only [h₁, h₂, h₃, h₄, h₅, dite_true, dite_false]
  by_cases h₆ : j.val < 3648
  · simp only [h₁, h₂, h₃, h₄, h₅, h₆, dite_true, dite_false]
  by_cases h₇ : j.val < 3664
  · simp only [h₁, h₂, h₃, h₄, h₅, h₆, h₇, dite_true, dite_false]
  by_cases h₈ : j.val < 3712
  · simp only [h₁, h₂, h₃, h₄, h₅, h₆, h₇, h₈, dite_true, dite_false]
    exact zero
  by_cases h₉ : j.val < 3776
  · simp only [h₁, h₂, h₃, h₄, h₅, h₆, h₇, h₈, h₉, dite_true, dite_false]
  by_cases h₀ : j.val < 3808
  · simp only [h₁, h₂, h₃, h₄, h₅, h₆, h₇, h₈, h₉, h₀, dite_true, dite_false]
    exact neg _
  · simp only [h₁, h₂, h₃, h₄, h₅, h₆, h₇, h₈, h₉, h₀, dite_false]

/-- The reference's result, of real inputs and weights, is the input times the weights rearranged. -/
theorem ref_prod (h : ∀ r k d, x (ix2 r k) * w (ix2 k d) ≠ (⊥ : EReal) ∧ x (ix2 r k) * w (ix2 k d) ≠ (⊤ : EReal)) :
    val_main_v27 (F := Ideal) x w = prod x (ws w) := by
  funext i
  obtain ⟨r, j, rfl⟩ : ∃ (r : Fin 16384) (j : Fin 3840), i = ix2 r j := ⟨i 0, i 1, eq_ix2 (n0 := 16384) (n1 := 3840) i⟩
  rw [ref_apply]
  simp only [proj_apply]
  exact arranged_sum (fun k => x (ix2 r k)) (fun k d => w (ix2 k d)) (h r) j

end Reference

/-! ## The precondition, read at an element -/

open Cert.Pre_finite.Hand (inf_bf16 real_of_abs_lt)

theorem inf_f32 : Ideal.ofBits .f32 0x7F800000#32 = ⊤ := by
  simp [Ideal.ofBits, Ideal.ieee]

theorem finite_read (x : FVec Ideal S16384x2048 .bf16) (w : FVec Ideal S2048x8848 .f32)
    (h : Pre_finite_weights.fn (F := Ideal) x w = fun _ => 1#1) :
    (∀ i, x i ≠ (⊥ : EReal) ∧ x i ≠ (⊤ : EReal)) ∧ ∀ i, w i ≠ (⊥ : EReal) ∧ w i ≠ (⊤ : EReal) := by
  have h0 := congrFun h ix0
  obtain ⟨ha, hb⟩ := IntOp.andi_eq_one.1 h0
  refine ⟨fun i => real_of_abs_lt _ ?_, fun i => real_of_abs_lt _ ?_⟩
  · rw [← inf_bf16]
    exact Host.reduce_andi_all _ _ _ _ _ ha i
  · rw [← inf_f32]
    exact Host.reduce_andi_all _ _ _ _ _ hb i

/-- A product of two reals is a real. -/
theorem mul_real {a b : EReal} (ha : a ≠ ⊥ ∧ a ≠ ⊤) (hb : b ≠ ⊥ ∧ b ≠ ⊤) : a * b ≠ ⊥ ∧ a * b ≠ ⊤ := by
  rw [← EReal.coe_toReal ha.2 ha.1, ← EReal.coe_toReal hb.2 hb.1, ← EReal.coe_mul]
  exact ⟨EReal.coe_ne_bot _, EReal.coe_ne_top _⟩

/-- Of arguments the precondition admits, the reference's result is the product with the rearranged weights. -/
theorem ref_prod_of_finite (x : FVec Ideal S16384x2048 .bf16) (w : FVec Ideal S2048x8848 .f32)
    (h : Pre_finite_weights.fn (F := Ideal) x w = fun _ => 1#1) :
    ProjSRefIdeal.Read.val_main_v27 (F := Ideal) x w = prod x (ws w) :=
  ref_prod x w fun _ _ _ => mul_real ((finite_read x w h).1 _) ((finite_read x w h).2 _)

end Cert.ProjSIdeal.Hand
end
-- ==== Proof.PG.lean ====
/- The gate projection: each element of its result is a row of the input times a column of the in-projection weights. -/
module

public import proofs.«01_k».proof.Proof.Gen.ProjGIdeal.Value
public import proofs.«01_k».proof.Proof.Gen.ProjGRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.ProjGIdeal.Hand

open Idealize.ShloMosaic Idealize.SL.Sem Cert.ProjGIdeal Cert.ProjGIdeal.Gen
open Idealize.ShloMosaic.Pipeline (Dat)

variable (m : (ℓ : Loc nD τ sig) → Buf (Elt Ideal) ℓ) (c : Dev nD)

/-- The gates' column of the weights. -/
abbrev col (j : Fin 4096) : Fin 8848 := ⟨4752 + j.val, by have := j.isLt; omega⟩

/-- The gates. -/
def gates (x : Vec Ideal S16384x2048 .bf16) (w : Vec Ideal S2048x8848 .f32) : Vec Ideal S16384x4096 .f32 :=
  fun i => ∑ k : Fin 2048, x (ix2 (i 0) k) * w (ix2 k (col (i 1)))

theorem idx0_0 (t : Fin cfg0.N) : win0_0.index t = ![(grid0.coords t 1).val, 0] :=
  (by decide +kernel : ∀ t : Fin grid0.N, win0_0.index t = ![(grid0.coords t 1).val, 0]) t

theorem idx0_1 (t : Fin cfg0.N) : win0_1.index t = ![0, (grid0.coords t 0).val] :=
  (by decide +kernel : ∀ t : Fin grid0.N, win0_1.index t = ![0, (grid0.coords t 0).val]) t

theorem idx0_2 (t : Fin cfg0.N) : win0_2.index t = ![(grid0.coords t 1).val, (grid0.coords t 0).val] :=
  (by decide +kernel : ∀ t : Fin grid0.N, win0_2.index t = ![(grid0.coords t 1).val, (grid0.coords t 0).val]) t

/-- A block's row and column in the result. -/
abbrev row (t : Fin cfg0.N) (a : Fin 512) : Fin 16384 :=
  ⟨(grid0.coords t 1).val * 512 + a.val, by have h : (grid0.coords t 1).val < 32 := (grid0.coords t 1).isLt; have := a.isLt; omega⟩
abbrev lane (t : Fin cfg0.N) (b : Fin 2048) : Fin 4096 :=
  ⟨(grid0.coords t 0).val * 2048 + b.val, by have h : (grid0.coords t 0).val < 2 := (grid0.coords t 0).isLt; have := b.isLt; omega⟩

theorem emb_2 (t : Fin cfg0.N) (a : Fin 512) (b : Fin 2048) :
    ((cfg0.win 2).blk t).view.emb (ix2 a b) = ix2 (row t a) (lane t b) := by
  symm
  have e := idx0_2 t
  blk_ext [e]
  all_goals rfl

theorem out_array : (dats m 0 c).arrAt 2 cfg0.N
    = gates (m ((c.tc : Thread nD τ).loc main_arg0)) (m ((c.tc : Thread nD τ).loc main_arg1)) := by
  refine (dats m 0 c).arrAt_eq_of_covers 2 _ (by decide +kernel) fun t hf y => ?_
  blk_simp
  rw [after0_2]
  frame_out
  have e0 := idx0_0 t
  have e1 := idx0_1 t
  obtain ⟨a, b, rfl⟩ : ∃ (a : Fin 512) (b : Fin 2048), y = ix2 a b := ⟨y 0, y 1, eq_ix2 (n0 := 512) (n1 := 2048) y⟩
  erw [emb_2]
  pointwise [k0_pay1, gates]
  blk_point [iblk, e0, e1]

/-- The reference's result is the gates. -/
theorem ref_gates (x : Vec Ideal S16384x2048 .bf16) (w : Vec Ideal S2048x8848 .f32) :
    ProjGRefIdeal.Read.val_main_v11 (F := Ideal) x w = gates x w := by
  funext i
  rw [ProjGRefIdeal.Read.val_main_v11_apply, ProjGRefIdeal.Read.val_main_v1_apply]
  refine Finset.sum_congr rfl fun k _ => ?_
  rw [ProjGRefIdeal.Read.val_main_v0_apply]
  congr 2
  · exact congrArg x (eq_ix2 (n0 := 16384) (n1 := 2048) _)
  · exact eq_ix2 (n0 := 2048) (n1 := 8848) _

end Cert.ProjGIdeal.Hand
end
-- ==== Proof.PM.lean ====
/- The gated merge: each element of its result is the two branches' projections, each times the sigmoid of its gate, added. -/
module

public import proofs.«01_k».proof.Proof.Gen.MergeIdeal.Value
public import proofs.«01_k».proof.Proof.Gen.MergeRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.MergeIdeal.Hand

open Idealize.ShloMosaic Idealize.SL.Sem Cert.MergeIdeal Cert.MergeIdeal.Gen
open Idealize.ShloMosaic.Pipeline (Dat)

variable (m : (ℓ : Loc nD τ sig) → Buf (Elt Ideal) ℓ) (c : Dev nD)

/-- A branch's column among the gates: the second branch's gates follow the first's. -/
abbrev first (j : Fin 2048) : Fin 4096 := ⟨j.val, by have := j.isLt; omega⟩
abbrev second (j : Fin 2048) : Fin 4096 := ⟨2048 + j.val, by have := j.isLt; omega⟩

/-- The merged branches. -/
def merged (x y : Vec Ideal S16384x1024 .bf16) (u v : Vec Ideal S1024x2048 .f32) (g : Vec Ideal S16384x4096 .f32) :
    Vec Ideal S16384x2048 .bf16 := fun i =>
  (FloatOps.logistic (F := Ideal) (φ := .f32) (g (ix2 (i 0) (first (i 1)))) * (∑ k : Fin 1024, x (ix2 (i 0) k) * u (ix2 k (i 1)))
    + FloatOps.logistic (F := Ideal) (φ := .f32) (g (ix2 (i 0) (second (i 1)))) * (∑ k : Fin 1024, y (ix2 (i 0) k) * v (ix2 k (i 1))) : EReal)

/-! ## The kernel -/

theorem idx0_0 (t : Fin cfg0.N) : win0_0.index t = ![(grid0.coords t 1).val, 0] :=
  (by decide +kernel : ∀ t : Fin grid0.N, win0_0.index t = ![(grid0.coords t 1).val, 0]) t

theorem idx0_1 (t : Fin cfg0.N) : win0_1.index t = ![(grid0.coords t 1).val, 0] :=
  (by decide +kernel : ∀ t : Fin grid0.N, win0_1.index t = ![(grid0.coords t 1).val, 0]) t

theorem idx0_2 (t : Fin cfg0.N) : win0_2.index t = ![0, (grid0.coords t 0).val] :=
  (by decide +kernel : ∀ t : Fin grid0.N, win0_2.index t = ![0, (grid0.coords t 0).val]) t

theorem idx0_3 (t : Fin cfg0.N) : win0_3.index t = ![0, (grid0.coords t 0).val] :=
  (by decide +kernel : ∀ t : Fin grid0.N, win0_3.index t = ![0, (grid0.coords t 0).val]) t

theorem idx0_4 (t : Fin cfg0.N) : win0_4.index t = ![(grid0.coords t 1).val, (grid0.coords t 0).val] :=
  (by decide +kernel : ∀ t : Fin grid0.N, win0_4.index t = ![(grid0.coords t 1).val, (grid0.coords t 0).val]) t

theorem idx0_5 (t : Fin cfg0.N) : win0_5.index t = ![(grid0.coords t 1).val, (grid0.coords t 0).val + 2] :=
  (by decide +kernel : ∀ t : Fin grid0.N, win0_5.index t = ![(grid0.coords t 1).val, (grid0.coords t 0).val + 2]) t

theorem idx0_6 (t : Fin cfg0.N) : win0_6.index t = ![(grid0.coords t 1).val, (grid0.coords t 0).val] :=
  (by decide +kernel : ∀ t : Fin grid0.N, win0_6.index t = ![(grid0.coords t 1).val, (grid0.coords t 0).val]) t

/-- A block's row and column in the result. -/
abbrev row (t : Fin cfg0.N) (a : Fin 512) : Fin 16384 :=
  ⟨(grid0.coords t 1).val * 512 + a.val, by have h : (grid0.coords t 1).val < 32 := (grid0.coords t 1).isLt; have := a.isLt; omega⟩
abbrev lane (t : Fin cfg0.N) (b : Fin 1024) : Fin 2048 :=
  ⟨(grid0.coords t 0).val * 1024 + b.val, by have h : (grid0.coords t 0).val < 2 := (grid0.coords t 0).isLt; have := b.isLt; omega⟩

theorem emb_6 (t : Fin cfg0.N) (a : Fin 512) (b : Fin 1024) :
    ((cfg0.win 6).blk t).view.emb (ix2 a b) = ix2 (row t a) (lane t b) := by
  symm
  have e := idx0_6 t
  blk_ext [e]
  all_goals rfl

theorem out_array : (dats m 0 c).arrAt 6 cfg0.N
    = merged (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)) := by
  refine (dats m 0 c).arrAt_eq_of_covers 6 _ (by decide +kernel) fun t hf y => ?_
  blk_simp
  rw [after0_6]
  frame_out
  have e0 := idx0_0 t
  have e1 := idx0_1 t
  have e2 := idx0_2 t
  have e3 := idx0_3 t
  have e4 := idx0_4 t
  have e5 := idx0_5 t
  obtain ⟨a, b, rfl⟩ : ∃ (a : Fin 512) (b : Fin 1024), y = ix2 a b := ⟨y 0, y 1, eq_ix2 (n0 := 512) (n1 := 1024) y⟩
  erw [emb_6]
  pointwise [k0_pay1, merged]
  blk_point [iblk, e0, e1, e2, e3, e4, e5]

/-! ## The reference -/

open MergeRefIdeal.Read in
theorem gate_first (g : Vec Ideal S16384x4096 .f32) (r : Fin 16384) (d : Fin 2048) :
    val_main_v7 (F := Ideal) g (ix2 r d) = FloatOps.logistic (F := Ideal) (φ := .f32) (g (ix2 r (first d))) := by
  pointwise [val_main_v7, val_main_v6, val_main_v5, val_main_v4, val_main_v3, val_main_v2, val_main_v0, val_main_cst, val_main_cst_0]
  rfl

open MergeRefIdeal.Read in
theorem gate_second (g : Vec Ideal S16384x4096 .f32) (r : Fin 16384) (d : Fin 2048) :
    val_main_v16 (F := Ideal) g (ix2 r d) = FloatOps.logistic (F := Ideal) (φ := .f32) (g (ix2 r (second d))) := by
  pointwise [val_main_v16, val_main_v15, val_main_v14, val_main_v13, val_main_v12, val_main_v11, val_main_v1, val_main_cst_1, val_main_cst_2]
  rfl

open MergeRefIdeal.Read in
/-- The reference's result is the merged branches. -/
theorem ref_merged (x y : Vec Ideal S16384x1024 .bf16) (u v : Vec Ideal S1024x2048 .f32) (g : Vec Ideal S16384x4096 .f32) :
    val_main_v21 (F := Ideal) x y u v g = merged x y u v g := by
  funext i
  obtain ⟨r, d, rfl⟩ : ∃ (r : Fin 16384) (d : Fin 2048), i = ix2 r d := ⟨i 0, i 1, eq_ix2 (n0 := 16384) (n1 := 2048) i⟩
  have el : ∀ k, lidx_main_v9 (ix2 r d) k = ix2 r k := fun k => eq_ix2 (n0 := 16384) (n1 := 1024) _
  have er : ∀ k, ridx_main_v9 (ix2 r d) k = ix2 k d := fun k => eq_ix2 (n0 := 1024) (n1 := 2048) _
  have fl : ∀ k, lidx_main_v18 (ix2 r d) k = ix2 r k := fun k => eq_ix2 (n0 := 16384) (n1 := 1024) _
  have fr : ∀ k, ridx_main_v18 (ix2 r d) k = ix2 k d := fun k => eq_ix2 (n0 := 1024) (n1 := 2048) _
  simp only [val_main_v21_apply, val_main_v20_apply, val_main_v19_apply, val_main_v18_apply, val_main_v10_apply, val_main_v9_apply,
    gate_first, gate_second, el, er, fl, fr]
  rfl

end Cert.MergeIdeal.Hand
end
-- ==== Proof.OI.lean ====
/-
  The out-projection program runs: at every grid point the body finds its blocks and leaves the normalised tile, and the same
  tile once more as sixteen groups of rows of 128 channels, interleaved; every execution ends, leaves the arguments as they
  were, every counter at zero, and the output arrays as the tiles written back.
-/
module

public import proofs.«01_k».proof.Proof.Gen.OutProjIdeal.Frame
public import proofs.«01_k».proof.Proof.Gen.OutProjIdeal.Skeleton
public import Idealize.ShloMosaic.Lib.Pipeline.ValueKit
public import Idealize.ShloMosaic.Lib.Pipeline.ReadBack
public import Idealize.ShloMosaic.Lib.WholeRead
public import Idealize.ShloMosaic.Lib.Writes
public import Idealize.ShloMosaic.Lib.Tactic
public import Idealize.ShloMosaic.Lib.Exec
public import Idealize.ShloMosaic.Lib.Claim

@[expose] public section

noncomputable section

namespace Cert.OutProjIdeal.Hand

open Cert.OutProjIdeal Cert.OutProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

abbrev 𝒱₀ : Variants := Variants.none

/-- A tile of 512 rows of 2048 channels as 8192 rows of 128: row `16 r + s` holds channels `128 s … 128 s + 127` of row `r`. -/
def slabTile (v : FVec F S512x2048 .f32) : FVec F S8192x128 .f32 :=
  fun y => v (ix2 ⟨(y 0).val / 16, by have : (y 0).val < 8192 := (y 0).isLt; omega⟩
    ⟨(y 0).val % 16 * 128 + (y 1).val, by have : (y 1).val < 128 := (y 1).isLt; omega⟩)

/-- The sixteen groups of rows as they are stored, last first. -/
def slabPieces (w : FVec F S512x2048 .f32) : List (View.Piece (Elt F) S8192x128 .f32) :=
  [⟨⟨(⟨![15, 0], S512x128.size, ![16, 1], inb_S8192x128_S512x128_15_0_s_16_1⟩ : LoadRect S8192x128), spos_16_1⟩, k0_pay3 w⟩,
   ⟨⟨(⟨![14, 0], S512x128.size, ![16, 1], inb_S8192x128_S512x128_14_0_s_16_1⟩ : LoadRect S8192x128), spos_16_1⟩, k0_pay2 w⟩,
   ⟨⟨(⟨![13, 0], S512x128.size, ![16, 1], inb_S8192x128_S512x128_13_0_s_16_1⟩ : LoadRect S8192x128), spos_16_1⟩, k0_pay1 w⟩,
   ⟨⟨(⟨![12, 0], S512x128.size, ![16, 1], inb_S8192x128_S512x128_12_0_s_16_1⟩ : LoadRect S8192x128), spos_16_1⟩, k0_pay17 w⟩,
   ⟨⟨(⟨![11, 0], S512x128.size, ![16, 1], inb_S8192x128_S512x128_11_0_s_16_1⟩ : LoadRect S8192x128), spos_16_1⟩, k0_pay16 w⟩,
   ⟨⟨(⟨![10, 0], S512x128.size, ![16, 1], inb_S8192x128_S512x128_10_0_s_16_1⟩ : LoadRect S8192x128), spos_16_1⟩, k0_pay15 w⟩,
   ⟨⟨(⟨![9, 0], S512x128.size, ![16, 1], inb_S8192x128_S512x128_9_0_s_16_1⟩ : LoadRect S8192x128), spos_16_1⟩, k0_pay14 w⟩,
   ⟨⟨(⟨![8, 0], S512x128.size, ![16, 1], inb_S8192x128_S512x128_8_0_s_16_1⟩ : LoadRect S8192x128), spos_16_1⟩, k0_pay13 w⟩,
   ⟨⟨(⟨![7, 0], S512x128.size, ![16, 1], inb_S8192x128_S512x128_7_0_s_16_1⟩ : LoadRect S8192x128), spos_16_1⟩, k0_pay12 w⟩,
   ⟨⟨(⟨![6, 0], S512x128.size, ![16, 1], inb_S8192x128_S512x128_6_0_s_16_1⟩ : LoadRect S8192x128), spos_16_1⟩, k0_pay11 w⟩,
   ⟨⟨(⟨![5, 0], S512x128.size, ![16, 1], inb_S8192x128_S512x128_5_0_s_16_1⟩ : LoadRect S8192x128), spos_16_1⟩, k0_pay10 w⟩,
   ⟨⟨(⟨![4, 0], S512x128.size, ![16, 1], inb_S8192x128_S512x128_4_0_s_16_1⟩ : LoadRect S8192x128), spos_16_1⟩, k0_pay9 w⟩,
   ⟨⟨(⟨![3, 0], S512x128.size, ![16, 1], inb_S8192x128_S512x128_3_0_s_16_1⟩ : LoadRect S8192x128), spos_16_1⟩, k0_pay8 w⟩,
   ⟨⟨(⟨![2, 0], S512x128.size, ![16, 1], inb_S8192x128_S512x128_2_0_s_16_1⟩ : LoadRect S8192x128), spos_16_1⟩, k0_pay7 w⟩,
   ⟨⟨(⟨![1, 0], S512x128.size, ![16, 1], inb_S8192x128_S512x128_1_0_s_16_1⟩ : LoadRect S8192x128), spos_16_1⟩, k0_pay6 w⟩,
   ⟨⟨(⟨![0, 0], S512x128.size, ![16, 1], inb_S8192x128_S512x128_0_0_s_16_1⟩ : LoadRect S8192x128), spos_16_1⟩, extractStridedSlice S512x128 ![0, 0] w slices_S512x2048_o0_0_S512x128⟩]

/-- A slice of 128 channels from channel `o = 128 s` on, put at rows `s`, `s + 16`, …, is the part of `slabTile` there. -/
theorem part_eq (w : FVec F S512x2048 .f32) (s o : ℕ) (hs : s < 16) (ho : o = s * 128) (h : S512x2048.Slices ![0, o] S512x128)
    (inb : ∀ a, S512x128.size a = 0 ∨ (![s, 0] : Fin 2 → ℕ) a + (![16, 1] : Fin 2 → ℕ) a * (S512x128.size a - 1) < S8192x128.size a)
    (x : S512x128.Idx) :
    extractStridedSlice S512x128 ![0, o] w h x
      = slabTile w ((⟨(⟨![s, 0], S512x128.size, ![16, 1], inb⟩ : LoadRect S8192x128), spos_16_1⟩ : Rect S8192x128).emb x) := by
  subst ho
  unfold extractStridedSlice slabTile
  have h0 : (x 0).val < 512 := (x 0).isLt
  have h1 : (x 1).val < 128 := (x 1).isLt
  congr 1
  funext a
  match a with
  | ⟨0, _⟩ => apply Fin.ext; show 0 + (x 0).val = (s + 16 * (x 0).val) / 16; omega
  | ⟨1, _⟩ => apply Fin.ext; show s * 128 + (x 1).val = (s + 16 * (x 0).val) % 16 * 128 + (0 + 1 * (x 1).val); omega

theorem slab_read {κ : Kind} {sp : Space} (v : View sig κ sp S8192x128 .f32) (f : v.ty.Contents (Elt F))
    {L : List (View.Piece (Elt F) S8192x128 .f32)} {w X : FVec F S512x2048 .f32} (hL : L = slabPieces w) (hw : w = X) :
    v.read (Elt F) (v.writes (Elt F) f L) = slabTile X := by
  subst hL hw
  funext y
  refine View.read_writes_apply_of_pieces v f (slabTile w) _ (fun p hp x => ?_) y ?_
  · unfold slabPieces at hp
    simp only [List.mem_cons, List.not_mem_nil, _root_.or_false] at hp
    rcases hp with rfl | rfl | rfl | rfl | rfl | rfl | rfl | rfl | rfl | rfl | rfl | rfl | rfl | rfl | rfl | rfl
    · exact part_eq w 15 1920 (by omega) rfl slices_S512x2048_o0_1920_S512x128 inb_S8192x128_S512x128_15_0_s_16_1 x
    · exact part_eq w 14 1792 (by omega) rfl slices_S512x2048_o0_1792_S512x128 inb_S8192x128_S512x128_14_0_s_16_1 x
    · exact part_eq w 13 1664 (by omega) rfl slices_S512x2048_o0_1664_S512x128 inb_S8192x128_S512x128_13_0_s_16_1 x
    · exact part_eq w 12 1536 (by omega) rfl slices_S512x2048_o0_1536_S512x128 inb_S8192x128_S512x128_12_0_s_16_1 x
    · exact part_eq w 11 1408 (by omega) rfl slices_S512x2048_o0_1408_S512x128 inb_S8192x128_S512x128_11_0_s_16_1 x
    · exact part_eq w 10 1280 (by omega) rfl slices_S512x2048_o0_1280_S512x128 inb_S8192x128_S512x128_10_0_s_16_1 x
    · exact part_eq w 9 1152 (by omega) rfl slices_S512x2048_o0_1152_S512x128 inb_S8192x128_S512x128_9_0_s_16_1 x
    · exact part_eq w 8 1024 (by omega) rfl slices_S512x2048_o0_1024_S512x128 inb_S8192x128_S512x128_8_0_s_16_1 x
    · exact part_eq w 7 896 (by omega) rfl slices_S512x2048_o0_896_S512x128 inb_S8192x128_S512x128_7_0_s_16_1 x
    · exact part_eq w 6 768 (by omega) rfl slices_S512x2048_o0_768_S512x128 inb_S8192x128_S512x128_6_0_s_16_1 x
    · exact part_eq w 5 640 (by omega) rfl slices_S512x2048_o0_640_S512x128 inb_S8192x128_S512x128_5_0_s_16_1 x
    · exact part_eq w 4 512 (by omega) rfl slices_S512x2048_o0_512_S512x128 inb_S8192x128_S512x128_4_0_s_16_1 x
    · exact part_eq w 3 384 (by omega) rfl slices_S512x2048_o0_384_S512x128 inb_S8192x128_S512x128_3_0_s_16_1 x
    · exact part_eq w 2 256 (by omega) rfl slices_S512x2048_o0_256_S512x128 inb_S8192x128_S512x128_2_0_s_16_1 x
    · exact part_eq w 1 128 (by omega) rfl slices_S512x2048_o0_128_S512x128 inb_S8192x128_S512x128_1_0_s_16_1 x
    · exact part_eq w 0 0 (by omega) rfl slices_S512x2048_o0_0_S512x128 inb_S8192x128_S512x128_0_0_s_16_1 x
  · have h0 : (y 0).val < 8192 := (y 0).isLt
    have h1 : (y 1).val < 128 := (y 1).isLt
    have hm : ∀ s : ℕ, (y 0).val % 16 = s → ∀ inb, y ∈ (⟨(⟨![s, 0], S512x128.size, ![16, 1], inb⟩ : LoadRect S8192x128), spos_16_1⟩ : Rect S8192x128).set := by
      intro s hs inb
      refine (LoadRect.mem_set _).mpr fun a => ?_
      match a with
      | ⟨0, _⟩ => exact ⟨(y 0).val / 16, by show _ < 512; omega, by show (y 0).val = s + 16 * _; omega⟩
      | ⟨1, _⟩ => exact ⟨(y 1).val, h1, by show (y 1).val = 0 + 1 * _; omega⟩
    unfold slabPieces
    have hlt : (y 0).val % 16 < 16 := Nat.mod_lt _ (by omega)
    generalize (y 0).val % 16 = q at hm hlt
    interval_cases q
    · exact ⟨_, .tail _ <| .tail _ <| .tail _ <| .tail _ <| .tail _ <| .tail _ <| .tail _ <| .tail _ <| .tail _ <| .tail _ <| .tail _ <| .tail _ <| .tail _ <| .tail _ <| .tail _ <| .head _, hm 0 rfl inb_S8192x128_S512x128_0_0_s_16_1⟩
    · exact ⟨_, .tail _ <| .tail _ <| .tail _ <| .tail _ <| .tail _ <| .tail _ <| .tail _ <| .tail _ <| .tail _ <| .tail _ <| .tail _ <| .tail _ <| .tail _ <| .tail _ <| .head _, hm 1 rfl inb_S8192x128_S512x128_1_0_s_16_1⟩
    · exact ⟨_, .tail _ <| .tail _ <| .tail _ <| .tail _ <| .tail _ <| .tail _ <| .tail _ <| .tail _ <| .tail _ <| .tail _ <| .tail _ <| .tail _ <| .tail _ <| .head _, hm 2 rfl inb_S8192x128_S512x128_2_0_s_16_1⟩
    · exact ⟨_, .tail _ <| .tail _ <| .tail _ <| .tail _ <| .tail _ <| .tail _ <| .tail _ <| .tail _ <| .tail _ <| .tail _ <| .tail _ <| .tail _ <| .head _, hm 3 rfl inb_S8192x128_S512x128_3_0_s_16_1⟩
    · exact ⟨_, .tail _ <| .tail _ <| .tail _ <| .tail _ <| .tail _ <| .tail _ <| .tail _ <| .tail _ <| .tail _ <| .tail _ <| .tail _ <| .head _, hm 4 rfl inb_S8192x128_S512x128_4_0_s_16_1⟩
    · exact ⟨_, .tail _ <| .tail _ <| .tail _ <| .tail _ <| .tail _ <| .tail _ <| .tail _ <| .tail _ <| .tail _ <| .tail _ <| .head _, hm 5 rfl inb_S8192x128_S512x128_5_0_s_16_1⟩
    · exact ⟨_, .tail _ <| .tail _ <| .tail _ <| .tail _ <| .tail _ <| .tail _ <| .tail _ <| .tail _ <| .tail _ <| .head _, hm 6 rfl inb_S8192x128_S512x128_6_0_s_16_1⟩
    · exact ⟨_, .tail _ <| .tail _ <| .tail _ <| .tail _ <| .tail _ <| .tail _ <| .tail _ <| .tail _ <| .head _, hm 7 rfl inb_S8192x128_S512x128_7_0_s_16_1⟩
    · exact ⟨_, .tail _ <| .tail _ <| .tail _ <| .tail _ <| .tail _ <| .tail _ <| .tail _ <| .head _, hm 8 rfl inb_S8192x128_S512x128_8_0_s_16_1⟩
    · exact ⟨_, .tail _ <| .tail _ <| .tail _ <| .tail _ <| .tail _ <| .tail _ <| .head _, hm 9 rfl inb_S8192x128_S512x128_9_0_s_16_1⟩
    · exact ⟨_, .tail _ <| .tail _ <| .tail _ <| .tail _ <| .tail _ <| .head _, hm 10 rfl inb_S8192x128_S512x128_10_0_s_16_1⟩
    · exact ⟨_, .tail _ <| .tail _ <| .tail _ <| .tail _ <| .head _, hm 11 rfl inb_S8192x128_S512x128_11_0_s_16_1⟩
    · exact ⟨_, .tail _ <| .tail _ <| .tail _ <| .head _, hm 12 rfl inb_S8192x128_S512x128_12_0_s_16_1⟩
    · exact ⟨_, .tail _ <| .tail _ <| .head _, hm 13 rfl inb_S8192x128_S512x128_13_0_s_16_1⟩
    · exact ⟨_, .tail _ <| .head _, hm 14 rfl inb_S8192x128_S512x128_14_0_s_16_1⟩
    · exact ⟨_, .head _, hm 15 rfl inb_S8192x128_S512x128_15_0_s_16_1⟩

/-- A buffer last stored whole reads as that store's payload. -/
theorem read_last {κ : Kind} {sp : Space} {S : Shape} {e : EltTy} (v : View sig κ sp S e) {L tail : List (View.Piece (Elt F) S e)} {off : Fin S.rank → ℕ}
    {inb : ∀ a, off a + S.size a ≤ S.size a} {w X : S.Idx → Elt F e} (hL : L = ⟨Rect.unit off S.size inb, w⟩ :: tail) (h : ∀ a, off a = 0) (hw : w = X) :
    v.read (Elt F) (v.writes (Elt F) v.junk L) = X := by
  subst hL
  rw [View.read_writes_junk_eq_canon, View.canon_cons_unit_lit inb w tail h, hw]

/-- Reading a whole buffer gives what it holds. -/
theorem rd {S : Shape} {e : EltTy} (mm : Memref sig .tc .vmem S e) (h : mm.IsWhole) (x : Vec F S e) (off : Fin S.rank → ℕ)
    (h0 : ∀ a, off a = 0) (inb : ∀ a, off a + S.size a ≤ S.size a) :
    mm.view.readAt (Elt F) (Rect.unit off S.size inb).toLoadRect (h.unread x) = x := by
  rw [View.readAt_eq_ld, h.read_unread, View.ld_unit_lit _ _ h0]

theorem tile_eq (arg1 : Memref sig .tc .vmem S512x2048 .bf16) (harg1 : arg1.IsWhole) (arg2 : Memref sig .tc .vmem S2048x2048 .bf16) (harg2 : arg2.IsWhole) (arg3 : Memref sig .tc .vmem S512x2048 .f32) (harg3 : arg3.IsWhole) (arg4 : Memref sig .tc .vmem S1x2048 .f32) (harg4 : arg4.IsWhole) (arg5 : Memref sig .tc .vmem S1x2048 .f32) (harg5 : arg5.IsWhole)
    (x1 : Vec F S512x2048 .bf16) (x2 : Vec F S2048x2048 .bf16) (x3 : Vec F S512x2048 .f32) (x4 x5 : Vec F S1x2048 .f32) :
    k0_pay4 (View.readAt (Elt F) arg3.view (Rect.unit ![0, 0] S512x2048.size inb_S512x2048_S512x2048_0_0).toLoadRect (harg3.unread x3)) (View.readAt (Elt F) arg1.view (Rect.unit ![0, 0] S512x2048.size inb_S512x2048_S512x2048_0_0).toLoadRect (harg1.unread x1)) (View.readAt (Elt F) arg2.view (Rect.unit ![0, 0] S2048x2048.size inb_S2048x2048_S2048x2048_0_0).toLoadRect (harg2.unread x2)) (View.readAt (Elt F) arg4.view (Rect.unit ![0, 0] S1x2048.size inb_S1x2048_S1x2048_0_0).toLoadRect (harg4.unread x4)) (View.readAt (Elt F) arg5.view (Rect.unit ![0, 0] S1x2048.size inb_S1x2048_S1x2048_0_0).toLoadRect (harg5.unread x5))
      = k0_pay4 x3 x1 x2 x4 x5 := by
  rw [rd arg3 harg3 x3 _ (by decide), rd arg1 harg1 x1 _ (by decide), rd arg2 harg2 x2 _ (by decide), rd arg4 harg4 x4 _ (by decide), rd arg5 harg5 x5 _ (by decide)]

set_option maxRecDepth 8192 in
set_option maxHeartbeats 4000000 in
theorem body_run (c : Dev nD) (i : grid0.Coords) (arg1 : Memref sig .tc .vmem S512x2048 .bf16) (harg1 : arg1.IsWhole) (arg2 : Memref sig .tc .vmem S2048x2048 .bf16) (harg2 : arg2.IsWhole) (arg3 : Memref sig .tc .vmem S512x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S512x2048 .f32) (harg6 : arg6.IsWhole) (arg7 : Memref sig .tc .vmem S8192x128 .f32) (harg7 : arg7.IsWhole)
    (x1 : Vec F S512x2048 .bf16) (x2 : Vec F S2048x2048 .bf16) (x3 : Vec F S512x2048 .f32) (x4 x5 : Vec F S1x2048 .f32) (K : PUnit → sProp 𝕄) :
    (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
        ∗ (∃ d, owns (c : Thread nD τ) arg6 fullShare d) ∗ (∃ d, owns (c : Thread nD τ) arg7 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
            ∗ owns (c : Thread nD τ) arg6 fullShare (k0_pay4 x3 x1 x2 x4 x5) ∗ owns (c : Thread nD τ) arg7 fullShare (slabTile (k0_pay4 x3 x1 x2 x4 x5))) -∗ K ⟨⟩)) : sProp 𝕄)
      ⊢ wp frame (wpE (defs₀ (F := F)) 𝒱₀ (c : Thread nD τ) none) Set.univ (cc0_proj_ln (F := F) i arg1 harg1 arg2 harg2 arg3 harg3 arg4 harg4 arg5 harg5 arg6 harg6 arg7 harg7) K := by
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  obtain rfl := harg1.eq_unread hf1; obtain rfl := harg2.eq_unread hf2; obtain rfl := harg3.eq_unread hf3
  obtain rfl := harg4.eq_unread hf4; obtain rfl := harg5.eq_unread hf5
  sl_unfold [cc0_proj_ln]
  sl_exec!
  sl_step
  iapply Hk
  isplitl [H1]
  · iexists _; isplitr; swap; · iexact H1
    ipureintro; exact hf1
  isplitl [H2]
  · iexists _; isplitr; swap; · iexact H2
    ipureintro; exact hf2
  isplitl [H3]
  · iexists _; isplitr; swap; · iexact H3
    ipureintro; exact hf3
  isplitl [H4]
  · iexists _; isplitr; swap; · iexact H4
    ipureintro; exact hf4
  isplitl [H5]
  · iexists _; isplitr; swap; · iexact H5
    ipureintro; exact hf5
  isplitl [H6]
  · iexists _; isplitr; swap; · iexact H6
    ipureintro
    exact read_last _ rfl (by decide) (tile_eq arg1 harg1 arg2 harg2 arg3 harg3 arg4 harg4 arg5 harg5 x1 x2 x3 x4 x5)
  iexists _; isplitr; swap; · iexact H7
  ipureintro
  exact slab_read _ _ rfl (tile_eq arg1 harg1 arg2 harg2 arg3 harg3 arg4 harg4 arg5 harg5 x1 x2 x3 x4 x5)

variable (m : (ℓ : Loc nD τ sig) → Buf (Elt F) ℓ) (ρ : Dev nD → PrngReg)

/-- The tile the body leaves at a grid point, from the blocks it finds there. -/
def tileAt (c : Dev nD) (t : Fin cfg0.N) : Vec F S512x2048 .f32 :=
  k0_pay4 (iblk m c 2 t) (iblk m c 0 t) (iblk m c 1 t) (iblk m c 3 t) (iblk m c 4 t)

/-- The arrays as the region finds them; after the body each input's buffer at its block and the outputs' at the tile and
    at its interleaved form; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => tileAt m c t
    | ⟨6, _⟩ => slabTile (tileAt m c t)
  Φ _ := Pipeline.ΦA spec0 c
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = tileAt m c t := by dsimp only [dats]
theorem after0_6 (c : Dev nD) (t : Fin cfg0.N) : (dats m 0 c).after 6 t = slabTile (tileAt m c t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- Each grid point's body: the blocks found, the two tiles left. -/
theorem body_obligation (c : Dev nD) : BodyObligation (dats (F := F) m 0 c) (defs₀ (F := F)) 𝒱₀ () Set.univ := fun t => by
  rw [bigSep_W0, bigSep_W0]
  sl_whnfR [defs₀, Defs.onTc]
  simp only [before0_0, before0_1, before0_2, before0_3, before0_4]
  rw [show (dats m 0 c).Φ t.succ = (dats m 0 c).Φ t.castSucc from rfl,
    show (dats m 0 c).owesAt () t.succ = (dats m 0 c).owesAt () t.castSucc from rfl, after0_0, after0_1, after0_2, after0_3, after0_4, after0_5, after0_6]
  unfold tileAt
  iintro ⟨HP, Ho, ⟨%d0, H0⟩, ⟨%d1, H1⟩, ⟨%d2, H2⟩, ⟨%d3, H3⟩, ⟨%d4, H4⟩, ⟨%d5, H5⟩, ⟨%d6, H6⟩⟩
  iapply (body_run c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6))
    (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HP]; · iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

set_option backward.isDefEq.respectTransparency.types false in
/-- Every execution ends with every array of the pipeline at what the tiles written back make of it, and every counter at zero. -/
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m 𝒱₀) (hA := fun _ _ => rfl) (hΦ := fun _ _ => rfl)

/-- The frame: the arguments as they were and every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_with_sems (frame_of m ρ (dats m) fun _ _ => rfl) (run_main m ρ)

end Cert.OutProjIdeal.Hand
end
-- ==== Proof.PO.lean ====
/- The out-projection: each element of the first result is the normalised sum of the input, scaled, and the merged branches
   times a column of the weights; the second result is the first, sixteen rows of 128 channels a token. -/
module

public import proofs.«01_k».proof.Proof.OI
public import proofs.«01_k».proof.Proof.Gen.OutProjRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.OutProjIdeal.Hand

open Idealize.ShloMosaic Idealize.SL.Sem Cert.OutProjIdeal Cert.OutProjIdeal.Gen
open Idealize.ShloMosaic.Pipeline (Dat)

variable (m : (ℓ : Loc nD τ sig) → Buf (Elt Ideal) ℓ) (c : Dev nD)

/-- A row of the sum that is normalised, channel by channel: the input, scaled, and the merged branches projected. -/
def summed (x : Vec Ideal S16384x2048 .f32) (o : Vec Ideal S16384x2048 .bf16) (w : Vec Ideal S2048x2048 .bf16) (r : Fin 16384) (d : Fin 2048) : EReal :=
  Ideal.ofBits .f32 0x3F9837F0#32 * x (ix2 r d) + ∑ k : Fin 2048, o (ix2 r k) * w (ix2 k d)

/-- A row's mean. -/
def mean (z : Fin 2048 → EReal) : EReal := Ideal.div (∑ k, z k) (Ideal.ofBits .f32 0x45000000#32)

/-- A row normalised: its distance from the mean over the root of the variance, times a gain, plus a shift. -/
def normed (z : Fin 2048 → EReal) (g b : EReal) (d : Fin 2048) : EReal :=
  (z d - mean z) * Ideal.rsqrt (mean (fun k => (z k - mean z) * (z k - mean z)) + Ideal.ofBits .f32 0x3727C5AC#32) * g + b

/-- The input, a token a row. -/
def rows (x : Vec Ideal S4x4096x2048 .f32) : Vec Ideal S16384x2048 .f32 := OutProjRefIdeal.Read.val_main_v0 (F := Ideal) x

/-- The first result. -/
def hidden (x : Vec Ideal S16384x2048 .f32) (o : Vec Ideal S16384x2048 .bf16) (w : Vec Ideal S2048x2048 .bf16) (g b : Vec Ideal S2048 .f32) :
    Vec Ideal S16384x2048 .f32 := fun i => normed (summed x o w (i 0)) (g (ix1 (i 1))) (b (ix1 (i 1))) (i 1)

/-- The second result: sixteen rows a token. -/
def slabs (h : Vec Ideal S16384x2048 .f32) : Vec Ideal S262144x128 .f32 := fun i =>
  h (ix2 ⟨(i 0).val / 16, by have : (i 0).val < 262144 := (i 0).isLt; omega⟩
    ⟨(i 0).val % 16 * 128 + (i 1).val, by have : (i 1).val < 128 := (i 1).isLt; omega⟩)

/-! ## The kernel -/

theorem tile_apply (x : Vec Ideal S512x2048 .f32) (o : Vec Ideal S512x2048 .bf16) (w : Vec Ideal S2048x2048 .bf16) (g b : Vec Ideal S1x2048 .f32)
    (r : Fin 512) (d : Fin 2048) : k0_pay4 x o w g b (ix2 r d)
      = normed (fun e => Ideal.ofBits .f32 0x3F9837F0#32 * x (ix2 r e) + ∑ k : Fin 2048, o (ix2 r k) * w (ix2 k e)) (g (ix2 0 d)) (b (ix2 0 d)) d := by
  pointwise [k0_pay4]
  rfl

theorem idx0_0 (t : Fin cfg0.N) : win0_0.index t = ![(grid0.coords t 0).val, 0] :=
  (by decide +kernel : ∀ t : Fin grid0.N, win0_0.index t = ![(grid0.coords t 0).val, 0]) t

theorem idx0_1 (t : Fin cfg0.N) : win0_1.index t = ![0, 0] :=
  (by decide +kernel : ∀ t : Fin grid0.N, win0_1.index t = ![0, 0]) t

theorem idx0_2 (t : Fin cfg0.N) : win0_2.index t = ![(grid0.coords t 0).val, 0] :=
  (by decide +kernel : ∀ t : Fin grid0.N, win0_2.index t = ![(grid0.coords t 0).val, 0]) t

theorem idx0_3 (t : Fin cfg0.N) : win0_3.index t = ![0, 0] :=
  (by decide +kernel : ∀ t : Fin grid0.N, win0_3.index t = ![0, 0]) t

theorem idx0_4 (t : Fin cfg0.N) : win0_4.index t = ![0, 0] :=
  (by decide +kernel : ∀ t : Fin grid0.N, win0_4.index t = ![0, 0]) t

theorem idx0_5 (t : Fin cfg0.N) : win0_5.index t = ![(grid0.coords t 0).val, 0] :=
  (by decide +kernel : ∀ t : Fin grid0.N, win0_5.index t = ![(grid0.coords t 0).val, 0]) t

theorem idx0_6 (t : Fin cfg0.N) : win0_6.index t = ![(grid0.coords t 0).val, 0] :=
  (by decide +kernel : ∀ t : Fin grid0.N, win0_6.index t = ![(grid0.coords t 0).val, 0]) t

/-- A block's row in the results. -/
abbrev row (t : Fin cfg0.N) (a : Fin 512) : Fin 16384 :=
  ⟨(grid0.coords t 0).val * 512 + a.val, by have h : (grid0.coords t 0).val < 32 := (grid0.coords t 0).isLt; have := a.isLt; omega⟩
abbrev slabRow (t : Fin cfg0.N) (a : Fin 8192) : Fin 262144 :=
  ⟨(grid0.coords t 0).val * 8192 + a.val, by have h : (grid0.coords t 0).val < 32 := (grid0.coords t 0).isLt; have := a.isLt; omega⟩

theorem emb_5 (t : Fin cfg0.N) (a : Fin 512) (b : Fin 2048) : ((cfg0.win 5).blk t).view.emb (ix2 a b) = ix2 (row t a) b := by
  symm
  have e := idx0_5 t
  blk_ext [e]
  all_goals rfl

theorem emb_6 (t : Fin cfg0.N) (a : Fin 8192) (b : Fin 128) : ((cfg0.win 6).blk t).view.emb (ix2 a b) = ix2 (slabRow t a) b := by
  symm
  have e := idx0_6 t
  blk_ext [e]
  all_goals rfl

theorem V_w : V m c main_v0 = (m ((c.tc : Thread nD τ).loc main_arg1) : Vec Ideal S2048x2048 .bf16) := by
  unfold V hostOps0
  after_results <;> rfl

theorem V_rows : V m c main_v1 = rows (m ((c.tc : Thread nD τ).loc main_arg2)) := by
  unfold V hostOps0
  after_results <;> rfl

theorem V_g : V m c main_v2 = shapeCast S1x2048 (m ((c.tc : Thread nD τ).loc main_arg3) : Vec Ideal S2048 .f32) shapeCasts_S2048_S1x2048 := by
  unfold V hostOps0
  after_results <;> rfl

theorem V_b : V m c main_v3 = shapeCast S1x2048 (m ((c.tc : Thread nD τ).loc main_arg4) : Vec Ideal S2048 .f32) shapeCasts_S2048_S1x2048 := by
  unfold V hostOps0
  after_results <;> rfl

theorem cast_apply (g : Vec Ideal S2048 .f32) (d : Fin 2048) : shapeCast S1x2048 g shapeCasts_S2048_S1x2048 (ix2 0 d) = g (ix1 d) := by
  pointwise []

/-- The first result, of this program's arguments. -/
abbrev out (m : (ℓ : Loc nD τ sig) → Buf (Elt Ideal) ℓ) (c : Dev nD) : Vec Ideal S16384x2048 .f32 :=
  hidden (rows (m ((c.tc : Thread nD τ).loc main_arg2))) (m ((c.tc : Thread nD τ).loc main_arg0)) (m ((c.tc : Thread nD τ).loc main_arg1))
    (m ((c.tc : Thread nD τ).loc main_arg3)) (m ((c.tc : Thread nD τ).loc main_arg4))

/-- A block's tile is the block of the result. -/
theorem tileAt_apply (t : Fin cfg0.N) (a : Fin 512) (b : Fin 2048) : tileAt m c t (ix2 a b) = out m c (ix2 (row t a) b) := by
  have e0 := idx0_0 t
  have e1 := idx0_1 t
  have e2 := idx0_2 t
  have e3 := idx0_3 t
  have e4 := idx0_4 t
  unfold tileAt
  rw [tile_apply]
  unfold out hidden
  have hx : ∀ e : Fin 2048, iblk m c 2 t (ix2 a e) = rows (m ((c.tc : Thread nD τ).loc main_arg2)) (ix2 (row t a) e) := by
    intro e
    rw [← V_rows]
    blk_point [iblk, e2]
  have ho : ∀ e : Fin 2048, iblk m c 0 t (ix2 a e) = (m ((c.tc : Thread nD τ).loc main_arg0) : Vec Ideal S16384x2048 .bf16) (ix2 (row t a) e) := by
    intro e
    rw [← V_main_arg0 m c]
    blk_point [iblk, e0]
  have hw : ∀ k e : Fin 2048, iblk m c 1 t (ix2 k e) = (m ((c.tc : Thread nD τ).loc main_arg1) : Vec Ideal S2048x2048 .bf16) (ix2 k e) := by
    intro k e
    rw [← V_w m c]
    blk_point [iblk, e1]
  have hg : iblk m c 3 t (ix2 0 b) = (m ((c.tc : Thread nD τ).loc main_arg3) : Vec Ideal S2048 .f32) (ix1 b) := by
    rw [← cast_apply (m ((c.tc : Thread nD τ).loc main_arg3)) b, ← V_g m c]
    blk_point [iblk, e3]
  have hb : iblk m c 4 t (ix2 0 b) = (m ((c.tc : Thread nD τ).loc main_arg4) : Vec Ideal S2048 .f32) (ix1 b) := by
    rw [← cast_apply (m ((c.tc : Thread nD τ).loc main_arg4)) b, ← V_b m c]
    blk_point [iblk, e4]
  simp only [hx, ho, hw, hg, hb]
  rfl

theorem out_array : (dats m 0 c).arrAt 5 cfg0.N = out m c := by
  refine (dats m 0 c).arrAt_eq_of_covers 5 _ (by decide +kernel) fun t hf y => ?_
  blk_simp
  rw [after0_5]
  obtain ⟨a, b, rfl⟩ : ∃ (a : Fin 512) (b : Fin 2048), y = ix2 a b := ⟨y 0, y 1, eq_ix2 (n0 := 512) (n1 := 2048) y⟩
  erw [emb_5]
  exact tileAt_apply m c t a b

theorem slab_array : (dats m 0 c).arrAt 6 cfg0.N = slabs (out m c) := by
  refine (dats m 0 c).arrAt_eq_of_covers 6 _ (by decide +kernel) fun t hf y => ?_
  blk_simp
  rw [after0_6]
  obtain ⟨a, b, rfl⟩ : ∃ (a : Fin 8192) (b : Fin 128), y = ix2 a b := ⟨y 0, y 1, eq_ix2 (n0 := 8192) (n1 := 128) y⟩
  erw [emb_6]
  refine (tileAt_apply m c t _ _).trans (congrArg (out m c) (funext fun i => Fin.ext ?_))
  have ha := a.isLt
  match i with
  | ⟨0, _⟩ => show (grid0.coords t 0).val * 512 + a.val / 16 = ((grid0.coords t 0).val * 8192 + a.val) / 16; omega
  | ⟨1, _⟩ => show a.val % 16 * 128 + b.val = ((grid0.coords t 0).val * 8192 + a.val) % 16 * 128 + b.val; omega

/-! ## The reference -/

open OutProjRefIdeal.Read in
theorem ref_hidden (o : Vec Ideal S16384x2048 .bf16) (w : Vec Ideal S2048x2048 .f32) (x : Vec Ideal S4x4096x2048 .f32) (g b : Vec Ideal S2048 .f32) :
    val_main_v29 (F := Ideal) o w x g b = hidden (rows x) o w g b := by
  funext i
  obtain ⟨r, d, rfl⟩ : ∃ (r : Fin 16384) (d : Fin 2048), i = ix2 r d := ⟨i 0, i 1, eq_ix2 (n0 := 16384) (n1 := 2048) i⟩
  unfold rows
  generalize hz : val_main_v0 (F := Ideal) x = z
  pointwise [val_main_v29, val_main_v28, val_main_v27, val_main_v26, val_main_v25, val_main_v24, val_main_v23, val_main_v22, val_main_v21, val_main_v20, val_main_v19,
    val_main_v18, val_main_v17, val_main_v16, val_main_v15, val_main_v14, val_main_v13, val_main_v12, val_main_v11, val_main_v10, val_main_v9, val_main_v8, val_main_v7,
    val_main_v6, val_main_v5, val_main_v4, val_main_v3, val_main_v2, val_main_v1, val_main_cst, val_main_cst_0, val_main_cst_1, val_main_cst_2, val_main_cst_3, val_main_cst_4, hz]
  rfl

open OutProjRefIdeal.Read in
theorem ref_slabs (o : Vec Ideal S16384x2048 .bf16) (w : Vec Ideal S2048x2048 .f32) (x : Vec Ideal S4x4096x2048 .f32) (g b : Vec Ideal S2048 .f32) :
    val_main_v30 (F := Ideal) o w x g b = slabs (hidden (rows x) o w g b) := by
  funext i
  rw [val_main_v30_apply, ref_hidden]
  obtain ⟨r, d, rfl⟩ : ∃ (r : Fin 262144) (d : Fin 128), i = ix2 r d := ⟨i 0, i 1, eq_ix2 (n0 := 262144) (n1 := 128) i⟩
  refine congrArg (hidden (rows x) o w g b) (funext fun a => Fin.ext ?_)
  have hr := r.isLt
  have hd := d.isLt
  match a with
  | ⟨0, _⟩ => show (r.val * 128 + d.val) / 2048 = r.val / 16; omega
  | ⟨1, _⟩ => show (r.val * 128 + d.val) % 2048 = r.val % 16 * 128 + d.val; omega

end Cert.OutProjIdeal.Hand
end
-- ==== Proof.PK.lean ====
/- The latent attention's keys and values: the compressed columns normalised by their root mean square and projected, a
   head's first 128 channels the keys', its last 128 the values; beside each key the token's rotary key, turned. -/
module

public import proofs.«01_k».proof.Proof.Gen.LatKVIdeal.Value
public import proofs.«01_k».proof.Proof.Gen.LatKVRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.LatKVIdeal.Hand

open Idealize.ShloMosaic Idealize.SL.Sem Cert.LatKVIdeal Cert.LatKVIdeal.Gen
open Idealize.ShloMosaic.Pipeline (Dat)

variable (m : (ℓ : Loc nD τ sig) → Buf (Elt Ideal) ℓ) (c : Dev nD)

/-- A token's compressed key, normalised by its root mean square and scaled. -/
def compressed (z : Vec Ideal S16384x3840 .f32) (g : Vec Ideal S512 .f32) (n : Fin 16384) (k : Fin 512) : EReal :=
  z (ix2 n ⟨3072 + k.val, by omega⟩) * Ideal.rsqrt (Ideal.div (∑ j : Fin 512, z (ix2 n ⟨3072 + j.val, by omega⟩) * z (ix2 n ⟨3072 + j.val, by omega⟩))
    (Ideal.ofBits .f32 0x44000000#32) + Ideal.ofBits .f32 0x358637BD#32) * g (ix1 k)

/-- Its projection to a head's 256 channels. -/
def projected (z : Vec Ideal S16384x3840 .f32) (g : Vec Ideal S512 .f32) (w : Vec Ideal S512x8x256 .f32) (n : Fin 16384) (h : Fin 8) (e : Fin 256) : EReal :=
  ∑ k : Fin 512, compressed z g n k * w (ix3 k h e)

/-- The cosines of a position's angles, twice over. -/
def cosines : Vec Ideal S4096x64 .f32 :=
  concatenate S4096x64 1 [⟨S4096x32, LatKVRefIdeal.Read.val_main_v34 (F := Ideal)⟩, ⟨S4096x32, LatKVRefIdeal.Read.val_main_v34 (F := Ideal)⟩] concatenates_S4096x32_S4096x32_S4096x64_d1

/-- The sines of a position's angles, twice over. -/
def sines : Vec Ideal S4096x64 .f32 :=
  concatenate S4096x64 1 [⟨S4096x32, LatKVRefIdeal.Read.val_main_v36 (F := Ideal)⟩, ⟨S4096x32, LatKVRefIdeal.Read.val_main_v36 (F := Ideal)⟩] concatenates_S4096x32_S4096x32_S4096x64_d1

/-- A token's rotary key, turned by its position's angles. -/
def turned (z : Vec Ideal S16384x3840 .f32) (n : Fin 16384) (s : Fin 4096) (d : Fin 64) : EReal :=
  z (ix2 n ⟨3712 + d.val, by omega⟩) * cosines (ix2 s d) + z (ix2 n ⟨3776 + d.val, by omega⟩) * sines (ix2 s d)

/-- The token at a position of a sequence. -/
abbrev token (b : Fin 4) (s : Fin 4096) : Fin 16384 := ⟨b.val * 4096 + s.val, by omega⟩

/-- The keys, heads first. -/
def keys (z : Vec Ideal S16384x3840 .f32) (g : Vec Ideal S512 .f32) (w : Vec Ideal S512x8x256 .f32) : Vec Ideal S4x8x4096x192 .bf16 := fun i =>
  if h : (i 3).val < 128 then projected z g w (token (i 0) (i 2)) (i 1) ⟨(i 3).val, by omega⟩
  else turned z (token (i 0) (i 2)) (i 2) ⟨(i 3).val - 128, by have : (i 3).val < 192 := (i 3).isLt; omega⟩

/-- The values, heads first. -/
def values (z : Vec Ideal S16384x3840 .f32) (g : Vec Ideal S512 .f32) (w : Vec Ideal S512x8x256 .f32) : Vec Ideal S4x8x4096x128 .bf16 := fun i =>
  projected z g w (token (i 0) (i 2)) (i 1) ⟨128 + (i 3).val, by have : (i 3).val < 128 := (i 3).isLt; omega⟩

/-! ## The kernel's block -/

theorem up_apply (x : Vec Ideal S512x512 .f32) (g : Vec Ideal S1x512 .f32) (w : Vec Ideal S512x2048 .bf16) (r : Fin 512) (d : Fin 2048) :
    k0_pay5 x g w (ix2 r d) = ∑ k : Fin 512, x (ix2 r k) * Ideal.rsqrt (Ideal.div (∑ j : Fin 512, x (ix2 r j) * x (ix2 r j))
      (Ideal.ofBits .f32 0x44000000#32) + Ideal.ofBits .f32 0x358637BD#32) * g (ix2 0 k) * w (ix2 k d) := by
  pointwise [k0_pay5]

theorem turn_apply (x : Vec Ideal S512x128 .f32) (a b : Vec Ideal S512x64 .f32) (r : Fin 512) (d : Fin 64) :
    k0_pay6 x a b (ix2 r d) = x (ix2 r ⟨d.val, by omega⟩) * a (ix2 r d) + x (ix2 r ⟨64 + d.val, by omega⟩) * b (ix2 r d) := by
  pointwise [k0_pay6]

/-- A block of the keys: 128 projected columns a head, and 64 rotated ones beside them. -/
def keysTile (u : FVec Ideal S512x2048 .f32) (p : FVec Ideal S512x64 .bf16) : Vec Ideal S1x8x512x192 .bf16 := fun y =>
  if h : (y 3).val < 128 then u (ix2 (y 2) ⟨(y 1).val * 128 + (y 3).val, by have : (y 1).val < 8 := (y 1).isLt; omega⟩)
  else p (ix2 (y 2) ⟨(y 3).val - 128, by have : (y 3).val < 192 := (y 3).isLt; omega⟩)

/-- A block of the values: the projection's last 1024 columns, 128 a head. -/
def valuesTile (u : FVec Ideal S512x2048 .f32) : Vec Ideal S1x8x512x128 .bf16 := fun y =>
  u (ix2 (y 2) ⟨1024 + (y 1).val * 128 + (y 3).val, by
    have : (y 1).val < 8 := (y 1).isLt; have : (y 3).val < 128 := (y 3).isLt; omega⟩)

theorem part_apply (u : FVec Ideal S512x2048 .f32) (o : Nat) (hs : S512x2048.Slices ![0, o] S512x128) (hb : FTy.bits .bf16 < FTy.bits .f32)
    (hc : S512x128.ShapeCasts S1x1x512x128) (x : S1x1x512x128.Idx) (r : Fin 512) (k : Fin 2048) (h0 : r.val = (x 2).val)
    (h1 : k.val = o + (x 3).val) :
    shapeCast S1x1x512x128 (truncf .bf16 (extractStridedSlice S512x128 ![0, o] u hs) hb) hc x = u (ix2 r k) := by
  obtain ⟨a, b, r', d, rfl⟩ : ∃ a b r' d, x = ix4 a b r' d := ⟨_, _, _, _, eq_ix4 (n0 := 1) (n1 := 1) (n2 := 512) (n3 := 128) x⟩
  obtain rfl : r = r' := Fin.ext h0
  rw [show k = ⟨o + d.val, h1 ▸ k.isLt⟩ from Fin.ext h1]
  pointwise []

theorem rope_part (u : FVec Ideal S512x2048 .f32) (p : FVec Ideal S512x64 .bf16) (hc : S512x64.ShapeCasts S1x1x512x64) (x : S1x1x512x64.Idx)
    (y : S1x8x512x192.Idx) (h2 : (y 2).val = (x 2).val) (h3 : (y 3).val = 128 + (x 3).val) :
    shapeCast S1x1x512x64 p hc x = keysTile u p y := by
  unfold keysTile
  rw [dif_neg (by omega)]
  obtain ⟨a, b, r, d, rfl⟩ : ∃ a b r' d, x = ix4 a b r' d := ⟨_, _, _, _, eq_ix4 (n0 := 1) (n1 := 1) (n2 := 512) (n3 := 64) x⟩
  have e2 : y 2 = r := Fin.ext h2
  have e3 : (⟨(y 3).val - 128, by have : (y 3).val < 192 := (y 3).isLt; omega⟩ : Fin 64) = d :=
    Fin.ext (by have h3' : (y 3).val = 128 + d.val := h3; change (y 3).val - 128 = d.val; omega)
  rw [e2, e3]
  pointwise []

theorem key_part (u : FVec Ideal S512x2048 .f32) (p : FVec Ideal S512x64 .bf16) (o : Nat) (hs : S512x2048.Slices ![0, o] S512x128)
    (hb : FTy.bits .bf16 < FTy.bits .f32) (hc : S512x128.ShapeCasts S1x1x512x128) (x : S1x1x512x128.Idx) (y : S1x8x512x192.Idx)
    (h1 : o = (y 1).val * 128) (h2 : (y 2).val = (x 2).val) (h3 : (y 3).val = (x 3).val) :
    shapeCast S1x1x512x128 (truncf .bf16 (extractStridedSlice S512x128 ![0, o] u hs) hb) hc x = keysTile u p y := by
  have hx : (x 3).val < 128 := (x 3).isLt
  unfold keysTile
  rw [dif_pos (by omega)]
  exact part_apply u o hs hb hc x _ _ h2 (by subst h1; change (y 1).val * 128 + (y 3).val = _; omega)

theorem value_part (u : FVec Ideal S512x2048 .f32) (o : Nat) (hs : S512x2048.Slices ![0, o] S512x128)
    (hb : FTy.bits .bf16 < FTy.bits .f32) (hc : S512x128.ShapeCasts S1x1x512x128) (x : S1x1x512x128.Idx) (y : S1x8x512x128.Idx)
    (h1 : o = 1024 + (y 1).val * 128) (h2 : (y 2).val = (x 2).val) (h3 : (y 3).val = (x 3).val) :
    shapeCast S1x1x512x128 (truncf .bf16 (extractStridedSlice S512x128 ![0, o] u hs) hb) hc x = valuesTile u y :=
  part_apply u o hs hb hc x _ _ h2 (by subst h1; change 1024 + (y 1).val * 128 + (y 3).val = _; omega)

theorem keys_block (t : Fin cfg0.N) (y : S1x8x512x192.Idx) : (outsAt0 m c t).1 y
    = keysTile (k0_pay5 (X0_0 m c t) (iblk m c 2 t) (iblk m c 3 t)) (k0_pay6 (iblk m c 1 t) (iblk m c 4 t) (iblk m c 5 t)) y := by
  unfold outsAt0; dsimp only
  rw [out0_A_6, View.read_writes_junk_apply_eq_canon]
  unfold kernelRun0_A; dsimp only
  simp only [kernelRun0_A.sl.r, kernelRun0_A.sl.r_1, kernelRun0_A.sl.r_2]
  canon_tiles x h using cover0_A_6 c (grid0.coords t) _ (hs0_0 t) _ (hs0_1 t) _ (hs0_2 t) _ (hs0_3 t) _ (hs0_4 t) _ (hs0_5 t) _ (hs0_6 t) _ (hs0_7 t) _ _ _ _ _ _ y
  all_goals open_payloads
  all_goals simp only [Memref.IsWhole.read_unread]
  all_goals first
    | exact key_part _ _ _ _ _ _ x y (by omega) h2 h3
    | exact rope_part _ _ _ x y h2 h3

theorem values_block (t : Fin cfg0.N) (y : S1x8x512x128.Idx) : (outsAt0 m c t).2 y
    = valuesTile (k0_pay5 (X0_0 m c t) (iblk m c 2 t) (iblk m c 3 t)) y := by
  unfold outsAt0; dsimp only
  rw [out0_A_7, View.read_writes_junk_apply_eq_canon]
  unfold kernelRun0_A; dsimp only
  simp only [kernelRun0_A.sl.r, kernelRun0_A.sl.r_3, kernelRun0_A.sl.r_4]
  canon_tiles x h using cover0_A_7 c (grid0.coords t) _ (hs0_0 t) _ (hs0_1 t) _ (hs0_2 t) _ (hs0_3 t) _ (hs0_4 t) _ (hs0_5 t) _ (hs0_6 t) _ (hs0_7 t) _ (iblk m c 1 t) _ _ (iblk m c 4 t) (iblk m c 5 t) y
  all_goals open_payloads
  all_goals simp only [Memref.IsWhole.read_unread]
  all_goals exact value_part _ _ _ _ _ x y (by omega) h2 h3

/-! ## Its input blocks -/

/-- The projection's weights, the keys' columns of every head before the values'. -/
def weights (w : Vec Ideal S512x8x256 .f32) : Vec Ideal S512x2048 .bf16 :=
  truncf .bf16 (concatenate S512x2048 1
    [⟨S512x1024, shapeCast S512x1024 (extractStridedSlice S512x8x128 ![0, 0, 0] w slices_S512x8x256_S512x8x128_0_0_0) shapeCasts_S512x8x128_S512x1024⟩,
      ⟨S512x1024, shapeCast S512x1024 (extractStridedSlice S512x8x128 ![0, 0, 128] w slices_S512x8x256_S512x8x128_0_0_128) shapeCasts_S512x8x128_S512x1024⟩]
    concatenates_S512x1024_S512x1024_S512x2048_d1 : FVec Ideal S512x2048 .f32) bitsLt_bf16_f32

theorem V_weights : V m c main_v21 = weights (m ((c.tc : Thread nD τ).loc main_arg2)) := by
  unfold V hostOps0
  after_results <;> rfl

theorem V_gain : V m c main_v22 = shapeCast S1x512 (m ((c.tc : Thread nD τ).loc main_arg1) : Vec Ideal S512 .f32) shapeCasts_S512_S1x512 := by
  unfold V hostOps0
  after_results <;> rfl

theorem V_cos : V m c main_v14 = cosines := by
  unfold V hostOps0
  after_results <;> rfl

theorem V_sin : V m c main_v15 = sines := by
  unfold V hostOps0
  after_results <;> rfl

theorem weights_key (w : Vec Ideal S512x8x256 .f32) (k : Fin 512) (h : Fin 8) (d : Fin 128) :
    weights w (ix2 k ⟨h.val * 128 + d.val, by omega⟩) = w (ix3 k h ⟨d.val, by omega⟩) := by
  pointwise [weights]
  rw [dif_pos (by omega)]

theorem weights_value (w : Vec Ideal S512x8x256 .f32) (k : Fin 512) (h : Fin 8) (d : Fin 128) :
    weights w (ix2 k ⟨1024 + h.val * 128 + d.val, by omega⟩) = w (ix3 k h ⟨128 + d.val, by omega⟩) := by
  pointwise [weights]
  rw [dif_neg (by omega)]
  congr 2
  · exact Fin.ext (by change (1024 + h.val * 128 + d.val - 1024) / 128 = h.val; omega)
  · exact Fin.ext (by change 128 + (1024 + h.val * 128 + d.val - 1024) % 128 = 128 + d.val; omega)

theorem gain_apply (g : Vec Ideal S512 .f32) (d : Fin 512) : shapeCast S1x512 g shapeCasts_S512_S1x512 (ix2 0 d) = g (ix1 d) := by
  pointwise []

theorem idx0_0 (t : Fin cfg0.N) : win0_0.index t = ![(grid0.coords t 0).val, 6] :=
  (by decide +kernel : ∀ t : Fin grid0.N, win0_0.index t = ![(grid0.coords t 0).val, 6]) t

theorem idx0_1 (t : Fin cfg0.N) : win0_1.index t = ![(grid0.coords t 0).val, 29] :=
  (by decide +kernel : ∀ t : Fin grid0.N, win0_1.index t = ![(grid0.coords t 0).val, 29]) t

theorem idx0_2 (t : Fin cfg0.N) : win0_2.index t = ![0, 0] :=
  (by decide +kernel : ∀ t : Fin grid0.N, win0_2.index t = ![0, 0]) t

theorem idx0_3 (t : Fin cfg0.N) : win0_3.index t = ![0, 0] :=
  (by decide +kernel : ∀ t : Fin grid0.N, win0_3.index t = ![0, 0]) t

theorem idx0_4 (t : Fin cfg0.N) : win0_4.index t = ![(grid0.coords t 0).val % 8, 0] :=
  (by decide +kernel : ∀ t : Fin grid0.N, win0_4.index t = ![(grid0.coords t 0).val % 8, 0]) t

theorem idx0_5 (t : Fin cfg0.N) : win0_5.index t = ![(grid0.coords t 0).val % 8, 0] :=
  (by decide +kernel : ∀ t : Fin grid0.N, win0_5.index t = ![(grid0.coords t 0).val % 8, 0]) t

theorem idx0_6 (t : Fin cfg0.N) : win0_6.index t = ![(grid0.coords t 0).val / 8, 0, (grid0.coords t 0).val % 8, 0] :=
  (by decide +kernel : ∀ t : Fin grid0.N, win0_6.index t = ![(grid0.coords t 0).val / 8, 0, (grid0.coords t 0).val % 8, 0]) t

theorem idx0_7 (t : Fin cfg0.N) : win0_7.index t = ![(grid0.coords t 0).val / 8, 0, (grid0.coords t 0).val % 8, 0] :=
  (by decide +kernel : ∀ t : Fin grid0.N, win0_7.index t = ![(grid0.coords t 0).val / 8, 0, (grid0.coords t 0).val % 8, 0]) t

/-- A block's rows: of the tokens, and of its sequence. -/
abbrev row (t : Fin cfg0.N) (r : Fin 512) : Fin 16384 :=
  ⟨(grid0.coords t 0).val * 512 + r.val, by have h : (grid0.coords t 0).val < 32 := (grid0.coords t 0).isLt; omega⟩
abbrev pos (t : Fin cfg0.N) (r : Fin 512) : Fin 4096 :=
  ⟨(grid0.coords t 0).val % 8 * 512 + r.val, by omega⟩
abbrev batch (t : Fin cfg0.N) : Fin 4 :=
  ⟨(grid0.coords t 0).val / 8, by have h : (grid0.coords t 0).val < 32 := (grid0.coords t 0).isLt; omega⟩

theorem emb_6 (t : Fin cfg0.N) (a : Fin 1) (h : Fin 8) (r : Fin 512) (d : Fin 192) :
    ((cfg0.win 6).blk t).view.emb (ix4 a h r d) = ix4 (batch t) h (pos t r) d := by
  obtain rfl : a = 0 := Subsingleton.elim _ _
  symm
  have e := idx0_6 t
  blk_ext [e]
  all_goals rfl

theorem emb_7 (t : Fin cfg0.N) (a : Fin 1) (h : Fin 8) (r : Fin 512) (d : Fin 128) :
    ((cfg0.win 7).blk t).view.emb (ix4 a h r d) = ix4 (batch t) h (pos t r) d := by
  obtain rfl : a = 0 := Subsingleton.elim _ _
  symm
  have e := idx0_7 t
  blk_ext [e]
  all_goals rfl

theorem compressed_block (t : Fin cfg0.N) (r k : Fin 512) :
    X0_0 m c t (ix2 r k) = (m ((c.tc : Thread nD τ).loc main_arg0) : Vec Ideal S16384x3840 .f32) (ix2 (row t r) ⟨3072 + k.val, by omega⟩) := by
  have e := idx0_0 t
  unfold X0_0 Pipeline.Window.fill
  rw [dif_pos (moved0_0 t (ix2 r k)), ← V_main_arg0 m c]
  blk_point [iblk, e]

theorem rotary_block (t : Fin cfg0.N) (r : Fin 512) (k : Fin 128) :
    iblk m c 1 t (ix2 r k) = (m ((c.tc : Thread nD τ).loc main_arg0) : Vec Ideal S16384x3840 .f32) (ix2 (row t r) ⟨3712 + k.val, by omega⟩) := by
  have e := idx0_1 t
  rw [← V_main_arg0 m c]
  blk_point [iblk, e]

theorem gain_block (t : Fin cfg0.N) (k : Fin 512) :
    iblk m c 2 t (ix2 0 k) = (m ((c.tc : Thread nD τ).loc main_arg1) : Vec Ideal S512 .f32) (ix1 k) := by
  have e := idx0_2 t
  rw [← gain_apply (m ((c.tc : Thread nD τ).loc main_arg1)) k, ← V_gain m c]
  blk_point [iblk, e]

theorem weights_block (t : Fin cfg0.N) (k : Fin 512) (d : Fin 2048) :
    iblk m c 3 t (ix2 k d) = weights (m ((c.tc : Thread nD τ).loc main_arg2)) (ix2 k d) := by
  have e := idx0_3 t
  rw [← V_weights m c]
  blk_point [iblk, e]

theorem cos_block (t : Fin cfg0.N) (r : Fin 512) (d : Fin 64) : iblk m c 4 t (ix2 r d) = cosines (ix2 (pos t r) d) := by
  have e := idx0_4 t
  rw [← V_cos m c]
  blk_point [iblk, e]

theorem sin_block (t : Fin cfg0.N) (r : Fin 512) (d : Fin 64) : iblk m c 5 t (ix2 r d) = sines (ix2 (pos t r) d) := by
  have e := idx0_5 t
  rw [← V_sin m c]
  blk_point [iblk, e]

/-! ## Its results -/

theorem token_eq (t : Fin cfg0.N) (r : Fin 512) : row t r = token (batch t) (pos t r) :=
  Fin.ext (by change (grid0.coords t 0).val * 512 + r.val = (grid0.coords t 0).val / 8 * 4096 + ((grid0.coords t 0).val % 8 * 512 + r.val); omega)

theorem up_block (t : Fin cfg0.N) (r : Fin 512) (d : Fin 2048) (h : Fin 8) (e : Fin 256)
    (hw : ∀ k, weights (m ((c.tc : Thread nD τ).loc main_arg2)) (ix2 k d) = (m ((c.tc : Thread nD τ).loc main_arg2) : Vec Ideal S512x8x256 .f32) (ix3 k h e)) :
    k0_pay5 (X0_0 m c t) (iblk m c 2 t) (iblk m c 3 t) (ix2 r d)
      = projected (m ((c.tc : Thread nD τ).loc main_arg0)) (m ((c.tc : Thread nD τ).loc main_arg1)) (m ((c.tc : Thread nD τ).loc main_arg2))
          (token (batch t) (pos t r)) h e := by
  rw [up_apply, ← token_eq]
  simp only [compressed_block, gain_block, weights_block, hw]
  rfl

theorem turn_block (t : Fin cfg0.N) (r : Fin 512) (d : Fin 64) :
    k0_pay6 (iblk m c 1 t) (iblk m c 4 t) (iblk m c 5 t) (ix2 r d)
      = turned (m ((c.tc : Thread nD τ).loc main_arg0)) (token (batch t) (pos t r)) (pos t r) d := by
  rw [turn_apply, ← token_eq]
  simp only [rotary_block, cos_block, sin_block]
  unfold turned
  congr 4
  exact Fin.ext (by change 3712 + (64 + d.val) = 3776 + d.val; omega)

theorem keys_array : (dats m 0 c).arrAt 6 cfg0.N
    = keys (m ((c.tc : Thread nD τ).loc main_arg0)) (m ((c.tc : Thread nD τ).loc main_arg1)) (m ((c.tc : Thread nD τ).loc main_arg2)) := by
  refine (dats m 0 c).arrAt_eq_of_covers 6 _ (by decide +kernel) fun t hf y => ?_
  blk_simp
  rw [after0_6]
  obtain ⟨a, h, r, d, rfl⟩ : ∃ (a : Fin 1) (h : Fin 8) (r : Fin 512) (d : Fin 192), y = ix4 a h r d :=
    ⟨_, _, _, _, eq_ix4 (n0 := 1) (n1 := 8) (n2 := 512) (n3 := 192) y⟩
  erw [emb_6]
  refine (keys_block m c t _).trans ?_
  unfold keysTile keys
  exact dite_congr rfl (fun hd => up_block m c t r _ h _ fun k => weights_key _ k h ⟨d.val, hd⟩) fun hd => turn_block m c t r _

theorem values_array : (dats m 0 c).arrAt 7 cfg0.N
    = values (m ((c.tc : Thread nD τ).loc main_arg0)) (m ((c.tc : Thread nD τ).loc main_arg1)) (m ((c.tc : Thread nD τ).loc main_arg2)) := by
  refine (dats m 0 c).arrAt_eq_of_covers 7 _ (by decide +kernel) fun t hf y => ?_
  blk_simp
  rw [after0_7]
  obtain ⟨a, h, r, d, rfl⟩ : ∃ (a : Fin 1) (h : Fin 8) (r : Fin 512) (d : Fin 128), y = ix4 a h r d :=
    ⟨_, _, _, _, eq_ix4 (n0 := 1) (n1 := 8) (n2 := 512) (n3 := 128) y⟩
  erw [emb_7]
  refine (values_block m c t _).trans ?_
  exact up_block m c t r _ h _ fun k => weights_value _ k h d

/-! ## The reference -/

theorem cosines_apply (s : Fin 4096) (d : Fin 64) : cosines (ix2 s d) = if h : d.val < 32 then LatKVRefIdeal.Read.val_main_v34 (F := Ideal) (ix2 s ⟨d.val, h⟩)
    else LatKVRefIdeal.Read.val_main_v34 (F := Ideal) (ix2 s ⟨d.val - 32, by omega⟩) := by
  pointwise [cosines]

theorem sines_apply (s : Fin 4096) (d : Fin 64) : sines (ix2 s d) = if h : d.val < 32 then LatKVRefIdeal.Read.val_main_v36 (F := Ideal) (ix2 s ⟨d.val, h⟩)
    else LatKVRefIdeal.Read.val_main_v36 (F := Ideal) (ix2 s ⟨d.val - 32, by omega⟩) := by
  pointwise [sines]

open LatKVRefIdeal.Read in
theorem ref_projected (z : Vec Ideal S16384x3840 .f32) (g : Vec Ideal S512 .f32) (w : Vec Ideal S512x8x256 .f32) (b : Fin 4) (h : Fin 8) (s : Fin 4096) (e : Fin 256) :
    val_main_v20 (F := Ideal) z g w (ix4 b h s e) = projected z g w (token b s) h e := by
  pointwise [val_main_v0, val_main_v1, val_main_v6, val_main_v7, val_main_v8, val_main_v9, val_main_v10, val_main_v11, val_main_v12, val_main_v13, val_main_v14,
    val_main_v15, val_main_v16, val_main_v17, val_main_v18, val_main_v19, val_main_v20, val_main_cst, val_main_cst_0, val_main_cst_1]
  exact Finset.sum_congr rfl fun k _ => mul_comm _ _

open LatKVRefIdeal.Read in
theorem ref_turned (z : Vec Ideal S16384x3840 .f32) (b : Fin 4) (h : Fin 8) (s : Fin 4096) (d : Fin 64) :
    val_main_v54 (F := Ideal) z (ix4 b h s d) = turned z (token b s) s d := by
  unfold turned
  rw [cosines_apply, sines_apply]
  pointwise [val_main_v2, val_main_v3, val_main_v4, val_main_v5, val_main_v35, val_main_v37, val_main_v38, val_main_v39, val_main_v40, val_main_v41, val_main_v42,
    val_main_v43, val_main_v44, val_main_v45, val_main_v46, val_main_v47, val_main_v48, val_main_v49, val_main_v50, val_main_v51, val_main_v52, val_main_v53, val_main_v54]
  by_cases hd : d.val < 32
  · rw [dif_pos hd, dif_pos hd, dif_pos hd]
  · rw [dif_neg hd, dif_neg hd, dif_neg hd]
    have e : 32 + (d.val - 32) = d.val := by omega
    simp only [e]

open LatKVRefIdeal.Read in
theorem ref_values (z : Vec Ideal S16384x3840 .f32) (g : Vec Ideal S512 .f32) (w : Vec Ideal S512x8x256 .f32) :
    val_main_v59 (F := Ideal) z g w = values z g w := by
  funext i
  obtain ⟨b, h, s, d, rfl⟩ : ∃ (b : Fin 4) (h : Fin 8) (s : Fin 4096) (d : Fin 128), i = ix4 b h s d :=
    ⟨_, _, _, _, eq_ix4 (n0 := 4) (n1 := 8) (n2 := 4096) (n3 := 128) i⟩
  refine Eq.trans ?_ (ref_projected z g w b h s ⟨128 + d.val, by omega⟩)
  pointwise [val_main_v58, val_main_v59]

open LatKVRefIdeal.Read in
theorem ref_keys (z : Vec Ideal S16384x3840 .f32) (g : Vec Ideal S512 .f32) (w : Vec Ideal S512x8x256 .f32) :
    val_main_v57 (F := Ideal) z g w = keys z g w := by
  funext i
  obtain ⟨b, h, s, d, rfl⟩ : ∃ (b : Fin 4) (h : Fin 8) (s : Fin 4096) (d : Fin 192), i = ix4 b h s d :=
    ⟨_, _, _, _, eq_ix4 (n0 := 4) (n1 := 8) (n2 := 4096) (n3 := 192) i⟩
  unfold keys
  pointwise [val_main_v55, val_main_v56, val_main_v57]
  exact dite_congr rfl (fun hd => ref_projected z g w b h s _) fun hd => ref_turned z b h s _

end Cert.LatKVIdeal.Hand
-- ==== Proof.PQ.lean ====
/- The latent attention's queries, heads first: a head's 128 plain channels, its 64 rotary ones turned beside them, all times
   the one scale 1/(sqrt 192 · log 2). -/
module

public import proofs.«01_k».proof.Proof.Gen.LatQIdeal.Value
public import proofs.«01_k».proof.Proof.Gen.LatQRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.LatQIdeal.Hand

open Idealize.ShloMosaic Idealize.SL.Sem Cert.LatQIdeal Cert.LatQIdeal.Gen
open Idealize.ShloMosaic.Pipeline (Dat)

variable (m : (ℓ : Loc nD τ sig) → Buf (Elt Ideal) ℓ) (c : Dev nD)

/-- The scale. -/
def scale : EReal := ((((Real.sqrt 192) * (Real.log 2))⁻¹ : ℝ) : EReal)

theorem scale_val : (Named.named (F := Ideal) (φ := .f32) κ "scale" 0x3DD53B95#32 : EReal) = scale :=
  IdealRules.named_const.ideal_named_scalar _ _ _ _ rfl

/-- The cosines of a position's angles, twice over. -/
def cosines : Vec Ideal S4096x64 .f32 :=
  concatenate S4096x64 1 [⟨S4096x32, LatQRefIdeal.Read.val_main_v19 (F := Ideal)⟩, ⟨S4096x32, LatQRefIdeal.Read.val_main_v19 (F := Ideal)⟩] concatenates_S4096x32_S4096x32_S4096x64_d1

/-- The sines of a position's angles, twice over. -/
def sines : Vec Ideal S4096x64 .f32 :=
  concatenate S4096x64 1 [⟨S4096x32, LatQRefIdeal.Read.val_main_v21 (F := Ideal)⟩, ⟨S4096x32, LatQRefIdeal.Read.val_main_v21 (F := Ideal)⟩] concatenates_S4096x32_S4096x32_S4096x64_d1

/-- A head's rotary channel of a token, turned by its position's angles. -/
def turned (z : Vec Ideal S16384x3840 .f32) (n : Fin 16384) (s : Fin 4096) (h : Fin 8) (d : Fin 64) : EReal :=
  z (ix2 n ⟨2048 + (h.val * 64 + d.val), by omega⟩) * cosines (ix2 s d) + z (ix2 n ⟨2560 + (h.val * 64 + d.val), by omega⟩) * sines (ix2 s d)

/-- The token at a position of a sequence. -/
abbrev token (b : Fin 4) (s : Fin 4096) : Fin 16384 := ⟨b.val * 4096 + s.val, by omega⟩

/-- A channel of a query before the scale. -/
def unscaled (z : Vec Ideal S16384x3840 .f32) (b : Fin 4) (h : Fin 8) (s : Fin 4096) (d : Fin 192) : EReal :=
  if hd : d.val < 128 then z (ix2 (token b s) ⟨1024 + (h.val * 128 + d.val), by omega⟩)
  else turned z (token b s) s h ⟨d.val - 128, by omega⟩

/-- The queries, heads first. -/
def queries (z : Vec Ideal S16384x3840 .f32) : Vec Ideal S4x8x4096x192 .bf16 := fun i =>
  unscaled z (i 0) (i 1) (i 2) (i 3) * scale

/-! ## The kernel's block -/

theorem plain_apply (x : Vec Ideal S512x1024 .f32) (r : Fin 512) (d : Fin 1024) : k0_pay8 x (ix2 r d) = x (ix2 r d) * scale := by
  rw [← scale_val]
  pointwise [k0_pay8]

theorem turn_apply (x a y b : Vec Ideal S512x512 .f32) (r d : Fin 512) :
    k0_pay7 x a y b (ix2 r d) = (x (ix2 r d) * a (ix2 r d) + y (ix2 r d) * b (ix2 r d)) * scale := by
  rw [← scale_val]
  pointwise [k0_pay7]

/-- A block of the queries: a head's 128 plain columns, and 64 turned ones beside them. -/
def tile (u : FVec Ideal S512x1024 .bf16) (p : FVec Ideal S512x512 .bf16) : Vec Ideal S1x8x512x192 .bf16 := fun y =>
  if h : (y 3).val < 128 then u (ix2 (y 2) ⟨(y 1).val * 128 + (y 3).val, by have : (y 1).val < 8 := (y 1).isLt; omega⟩)
  else p (ix2 (y 2) ⟨(y 1).val * 64 + ((y 3).val - 128), by
    have : (y 1).val < 8 := (y 1).isLt; have : (y 3).val < 192 := (y 3).isLt; omega⟩)

theorem plain_part (u : FVec Ideal S512x1024 .bf16) (p : FVec Ideal S512x512 .bf16) (o : Nat) (hs : S512x1024.Slices ![0, o] S512x128)
    (hc : S512x128.ShapeCasts S1x1x512x128) (x : S1x1x512x128.Idx) (y : S1x8x512x192.Idx)
    (h1 : o = (y 1).val * 128) (h2 : (y 2).val = (x 2).val) (h3 : (y 3).val = (x 3).val) :
    shapeCast S1x1x512x128 (extractStridedSlice S512x128 ![0, o] u hs) hc x = tile u p y := by
  have hx : (x 3).val < 128 := (x 3).isLt
  unfold tile
  rw [dif_pos (by omega)]
  obtain ⟨a, b, r, d, rfl⟩ : ∃ a b r' d, x = ix4 a b r' d := ⟨_, _, _, _, eq_ix4 (n0 := 1) (n1 := 1) (n2 := 512) (n3 := 128) x⟩
  have e2 : y 2 = r := Fin.ext h2
  have hy : (y 1).val < 8 := (y 1).isLt
  have e3 : (⟨(y 1).val * 128 + (y 3).val, by omega⟩ : Fin 1024) = ⟨o + d.val, by omega⟩ :=
    Fin.ext (by have h3' : (y 3).val = d.val := h3; change (y 1).val * 128 + (y 3).val = o + d.val; omega)
  rw [e2, e3]
  pointwise []

theorem turned_part (u : FVec Ideal S512x1024 .bf16) (p : FVec Ideal S512x512 .bf16) (o : Nat) (hs : S512x512.Slices ![0, o] S512x64)
    (hc : S512x64.ShapeCasts S1x1x512x64) (x : S1x1x512x64.Idx) (y : S1x8x512x192.Idx)
    (h1 : o = (y 1).val * 64) (h2 : (y 2).val = (x 2).val) (h3 : (y 3).val = 128 + (x 3).val) :
    shapeCast S1x1x512x64 (extractStridedSlice S512x64 ![0, o] p hs) hc x = tile u p y := by
  unfold tile
  rw [dif_neg (by omega)]
  obtain ⟨a, b, r, d, rfl⟩ : ∃ a b r' d, x = ix4 a b r' d := ⟨_, _, _, _, eq_ix4 (n0 := 1) (n1 := 1) (n2 := 512) (n3 := 64) x⟩
  have e2 : y 2 = r := Fin.ext h2
  have hy : (y 1).val < 8 := (y 1).isLt
  have h3' : (y 3).val = 128 + d.val := h3
  have e3 : (⟨(y 1).val * 64 + ((y 3).val - 128), by omega⟩ : Fin 512) = ⟨o + d.val, by omega⟩ :=
    Fin.ext (by change (y 1).val * 64 + ((y 3).val - 128) = o + d.val; omega)
  rw [e2, e3]
  pointwise []

theorem block (t : Fin cfg0.N) (y : S1x8x512x192.Idx) : outsAt0 m c t y
    = tile (k0_pay8 (X0_0 m c t)) (k0_pay7 (X0_1 m c t) (iblk m c 3 t) (X0_2 m c t) (iblk m c 4 t)) y := by
  unfold outsAt0
  rw [out0_A_5, View.read_writes_junk_apply_eq_canon]
  unfold kernelRun0_A; dsimp only
  simp only [kernelRun0_A.sl.r, kernelRun0_A.sl.r_1, kernelRun0_A.sl.r_2, kernelRun0_A.sl.r_3]
  canon_tiles x h using cover0_A_5 c (grid0.coords t) _ (hs0_0 t) _ (hs0_1 t) _ (hs0_2 t) _ (hs0_3 t) _ (hs0_4 t) _ (hs0_5 t) _ _ _ _ _ y
  all_goals open_payloads
  all_goals try simp only [Memref.IsWhole.read_unread]
  all_goals first
    | exact plain_part _ _ _ _ _ x y (by omega) h2 h3
    | exact turned_part _ _ _ _ _ x y (by omega) h2 h3

/-! ## Its input blocks -/

/-- A table of 64 columns, eight times side by side. -/
def eightfold (f : Vec Ideal S4096x64 .f32) : Vec Ideal S4096x512 .f32 :=
  shapeCast S4096x512 (broadcastInDim S1x4096x8x64 ![0, 1, 2, 3] bcast_S1x4096x1x64_S1x4096x8x64_0_1_2_3
    (shapeCast S1x4096x1x64 f shapeCasts_S4096x64_S1x4096x1x64)) shapeCasts_S1x4096x8x64_S4096x512

theorem eightfold_apply (f : Vec Ideal S4096x64 .f32) (s : Fin 4096) (h : Fin 8) (d : Fin 64) :
    eightfold f (ix2 s ⟨h.val * 64 + d.val, by omega⟩) = f (ix2 s d) := by
  pointwise [eightfold]

theorem V_cos : V m c main_v18 = eightfold cosines := by
  unfold V hostOps0
  after_results <;> rfl

theorem V_sin : V m c main_v21 = eightfold sines := by
  unfold V hostOps0
  after_results <;> rfl

theorem idx0_0 (t : Fin cfg0.N) : win0_0.index t = ![(grid0.coords t 0).val, 1] :=
  (by decide +kernel : ∀ t : Fin grid0.N, win0_0.index t = ![(grid0.coords t 0).val, 1]) t

theorem idx0_1 (t : Fin cfg0.N) : win0_1.index t = ![(grid0.coords t 0).val, 4] :=
  (by decide +kernel : ∀ t : Fin grid0.N, win0_1.index t = ![(grid0.coords t 0).val, 4]) t

theorem idx0_2 (t : Fin cfg0.N) : win0_2.index t = ![(grid0.coords t 0).val, 5] :=
  (by decide +kernel : ∀ t : Fin grid0.N, win0_2.index t = ![(grid0.coords t 0).val, 5]) t

theorem idx0_3 (t : Fin cfg0.N) : win0_3.index t = ![(grid0.coords t 0).val % 8, 0] :=
  (by decide +kernel : ∀ t : Fin grid0.N, win0_3.index t = ![(grid0.coords t 0).val % 8, 0]) t

theorem idx0_4 (t : Fin cfg0.N) : win0_4.index t = ![(grid0.coords t 0).val % 8, 0] :=
  (by decide +kernel : ∀ t : Fin grid0.N, win0_4.index t = ![(grid0.coords t 0).val % 8, 0]) t

theorem idx0_5 (t : Fin cfg0.N) : win0_5.index t = ![(grid0.coords t 0).val / 8, 0, (grid0.coords t 0).val % 8, 0] :=
  (by decide +kernel : ∀ t : Fin grid0.N, win0_5.index t = ![(grid0.coords t 0).val / 8, 0, (grid0.coords t 0).val % 8, 0]) t

/-- A block's rows: of the tokens, and of its sequence. -/
abbrev row (t : Fin cfg0.N) (r : Fin 512) : Fin 16384 :=
  ⟨(grid0.coords t 0).val * 512 + r.val, by have h : (grid0.coords t 0).val < 32 := (grid0.coords t 0).isLt; omega⟩
abbrev pos (t : Fin cfg0.N) (r : Fin 512) : Fin 4096 :=
  ⟨(grid0.coords t 0).val % 8 * 512 + r.val, by omega⟩
abbrev batch (t : Fin cfg0.N) : Fin 4 :=
  ⟨(grid0.coords t 0).val / 8, by have h : (grid0.coords t 0).val < 32 := (grid0.coords t 0).isLt; omega⟩

theorem emb_5 (t : Fin cfg0.N) (a : Fin 1) (h : Fin 8) (r : Fin 512) (d : Fin 192) :
    ((cfg0.win 5).blk t).view.emb (ix4 a h r d) = ix4 (batch t) h (pos t r) d := by
  obtain rfl : a = 0 := Subsingleton.elim _ _
  symm
  have e := idx0_5 t
  blk_ext [e]
  all_goals rfl

theorem plain_block (t : Fin cfg0.N) (r : Fin 512) (k : Fin 1024) :
    X0_0 m c t (ix2 r k) = (m ((c.tc : Thread nD τ).loc main_arg0) : Vec Ideal S16384x3840 .f32) (ix2 (row t r) ⟨1024 + k.val, by omega⟩) := by
  have e := idx0_0 t
  unfold X0_0 Pipeline.Window.fill
  rw [dif_pos (moved0_0 t (ix2 r k)), ← V_main_arg0 m c]
  blk_point [iblk, e]

theorem rotary_block (t : Fin cfg0.N) (r k : Fin 512) :
    X0_1 m c t (ix2 r k) = (m ((c.tc : Thread nD τ).loc main_arg0) : Vec Ideal S16384x3840 .f32) (ix2 (row t r) ⟨2048 + k.val, by omega⟩) := by
  have e := idx0_1 t
  unfold X0_1 Pipeline.Window.fill
  rw [dif_pos (moved0_1 t (ix2 r k)), ← V_main_arg0 m c]
  blk_point [iblk, e]

theorem swapped_block (t : Fin cfg0.N) (r k : Fin 512) :
    X0_2 m c t (ix2 r k) = (m ((c.tc : Thread nD τ).loc main_arg0) : Vec Ideal S16384x3840 .f32) (ix2 (row t r) ⟨2560 + k.val, by omega⟩) := by
  have e := idx0_2 t
  unfold X0_2 Pipeline.Window.fill
  rw [dif_pos (moved0_2 t (ix2 r k)), ← V_main_arg0 m c]
  blk_point [iblk, e]

theorem cos_block (t : Fin cfg0.N) (r k : Fin 512) : iblk m c 3 t (ix2 r k) = eightfold cosines (ix2 (pos t r) k) := by
  have e := idx0_3 t
  rw [← V_cos m c]
  blk_point [iblk, e]

theorem sin_block (t : Fin cfg0.N) (r k : Fin 512) : iblk m c 4 t (ix2 r k) = eightfold sines (ix2 (pos t r) k) := by
  have e := idx0_4 t
  rw [← V_sin m c]
  blk_point [iblk, e]

/-! ## Its result -/

theorem token_eq (t : Fin cfg0.N) (r : Fin 512) : row t r = token (batch t) (pos t r) :=
  Fin.ext (by change (grid0.coords t 0).val * 512 + r.val = (grid0.coords t 0).val / 8 * 4096 + ((grid0.coords t 0).val % 8 * 512 + r.val); omega)

theorem turn_block (t : Fin cfg0.N) (r : Fin 512) (h : Fin 8) (d : Fin 64) :
    k0_pay7 (X0_1 m c t) (iblk m c 3 t) (X0_2 m c t) (iblk m c 4 t) (ix2 r ⟨h.val * 64 + d.val, by omega⟩)
      = turned (m ((c.tc : Thread nD τ).loc main_arg0)) (token (batch t) (pos t r)) (pos t r) h d * scale := by
  rw [turn_apply, ← token_eq, rotary_block, swapped_block, cos_block, sin_block, eightfold_apply, eightfold_apply]
  rfl

theorem queries_array : (dats m 0 c).arrAt 5 cfg0.N = queries (m ((c.tc : Thread nD τ).loc main_arg0)) := by
  refine (dats m 0 c).arrAt_eq_of_covers 5 _ (by decide +kernel) fun t hf y => ?_
  blk_simp
  rw [after0_5]
  obtain ⟨a, h, r, d, rfl⟩ : ∃ (a : Fin 1) (h : Fin 8) (r : Fin 512) (d : Fin 192), y = ix4 a h r d :=
    ⟨_, _, _, _, eq_ix4 (n0 := 1) (n1 := 8) (n2 := 512) (n3 := 192) y⟩
  erw [emb_5]
  refine (block m c t _).trans ?_
  change _ = unscaled _ (batch t) h (pos t r) d * scale
  unfold tile unscaled
  by_cases hd : d.val < 128
  · rw [dif_pos hd, ← token_eq]
    refine (dif_pos (c := d.val < 128) hd).trans ?_
    refine (plain_apply _ r ⟨h.val * 128 + d.val, by omega⟩).trans ?_
    rw [plain_block]
  · rw [dif_neg hd]
    refine (dif_neg (c := d.val < 128) hd).trans ?_
    exact turn_block m c t r h ⟨d.val - 128, by omega⟩

/-! ## The reference -/

theorem cosines_apply (s : Fin 4096) (d : Fin 64) : cosines (ix2 s d) = if h : d.val < 32 then LatQRefIdeal.Read.val_main_v19 (F := Ideal) (ix2 s ⟨d.val, h⟩)
    else LatQRefIdeal.Read.val_main_v19 (F := Ideal) (ix2 s ⟨d.val - 32, by omega⟩) := by
  pointwise [cosines]

theorem sines_apply (s : Fin 4096) (d : Fin 64) : sines (ix2 s d) = if h : d.val < 32 then LatQRefIdeal.Read.val_main_v21 (F := Ideal) (ix2 s ⟨d.val, h⟩)
    else LatQRefIdeal.Read.val_main_v21 (F := Ideal) (ix2 s ⟨d.val - 32, by omega⟩) := by
  pointwise [sines]

theorem root : Ideal.sqrt (Ideal.ofBits .f32 0x43400000#32) = ((Real.sqrt 192 : ℝ) : EReal) := by
  have : Ideal.ofBits .f32 0x43400000#32 = ((192 : ℝ) : EReal) := by
    simp [Ideal.ofBits, Ideal.ieee, -EReal.coe_mul]; norm_num
  rw [this, Ideal.sqrt_coe, if_neg (by norm_num)]

theorem log_two : Ideal.log (Ideal.ofBits .f32 0x40000000#32) = ((Real.log 2 : ℝ) : EReal) := by
  have : Ideal.ofBits .f32 0x40000000#32 = ((2 : ℝ) : EReal) := by
    simp [Ideal.ofBits, Ideal.ieee, -EReal.coe_mul]; norm_num
  rw [this, Ideal.log_coe, if_neg (by norm_num)]

theorem div_scale (x : EReal) :
    Ideal.div x (Ideal.sqrt (Ideal.ofBits .f32 0x43400000#32) * Ideal.log (Ideal.ofBits .f32 0x40000000#32)) = x * scale := by
  have h : Real.sqrt 192 * Real.log 2 ≠ 0 :=
    mul_ne_zero (Real.sqrt_pos.mpr (by norm_num)).ne' (Real.log_pos (by norm_num)).ne'
  rw [root, log_two, ← EReal.coe_mul, Ideal.div_coe h, one_div]
  rfl

open LatQRefIdeal.Read in
theorem ref_plain (z : Vec Ideal S16384x3840 .f32) (b : Fin 4) (h : Fin 8) (s : Fin 4096) (d : Fin 128) :
    val_main_v1 (F := Ideal) z (ix4 b s h d) = z (ix2 (token b s) ⟨1024 + (h.val * 128 + d.val), by omega⟩) := by
  pointwise [val_main_v0, val_main_v1]

open LatQRefIdeal.Read in
theorem ref_turned (z : Vec Ideal S16384x3840 .f32) (b : Fin 4) (h : Fin 8) (s : Fin 4096) (d : Fin 64) :
    val_main_v37 (F := Ideal) z (ix4 b s h d) = turned z (token b s) s h d := by
  unfold turned
  rw [cosines_apply, sines_apply]
  pointwise [val_main_v2, val_main_v3, val_main_v4, val_main_v5, val_main_v20, val_main_v22, val_main_v23, val_main_v24, val_main_v25, val_main_v26,
    val_main_v27, val_main_v28, val_main_v29, val_main_v30, val_main_v31, val_main_v32, val_main_v33, val_main_v34, val_main_v35, val_main_v36, val_main_v37]
  by_cases hd : d.val < 32
  · rw [dif_pos hd, dif_pos hd, dif_pos hd]
  · rw [dif_neg hd, dif_neg hd, dif_neg hd]
    have e : 32 + (d.val - 32) = d.val := by omega
    simp only [e]

open LatQRefIdeal.Read in
theorem ref_unscaled (z : Vec Ideal S16384x3840 .f32) (b : Fin 4) (h : Fin 8) (s : Fin 4096) (d : Fin 192) :
    val_main_v38 (F := Ideal) z (ix4 b s h d) = unscaled z b h s d := by
  unfold unscaled
  pointwise [val_main_v38]
  exact dite_congr rfl (fun hd => ref_plain z b h s _) fun hd => ref_turned z b h s _

open LatQRefIdeal.Read in
theorem ref_queries (z : Vec Ideal S16384x3840 .f32) : val_main_v45 (F := Ideal) z = queries z := by
  funext i
  obtain ⟨b, h, s, d, rfl⟩ : ∃ (b : Fin 4) (h : Fin 8) (s : Fin 4096) (d : Fin 192), i = ix4 b h s d :=
    ⟨_, _, _, _, eq_ix4 (n0 := 4) (n1 := 8) (n2 := 4096) (n3 := 192) i⟩
  refine Eq.trans ?_ (congrArg (· * scale) (ref_unscaled z b h s d))
  rw [← div_scale]
  pointwise [val_main_v39, val_main_v40, val_main_v41, val_main_v42, val_main_v43, val_main_v44, val_main_v45, val_main_cst_1, val_main_cst_2]

end Cert.LatQIdeal.Hand
-- ==== Proof.RT.lean ====
/- The likeliest of a few logits: the shares of a softmax, the greatest of them and the first position that holds it, read off
   128 lanes of which only eight count, and read off a stable sort. -/
module

public import Idealize.ShloMosaic.Lib.SortPrefix
public import Idealize.ShloMosaic.Lib.Pipeline.ValueKit
public import Idealize.ShloMosaic.Lib.Pointwise

@[expose] public section

noncomputable section

namespace Cert.Route

open Idealize.ShloMosaic

/-- The greatest value. -/
def top {n : Nat} (p : Fin n → EReal) : EReal := Finset.univ.sup p

theorem le_top {n : Nat} (p : Fin n → EReal) (i : Fin n) : p i ≤ top p := Finset.le_sup (Finset.mem_univ i)

theorem top_attained (p : Fin 8 → EReal) : ∃ i, p i = top p := by
  obtain ⟨i, -, h⟩ := Finset.exists_mem_eq_sup Finset.univ Finset.univ_nonempty p
  exact ⟨i, h.symm⟩

/-- The positions that hold the greatest value. -/
def bests (p : Fin 8 → EReal) : Finset (Fin 8) := Finset.univ.filter fun i => p i = top p

theorem bests_nonempty (p : Fin 8 → EReal) : (bests p).Nonempty := by
  obtain ⟨i, h⟩ := top_attained p
  exact ⟨i, by simp [bests, h]⟩

/-- The first of them. -/
def best (p : Fin 8 → EReal) : Fin 8 := (bests p).min' (bests_nonempty p)

theorem best_spec (p : Fin 8 → EReal) : p (best p) = top p := by
  exact (Finset.mem_filter.1 ((bests p).min'_mem (bests_nonempty p))).2

theorem best_le (p : Fin 8 → EReal) {i : Fin 8} (h : p i = top p) : best p ≤ i :=
  (bests p).min'_le i (by simp [bests, h])

/-- A value's share in a softmax. -/
def share {n : Nat} (z : Fin n → EReal) (i : Fin n) : EReal :=
  Ideal.div (Ideal.exp (z i - top z)) (∑ j, Ideal.exp (z j - top z))

/-- The values with the first greatest one put below every share. -/
def rest (p : Fin 8 → EReal) (i : Fin 8) : EReal := if i = best p then -1 else p i

/-! ## Eight lanes of 128 -/

section Lanes

variable (σ : Fin 8 → Fin 128) (p : Fin 8 → EReal) (P : Fin 128 → EReal)

theorem top_lanes (h : ∀ i, P (σ i) = p i) (h' : ∀ l, (∀ i, σ i ≠ l) → P l ≤ top p) : top P = top p := by
  refine le_antisymm (Finset.sup_le fun l _ => ?_) (Finset.sup_le fun i _ => (h i).symm.le.trans (le_top P _))
  by_cases e : ∃ i, σ i = l
  · obtain ⟨i, rfl⟩ := e
    exact (h i).le.trans (le_top p i)
  · exact h' l (not_exists.1 e)

/-- The least lane that holds the greatest value, as a number. -/
def lane (P : Fin 128 → EReal) : EReal :=
  Finset.univ.inf fun l : Fin 128 => if P l = top P then ((l.val : ℝ) : EReal) else ((512 : ℝ) : EReal)

theorem lane_eq (hσ : Monotone σ) (h : ∀ i, P (σ i) = p i) (ht : top P = top p)
    (h' : ∀ l, (∀ i, σ i ≠ l) → P l = top P → σ (best p) ≤ l) : lane P = (((σ (best p)).val : ℝ) : EReal) := by
  refine le_antisymm ?_ (Finset.le_inf fun l _ => ?_)
  · refine (Finset.inf_le (Finset.mem_univ (σ (best p)))).trans ?_
    rw [if_pos (by rw [h, ht, best_spec p])]
  · have hb := (σ (best p)).isLt
    split_ifs with hl
    · have : σ (best p) ≤ l := by
        by_cases e : ∃ i, σ i = l
        · obtain ⟨i, rfl⟩ := e
          exact hσ (best_le p (by rw [← h, hl, ht]))
        · exact h' l (not_exists.1 e) hl
      exact EReal.coe_le_coe_iff.2 (by exact_mod_cast this)
    · exact EReal.coe_le_coe_iff.2 (by
        have : ((σ (best p)).val : ℝ) ≤ ((512 : ℕ) : ℝ) := by exact_mod_cast (by omega : (σ (best p)).val ≤ 512)
        simpa using this)

end Lanes

/-! ## Shares -/

theorem exp_nonneg (x : EReal) : 0 ≤ Ideal.exp x := by
  induction x with
  | bot => simp
  | top => simp
  | coe r => simpa using (EReal.coe_nonneg.2 (Real.exp_pos r).le)

theorem div_nonneg_of_ne {x s : EReal} (hx : 0 ≤ x) (hs : 0 ≤ s) (h : s ≠ 0) : 0 ≤ Ideal.div x s := by
  rw [Ideal.div, if_neg h]
  exact mul_nonneg hx (EReal.inv_nonneg_of_nonneg hs)

theorem div_zero_le {x s : EReal} (hx : 0 ≤ x) (hs : 0 ≤ s) : Ideal.div 0 s ≤ Ideal.div x s := by
  by_cases h : s = 0
  · subst h
    simp [Ideal.div]
  · refine le_trans ?_ (div_nonneg_of_ne hx hs h)
    rw [Ideal.div, if_neg h, zero_mul]

theorem sum_nonneg {n : Nat} (z : Fin n → EReal) : 0 ≤ ∑ j, Ideal.exp (z j - top z) :=
  Finset.sum_nonneg fun _ _ => exp_nonneg _

/-- Of real logits the sum is not zero: the greatest one's exponential is one. -/
theorem sum_ne_zero (z : Fin 8 → EReal) (h : ∀ i, z i ≠ ⊥ ∧ z i ≠ ⊤) : ∑ j, Ideal.exp (z j - top z) ≠ 0 := by
  obtain ⟨i, hi⟩ := top_attained z
  have h1 : Ideal.exp (z i - top z) = 1 := by
    rw [← hi, ← EReal.coe_toReal (h i).2 (h i).1, ← EReal.coe_sub, sub_self, Ideal.exp_coe, Real.exp_zero]
    rfl
  have h2 : Ideal.exp (z i - top z) ≤ ∑ j, Ideal.exp (z j - top z) :=
    Finset.single_le_sum (f := fun j => Ideal.exp (z j - top z)) (fun _ _ => exp_nonneg _) (Finset.mem_univ i)
  rw [h1] at h2
  exact (lt_of_lt_of_le zero_lt_one h2).ne'

theorem share_nonneg (z : Fin 8 → EReal) (h : ∀ i, z i ≠ ⊥ ∧ z i ≠ ⊤) (i : Fin 8) : 0 ≤ share z i :=
  div_nonneg_of_ne (exp_nonneg _) (sum_nonneg z) (sum_ne_zero z h)

section Masked

variable (σ : Fin 8 → Fin 128) (hσ : Function.Injective σ) (z : Fin 8 → EReal) (Z : Fin 128 → EReal)
  (h : ∀ i, Z (σ i) = z i) (h' : ∀ l, (∀ i, σ i ≠ l) → Z l = ⊥)

include h h' in
theorem top_masked : top Z = top z := top_lanes σ z Z h fun l hl => (h' l hl).le.trans bot_le

theorem exp_bot_sub (x : EReal) : Ideal.exp (⊥ - x) = 0 := by
  rw [sub_eq_add_neg, EReal.bot_add]
  simp

include hσ h h' in
theorem sum_masked : ∑ l, Ideal.exp (Z l - top Z) = ∑ i, Ideal.exp (z i - top z) := by
  refine (Fintype.sum_of_injective σ hσ _ _ (fun l hl => ?_) fun i => ?_).symm
  · rw [h' l fun i e => hl ⟨i, e⟩, exp_bot_sub]
  · rw [h, top_masked σ z Z h h']

include hσ h h' in
theorem share_masked (i : Fin 8) : share Z (σ i) = share z i := by
  unfold share
  rw [sum_masked σ hσ z Z h h', h, top_masked σ z Z h h']

include hσ h h' in
theorem share_unmasked (l : Fin 128) (hl : ∀ i, σ i ≠ l) (i : Fin 8) : share Z l ≤ share z i := by
  unfold share
  rw [sum_masked σ hσ z Z h h', h' l hl, exp_bot_sub]
  exact div_zero_le (exp_nonneg _) (sum_nonneg z)

end Masked

/-! ## The second best -/

section Second

variable (p : Fin 8 → EReal) (hp : ∀ i, 0 ≤ p i)

include hp in
theorem rest_top_nonneg : 0 ≤ top (rest p) := by
  obtain ⟨i, hi⟩ : ∃ i : Fin 8, i ≠ best p := exists_ne _
  refine le_trans ?_ (le_top (rest p) i)
  rw [rest, if_neg hi]
  exact hp i

theorem neg_one_lt_zero : (-1 : EReal) < 0 := by
  rw [← EReal.coe_one, ← EReal.coe_neg]
  exact EReal.coe_neg'.2 (by norm_num)

include hp in
theorem second_ne : best (rest p) ≠ best p := by
  intro e
  have h1 := best_spec (rest p)
  rw [e, rest, if_pos rfl] at h1
  have h2 := rest_top_nonneg p hp
  rw [← h1] at h2
  exact absurd h2 (not_le.2 neg_one_lt_zero)

include hp in
theorem second_spec : p (best (rest p)) = top (rest p) := by
  rw [← best_spec (rest p), rest, if_neg (second_ne p hp)]

end Second

/-! ## A stable sort -/

section Sorting

variable (p : Fin 8 → EReal)

/-- A position is before another: its value is greater. -/
def greater (k k' : Fin 8) : Bool := Ideal.cmp .ogt (p k) (p k') == 1#1

/-- Or the values are equal and it comes first. -/
def ahead (k k' : Fin 8) : Bool := decide (p k' < p k) || (decide (p k = p k') && decide (k < k'))

theorem greater_eq (k k' : Fin 8) : greater p k k' = decide (p k' < p k) := by
  unfold greater Ideal.cmp
  by_cases h : p k' < p k <;> simp [h]

theorem ahead_total : StrictTotalBefore (ahead p) :=
  StrictTotalBefore.of_key_then_position (fun a b => decide (b < a)) p (by simp)
    (fun a b c hab hbc => by simp only [decide_eq_true_eq] at *; exact hbc.trans hab)
    (fun a b => by simp only [decide_eq_true_eq]; rcases lt_trichotomy a b with h | h | h <;> simp [h])

/-- A stable sort of ascending positions puts equal values in their order. -/
theorem stable (l : List (Fin 8)) (hl : l.Pairwise (· < ·)) : stableSort (greater p) l = stableSort (ahead p) l := by
  induction l with
  | nil => rfl
  | cons a l ih =>
    rw [List.pairwise_cons] at hl
    unfold stableSort
    rw [ih hl.2]
    refine insertBefore_congr _ _ a _ fun b hb => ?_
    have hab := hl.1 b ((perm_stableSort (ahead p) l).mem_iff.mp hb)
    rw [greater_eq, ahead, decide_eq_false (not_lt.2 hab.le), Bool.and_false, Bool.or_false]

theorem sorted_eq (k : Fin 8) : sortedFrom (greater p) k = sortedFrom (ahead p) k := by
  unfold sortedFrom
  have e : sortPositions 8 (greater p) = sortPositions 8 (ahead p) := stable p _ (by decide)
  rw [List.get_of_eq e]
  rfl

theorem not_ahead {a b : Fin 8} (h : p a ≤ p b) (h' : p a = p b → b ≤ a) : ahead p a b = false := by
  rw [ahead, decide_eq_false (not_lt.2 h), Bool.false_or, Bool.and_eq_false_iff]
  by_cases e : p a = p b
  · exact Or.inr (decide_eq_false (not_lt.2 (h' e)))
  · exact Or.inl (decide_eq_false e)

theorem not_ahead_best (a : Fin 8) : ahead p a (best p) = false :=
  not_ahead p (by rw [best_spec p]; exact le_top p a) fun e => best_le p (by rw [e, best_spec p])

theorem sorted_first : sortedFrom (greater p) 0 = best p := by
  rw [sorted_eq]
  exact (ahead_total p).sortedFrom_eq_of_prefix (k := 1) (by decide) (fun _ => best p) (fun _ _ _ => Subsingleton.elim _ _)
    (fun i j hij => absurd (Subsingleton.elim i j) hij.ne) (fun _ a _ => not_ahead_best p a) 0

theorem not_ahead_second (hp : ∀ i, 0 ≤ p i) (a : Fin 8) (ha : a ≠ best p) : ahead p a (best (rest p)) = false := by
  have h : p a = rest p a := by rw [rest, if_neg ha]
  refine not_ahead p ?_ fun e => best_le (rest p) ?_
  · rw [second_spec p hp, h]
    exact le_top (rest p) a
  · rw [← h, e, second_spec p hp]

theorem sorted_two (hp : ∀ i, 0 ≤ p i) (i : Fin 2) :
    sortedFrom (greater p) (i.castLE (by decide)) = (![best p, best (rest p)] : Fin 2 → Fin 8) i := by
  rw [sorted_eq]
  refine (ahead_total p).sortedFrom_eq_of_prefix (k := 2) (by decide) _ ?_ ?_ ?_ i
  · intro i j e
    have := second_ne p hp
    fin_cases i <;> fin_cases j <;> simp_all
  · intro i j hij
    fin_cases i <;> fin_cases j <;> simp at hij
    exact not_ahead_best p _
  · intro i a ha
    fin_cases i
    · exact not_ahead_best p a
    · exact not_ahead_second p hp a fun e => ha 0 e.symm

end Sorting

end Cert.Route
end
-- ==== Proof.PR.lean ====
/- The routing. -/
module

public import proofs.«01_k».proof.Proof.Gen.RouterIdeal.Value
public import proofs.«01_k».proof.Proof.Gen.RouterRefIdeal.Read
public import proofs.«01_k».proof.Proof.RT
public import Idealize.ShloMosaic.Lib.Pipeline.ValueKit
public import Idealize.ShloMosaic.Lib.Pointwise
public import Idealize.ShloMosaic.Lib.Claim

@[expose] public section

set_option maxRecDepth 16384

noncomputable section

namespace Cert.RouterIdeal.Hand

open Idealize.ShloMosaic Idealize.SL.Sem Cert.RouterIdeal Cert.RouterIdeal.Gen Cert.Route
open Idealize.ShloMosaic.Pipeline (Dat)

variable (m : (ℓ : Loc nD τ sig) → Buf (Elt Ideal) ℓ) (c : Dev nD)

theorem neg_inf : Ideal.ofBits .f32 0xFF800000#32 = ⊥ := by simp [Ideal.ofBits, Ideal.ieee]
theorem pos_inf : Ideal.ofBits .f32 0x7F800000#32 = ⊤ := by simp [Ideal.ofBits, Ideal.ieee]

section Rows

variable {h : S512x128.Reduces [1] S512} {hφ : FKind.Formats .f32}

/-- A row's maximum. -/
theorem row_max (x : FVec Ideal S512x128 .f32) (ha : (0xFF800000#32 : BitVec 32) = FKind.maximumf.neutral .f32 hφ) (r : Fin 512) :
    multiReduction .maximumf [1] S512 x 0xFF800000#32 h hφ ha (ix1 r) = top fun l : Fin 128 => x (ix2 r l) := by
  rw [Ideal.multiReduction_maximumf_single]
  change Finset.univ.fold max (Ideal.ofBits .f32 0xFF800000#32) _ = _
  rw [neg_inf]
  unfold top
  refine Finset.sup_congr rfl fun l _ => ?_
  exact congrArg x (by idx_ext)

/-- A row's minimum. -/
theorem row_min (x : FVec Ideal S512x128 .f32) (ha : (0x7F800000#32 : BitVec 32) = FKind.minimumf.neutral .f32 hφ) (r : Fin 512) :
    multiReduction .minimumf [1] S512 x 0x7F800000#32 h hφ ha (ix1 r) = Finset.univ.inf fun l : Fin 128 => x (ix2 r l) := by
  rw [multiReduction_minimumf_eq_fold]
  refine (h.fold_filter_drop_single _ _ x (ix1 r)).trans ?_
  change Finset.univ.fold min (Ideal.ofBits .f32 0x7F800000#32) _ = _
  rw [pos_inf]
  refine Finset.inf_congr rfl fun l _ => ?_
  exact congrArg x (by idx_ext)

/-- A row's sum. -/
theorem row_sum (x : FVec Ideal S512x128 .f32) (ha : (0x00000000#32 : BitVec 32) = FKind.add.neutral .f32 hφ) (r : Fin 512) :
    multiReduction .add [1] S512 x 0x00000000#32 h hφ ha (ix1 r) = ∑ l : Fin 128, x (ix2 r l) := by
  rw [Ideal.multiReduction_add_single]
  refine Finset.sum_congr rfl fun l _ => ?_
  exact congrArg x (by idx_ext)

/-- A column as rows of equal lanes. -/
theorem spread (y : FVec Ideal S512 .f32) (r : Fin 512) (l : Fin 128) :
    broadcastTo S512x128 (shapeCast S512x1 y shapeCasts_S512_S512x1) broadcasts_S512x1_S512x128 (ix2 r l) = y (ix1 r) := by
  pointwise []

/-- A column's entry. -/
theorem column (r : Fin 512) (y : FVec Ideal S512 .f32) : shapeCast S512x1 y shapeCasts_S512_S512x1 (ix2 r (0 : Fin 1)) = y (ix1 r) := by
  pointwise []

/-- A softmax along the rows. -/
theorem soft (x : FVec Ideal S512x128 .f32) (r : Fin 512) (l : Fin 128) (Z : Fin 128 → EReal) (hZ : ∀ l, x (ix2 r l) = Z l)
    (ha : (0xFF800000#32 : BitVec 32) = FKind.maximumf.neutral .f32 hφ) (hs : (0x00000000#32 : BitVec 32) = FKind.add.neutral .f32 hφ) :
    divf (exp (subf x (broadcastTo S512x128 (shapeCast S512x1 (multiReduction .maximumf [1] S512 x 0xFF800000#32 h hφ ha) shapeCasts_S512_S512x1)
        broadcasts_S512x1_S512x128)))
      (broadcastTo S512x128 (shapeCast S512x1 (multiReduction .add [1] S512
        (exp (subf x (broadcastTo S512x128 (shapeCast S512x1 (multiReduction .maximumf [1] S512 x 0xFF800000#32 h hφ ha) shapeCasts_S512_S512x1)
          broadcasts_S512x1_S512x128))) 0x00000000#32 h hφ hs) shapeCasts_S512_S512x1) broadcasts_S512x1_S512x128) (ix2 r l)
      = share Z l := by
  have e : ∀ l, exp (subf x (broadcastTo S512x128 (shapeCast S512x1 (multiReduction .maximumf [1] S512 x 0xFF800000#32 h hφ ha)
      shapeCasts_S512_S512x1) broadcasts_S512x1_S512x128)) (ix2 r l) = Ideal.exp (Z l - top Z) := by
    intro l
    change Ideal.exp (x (ix2 r l) - broadcastTo S512x128 (shapeCast S512x1 _ _) _ (ix2 r l)) = _
    rw [spread, row_max, hZ, show (fun l => x (ix2 r l)) = Z from funext hZ]
  change Ideal.div (exp (subf x _) (ix2 r l)) (broadcastTo S512x128 (shapeCast S512x1 _ _) _ (ix2 r l)) = _
  rw [spread, row_sum, e]
  unfold share
  exact congrArg _ (Finset.sum_congr rfl fun l _ => e l)

end Rows

/-! ## Words -/

theorem group_word (l : Fin 128) : IntOp.cmpi .slt (BitVec.ofNat 32 l.val) 8#32 = if l.val < 8 then 1#1 else 0#1 :=
  (by decide +kernel : ∀ l : Fin 128, IntOp.cmpi .slt (BitVec.ofNat 32 l.val) 8#32 = if l.val < 8 then 1#1 else 0#1) l

theorem expert_word (l : Fin 128) (g : Fin 8) :
    IntOp.cmpi .eq (IntOp.shrsi .vector (IntOp.subi (BitVec.ofNat 32 l.val) 8#32) 3#32) (BitVec.ofNat 32 g.val)
      = if 8 + 8 * g.val ≤ l.val ∧ l.val < 16 + 8 * g.val then 1#1 else 0#1 :=
  (by decide +kernel : ∀ (l : Fin 128) (g : Fin 8),
    IntOp.cmpi .eq (IntOp.shrsi .vector (IntOp.subi (BitVec.ofNat 32 l.val) 8#32) 3#32) (BitVec.ofNat 32 g.val)
      = if 8 + 8 * g.val ≤ l.val ∧ l.val < 16 + 8 * g.val then 1#1 else 0#1) l g

theorem same_word (l k : Fin 128) : IntOp.cmpi .eq (BitVec.ofNat 32 l.val) (BitVec.ofNat 32 k.val) = if l = k then 1#1 else 0#1 :=
  (by decide +kernel : ∀ l k : Fin 128, IntOp.cmpi .eq (BitVec.ofNat 32 l.val) (BitVec.ofNat 32 k.val) = if l = k then 1#1 else 0#1) l k

theorem lane_toInt (l : Fin 128) : (BitVec.ofNat 32 l.val).toInt = (l.val : Int) :=
  (by decide +kernel : ∀ l : Fin 128, (BitVec.ofNat 32 l.val).toInt = (l.val : Int)) l

theorem lane_word (l : Fin 128) : Ideal.fptosi 32 (((l.val : ℝ)) : EReal) = BitVec.ofNat 32 l.val := by
  have hl := l.isLt
  have e : Ideal.toIntClamped (-(2 ^ (32 - 1) : Nat)) ((2 ^ (32 - 1) : Nat) - 1) (((l.val : ℝ)) : EReal) = (l.val : Int) := by
    rw [Ideal.toIntClamped_coe, if_pos (by positivity), Int.floor_natCast]
    norm_num
    omega
  unfold Ideal.fptosi
  rw [e]
  exact BitVec.ofInt_natCast 32 l.val

theorem five_twelve : Ideal.ofBits .f32 0x44000000#32 = ((512 : ℝ) : EReal) := by
  simp [Ideal.ofBits, Ideal.ieee, -EReal.coe_mul]; norm_num

theorem neg_one : Ideal.ofBits .f32 0xBF800000#32 = -1 := by
  have : Ideal.ofBits .f32 0xBF800000#32 = ((-1 : ℝ) : EReal) := by
    simp [Ideal.ofBits, Ideal.ieee, -EReal.coe_mul]; norm_num
  rw [this]; rfl

theorem select_if {α : Type} (q : Prop) [Decidable q] (a b : α) : Scalar.select (if q then 1#1 else 0#1) a b = if q then a else b := by
  split_ifs <;> rfl

/-- The least lane that holds the row's greatest value, as a word. -/
theorem row_lane {h : S512x128.Reduces [1] S512} {hφ : FKind.Formats .f32} (P : FVec Ideal S512x128 .f32) (M : FVec Ideal S512x1 .f32) (r : Fin 512) (Q : Fin 128 → EReal)
    (hQ : ∀ l, P (ix2 r l) = Q l) (hM : M (ix2 r (0 : Fin 1)) = top Q) (k : Fin 128) (hk : lane Q = ((k.val : ℝ) : EReal))
    (ha : (0x7F800000#32 : BitVec 32) = FKind.minimumf.neutral .f32 hφ) :
    fptosi 32 (shapeCast S512x1 (multiReduction .minimumf [1] S512 (select (cmpf .oeq P (broadcastTo S512x128 M broadcasts_S512x1_S512x128))
      (k0_pay4 (F := Ideal)) (broadcast S512x128 (Scalar.ofBits (F := Ideal) .f32 0x44000000#32))) 0x7F800000#32 h hφ ha) shapeCasts_S512_S512x1) (ix2 r (0 : Fin 1))
      = BitVec.ofNat 32 k.val := by
  rw [← lane_word, ← hk]
  have e : shapeCast S512x1 (multiReduction .minimumf [1] S512 (select (cmpf .oeq P (broadcastTo S512x128 M broadcasts_S512x1_S512x128))
      (k0_pay4 (F := Ideal)) (broadcast S512x128 (Scalar.ofBits (F := Ideal) .f32 0x44000000#32))) 0x7F800000#32 h hφ ha) shapeCasts_S512_S512x1 (ix2 r (0 : Fin 1))
      = lane Q := by
    refine Eq.trans (b := multiReduction .minimumf [1] S512 (select (cmpf .oeq P (broadcastTo S512x128 M broadcasts_S512x1_S512x128))
      (k0_pay4 (F := Ideal)) (broadcast S512x128 (Scalar.ofBits (F := Ideal) .f32 0x44000000#32))) 0x7F800000#32 h hφ ha (ix1 r)) (column _ _) ?_
    rw [row_min]
    unfold lane
    refine Finset.inf_congr rfl fun l _ => ?_
    rw [← hQ l, ← hM, ← five_twelve]
    pointwise [k0_pay4]
    refine if_congr Iff.rfl ?_ rfl
    change (((BitVec.ofNat 32 l.val).toInt : ℝ) : EReal) = _
    rw [lane_toInt]
    rfl
  exact congrArg (Ideal.fptosi 32) e

/-! ## The group -/

/-- The logits' first eight lanes, the others out of the way. -/
def groupLanes (X : Fin 128 → EReal) (l : Fin 128) : EReal := if l.val < 8 then X l else ⊥

/-- A group's lane. -/
def gl (g : Fin 8) : Fin 128 := ⟨g.val, by omega⟩

/-- The likeliest group. -/
def group (X : Fin 128 → EReal) : Fin 8 := best (share fun g => X (gl g))

theorem gl_off {l : Fin 128} (hl : ∀ g, gl g ≠ l) : 8 ≤ l.val := by
  by_contra hh
  exact hl ⟨l.val, by omega⟩ rfl

theorem gl_inj : Function.Injective gl := fun a b e => Fin.ext (show (gl a).val = (gl b).val by rw [e])

theorem gl_on (X : Fin 128 → EReal) (g : Fin 8) : groupLanes X (gl g) = X (gl g) := if_pos g.isLt

theorem gl_out (X : Fin 128 → EReal) (l : Fin 128) (hl : ∀ g, gl g ≠ l) : groupLanes X l = ⊥ := if_neg (not_lt.2 (gl_off hl))

theorem group_share (X : Fin 128 → EReal) (g : Fin 8) : share (groupLanes X) (gl g) = share (fun g => X (gl g)) g :=
  share_masked gl gl_inj _ _ (gl_on X) (gl_out X) g

theorem group_top (X : Fin 128 → EReal) : top (share (groupLanes X)) = top (share fun g => X (gl g)) :=
  top_lanes gl _ _ (group_share X) fun l hl => (share_unmasked gl gl_inj _ _ (gl_on X) (gl_out X) l hl 0).trans (le_top _ 0)

theorem group_lane (X : Fin 128 → EReal) : lane (share (groupLanes X)) = (((gl (group X)).val : ℝ) : EReal) :=
  lane_eq gl _ _ (fun a b e => e) (group_share X) (group_top X) fun l hl _ => by
    have := gl_off hl
    have hb := (best (share fun g => X (gl g))).isLt
    exact Fin.mk_le_of_le_val (by omega)

/-! ## The experts -/

/-- The lanes of a group's experts, the others out of the way. -/
def expertLanes (X : Fin 128 → EReal) (g : Fin 8) (l : Fin 128) : EReal := if 8 + 8 * g.val ≤ l.val ∧ l.val < 16 + 8 * g.val then X l else ⊥

/-- An expert's lane. -/
def el (g e : Fin 8) : Fin 128 := ⟨8 + 8 * g.val + e.val, by omega⟩

theorem el_mono (g : Fin 8) : Monotone (el g) := fun a b e => Fin.mk_le_mk.2 (by have : a.val ≤ b.val := e; omega)

theorem el_inj (g : Fin 8) : Function.Injective (el g) := fun a b e => Fin.ext (by
  have : 8 + 8 * g.val + a.val = 8 + 8 * g.val + b.val := congrArg Fin.val e
  omega)

theorem el_off {g : Fin 8} {l : Fin 128} (hl : ∀ e, el g e ≠ l) : ¬(8 + 8 * g.val ≤ l.val ∧ l.val < 16 + 8 * g.val) := fun hh =>
  hl ⟨l.val - (8 + 8 * g.val), by omega⟩ (Fin.ext (by change 8 + 8 * g.val + (l.val - (8 + 8 * g.val)) = l.val; omega))

theorem el_in (g e : Fin 8) : 8 + 8 * g.val ≤ (el g e).val ∧ (el g e).val < 16 + 8 * g.val := by
  change 8 + 8 * g.val ≤ 8 + 8 * g.val + e.val ∧ 8 + 8 * g.val + e.val < 16 + 8 * g.val
  omega

theorem el_on (X : Fin 128 → EReal) (g e : Fin 8) : expertLanes X g (el g e) = X (el g e) := if_pos (el_in g e)

theorem el_out (X : Fin 128 → EReal) (g : Fin 8) (l : Fin 128) (hl : ∀ e, el g e ≠ l) : expertLanes X g l = ⊥ := if_neg (el_off hl)

/-- The lanes' shares, those of no expert of the group below every share. -/
def first (X : Fin 128 → EReal) (g : Fin 8) (l : Fin 128) : EReal :=
  if 8 + 8 * g.val ≤ l.val ∧ l.val < 16 + 8 * g.val then share (expertLanes X g) l else -1

/-- The shares of a group's experts. -/
def experts (X : Fin 128 → EReal) (g : Fin 8) : Fin 8 → EReal := share fun e => X (el g e)

theorem first_on (X : Fin 128 → EReal) (g e : Fin 8) : first X g (el g e) = experts X g e :=
  (if_pos (el_in g e)).trans (share_masked (el g) (el_inj g) _ _ (el_on X g) (el_out X g) e)

theorem first_out (X : Fin 128 → EReal) (g : Fin 8) (l : Fin 128) (hl : ∀ e, el g e ≠ l) : first X g l = -1 := if_neg (el_off hl)

/-- The same with the first greatest one below every share too. -/
def second (X : Fin 128 → EReal) (g : Fin 8) (l : Fin 128) : EReal := if l = el g (best (experts X g)) then -1 else first X g l

theorem second_on (X : Fin 128 → EReal) (g e : Fin 8) : second X g (el g e) = rest (experts X g) e := by
  unfold second rest
  rw [first_on]
  by_cases h : e = best (experts X g)
  · rw [if_pos (by rw [h]), if_pos h]
  · rw [if_neg fun q => h (el_inj g q), if_neg h]

theorem second_out (X : Fin 128 → EReal) (g : Fin 8) (l : Fin 128) (hl : ∀ e, el g e ≠ l) : second X g l = -1 := by
  unfold second
  rw [first_out X g l hl, ite_self]

section Real

variable (X : Fin 128 → EReal) (g : Fin 8) (hX : ∀ e, 0 ≤ experts X g e)

include hX in
theorem first_top : top (first X g) = top (experts X g) :=
  top_lanes (el g) _ _ (first_on X g) fun l hl => (first_out X g l hl).le.trans (neg_one_lt_zero.le.trans ((hX 0).trans (le_top _ 0)))

include hX in
theorem first_lane : lane (first X g) = (((el g (best (experts X g))).val : ℝ) : EReal) :=
  lane_eq (el g) _ _ (el_mono g) (first_on X g) (first_top X g hX) fun l hl e => by
    rw [first_out X g l hl, first_top X g hX] at e
    exact absurd ((hX 0).trans (le_top _ 0)) (not_le.2 (e ▸ neg_one_lt_zero))

include hX in
theorem second_top : top (second X g) = top (rest (experts X g)) :=
  top_lanes (el g) _ _ (second_on X g) fun l hl => (second_out X g l hl).le.trans (neg_one_lt_zero.le.trans (rest_top_nonneg _ hX))

include hX in
theorem second_lane : lane (second X g) = (((el g (best (rest (experts X g)))).val : ℝ) : EReal) :=
  lane_eq (el g) _ _ (el_mono g) (second_on X g) (second_top X g hX) fun l hl e => by
    rw [second_out X g l hl, second_top X g hX] at e
    exact absurd (rest_top_nonneg _ hX) (not_le.2 (e ▸ neg_one_lt_zero))

end Real

/-! ## The kernel's vectors -/

section Kernel

variable (v0 : Vec Ideal S512x2048 .f32) (v5 v8 v12 : Vec Ideal S2048x128 .bf16) (v16 : Vec Ideal S1x128 .f32) (r : Fin 512)

/-- A token's logits. -/
abbrev logits (l : Fin 128) : EReal := k0_pay3 v0 v5 v8 v12 v16 (ix2 r l)

theorem pay5 (l : Fin 128) : k0_pay5 v0 v5 v8 v12 v16 (ix2 r l) = share (groupLanes (logits v0 v5 v8 v12 v16 r)) l := by
  unfold k0_pay5
  refine soft _ r l _ (fun l => ?_) _ _
  unfold groupLanes logits
  rw [← select_if, ← group_word, ← neg_inf]
  generalize k0_pay3 v0 v5 v8 v12 v16 = x
  pointwise []

/-- A row's maximum as a column's entry. -/
theorem top_column {h : S512x128.Reduces [1] S512} {hφ : FKind.Formats .f32} (P : FVec Ideal S512x128 .f32) (Q : Fin 128 → EReal)
    (hQ : ∀ l, P (ix2 r l) = Q l) (ha : (0xFF800000#32 : BitVec 32) = FKind.maximumf.neutral .f32 hφ) :
    shapeCast S512x1 (multiReduction .maximumf [1] S512 P 0xFF800000#32 h hφ ha) shapeCasts_S512_S512x1 (ix2 r (0 : Fin 1)) = top Q := by
  rw [column, row_max]
  exact congrArg top (funext hQ)

theorem pay6 : k0_pay6 v0 v5 v8 v12 v16 (ix2 r (0 : Fin 1)) = top (share fun g => logits v0 v5 v8 v12 v16 r (gl g)) := by
  rw [← group_top]
  unfold k0_pay6
  exact top_column r _ _ (pay5 v0 v5 v8 v12 v16 r) _

/-- The lanes of the group whose number a column holds. -/
def mask (G : IVec S512x1 32) : IVec S512x128 1 :=
  cmpi .eq (shrsi (subi (iota .tc S512x128 32 [1] iota_S512x128_d1_w32) (broadcast S512x128 8#32)) (broadcast S512x128 3#32))
    (broadcastTo S512x128 G broadcasts_S512x1_S512x128)

theorem mask_apply (G : IVec S512x1 32) (g : Fin 8) (hG : G (ix2 r (0 : Fin 1)) = BitVec.ofNat 32 g.val) (l : Fin 128) :
    mask G (ix2 r l) = if 8 + 8 * g.val ≤ l.val ∧ l.val < 16 + 8 * g.val then 1#1 else 0#1 := by
  rw [← expert_word, ← hG]
  pointwise [mask]

/-- The lane numbers. -/
abbrev lanes : IVec S512x128 32 := iota .tc S512x128 32 [1] iota_S512x128_d1_w32

/-- The likeliest group's lanes' shares. -/
abbrev firsts : FVec Ideal S512x128 .f32 := k0_pay9 (k0_pay3 v0 v5 v8 v12 v16) lanes (k0_pay4 (F := Ideal)) (k0_pay7 v0 v5 v8 v12 v16) (k0_pay8 (F := Ideal))

/-- The likeliest group. -/
abbrev chosen : Fin 8 := group (logits v0 v5 v8 v12 v16 r)

theorem pay9 (l : Fin 128) : firsts v0 v5 v8 v12 v16 (ix2 r l) = first (logits v0 v5 v8 v12 v16 r) (chosen v0 v5 v8 v12 v16 r) l := by
  unfold firsts k0_pay9 first
  have hG := mask_apply r _ (chosen v0 v5 v8 v12 v16 r) (row_lane (h := reduces_S512x128_S512) (hφ := .inl rfl) (k0_pay5 v0 v5 v8 v12 v16) (k0_pay6 v0 v5 v8 v12 v16) r _
    (pay5 v0 v5 v8 v12 v16 r) ((pay6 v0 v5 v8 v12 v16 r).trans (group_top _).symm) (gl (chosen v0 v5 v8 v12 v16 r)) (group_lane _) rfl)
  refine (congrArg₂ (fun b z => Scalar.select b z (Ideal.ofBits .f32 0xBF800000#32)) (hG l)
    (soft _ r l (expertLanes (logits v0 v5 v8 v12 v16 r) (chosen v0 v5 v8 v12 v16 r)) (fun l => ?_) _ _)).trans ?_
  · refine (congrArg (fun b => Scalar.select b (k0_pay3 v0 v5 v8 v12 v16 (ix2 r l)) (Ideal.ofBits .f32 0xFF800000#32)) (hG l)).trans ?_
    rw [select_if, neg_inf]
    rfl
  · rw [select_if, neg_one]

variable (hX : ∀ e, 0 ≤ experts (logits v0 v5 v8 v12 v16 r) (chosen v0 v5 v8 v12 v16 r) e)

/-- The shares of the likeliest group's experts. -/
abbrev shares : Fin 8 → EReal := experts (logits v0 v5 v8 v12 v16 r) (chosen v0 v5 v8 v12 v16 r)

include hX in
theorem pay10 : k0_pay10 (k0_pay3 v0 v5 v8 v12 v16) lanes (k0_pay4 (F := Ideal)) (k0_pay7 v0 v5 v8 v12 v16) (k0_pay8 (F := Ideal)) (ix2 r (0 : Fin 1))
    = top (shares v0 v5 v8 v12 v16 r) := by
  rw [shares, ← first_top _ _ hX]
  unfold k0_pay10
  exact top_column r _ _ (pay9 v0 v5 v8 v12 v16 r) _

include hX in
theorem pay11 : k0_pay11 (k0_pay3 v0 v5 v8 v12 v16) lanes (k0_pay4 (F := Ideal)) (k0_pay7 v0 v5 v8 v12 v16) (k0_pay8 (F := Ideal)) (ix2 r (0 : Fin 1))
    = BitVec.ofNat 32 (el (chosen v0 v5 v8 v12 v16 r) (best (shares v0 v5 v8 v12 v16 r))).val := by
  unfold k0_pay11
  exact row_lane _ _ r _ (pay9 v0 v5 v8 v12 v16 r) ((pay10 v0 v5 v8 v12 v16 r hX).trans (first_top _ _ hX).symm) _ (first_lane _ _ hX) _

include hX in
theorem pay12 (l : Fin 128) : k0_pay12 (k0_pay3 v0 v5 v8 v12 v16) lanes (k0_pay4 (F := Ideal)) (k0_pay7 v0 v5 v8 v12 v16) (k0_pay8 (F := Ideal)) (ix2 r l)
    = second (logits v0 v5 v8 v12 v16 r) (chosen v0 v5 v8 v12 v16 r) l := by
  unfold k0_pay12 second
  refine Eq.trans (b := Scalar.select (IntOp.cmpi .eq (BitVec.ofNat 32 l.val) (k0_pay11 (k0_pay3 v0 v5 v8 v12 v16) lanes (k0_pay4 (F := Ideal))
    (k0_pay7 v0 v5 v8 v12 v16) (k0_pay8 (F := Ideal)) (ix2 r (0 : Fin 1)))) (Ideal.ofBits .f32 0xBF800000#32) (firsts v0 v5 v8 v12 v16 (ix2 r l))) ?_ ?_
  · unfold firsts
    generalize k0_pay11 (k0_pay3 v0 v5 v8 v12 v16) lanes (k0_pay4 (F := Ideal)) (k0_pay7 v0 v5 v8 v12 v16) (k0_pay8 (F := Ideal)) = y
    generalize k0_pay9 (k0_pay3 v0 v5 v8 v12 v16) lanes (k0_pay4 (F := Ideal)) (k0_pay7 v0 v5 v8 v12 v16) (k0_pay8 (F := Ideal)) = z
    pointwise []
  · rw [pay11 _ _ _ _ _ _ hX, same_word, select_if, neg_one, pay9]

include hX in
theorem pay13 : k0_pay13 (k0_pay3 v0 v5 v8 v12 v16) lanes (k0_pay4 (F := Ideal)) (k0_pay7 v0 v5 v8 v12 v16) (k0_pay8 (F := Ideal)) (ix2 r (0 : Fin 1))
    = top (rest (shares v0 v5 v8 v12 v16 r)) := by
  rw [shares, ← second_top _ _ hX]
  unfold k0_pay13
  exact top_column r _ _ (pay12 v0 v5 v8 v12 v16 r hX) _

include hX in
theorem pay14 : k0_pay14 (k0_pay3 v0 v5 v8 v12 v16) lanes (k0_pay4 (F := Ideal)) (k0_pay7 v0 v5 v8 v12 v16) (k0_pay8 (F := Ideal)) (ix2 r (0 : Fin 1))
    = BitVec.ofNat 32 (el (chosen v0 v5 v8 v12 v16 r) (best (rest (shares v0 v5 v8 v12 v16 r)))).val := by
  unfold k0_pay14
  exact row_lane _ _ r _ (pay12 v0 v5 v8 v12 v16 r hX) ((pay13 v0 v5 v8 v12 v16 r hX).trans (second_top _ _ hX).symm) _ (second_lane _ _ hX) _

end Kernel

/-! ## A token's results -/

/-- A token's experts: the two likeliest of its likeliest group, in the first two lanes. -/
def ids (X : Fin 128 → EReal) (l : Fin 128) : BitVec 32 :=
  if l.val = 0 then BitVec.ofNat 32 (8 * (group X).val + (best (experts X (group X))).val)
  else if l.val = 1 then BitVec.ofNat 32 (8 * (group X).val + (best (rest (experts X (group X)))).val) else 0#32

/-- Their weights: the group's share times the expert's part of the two. -/
def weights (X : Fin 128 → EReal) (l : Fin 128) : EReal :=
  if l.val = 0 then top (share fun g => X (gl g)) * Ideal.div (top (experts X (group X))) (top (experts X (group X)) + top (rest (experts X (group X))))
  else if l.val = 1 then top (share fun g => X (gl g)) * Ideal.div (top (rest (experts X (group X)))) (top (experts X (group X)) + top (rest (experts X (group X)))) else 0

theorem id_word (g e : Fin 8) : IntOp.subi (BitVec.ofNat 32 (el g e).val) 8#32 = BitVec.ofNat 32 (8 * g.val + e.val) :=
  (by decide +kernel : ∀ g e : Fin 8, IntOp.subi (BitVec.ofNat 32 (el g e).val) 8#32 = BitVec.ofNat 32 (8 * g.val + e.val)) g e

theorem zero_word (l : Fin 128) : IntOp.cmpi .eq (BitVec.ofNat 32 l.val) 0#32 = if l.val = 0 then 1#1 else 0#1 :=
  (by decide +kernel : ∀ l : Fin 128, IntOp.cmpi .eq (BitVec.ofNat 32 l.val) 0#32 = if l.val = 0 then 1#1 else 0#1) l

theorem one_word (l : Fin 128) : IntOp.cmpi .eq (BitVec.ofNat 32 l.val) 1#32 = if l.val = 1 then 1#1 else 0#1 :=
  (by decide +kernel : ∀ l : Fin 128, IntOp.cmpi .eq (BitVec.ofNat 32 l.val) 1#32 = if l.val = 1 then 1#1 else 0#1) l

theorem pay1 (a b : IVec S512x1 32) (r : Fin 512) (l : Fin 128) : k0_pay1 lanes a b (ix2 r l)
    = if l.val = 0 then IntOp.subi (a (ix2 r (0 : Fin 1))) 8#32 else if l.val = 1 then IntOp.subi (b (ix2 r (0 : Fin 1))) 8#32 else 0#32 := by
  refine Eq.trans (b := Scalar.select (IntOp.cmpi .eq (BitVec.ofNat 32 l.val) 0#32) (IntOp.subi (a (ix2 r (0 : Fin 1))) 8#32)
    (Scalar.select (IntOp.cmpi .eq (BitVec.ofNat 32 l.val) 1#32) (IntOp.subi (b (ix2 r (0 : Fin 1))) 8#32) 0#32)) ?_ ?_
  · pointwise [k0_pay1]
  · rw [zero_word, one_word, select_if, select_if]

theorem pay2 (a b d e : FVec Ideal S512x1 .f32) (r : Fin 512) (l : Fin 128) : k0_pay2 lanes a b d e (ix2 r l)
    = if l.val = 0 then a (ix2 r (0 : Fin 1)) * Ideal.div (b (ix2 r (0 : Fin 1))) (e (ix2 r (0 : Fin 1)))
      else if l.val = 1 then a (ix2 r (0 : Fin 1)) * Ideal.div (d (ix2 r (0 : Fin 1))) (e (ix2 r (0 : Fin 1))) else 0 := by
  refine Eq.trans (b := Scalar.select (IntOp.cmpi .eq (BitVec.ofNat 32 l.val) 0#32) (a (ix2 r (0 : Fin 1)) * Ideal.div (b (ix2 r (0 : Fin 1))) (e (ix2 r (0 : Fin 1))))
    (Scalar.select (IntOp.cmpi .eq (BitVec.ofNat 32 l.val) 1#32) (a (ix2 r (0 : Fin 1)) * Ideal.div (d (ix2 r (0 : Fin 1))) (e (ix2 r (0 : Fin 1))))
      (Ideal.ofBits .f32 0x00000000#32))) ?_ ?_
  · pointwise [k0_pay2]
  · rw [zero_word, one_word, select_if, select_if, Ideal.ofBits_zero]

section Kernel

variable (v0 : Vec Ideal S512x2048 .f32) (v5 v8 v12 : Vec Ideal S2048x128 .bf16) (v16 : Vec Ideal S1x128 .f32) (r : Fin 512)
variable (hX : ∀ e, 0 ≤ experts (logits v0 v5 v8 v12 v16 r) (chosen v0 v5 v8 v12 v16 r) e)

include hX in
theorem ids_block (l : Fin 128) : k0_pay1 lanes
    (k0_pay11 (k0_pay3 v0 v5 v8 v12 v16) lanes (k0_pay4 (F := Ideal)) (k0_pay7 v0 v5 v8 v12 v16) (k0_pay8 (F := Ideal)))
    (k0_pay14 (k0_pay3 v0 v5 v8 v12 v16) lanes (k0_pay4 (F := Ideal)) (k0_pay7 v0 v5 v8 v12 v16) (k0_pay8 (F := Ideal))) (ix2 r l)
    = ids (logits v0 v5 v8 v12 v16 r) l := by
  rw [pay1, pay11 _ _ _ _ _ _ hX, pay14 _ _ _ _ _ _ hX, id_word, id_word]
  rfl

include hX in
theorem weights_block (l : Fin 128) : k0_pay2 lanes (k0_pay6 v0 v5 v8 v12 v16)
    (k0_pay10 (k0_pay3 v0 v5 v8 v12 v16) lanes (k0_pay4 (F := Ideal)) (k0_pay7 v0 v5 v8 v12 v16) (k0_pay8 (F := Ideal)))
    (k0_pay13 (k0_pay3 v0 v5 v8 v12 v16) lanes (k0_pay4 (F := Ideal)) (k0_pay7 v0 v5 v8 v12 v16) (k0_pay8 (F := Ideal)))
    (k0_pay15 (k0_pay3 v0 v5 v8 v12 v16) lanes (k0_pay4 (F := Ideal)) (k0_pay7 v0 v5 v8 v12 v16) (k0_pay8 (F := Ideal))) (ix2 r l)
    = weights (logits v0 v5 v8 v12 v16 r) l := by
  have e : k0_pay15 (k0_pay3 v0 v5 v8 v12 v16) lanes (k0_pay4 (F := Ideal)) (k0_pay7 v0 v5 v8 v12 v16) (k0_pay8 (F := Ideal)) (ix2 r (0 : Fin 1))
      = top (shares v0 v5 v8 v12 v16 r) + top (rest (shares v0 v5 v8 v12 v16 r)) :=
    congrArg₂ (· + ·) (pay10 v0 v5 v8 v12 v16 r hX) (pay13 v0 v5 v8 v12 v16 r hX)
  rw [pay2, e, pay6, pay10 _ _ _ _ _ _ hX, pay13 _ _ _ _ _ _ hX]
  rfl

end Kernel

end Cert.RouterIdeal.Hand
end
-- ==== Proof.PT.lean ====
/- The routing kernel's two arrays. -/
module

public import proofs.«01_k».proof.Proof.PR
public import proofs.«01_k».proof.Proof.Gen.Pre_finite_router
public import proofs.«01_k».proof.Proof.FV.Finite

@[expose] public section

set_option maxRecDepth 16384

noncomputable section

namespace Cert.RouterIdeal.Hand

open Idealize.ShloMosaic Idealize.SL.Sem Cert.RouterIdeal Cert.RouterIdeal.Gen Cert.Route
open Idealize.ShloMosaic.Pipeline (Dat)

variable (m : (ℓ : Loc nD τ sig) → Buf (Elt Ideal) ℓ) (c : Dev nD)

/-! ## The weights side by side -/

/-- The groups' weights, the experts' beside them, and zeros. -/
def cat (wg : Vec Ideal S2048x8 .f32) (we : Vec Ideal S2048x64 .f32) : FVec Ideal S2048x128 .f32 :=
  concatenate S2048x128 1 [⟨S2048x8, wg⟩, ⟨S2048x64, we⟩,
    ⟨S2048x56, broadcastInDim S2048x56 ![] bcast_S_S2048x56 (constant (F := Ideal) S_ .f32 0x00000000#32)⟩]
    concatenates_S2048x8_S2048x64_S2048x56_S2048x128_d1

/-- The biases likewise. -/
def bias (bg : Vec Ideal S8 .f32) (be : Vec Ideal S64 .f32) : FVec Ideal S128 .f32 :=
  concatenate S128 0 [⟨S8, bg⟩, ⟨S64, be⟩, ⟨S56, broadcastInDim S56 ![] bcast_S_S56 (constant (F := Ideal) S_ .f32 0x00000000#32)⟩]
    concatenates_S8_S64_S56_S128_d0

theorem V_hi : V m c main_v2 = (truncf .bf16 (cat (m ((c.tc : Thread nD τ).loc main_arg1)) (m ((c.tc : Thread nD τ).loc main_arg3))) bitsLt_bf16_f32 :
    FVec Ideal S2048x128 .bf16) := by
  unfold V hostOps0
  after_results <;> rfl

theorem V_lo : V m c main_v5 = (truncf .bf16 (subf (cat (m ((c.tc : Thread nD τ).loc main_arg1)) (m ((c.tc : Thread nD τ).loc main_arg3)))
    (extf .f32 (truncf .bf16 (cat (m ((c.tc : Thread nD τ).loc main_arg1)) (m ((c.tc : Thread nD τ).loc main_arg3))) bitsLt_bf16_f32 :
    FVec Ideal S2048x128 .bf16) bitsLt_bf16_f32)) bitsLt_bf16_f32 : FVec Ideal S2048x128 .bf16) := by
  unfold V hostOps0
  after_results <;> rfl

theorem V_bias : V m c main_v8 = shapeCast S1x128 (bias (m ((c.tc : Thread nD τ).loc main_arg2)) (m ((c.tc : Thread nD τ).loc main_arg4))) shapeCasts_S128_S1x128 := by
  unfold V hostOps0
  after_results <;> rfl

theorem cat_group (wg : Vec Ideal S2048x8 .f32) (we : Vec Ideal S2048x64 .f32) (k : Fin 2048) (g : Fin 8) : cat wg we (ix2 k (gl g)) = wg (ix2 k g) := by
  unfold gl
  pointwise [cat]

theorem cat_expert (wg : Vec Ideal S2048x8 .f32) (we : Vec Ideal S2048x64 .f32) (k : Fin 2048) (g e : Fin 8) :
    cat wg we (ix2 k (el g e)) = we (ix2 k ⟨8 * g.val + e.val, by omega⟩) := by
  unfold el
  pointwise [cat]
  rw [dif_neg (by omega), dif_pos (by omega)]
  refine congrArg (fun z => we (ix2 k z)) (Fin.ext ?_)
  dsimp only
  omega

theorem bias_group (bg : Vec Ideal S8 .f32) (be : Vec Ideal S64 .f32) (g : Fin 8) : bias bg be (ix1 (gl g)) = bg (ix1 g) := by
  unfold gl
  pointwise [bias]

theorem bias_expert (bg : Vec Ideal S8 .f32) (be : Vec Ideal S64 .f32) (g e : Fin 8) :
    bias bg be (ix1 (el g e)) = be (ix1 ⟨8 * g.val + e.val, by omega⟩) := by
  unfold el
  pointwise [bias]
  rw [dif_neg (by omega), dif_pos (by omega)]
  refine congrArg (fun z => be (ix1 z)) (Fin.ext ?_)
  dsimp only
  omega

theorem cat_real (wg : Vec Ideal S2048x8 .f32) (we : Vec Ideal S2048x64 .f32) (hg : ∀ i, wg i ≠ (⊥ : EReal) ∧ wg i ≠ (⊤ : EReal))
    (he : ∀ i, we i ≠ (⊥ : EReal) ∧ we i ≠ (⊤ : EReal)) (k : Fin 2048) (l : Fin 128) : cat wg we (ix2 k l) ≠ (⊥ : EReal) ∧ cat wg we (ix2 k l) ≠ (⊤ : EReal) := by
  have e : cat wg we (ix2 k l) = if h : l.val < 8 then wg (ix2 k ⟨l.val, h⟩) else if h' : l.val < 72 then we (ix2 k ⟨l.val - 8, by omega⟩) else 0 := by
    rw [← Ideal.ofBits_zero .f32]
    pointwise [cat]
    exact dite_congr rfl (fun _ => rfl) fun _ => dite_congr (propext (by omega)) (fun _ => rfl) fun _ => rfl
  rw [e]
  split_ifs
  · exact hg _
  · exact he _
  · exact ⟨EReal.zero_ne_bot, EReal.zero_ne_top⟩

/-! ## The logits -/

theorem logits_apply (v0 : Vec Ideal S512x2048 .f32) (v5 v8 : Vec Ideal S2048x128 .bf16) (v16 : Vec Ideal S1x128 .f32) (r : Fin 512) (l : Fin 128)
    (h0 : ∀ k : Fin 2048, v0 (ix2 r k) ≠ (⊥ : EReal) ∧ v0 (ix2 r k) ≠ (⊤ : EReal)) (h8 : ∀ k : Fin 2048, v8 (ix2 k l) = (0 : EReal)) :
    logits v0 v5 v8 v5 v16 r l = (∑ k : Fin 2048, v0 (ix2 r k) * v5 (ix2 k l)) + v16 (ix2 0 l) := by
  unfold logits
  pointwise [k0_pay3]
  have e1 : ∀ k : Fin 2048, v0 (ix2 r k) * v8 (ix2 k l) = (0 : EReal) := fun k => by rw [h8, mul_zero]
  have e2 : ∀ k : Fin 2048, ((v0 (ix2 r k) : EReal) - v0 (ix2 r k)) * v5 (ix2 k l) = (0 : EReal) := fun k => by
    rw [EReal.sub_self (h0 k).2 (h0 k).1, zero_mul]
  simp only [e1, e2, Finset.sum_const_zero, add_zero]

/-- A token's logits. -/
def logit (h : Vec Ideal S16384x2048 .f32) (wg : Vec Ideal S2048x8 .f32) (bg : Vec Ideal S8 .f32) (we : Vec Ideal S2048x64 .f32) (be : Vec Ideal S64 .f32)
    (n : Fin 16384) (l : Fin 128) : EReal := (∑ k : Fin 2048, h (ix2 n k) * cat wg we (ix2 k l)) + bias bg be (ix1 l)

theorem idx0_0 (t : Fin cfg0.N) : win0_0.index t = ![(grid0.coords t 0).val, 0] :=
  (by decide +kernel : ∀ t : Fin grid0.N, win0_0.index t = ![(grid0.coords t 0).val, 0]) t

theorem idx0_1 (t : Fin cfg0.N) : win0_1.index t = ![0, 0] :=
  (by decide +kernel : ∀ t : Fin grid0.N, win0_1.index t = ![0, 0]) t

theorem idx0_2 (t : Fin cfg0.N) : win0_2.index t = ![0, 0] :=
  (by decide +kernel : ∀ t : Fin grid0.N, win0_2.index t = ![0, 0]) t

theorem idx0_3 (t : Fin cfg0.N) : win0_3.index t = ![0, 0] :=
  (by decide +kernel : ∀ t : Fin grid0.N, win0_3.index t = ![0, 0]) t

theorem idx0_4 (t : Fin cfg0.N) : win0_4.index t = ![(grid0.coords t 0).val, 0] :=
  (by decide +kernel : ∀ t : Fin grid0.N, win0_4.index t = ![(grid0.coords t 0).val, 0]) t

theorem idx0_5 (t : Fin cfg0.N) : win0_5.index t = ![(grid0.coords t 0).val, 0] :=
  (by decide +kernel : ∀ t : Fin grid0.N, win0_5.index t = ![(grid0.coords t 0).val, 0]) t

/-- A block's tokens. -/
abbrev row (t : Fin cfg0.N) (r : Fin 512) : Fin 16384 :=
  ⟨(grid0.coords t 0).val * 512 + r.val, by have h : (grid0.coords t 0).val < 32 := (grid0.coords t 0).isLt; omega⟩

theorem emb_4 (t : Fin cfg0.N) (a : Fin 512) (b : Fin 128) : ((cfg0.win 4).blk t).view.emb (ix2 a b) = ix2 (row t a) b := by
  symm
  have e := idx0_4 t
  blk_ext [e]
  all_goals rfl

theorem emb_5 (t : Fin cfg0.N) (a : Fin 512) (b : Fin 128) : ((cfg0.win 5).blk t).view.emb (ix2 a b) = ix2 (row t a) b := by
  symm
  have e := idx0_5 t
  blk_ext [e]
  all_goals rfl

theorem h_block (t : Fin cfg0.N) (r : Fin 512) (k : Fin 2048) :
    iblk m c 0 t (ix2 r k) = (m ((c.tc : Thread nD τ).loc main_arg0) : Vec Ideal S16384x2048 .f32) (ix2 (row t r) k) := by
  have e := idx0_0 t
  rw [← V_main_arg0 m c]
  blk_point [iblk, e]

theorem hi_block (t : Fin cfg0.N) (k : Fin 2048) (l : Fin 128) :
    iblk m c 1 t (ix2 k l) = cat (m ((c.tc : Thread nD τ).loc main_arg1)) (m ((c.tc : Thread nD τ).loc main_arg3)) (ix2 k l) := by
  have e := idx0_1 t
  refine Eq.trans ?_ (congrFun (V_hi m c) (ix2 k l))
  blk_point [iblk, e]

theorem lo_block (t : Fin cfg0.N) (k : Fin 2048) (l : Fin 128) :
    iblk m c 2 t (ix2 k l) = cat (m ((c.tc : Thread nD τ).loc main_arg1)) (m ((c.tc : Thread nD τ).loc main_arg3)) (ix2 k l)
      - cat (m ((c.tc : Thread nD τ).loc main_arg1)) (m ((c.tc : Thread nD τ).loc main_arg3)) (ix2 k l) := by
  have e := idx0_2 t
  refine Eq.trans ?_ (congrFun (V_lo m c) (ix2 k l))
  blk_point [iblk, e]

theorem bias_block (t : Fin cfg0.N) (l : Fin 128) :
    iblk m c 3 t (ix2 (0 : Fin 1) l) = bias (m ((c.tc : Thread nD τ).loc main_arg2)) (m ((c.tc : Thread nD τ).loc main_arg4)) (ix1 l) := by
  have e := idx0_3 t
  refine Eq.trans (b := shapeCast S1x128 (bias (m ((c.tc : Thread nD τ).loc main_arg2)) (m ((c.tc : Thread nD τ).loc main_arg4))) shapeCasts_S128_S1x128 (ix2 (0 : Fin 1) l)) ?_ ?_
  · rw [← V_bias]
    blk_point [iblk, e]
  · generalize bias (m ((c.tc : Thread nD τ).loc main_arg2)) (m ((c.tc : Thread nD τ).loc main_arg4)) = b
    pointwise []

/-! ## The results -/

section Out

variable (x0 : Vec Ideal S512x2048 .f32) (x1 x2 : Vec Ideal S2048x128 .bf16) (x3 : Vec Ideal S1x128 .f32) (r : Fin 512)
variable (hX : ∀ e, 0 ≤ experts (logits x0 x1 x2 x1 x3 r) (chosen x0 x1 x2 x1 x3 r) e)

include hX in
theorem out_4 (l : Fin 128) : out0_4 x0 x1 x2 x3 (ix2 r l) = ids (logits x0 x1 x2 x1 x3 r) l := by
  unfold_out out0_4
  frame_out
  exact ids_block _ _ _ _ _ _ hX l

include hX in
theorem out_5 (l : Fin 128) : out0_5 x0 x1 x2 x3 (ix2 r l) = weights (logits x0 x1 x2 x1 x3 r) l := by
  unfold_out out0_5
  frame_out
  exact weights_block _ _ _ _ _ _ hX l

end Out

section Results

variable (h0 : ∀ i, (m ((c.tc : Thread nD τ).loc main_arg0) : Vec Ideal S16384x2048 .f32) i ≠ (⊥ : EReal) ∧ (m ((c.tc : Thread nD τ).loc main_arg0) : Vec Ideal S16384x2048 .f32) i ≠ (⊤ : EReal))
  (h1 : ∀ i, (m ((c.tc : Thread nD τ).loc main_arg1) : Vec Ideal S2048x8 .f32) i ≠ (⊥ : EReal) ∧ (m ((c.tc : Thread nD τ).loc main_arg1) : Vec Ideal S2048x8 .f32) i ≠ (⊤ : EReal))
  (h3 : ∀ i, (m ((c.tc : Thread nD τ).loc main_arg3) : Vec Ideal S2048x64 .f32) i ≠ (⊥ : EReal) ∧ (m ((c.tc : Thread nD τ).loc main_arg3) : Vec Ideal S2048x64 .f32) i ≠ (⊤ : EReal))
  (h4 : ∀ i, (m ((c.tc : Thread nD τ).loc main_arg4) : Vec Ideal S64 .f32) i ≠ (⊥ : EReal) ∧ (m ((c.tc : Thread nD τ).loc main_arg4) : Vec Ideal S64 .f32) i ≠ (⊤ : EReal))

theorem sub_self_real {x : EReal} (h : x ≠ ⊥ ∧ x ≠ ⊤) : x - x = 0 := EReal.sub_self h.2 h.1

include h0 h1 h3 in
theorem block_logits (t : Fin cfg0.N) (r : Fin 512) : logits (iblk m c 0 t) (iblk m c 1 t) (iblk m c 2 t) (iblk m c 1 t) (iblk m c 3 t) r
    = logit (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (row t r) := by
  funext l
  rw [logits_apply _ _ _ _ _ _ (fun k => by rw [h_block]; exact h0 _) (fun k => by rw [lo_block]; exact sub_self_real (cat_real _ _ h1 h3 k l)), bias_block]
  unfold logit
  simp only [h_block, hi_block]

theorem mul_real {a b : EReal} (ha : a ≠ ⊥ ∧ a ≠ ⊤) (hb : b ≠ ⊥ ∧ b ≠ ⊤) : a * b ≠ ⊥ ∧ a * b ≠ ⊤ := by
  rw [← EReal.coe_toReal ha.2 ha.1, ← EReal.coe_toReal hb.2 hb.1, ← EReal.coe_mul]
  exact ⟨EReal.coe_ne_bot _, EReal.coe_ne_top _⟩

theorem add_real {a b : EReal} (ha : a ≠ ⊥ ∧ a ≠ ⊤) (hb : b ≠ ⊥ ∧ b ≠ ⊤) : a + b ≠ ⊥ ∧ a + b ≠ ⊤ := by
  rw [← EReal.coe_toReal ha.2 ha.1, ← EReal.coe_toReal hb.2 hb.1, ← EReal.coe_add]
  exact ⟨EReal.coe_ne_bot _, EReal.coe_ne_top _⟩

theorem sum_real {n : Nat} (f : Fin n → EReal) (h : ∀ k, f k ≠ ⊥ ∧ f k ≠ ⊤) : ∑ k, f k ≠ ⊥ ∧ ∑ k, f k ≠ ⊤ := by
  refine Finset.sum_induction f (fun x => x ≠ ⊥ ∧ x ≠ ⊤) (fun _ _ => add_real) ⟨EReal.zero_ne_bot, EReal.zero_ne_top⟩ fun k _ => h k

/-- Of real arguments a group's experts' shares are at least 0. -/
theorem experts_nonneg (h : Vec Ideal S16384x2048 .f32) (wg : Vec Ideal S2048x8 .f32) (bg : Vec Ideal S8 .f32) (we : Vec Ideal S2048x64 .f32) (be : Vec Ideal S64 .f32)
    (hh : ∀ i, h i ≠ (⊥ : EReal) ∧ h i ≠ (⊤ : EReal)) (hw : ∀ i, we i ≠ (⊥ : EReal) ∧ we i ≠ (⊤ : EReal)) (hb : ∀ i, be i ≠ (⊥ : EReal) ∧ be i ≠ (⊤ : EReal))
    (n : Fin 16384) (g e : Fin 8) : 0 ≤ experts (logit h wg bg we be n) g e := by
  refine share_nonneg _ (fun e => ?_) e
  unfold logit
  rw [bias_expert]
  refine add_real (sum_real _ fun k => ?_) (hb _)
  rw [cat_expert]
  exact mul_real (hh _) (hw _)

/-- The experts' numbers. -/
def idArray (h : Vec Ideal S16384x2048 .f32) (wg : Vec Ideal S2048x8 .f32) (bg : Vec Ideal S8 .f32) (we : Vec Ideal S2048x64 .f32) (be : Vec Ideal S64 .f32) :
    Vec Ideal S16384x128 .i32 := fun i => ids (logit h wg bg we be (i 0)) (i 1)

/-- Their weights. -/
def weightArray (h : Vec Ideal S16384x2048 .f32) (wg : Vec Ideal S2048x8 .f32) (bg : Vec Ideal S8 .f32) (we : Vec Ideal S2048x64 .f32) (be : Vec Ideal S64 .f32) :
    Vec Ideal S16384x128 .f32 := fun i => weights (logit h wg bg we be (i 0)) (i 1)

include h0 h1 h3 h4 in
theorem ids_array : (dats m 0 c).arrAt 4 cfg0.N = idArray (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) := by
  refine (dats m 0 c).arrAt_eq_of_covers 4 _ (by decide +kernel) fun t hf y => ?_
  blk_simp
  rw [after0_4]
  obtain ⟨r, l, rfl⟩ : ∃ (r : Fin 512) (l : Fin 128), y = ix2 r l := ⟨y 0, y 1, eq_ix2 (n0 := 512) (n1 := 128) y⟩
  erw [emb_4]
  have hX := block_logits m c h0 h1 h3 t r
  refine (out_4 (iblk m c 0 t) (iblk m c 1 t) (iblk m c 2 t) (iblk m c 3 t) r (fun e => ?_) l).trans ?_
  · rw [chosen, hX]
    exact experts_nonneg _ _ _ _ _ h0 h3 h4 _ _ e
  · rw [hX]
    rfl

include h0 h1 h3 h4 in
theorem weights_array : (dats m 0 c).arrAt 5 cfg0.N = weightArray (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) := by
  refine (dats m 0 c).arrAt_eq_of_covers 5 _ (by decide +kernel) fun t hf y => ?_
  blk_simp
  rw [after0_5]
  obtain ⟨r, l, rfl⟩ : ∃ (r : Fin 512) (l : Fin 128), y = ix2 r l := ⟨y 0, y 1, eq_ix2 (n0 := 512) (n1 := 128) y⟩
  erw [emb_5]
  have hX := block_logits m c h0 h1 h3 t r
  refine (out_5 (iblk m c 0 t) (iblk m c 1 t) (iblk m c 2 t) (iblk m c 3 t) r (fun e => ?_) l).trans ?_
  · rw [chosen, hX]
    exact experts_nonneg _ _ _ _ _ h0 h3 h4 _ _ e
  · rw [hX]
    rfl

end Results

/-! ## The precondition, read at an element -/

open Cert.Pre_finite.Hand (real_of_abs_lt)

theorem finite_read (h : FVec Ideal S16384x2048 .f32) (wg : FVec Ideal S2048x8 .f32) (bg : FVec Ideal S8 .f32) (we : FVec Ideal S2048x64 .f32) (be : FVec Ideal S64 .f32)
    (hp : Pre_finite_router.fn (F := Ideal) h wg bg we be = fun _ => 1#1) :
    (∀ i, h i ≠ (⊥ : EReal) ∧ h i ≠ (⊤ : EReal)) ∧ (∀ i, wg i ≠ (⊥ : EReal) ∧ wg i ≠ (⊤ : EReal))
      ∧ (∀ i, we i ≠ (⊥ : EReal) ∧ we i ≠ (⊤ : EReal)) ∧ ∀ i, be i ≠ (⊥ : EReal) ∧ be i ≠ (⊤ : EReal) := by
  have h0 := congrFun hp ix0
  obtain ⟨h1, hd⟩ := IntOp.andi_eq_one.1 h0
  obtain ⟨h2, hc⟩ := IntOp.andi_eq_one.1 h1
  obtain ⟨ha, hb⟩ := IntOp.andi_eq_one.1 h2
  refine ⟨fun i => real_of_abs_lt _ ?_, fun i => real_of_abs_lt _ ?_, fun i => real_of_abs_lt _ ?_, fun i => real_of_abs_lt _ ?_⟩ <;> rw [← pos_inf]
  · exact Host.reduce_andi_all _ _ _ _ _ ha i
  · exact Host.reduce_andi_all _ _ _ _ _ hb i
  · exact Host.reduce_andi_all _ _ _ _ _ hc i
  · exact Host.reduce_andi_all _ _ _ _ _ hd i

end Cert.RouterIdeal.Hand
end
-- ==== Proof.PV.lean ====
/- The routing's reference, token by token. -/
module

public import proofs.«01_k».proof.Proof.PT

@[expose] public section

set_option maxRecDepth 16384

noncomputable section

namespace Cert.RouterRefIdeal.Hand

open Idealize.ShloMosaic Cert.RouterRefIdeal Cert.RouterRefIdeal.Gen Cert.RouterRefIdeal.Read Cert.Route
open Cert.RouterIdeal.Hand (gl el group experts ids weights logit neg_inf)

/-! ## Softmax and the greatest of eight -/

theorem ref_max (x : FVec Ideal S16384x8 .f32) (n : Fin 16384) :
    Host.reduce FloatOps.maximumf x (constant (F := Ideal) S_ .f32 0xFF800000#32) reducesTo_S16384x8_S16384_d1 h_S_ (ix1 n) = top fun g : Fin 8 => x (ix2 n g) := by
  rw [Host.reduce_eq_fold_single FloatOps.maximumf x _ reducesTo_S16384x8_S16384_d1 (by decide) h_S_]
  change Finset.univ.fold max (Ideal.ofBits .f32 0xFF800000#32) _ = _
  rw [neg_inf]
  unfold top
  refine Finset.sup_congr rfl fun l _ => ?_
  exact congrArg x (by idx_ext)

theorem along_eq (n : Fin 16384) (j k : Fin 8) : (ix2 n j : S16384x8.Idx).along 1 k = ix2 n k := by idx_ext

theorem sorted_val (x : FVec Ideal S16384x8 .f32) (y : IVec S16384x8 32) (n : Fin 16384) (j : Fin 8) :
    (Host.sort2 S16384x8 1 (fun l r => FloatOps.cmpfTotal (F := Ideal) (φ := .f32) .gt l.1 r.1) x y).1 (ix2 n j)
      = x (ix2 n (sortedFrom (greater fun g => x (ix2 n g)) j)) := by
  unfold Host.sort2
  rw [dif_pos (by decide)]
  change x ((ix2 n j : S16384x8.Idx).along 1 (sortedFrom (fun k k' : Fin 8 => Ideal.cmp .ogt (x ((ix2 n j : S16384x8.Idx).along 1 k)) (x ((ix2 n j : S16384x8.Idx).along 1 k')) == 1#1) j)) = _
  simp only [along_eq]
  exact congrArg x (along_eq n j _)

theorem sorted_idx (x : FVec Ideal S16384x8 .f32) (y : IVec S16384x8 32) (n : Fin 16384) (j : Fin 8) :
    (Host.sort2 S16384x8 1 (fun l r => FloatOps.cmpfTotal (F := Ideal) (φ := .f32) .gt l.1 r.1) x y).2 (ix2 n j)
      = y (ix2 n (sortedFrom (greater fun g => x (ix2 n g)) j)) := by
  unfold Host.sort2
  rw [dif_pos (by decide)]
  change y ((ix2 n j : S16384x8.Idx).along 1 (sortedFrom (fun k k' : Fin 8 => Ideal.cmp .ogt (x ((ix2 n j : S16384x8.Idx).along 1 k)) (x ((ix2 n j : S16384x8.Idx).along 1 k')) == 1#1) j)) = _
  simp only [along_eq]
  exact congrArg y (along_eq n j _)

theorem slice_one {α : Type} (z : S16384x8.Idx → α) (n : Fin 16384) :
    extractStridedSlice S16384x1 (fun _ => 0) z sliceFits_S16384x8_S16384x1 (ix2 n (0 : Fin 1)) = z (ix2 n (0 : Fin 8)) := by
  unfold extractStridedSlice
  exact congrArg z (by idx_ext)

theorem slice_two {α : Type} (z : S16384x8.Idx → α) (n : Fin 16384) (i : Fin 2) :
    extractStridedSlice S16384x2 (fun _ => 0) z sliceFits_S16384x8_S16384x2 (ix2 n i) = z (ix2 n (i.castLE (by decide) : Fin 8)) := by
  unfold extractStridedSlice
  exact congrArg z (by idx_ext)

/-- The positions that are sorted along with the values. -/
abbrev numbers : IVec S16384x8 32 := fun i => if hd : 1 < S16384x8.rank then iotaInDim S16384x8 32 ⟨1, hd⟩ i else 0#32

/-- A row's values in falling order, each with its position. -/
abbrev ordered (x : FVec Ideal S16384x8 .f32) :=
  Host.sort2 S16384x8 1 (fun l r => FloatOps.cmpfTotal (F := Ideal) (φ := .f32) .gt l.1 r.1) x numbers

theorem one_val (x : FVec Ideal S16384x8 .f32) (n : Fin 16384) :
    (Host.topK S16384x1 1 (FloatOps.cmpfTotal (F := Ideal) (φ := .f32) .gt) x sliceFits_S16384x8_S16384x1).1 (ix2 n (0 : Fin 1)) = top fun g : Fin 8 => x (ix2 n g) := by
  rw [← best_spec, ← sorted_first]
  exact (slice_one (ordered x).1 n).trans (sorted_val x numbers n 0)

theorem one_idx (x : FVec Ideal S16384x8 .f32) (n : Fin 16384) :
    (Host.topK S16384x1 1 (FloatOps.cmpfTotal (F := Ideal) (φ := .f32) .gt) x sliceFits_S16384x8_S16384x1).2 (ix2 n (0 : Fin 1))
      = BitVec.ofNat 32 (best fun g : Fin 8 => x (ix2 n g)).val := by
  rw [← sorted_first]
  exact (slice_one (ordered x).2 n).trans (sorted_idx x numbers n 0)

theorem two_val (x : FVec Ideal S16384x8 .f32) (n : Fin 16384) (hx : ∀ g : Fin 8, 0 ≤ x (ix2 n g)) (i : Fin 2) :
    (Host.topK S16384x2 1 (FloatOps.cmpfTotal (F := Ideal) (φ := .f32) .gt) x sliceFits_S16384x8_S16384x2).1 (ix2 n i)
      = ![top fun g : Fin 8 => x (ix2 n g), top (rest fun g : Fin 8 => x (ix2 n g))] i := by
  refine ((slice_two (ordered x).1 n i).trans (sorted_val x numbers n _)).trans ?_
  rw [sorted_two _ hx]
  match i with
  | 0 => exact best_spec fun g : Fin 8 => x (ix2 n g)
  | 1 => exact second_spec (fun g : Fin 8 => x (ix2 n g)) hx

theorem two_idx (x : FVec Ideal S16384x8 .f32) (n : Fin 16384) (hx : ∀ g : Fin 8, 0 ≤ x (ix2 n g)) (i : Fin 2) :
    (Host.topK S16384x2 1 (FloatOps.cmpfTotal (F := Ideal) (φ := .f32) .gt) x sliceFits_S16384x8_S16384x2).2 (ix2 n i)
      = BitVec.ofNat 32 (![best fun g : Fin 8 => x (ix2 n g), best (rest fun g : Fin 8 => x (ix2 n g))] i).val := by
  rw [← sorted_two _ hx]
  exact (slice_two (ordered x).2 n i).trans (sorted_idx x numbers n _)

/-! ## The groups -/

section Groups

variable (h : Vec Ideal S16384x2048 .f32) (wg : Vec Ideal S2048x8 .f32) (bg : Vec Ideal S8 .f32) (we : Vec Ideal S2048x64 .f32) (be : Vec Ideal S64 .f32) (n : Fin 16384)

theorem group_logit (g : Fin 8) : val_main_v3 (F := Ideal) h wg bg (ix2 n g) = logit h wg bg we be n (gl g) := by
  unfold logit
  simp only [Cert.RouterIdeal.Hand.cat_group, Cert.RouterIdeal.Hand.bias_group]
  pointwise [val_main_v3, val_main_v2, val_main_v1, val_main_v0]

theorem group_max : val_main_v6 (F := Ideal) h wg bg (ix1 n) = top fun g => logit h wg bg we be n (gl g) := by
  rw [val_main_v6_apply]
  change max (val_main_v5 (F := Ideal) (ix1 n)) (val_main_v4 (F := Ideal) h wg bg (ix1 n)) = _
  unfold val_main_v4 val_main_cst
  rw [ref_max, val_main_v5_apply, val_main_cst_0_apply]
  change max (Ideal.ofBits .f32 0xFF800000#32) _ = _
  rw [neg_inf, max_eq_right bot_le]
  simp only [group_logit h wg bg we be]

theorem group_exp (g : Fin 8) : val_main_v10 (F := Ideal) h wg bg (ix2 n g)
    = Ideal.exp (logit h wg bg we be n (gl g) - top fun g => logit h wg bg we be n (gl g)) := by
  rw [← group_max, ← group_logit]
  generalize hz : val_main_v6 (F := Ideal) h wg bg = z
  generalize hy : val_main_v3 (F := Ideal) h wg bg = y
  pointwise [val_main_v10, val_main_v9, val_main_v8, val_main_v7, hz, hy]

theorem group_sum : val_main_v11 (F := Ideal) h wg bg (ix1 n)
    = ∑ g : Fin 8, Ideal.exp (logit h wg bg we be n (gl g) - top fun g => logit h wg bg we be n (gl g)) := by
  rw [val_main_v11_apply, val_main_cst_1_apply]
  change Ideal.ofBits .f32 0x00000000#32 + _ = _
  rw [Ideal.ofBits_zero, zero_add]
  refine Finset.sum_congr rfl fun g _ => ?_
  rw [← group_exp]
  exact congrArg _ (by idx_ext)

theorem group_share (g : Fin 8) : val_main_v14 (F := Ideal) h wg bg (ix2 n g) = share (fun g => logit h wg bg we be n (gl g)) g := by
  unfold share
  rw [← group_exp, ← group_sum]
  generalize hz : val_main_v10 (F := Ideal) h wg bg = z
  generalize hy : val_main_v11 (F := Ideal) h wg bg = y
  pointwise [val_main_v14, val_main_v13, val_main_v12, hz, hy]

theorem group_val : val_main_values (F := Ideal) h wg bg (ix2 n (0 : Fin 1)) = top (share fun g => logit h wg bg we be n (gl g)) := by
  unfold val_main_values
  rw [one_val]
  simp only [group_share h wg bg we be]

theorem group_idx : val_main_indices (F := Ideal) h wg bg (ix2 n (0 : Fin 1)) = BitVec.ofNat 32 (group (logit h wg bg we be n)).val := by
  unfold val_main_indices
  rw [one_idx]
  simp only [group_share h wg bg we be]
  rfl

/-! ## The group's experts -/

theorem expert_logit (g e : Fin 8) : val_main_v19 (F := Ideal) h we be (ix3 n g e) = logit h wg bg we be n (el g e) := by
  unfold logit
  simp only [Cert.RouterIdeal.Hand.cat_expert, Cert.RouterIdeal.Hand.bias_expert]
  pointwise [val_main_v19, val_main_v18, val_main_v17, val_main_v16, val_main_v15]
  simp only [Nat.mul_comm g.val 8]

theorem wrapped (g : Fin 8) : Scalar.select (IntOp.cmpi .slt (BitVec.ofNat 32 g.val) 0#32) (IntOp.addi (BitVec.ofNat 32 g.val) 8#32) (BitVec.ofNat 32 g.val) = BitVec.ofNat 32 g.val :=
  (by decide +kernel : ∀ g : Fin 8, Scalar.select (IntOp.cmpi .slt (BitVec.ofNat 32 g.val) 0#32) (IntOp.addi (BitVec.ofNat 32 g.val) 8#32) (BitVec.ofNat 32 g.val) = BitVec.ofNat 32 g.val) g

theorem inside (g : Fin 8) : IntOp.andi (IntOp.cmpi .sge (BitVec.ofNat 32 g.val) 0#32) (IntOp.cmpi .sle (BitVec.ofNat 32 g.val) 7#32) = 1#1 :=
  (by decide +kernel : ∀ g : Fin 8, IntOp.andi (IntOp.cmpi .sge (BitVec.ofNat 32 g.val) 0#32) (IntOp.cmpi .sle (BitVec.ofNat 32 g.val) 7#32) = 1#1) g

theorem start_word (a b : Fin 1) : val_main_call0_v4 (F := Ideal) h wg bg (ix3 n a b) = BitVec.ofNat 32 (group (logit h wg bg we be n)).val := by
  obtain rfl : a = 0 := Subsingleton.elim _ _
  obtain rfl : b = 0 := Subsingleton.elim _ _
  rw [← wrapped, ← group_idx]
  generalize hz : val_main_indices (F := Ideal) h wg bg = z
  pointwise [val_main_call0_v4, val_main_call0_v3, val_main_call0_v2, val_main_call0_v1, val_main_call0_v0, val_main_call0_c, val_main_call0_c_0, val_main_v20, hz]

theorem in_range (i : S16384x1.Idx) : val_main_call0_v11 (F := Ideal) h wg bg i = 1#1 := by
  unfold val_main_call0_v11
  refine Host.reduce_andi_one _ _ _ _ _ rfl fun i => ?_
  obtain ⟨n, a, b, rfl⟩ : ∃ (n : Fin 16384) (a b : Fin 1), i = ix3 n a b := ⟨_, _, _, eq_ix3 (n0 := 16384) (n1 := 1) (n2 := 1) i⟩
  have e := start_word h wg bg (fun _ => (0 : EReal)) (fun _ => (0 : EReal)) n a b
  refine Eq.trans ?_ (inside (group (logit h wg bg (fun _ => (0 : EReal)) (fun _ => (0 : EReal)) n)))
  rw [← e]
  generalize hz : val_main_call0_v4 (F := Ideal) h wg bg = z
  pointwise [val_main_call0_v10, val_main_call0_v9, val_main_call0_v8, val_main_call0_v7, val_main_call0_v6, val_main_call0_v5, val_main_call0_c_1, val_main_call0_c_2, hz]

/-- The gather reads the group its start index names. -/
theorem operand_eq (idx : IVec S16384x1x1 32) (a : Fin 1) (e g : Fin 8) (hg : idx (ix3 n (0 : Fin 1) (0 : Fin 1)) = BitVec.ofNat 32 g.val) :
    gather_S16384x8x8_S16384x1x1_S16384x1x8_2_1_0_0_1_2_118.operandIdx (ix3 n a e) idx = ix3 n g e := by
  obtain rfl : a = 0 := Subsingleton.elim _ _
  have hn : (BitVec.ofNat 32 g.val).toInt.toNat = g.val :=
    (by decide +kernel : ∀ g : Fin 8, (BitVec.ofNat 32 g.val).toInt.toNat = g.val) g
  funext x
  refine Fin.ext ?_
  change gather_S16384x8x8_S16384x1x1_S16384x1x8_2_1_0_0_1_2_118.start (ix3 n (0 : Fin 1) e) idx x
    + gather_S16384x8x8_S16384x1x1_S16384x1x8_2_1_0_0_1_2_118.batchCoord (ix3 n (0 : Fin 1) e) x
    + gather_S16384x8x8_S16384x1x1_S16384x1x8_2_1_0_0_1_2_118.offCoord (ix3 n (0 : Fin 1) e) x = _
  have hx : x = 0 ∨ x = 1 ∨ x = 2 := by
    match x with
    | ⟨0, _⟩ => exact Or.inl rfl
    | ⟨1, _⟩ => exact Or.inr (Or.inl rfl)
    | ⟨2, _⟩ => exact Or.inr (Or.inr rfl)
  rcases hx with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 3) ∈ gather_S16384x8x8_S16384x1x1_S16384x1x8_2_1_0_0_1_2_118.operandBatchingDims from List.mem_singleton.mpr rfl)]
    rfl
  · rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ gather_S16384x8x8_S16384x1x1_S16384x1x8_2_1_0_0_1_2_118.startIndexMap from List.mem_singleton.mpr rfl)]
    refine (congrArg (fun z : BitVec 32 => min z.toInt.toNat 7) ((congrArg idx ?_).trans hg)).trans ?_
    · funext b
      refine Fin.ext ?_
      match b with
      | ⟨0, _⟩ => rfl
      | ⟨1, _⟩ => rfl
      | ⟨2, _⟩ => rfl
    · exact (congrArg (fun z => min z 7) hn).trans (min_eq_left (by omega))
  · rw [GatherDims.batchCoord_eq_zero _ _ _ (fun h => absurd (List.mem_singleton.mp h) (by decide))]
    unfold GatherDims.start GatherDims.offCoord
    rw [dif_neg (show ¬(2 : Fin 3) ∈ gather_S16384x8x8_S16384x1x1_S16384x1x8_2_1_0_0_1_2_118.startIndexMap from
        fun h => absurd (List.mem_singleton.mp h) (show ¬((2 : Fin 3) = 1) by decide)),
      dif_pos (show (2 : Fin 3) ∈ gather_S16384x8x8_S16384x1x1_S16384x1x8_2_1_0_0_1_2_118.sKept from
        (GatherDims.mem_sKept _ _).mpr ⟨fun h => absurd (List.mem_singleton.mp h) (show ¬((2 : Fin 3) = 1) by decide),
          fun h => absurd (List.mem_singleton.mp h) (show ¬((2 : Fin 3) = 0) by decide)⟩)]
    simp only [Nat.zero_add]
    rfl

theorem picked (e : Fin 8) : val_main_v22 (F := Ideal) h wg bg we be (ix2 n e)
    = logit h wg bg we be n (el (group (logit h wg bg we be n)) e) := by
  have hm := in_range h wg bg (ix2 n (0 : Fin 1))
  have hg : val_main_call0_v12 (F := Ideal) h wg bg we be (ix3 n (0 : Fin 1) e) = logit h wg bg we be n (el (group (logit h wg bg we be n)) e) := by
    refine Eq.trans (b := val_main_v19 (F := Ideal) h we be (ix3 n (group (logit h wg bg we be n)) e)) ?_ (expert_logit h wg bg we be n _ e)
    unfold val_main_call0_v12 Host.gather
    rw [operand_eq n _ 0 e _ (start_word h wg bg we be n 0 0)]
  rw [← hg]
  refine Eq.trans (b := Scalar.select (val_main_call0_v11 (F := Ideal) h wg bg (ix2 n (0 : Fin 1))) (val_main_call0_v12 (F := Ideal) h wg bg we be (ix3 n (0 : Fin 1) e))
    (Ideal.ofBits .f32 0x7FC00000#32)) ?_ ?_
  · generalize hz : val_main_call0_v12 (F := Ideal) h wg bg we be = z
    generalize hy : val_main_call0_v11 (F := Ideal) h wg bg = y
    pointwise [val_main_v22, val_main_v21, val_main_call0_v13, val_main_call0_v14, val_main_call0_cst, hz, hy]
  · rw [hm]
    rfl

theorem expert_max : val_main_v25 (F := Ideal) h wg bg we be (ix1 n) = top fun e => logit h wg bg we be n (el (group (logit h wg bg we be n)) e) := by
  rw [val_main_v25_apply]
  change max (val_main_v24 (F := Ideal) (ix1 n)) (val_main_v23 (F := Ideal) h wg bg we be (ix1 n)) = _
  unfold val_main_v23 val_main_cst_2
  rw [ref_max, val_main_v24_apply, val_main_cst_3_apply]
  change max (Ideal.ofBits .f32 0xFF800000#32) _ = _
  rw [neg_inf, max_eq_right bot_le]
  simp only [picked h wg bg we be]

theorem expert_exp (e : Fin 8) : val_main_v29 (F := Ideal) h wg bg we be (ix2 n e)
    = Ideal.exp (logit h wg bg we be n (el (group (logit h wg bg we be n)) e) - top fun e => logit h wg bg we be n (el (group (logit h wg bg we be n)) e)) := by
  rw [← expert_max, ← picked]
  generalize hz : val_main_v25 (F := Ideal) h wg bg we be = z
  generalize hy : val_main_v22 (F := Ideal) h wg bg we be = y
  pointwise [val_main_v29, val_main_v28, val_main_v27, val_main_v26, hz, hy]

theorem expert_sum : val_main_v30 (F := Ideal) h wg bg we be (ix1 n)
    = ∑ e : Fin 8, Ideal.exp (logit h wg bg we be n (el (group (logit h wg bg we be n)) e) - top fun e => logit h wg bg we be n (el (group (logit h wg bg we be n)) e)) := by
  rw [val_main_v30_apply, val_main_cst_4_apply]
  change Ideal.ofBits .f32 0x00000000#32 + _ = _
  rw [Ideal.ofBits_zero, zero_add]
  refine Finset.sum_congr rfl fun e _ => ?_
  rw [← expert_exp]
  exact congrArg _ (by idx_ext)

theorem expert_share (e : Fin 8) : val_main_v33 (F := Ideal) h wg bg we be (ix2 n e)
    = experts (logit h wg bg we be n) (group (logit h wg bg we be n)) e := by
  unfold experts share
  rw [← expert_exp, ← expert_sum]
  generalize hz : val_main_v29 (F := Ideal) h wg bg we be = z
  generalize hy : val_main_v30 (F := Ideal) h wg bg we be = y
  pointwise [val_main_v33, val_main_v32, val_main_v31, hz, hy]

variable (hX : ∀ e, 0 ≤ experts (logit h wg bg we be n) (group (logit h wg bg we be n)) e)

include hX in
theorem expert_val (i : Fin 2) : val_main_values_5 (F := Ideal) h wg bg we be (ix2 n i)
    = ![top (experts (logit h wg bg we be n) (group (logit h wg bg we be n))), top (rest (experts (logit h wg bg we be n) (group (logit h wg bg we be n))))] i := by
  unfold val_main_values_5
  rw [two_val _ n (fun e => by rw [expert_share]; exact hX e)]
  simp only [expert_share h wg bg we be]

include hX in
theorem expert_idx (i : Fin 2) : val_main_indices_6 (F := Ideal) h wg bg we be (ix2 n i)
    = BitVec.ofNat 32 (![best (experts (logit h wg bg we be n) (group (logit h wg bg we be n))), best (rest (experts (logit h wg bg we be n) (group (logit h wg bg we be n))))] i).val := by
  unfold val_main_indices_6
  rw [two_idx _ n (fun e => by rw [expert_share]; exact hX e)]
  simp only [expert_share h wg bg we be]

theorem number (g e : Fin 8) : IntOp.addi (IntOp.muli (BitVec.ofNat 32 g.val) 8#32) (BitVec.ofNat 32 e.val) = BitVec.ofNat 32 (8 * g.val + e.val) :=
  (by decide +kernel : ∀ g e : Fin 8, IntOp.addi (IntOp.muli (BitVec.ofNat 32 g.val) 8#32) (BitVec.ofNat 32 e.val) = BitVec.ofNat 32 (8 * g.val + e.val)) g e

include hX in
theorem ref_id (i : Fin 2) : val_main_v43 (F := Ideal) h wg bg we be (ix2 n i) = ids (logit h wg bg we be n) (i.castLE (by decide)) := by
  refine Eq.trans (b := IntOp.addi (IntOp.muli (val_main_indices (F := Ideal) h wg bg (ix2 n (0 : Fin 1))) 8#32) (val_main_indices_6 (F := Ideal) h wg bg we be (ix2 n i))) ?_ ?_
  · generalize hz : val_main_indices (F := Ideal) h wg bg = z
    generalize hy : val_main_indices_6 (F := Ideal) h wg bg we be = y
    pointwise [val_main_v43, val_main_v42, val_main_v41, val_main_v40, val_main_c, hz, hy]
  · rw [group_idx h wg bg we be, expert_idx h wg bg we be n hX, number]
    match i with
    | 0 => rfl
    | 1 => rfl

theorem pair_sum : val_main_v34 (F := Ideal) h wg bg we be (ix1 n)
    = val_main_values_5 (F := Ideal) h wg bg we be (ix2 n (0 : Fin 2)) + val_main_values_5 (F := Ideal) h wg bg we be (ix2 n (1 : Fin 2)) := by
  rw [val_main_v34_apply, val_main_cst_7_apply]
  change Ideal.ofBits .f32 0x00000000#32 + _ = _
  rw [Ideal.ofBits_zero, zero_add, Fin.sum_univ_two]
  exact congrArg₂ (· + ·) (congrArg _ (by idx_ext)) (congrArg _ (by idx_ext))

include hX in
theorem ref_weight (i : Fin 2) : val_main_v39 (F := Ideal) h wg bg we be (ix2 n i) = weights (logit h wg bg we be n) (i.castLE (by decide)) := by
  refine Eq.trans (b := val_main_values (F := Ideal) h wg bg (ix2 n (0 : Fin 1)) * Ideal.div (val_main_values_5 (F := Ideal) h wg bg we be (ix2 n i)) (val_main_v34 (F := Ideal) h wg bg we be (ix1 n))) ?_ ?_
  · generalize hz : val_main_values (F := Ideal) h wg bg = z
    generalize hy : val_main_values_5 (F := Ideal) h wg bg we be = y
    generalize hw : val_main_v34 (F := Ideal) h wg bg we be = w
    pointwise [val_main_v39, val_main_v38, val_main_v37, val_main_v36, val_main_v35, hz, hy, hw]
  · rw [pair_sum, group_val h wg bg we be, expert_val h wg bg we be n hX, expert_val h wg bg we be n hX, expert_val h wg bg we be n hX]
    match i with
    | 0 => rfl
    | 1 => rfl

end Groups

/-! ## The results -/

section Results

variable (h : Vec Ideal S16384x2048 .f32) (wg : Vec Ideal S2048x8 .f32) (bg : Vec Ideal S8 .f32) (we : Vec Ideal S2048x64 .f32) (be : Vec Ideal S64 .f32)
variable (hX : ∀ n e, 0 ≤ experts (logit h wg bg we be n) (group (logit h wg bg we be n)) e)

include hX in
theorem ref_ids : val_main_v45 (F := Ideal) h wg bg we be = Cert.RouterIdeal.Hand.idArray h wg bg we be := by
  funext i
  obtain ⟨n, l, rfl⟩ : ∃ (n : Fin 16384) (l : Fin 128), i = ix2 n l := ⟨_, _, eq_ix2 (n0 := 16384) (n1 := 128) i⟩
  change _ = ids (logit h wg bg we be n) l
  refine Eq.trans (b := if hl : l.val < 2 then val_main_v43 (F := Ideal) h wg bg we be (ix2 n (⟨l.val, hl⟩ : Fin 2)) else 0#32) ?_ ?_
  · generalize hz : val_main_v43 (F := Ideal) h wg bg we be = z
    pointwise [val_main_v45, val_main_v44, val_main_c_8, hz]
  · split_ifs with hl
    · exact ref_id h wg bg we be n (hX n) ⟨l.val, hl⟩
    · unfold ids
      rw [if_neg (by omega), if_neg (by omega)]

include hX in
theorem ref_weights : val_main_v47 (F := Ideal) h wg bg we be = Cert.RouterIdeal.Hand.weightArray h wg bg we be := by
  funext i
  obtain ⟨n, l, rfl⟩ : ∃ (n : Fin 16384) (l : Fin 128), i = ix2 n l := ⟨_, _, eq_ix2 (n0 := 16384) (n1 := 128) i⟩
  change _ = weights (logit h wg bg we be n) l
  refine Eq.trans (b := if hl : l.val < 2 then val_main_v39 (F := Ideal) h wg bg we be (ix2 n (⟨l.val, hl⟩ : Fin 2)) else 0) ?_ ?_
  · generalize hz : val_main_v39 (F := Ideal) h wg bg we be = z
    pointwise [val_main_v47, val_main_v46, val_main_cst_9, hz]
  · split_ifs with hl
    · exact ref_weight h wg bg we be n (hX n) ⟨l.val, hl⟩
    · unfold weights
      rw [if_neg (by omega), if_neg (by omega)]

end Results

end Cert.RouterRefIdeal.Hand
end
-- ==== Proof.FB.Body.lean ====
/-
  The bit-level flash body on whole staging buffers: it runs to its end whatever its buffers hold, and leaves the inputs as
  they were; what it leaves in its output is not said.
-/
module

public import proofs.«01_k».proof.Proof.Gen.Flash.Frame
public import proofs.«01_k».proof.Proof.Gen.Flash.Skeleton
public import proofs.«01_k».proof.Proof.Gen.Flash.Loops
public import Idealize.ShloMosaic.Lib.LoopRemainder
public import Mathlib.Tactic.IntervalCases
public import Idealize.ShloMosaic.Lib.Tactic
public import Idealize.ShloMosaic.Lib.Exec

@[expose] public section

noncomputable section

namespace Cert.Flash.Hand

open Cert.Flash Cert.Flash.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

abbrev 𝒱₀ : Variants := Variants.none

theorem cond1_iff (i : grid0.Coords) : k0_cond1 i = 1#1 ↔ (i 2).val % 2 = 1 := by
  have h : (i 2).val < 8 := (i 2).isLt
  unfold k0_cond1
  generalize (i 2).val = n at h ⊢
  interval_cases n <;> decide

theorem cond2_iff (i : grid0.Coords) : k0_cond2 i = 1#1 ↔ (i 2).val % 2 = 0 := by
  have h : (i 2).val < 8 := (i 2).isLt
  unfold k0_cond2
  generalize (i 2).val = n at h ⊢
  interval_cases n <;> decide

set_option maxRecDepth 8192 in
set_option maxHeartbeats 4000000 in
/-- The body runs from its inputs and anything in its output and scratch, and leaves the inputs as they were. -/
theorem body_run (c : Dev nD) (i : grid0.Coords) (arg3 : Memref sig .tc .vmem S1x1x512x192 .bf16) (harg3 : arg3.IsWhole) (arg4 : Memref sig .tc .vmem S1x1x4096x192 .bf16) (harg4 : arg4.IsWhole) (arg5 : Memref sig .tc .vmem S1x1x4096x128 .bf16) (harg5 : arg5.IsWhole) (arg6 : Memref sig .tc .vmem S1x512x128 .bf16) (harg6 : arg6.IsWhole) (arg7 : Memref sig .tc .vmem S2x512x512 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x128 .f32) (harg10 : arg10.IsWhole)
    (x3 : Vec F S1x1x512x192 .bf16) (x4 : Vec F S1x1x4096x192 .bf16) (x5 : Vec F S1x1x4096x128 .bf16) (K : PUnit → sProp 𝕄) :
    (iprop(owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)) -∗ K ⟨⟩)) : sProp 𝕄)
      ⊢ wp frame (wpE (defs₀ (F := F)) 𝒱₀ (c : Thread nD τ) none) Set.univ (cc0_mla_flash (F := F) i arg3 harg3 arg4 harg4 arg5 harg5 arg6 harg6 arg7 harg7 arg8 harg8 arg9 harg9 arg10 harg10) K := by
  unfold owns
  iintro ⟨⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, Hk⟩
  obtain rfl := harg3.eq_unread hf3; obtain rfl := harg4.eq_unread hf4; obtain rfl := harg5.eq_unread hf5
  by_cases hp : (i 2).val % 2 = 1
  · have h1 : k0_cond1 i = 1#1 := (cond1_iff i).2 hp
    have h2 : ¬ k0_cond2 i = 1#1 := fun h => by have := (cond2_iff i).1 h; omega
    sl_unfold [cc0_mla_flash]
    sl_exec!
    sl_step
    iapply Hk
    isplitl [H3]
    · iexists _; isplitr; swap; · iexact H3
      ipureintro; exact hf3
    isplitl [H4]
    · iexists _; isplitr; swap; · iexact H4
      ipureintro; exact hf4
    isplitl [H5]
    · iexists _; isplitr; swap; · iexact H5
      ipureintro; exact hf5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    iexists _, _; isplitr; swap; · iexact H10
    ipureintro; rfl
  · have h1 : ¬ k0_cond1 i = 1#1 := fun h => hp ((cond1_iff i).1 h)
    have h2 : k0_cond2 i = 1#1 := (cond2_iff i).2 (by omega)
    sl_unfold [cc0_mla_flash]
    sl_exec!
    sl_step
    iapply Hk
    isplitl [H3]
    · iexists _; isplitr; swap; · iexact H3
      ipureintro; exact hf3
    isplitl [H4]
    · iexists _; isplitr; swap; · iexact H4
      ipureintro; exact hf4
    isplitl [H5]
    · iexists _; isplitr; swap; · iexact H5
      ipureintro; exact hf5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    iexists _, _; isplitr; swap; · iexact H10
    ipureintro; rfl

end Cert.Flash.Hand
end
-- ==== Proof.FB.Run.lean ====
/-
  The bit-level flash program run, its output forgotten: every execution ends, leaves the arguments as they were and every
  counter at zero.
-/
module

public import proofs.«01_k».proof.Proof.FB.Body

@[expose] public section

noncomputable section

namespace Cert.Flash.Hand

open Cert.Flash Cert.Flash.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body leaves in the output is not named. -/
def forgets0 : Fin 4 → Bool := fun w => w == 3

/-- The arrays as the region finds them; after the body each input's buffer at its block and the output's
    unnamed; the scratch at anything; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
  Φ _ := Pipeline.ΦA spec0 c
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- A whole buffer at some contents is its memref owned at some contents. -/
theorem some_owns (c : Dev nD) (b : Ref sig .tc) :
    (iprop(∃ f : Buf (Elt F) ((c : Thread nD τ).loc b), ((c : Thread nD τ).loc b) ↦{fullShare} f) : sProp 𝕄)
      = (iprop(∃ d, owns (c : Thread nD τ) (Memref.whole b) fullShare d) : sProp 𝕄) := by
  congr 1
  funext d
  exact (owns_whole (c : Thread nD τ) b fullShare d).symm

/-- Each grid point's body: the blocks found and left, the scratch opened and handed back at whatever it holds. -/
theorem body_obligation (c : Dev nD) : BodyObligation (dats (F := F) m 0 c) (defs₀ (F := F)) 𝒱₀ () Set.univ forgets0 := fun t => by
  rw [bigSep_W0, bigSep_W0]
  sl_whnfR [defs₀, Defs.onTc]
  simp only [before0_0, before0_1, before0_2]
  rw [show (dats m 0 c).Φ t.succ = (dats m 0 c).Φ t.castSucc from rfl,
    show (dats m 0 c).owesAt () t.succ = (dats m 0 c).owesAt () t.castSucc from rfl, after0_0, after0_1, after0_2]
  rw [show (dats m 0 c).Φ t.castSucc = Pipeline.ΦA spec0 c from rfl]
  unfold Pipeline.ΦA
  rw [scopedRest0_eq, some_owns c cc0_scratch0, some_owns c cc0_scratch1, some_owns c cc0_scratch2, some_owns c cc0_scratch3]
  rw [show forgets0 0 = false from rfl, show forgets0 1 = false from rfl, show forgets0 2 = false from rfl,
    show forgets0 3 = true from rfl]
  dsimp only
  iintro ⟨⟨⟨S0, S1, S2, S3⟩, HP⟩, Ho, ⟨%d0, H0⟩, ⟨%d1, H1⟩, ⟨%d2, H2⟩, ⟨%d3, H3⟩⟩
  iapply (body_run c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3))
    _ (Memref.isWhole_whole _) _ (Memref.isWhole_whole _) _ (Memref.isWhole_whole _) _ (Memref.isWhole_whole _)
    (iblk m c 0 t) (iblk m c 1 t) (iblk m c 2 t) _)
  isplitl [H0]; · iexact H0
  isplitl [H1]; · iexact H1
  isplitl [H2]; · iexact H2
  isplitl [H3]; · iexists _; iexact H3
  isplitl [S0]; · iexact S0
  isplitl [S1]; · iexact S1
  isplitl [S2]; · iexact S2
  isplitl [S3]; · iexact S3
  iintro ⟨H0, H1, H2, H3, S0, S1, S2, S3⟩
  isplitl [S0 S1 S2 S3 HP]
  · isplitr [HP]; swap; · iexact HP
    isplitl [S0]; · iexact S0
    isplitl [S1]; · iexact S1
    isplitl [S2]; · iexact S2
    iexact S3
  isplitl [Ho]; · iexact Ho
  isplitl [H0]; · iexact H0
  isplitl [H1]; · iexact H1
  isplitl [H2]; · iexact H2
  iexact H3

set_option backward.isDefEq.respectTransparency.types false in
/-- Every execution ends with every input array as it was and every counter at zero. -/
theorem run_main : θ_run defs (onTc (τ := τ) (main (F := F))) (s₀ m ρ)
    (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ 𝒱₀ forgets0 m ρ main
    (hbody := fun c => (body_obligation m c).loose) (hshare := fun c => (dats m 0 c).share_full fun _ => rfl)
    (howed := fun _ _ => rfl) (V := V m) (hmain := hmain m 𝒱₀) (hA := fun _ _ => rfl) (hΦ := fun _ _ => rfl)

/-- An input array's contents after the run are its contents before it. -/
theorem input_kept {r : PUnit × MemSt nD τ sig (Elt F)} (h : Pipeline.RDat.FramePost (cfgs 0) (fun c => (dats m 0 c).toRForget forgets0) (V m) r)
    (c : Dev nD) (w : Fin cfg0.W) (hf : forgets0 w = false) (hw : (cfg0.win w).isOut = false) :
    r.2.mem ((cfg0.spec w).arr.view.loc (c.tc : Thread nD τ)) = V m c (Pipeline.arrRef spec0 w) :=
  (((dats m 0 c).toRForget_arrAt_iff hf _ _).1 ((h c).1 w)).trans (((dats m 0 c).arrAt_in w hw _).trans (A_eq m c w))

/-- The frame: the arguments as they were and every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨(input_kept m h.1 c 0 rfl rfl).trans (V_main_arg0 m c),
    (input_kept m h.1 c 1 rfl rfl).trans (V_main_arg1 m c), (input_kept m h.1 c 2 rfl rfl).trans (V_main_arg2 m c)⟩, h.2⟩) (run_main m ρ)

end Cert.Flash.Hand
end
-- ==== Proof.FI.Spec.lean ====
/-
  The flash-attention body as functions of its blocks: key and value blocks of 512 rows, one score tile, one step of the
  running softmax (maximum, sum, weighted values) without and with the diagonal mask, the state after the first `j` key
  blocks, and the tile the body stores at query block `qi`. Also the closed forms of the body's addresses, conditions
  and trip counts at a grid point.
-/
module

public import proofs.«01_k».proof.Proof.Gen.FlashIdeal.Skeleton
public import Idealize.ShloMosaic.Lib.Pointwise

@[expose] public section

noncomputable section

namespace Cert.FlashIdeal.Hand

open Cert.FlashIdeal Cert.FlashIdeal.Gen
open Idealize.ShloMosaic Idealize.ShloMosaic.TcCoe

variable {F : FTy → Type} [FloatOps F] [Named F]

/-- Key block `j`: rows `512 j … 512 j + 511` of the keys. -/
def kblk (x : Vec F S1x1x4096x192 .bf16) (j : ℕ) : Vec F S1x1x512x192 .bf16 :=
  fun y => x (ix4 0 0 ⟨(512 * j + (y 2).val) % 4096, Nat.mod_lt _ (by decide)⟩ (y 3))

/-- Value block `j`: rows `512 j … 512 j + 511` of the values. -/
def vblk (x : Vec F S1x1x4096x128 .bf16) (j : ℕ) : Vec F S1x1x512x128 .bf16 :=
  fun y => x (ix4 0 0 ⟨(512 * j + (y 2).val) % 4096, Nat.mod_lt _ (by decide)⟩ (y 3))

/-- The score tile of a query block against key block `j`. -/
def sc (v1 : FVec F S512x192 .bf16) (x4 : Vec F S1x1x4096x192 .bf16) (j : ℕ) : Vec F S1x512x512 .f32 :=
  k0_pay8 v1 (kblk x4 j)

/-- The running maximum, sum and weighted values of 512 rows. -/
structure St (F : FTy → Type) where
  m : Vec F S512x1 .f32
  l : Vec F S512x1 .f32
  a : Vec F S512x128 .f32

/-- One step of the running softmax with the scores `s` and the value block `vb`, no mask. -/
def step (s : Vec F S1x512x512 .f32) (vb : Vec F S1x1x512x128 .bf16) (z : St F) : St F where
  m := k0_pay18 (k0_pay10 s z.m)
  l := k0_pay16 (k0_pay13 s z.m z.l) (k0_pay14 s z.m) (k0_pay15 s z.m)
  a := k0_pay17 (k0_pay11 s z.m) (k0_pay12 s z.m) z.a vb

/-- One step of the running softmax at the diagonal block: entries right of the diagonal masked. -/
def stepD (s : Vec F S1x512x512 .f32) (vb : Vec F S1x1x512x128 .bf16) (z : St F) : St F where
  m := k0_pay6 (k0_pay68 s z.m)
  l := k0_pay71 s z.m z.l
  a := k0_pay5 (k0_pay72 s z.m z.a) (k0_pay73 s z.m) vb

/-- The state after the first `j` key blocks. -/
def st (v1 : FVec F S512x192 .bf16) (x4 : Vec F S1x1x4096x192 .bf16) (x5 : Vec F S1x1x4096x128 .bf16) : ℕ → St F
  | 0 => ⟨k0_pay75, k0_pay76, k0_pay77⟩
  | j + 1 => step (sc v1 x4 j) (vblk x5 j) (st v1 x4 x5 j)

/-- The state at query block `qi` after its diagonal block. -/
def stF (v1 : FVec F S512x192 .bf16) (x4 : Vec F S1x1x4096x192 .bf16) (x5 : Vec F S1x1x4096x128 .bf16) (qi : ℕ) : St F :=
  stepD (sc v1 x4 qi) (vblk x5 qi) (st v1 x4 x5 qi)

/-- The tile stored at query block `qi`, from the query block `x3`, the keys and the values. -/
def outTile (x3 : Vec F S1x1x512x192 .bf16) (x4 : Vec F S1x1x4096x192 .bf16) (x5 : Vec F S1x1x4096x128 .bf16) (qi : ℕ) : FVec F S1x512x128 .bf16 :=
  k0_pay7 (stF (k0_pay74 x3) x4 x5 qi).a (stF (k0_pay74 x3) x4 x5 qi).l

/-! ## Addresses, conditions and trip counts in closed form -/

theorem trips1_eq (i : grid0.Coords) : (k0_t1_loop i).trips = (i 2).val / 2 := by
  have h : (i 2).val < 8 := (i 2).isLt
  unfold k0_t1_loop
  generalize (i 2).val = n at h ⊢
  interval_cases n <;> decide

theorem trips2_eq (i : grid0.Coords) : (k0_t2_loop i).trips = 0 :=
  Nat.le_zero.1 (k0_t2_abs i).2.1

theorem cond1_iff (i : grid0.Coords) : k0_cond1 i = 1#1 ↔ (i 2).val % 2 = 1 := by
  have h : (i 2).val < 8 := (i 2).isLt
  unfold k0_cond1
  generalize (i 2).val = n at h ⊢
  interval_cases n <;> decide

theorem cond2_iff (i : grid0.Coords) : k0_cond2 i = 1#1 ↔ (i 2).val % 2 = 0 := by
  have h : (i 2).val < 8 := (i 2).isLt
  unfold k0_cond2
  generalize (i 2).val = n at h ⊢
  interval_cases n <;> decide

theorem off1_eq1 (i : grid0.Coords) (k : Fin (k0_t1_loop i).trips) : k0_off1 i k 1#32 = ![0, 0, 512 * (2 * k.val + 1), 0] := by
  have h : k.val < 3 := Nat.lt_of_lt_of_le k.isLt (k0_t1_abs i).2.1
  unfold k0_off1
  generalize k.val = n at h ⊢
  interval_cases n <;> decide

theorem off1_eq2 (i : grid0.Coords) (k : Fin (k0_t1_loop i).trips) : k0_off1 i k 2#32 = ![0, 0, 512 * (2 * k.val + 2), 0] := by
  have h : k.val < 3 := Nat.lt_of_lt_of_le k.isLt (k0_t1_abs i).2.1
  unfold k0_off1
  generalize k.val = n at h ⊢
  interval_cases n <;> decide

theorem off2_eq (i : grid0.Coords) (k : Fin (k0_t1_loop i).trips) : k0_off2 i k = ![0, 0, 512 * (2 * k.val), 0] := by
  have h : k.val < 3 := Nat.lt_of_lt_of_le k.isLt (k0_t1_abs i).2.1
  unfold k0_off2
  generalize k.val = n at h ⊢
  interval_cases n <;> decide

theorem off3_eq (i : grid0.Coords) (k : Fin (k0_t1_loop i).trips) : k0_off3 i k = ![0, 0, 512 * (2 * k.val + 1), 0] := by
  have h : k.val < 3 := Nat.lt_of_lt_of_le k.isLt (k0_t1_abs i).2.1
  unfold k0_off3
  generalize k.val = n at h ⊢
  interval_cases n <;> decide

theorem off7_eq (i : grid0.Coords) (h1 : (i 2).val % 2 = 1) : k0_off7 i = ![0, 0, 512 * (2 * ((i 2).val / 2) + 1), 0] := by
  have h : (i 2).val < 8 := (i 2).isLt
  unfold k0_off7
  generalize (i 2).val = n at h h1 ⊢
  interval_cases n <;> first | (exact absurd h1 (by decide)) | decide

theorem off8_eq (i : grid0.Coords) (h1 : (i 2).val % 2 = 1) : k0_off8 i = ![0, 0, 512 * (2 * ((i 2).val / 2)), 0] := by
  have h : (i 2).val < 8 := (i 2).isLt
  unfold k0_off8
  generalize (i 2).val = n at h h1 ⊢
  interval_cases n <;> first | (exact absurd h1 (by decide)) | decide

theorem off9_eq (i : grid0.Coords) (h1 : (i 2).val % 2 = 1) : k0_off9 i = ![0, 0, 512 * (2 * ((i 2).val / 2) + 1), 0] := by
  have h : (i 2).val < 8 := (i 2).isLt
  unfold k0_off9
  generalize (i 2).val = n at h h1 ⊢
  interval_cases n <;> first | (exact absurd h1 (by decide)) | decide

theorem off10_eq (i : grid0.Coords) (h1 : (i 2).val % 2 = 0) : k0_off10 i = ![0, 0, 512 * (2 * ((i 2).val / 2)), 0] := by
  have h : (i 2).val < 8 := (i 2).isLt
  unfold k0_off10
  generalize (i 2).val = n at h h1 ⊢
  interval_cases n <;> first | (exact absurd h1 (by decide)) | decide

/-! ## Loads of blocks -/

/-- A load of 512 key rows at row `512 j` reads key block `j`. -/
theorem ld_kblk (x : Vec F S1x1x4096x192 .bf16) (j : ℕ) {off : Fin 4 → ℕ} (hj : j < 8) (ho : off = ![0, 0, 512 * j, 0])
    (inb : ∀ a, off a + S1x1x512x192.size a ≤ S1x1x4096x192.size a) :
    (fun y => x ((Rect.unit (s := S1x1x4096x192) off S1x1x512x192.size inb).toLoadRect.idx y)) = kblk x j := by
  subst ho
  funext y
  unfold kblk
  congr 1
  funext a
  apply Fin.ext
  have hy : (y 2).val < 512 := (y 2).isLt
  have h0 : (y 0).val < 1 := (y 0).isLt
  have h1 : (y 1).val < 1 := (y 1).isLt
  match a with
  | ⟨0, _⟩ => show 0 + 1 * (y 0).val = 0; omega
  | ⟨1, _⟩ => show 0 + 1 * (y 1).val = 0; omega
  | ⟨2, _⟩ => show 512 * j + 1 * (y 2).val = (512 * j + (y 2).val) % 4096; omega
  | ⟨3, _⟩ => show 0 + 1 * (y 3).val = (y 3).val; omega

/-- A load of 512 value rows at row `512 j` reads value block `j`. -/
theorem ld_vblk (x : Vec F S1x1x4096x128 .bf16) (j : ℕ) {off : Fin 4 → ℕ} (hj : j < 8) (ho : off = ![0, 0, 512 * j, 0])
    (inb : ∀ a, off a + S1x1x512x128.size a ≤ S1x1x4096x128.size a) :
    (fun y => x ((Rect.unit (s := S1x1x4096x128) off S1x1x512x128.size inb).toLoadRect.idx y)) = vblk x j := by
  subst ho
  funext y
  unfold vblk
  congr 1
  funext a
  apply Fin.ext
  have hy : (y 2).val < 512 := (y 2).isLt
  have h0 : (y 0).val < 1 := (y 0).isLt
  have h1 : (y 1).val < 1 := (y 1).isLt
  match a with
  | ⟨0, _⟩ => show 0 + 1 * (y 0).val = 0; omega
  | ⟨1, _⟩ => show 0 + 1 * (y 1).val = 0; omega
  | ⟨2, _⟩ => show 512 * j + 1 * (y 2).val = (512 * j + (y 2).val) % 4096; omega
  | ⟨3, _⟩ => show 0 + 1 * (y 3).val = (y 3).val; omega

end Cert.FlashIdeal.Hand
end
-- ==== Proof.FI.Reads.lean ====
/-
  What the loads of the flash body read: whole buffers, the two slots of the score scratch, and blocks of 512 rows of the
  keys and values.
-/
module

public import proofs.«01_k».proof.Proof.FI.Spec
public import Idealize.ShloMosaic.Lib.Pipeline.ValueKit
public import Idealize.ShloMosaic.Lib.Pipeline.ReadBack
public import Idealize.ShloMosaic.Lib.WholeRead
public import Idealize.ShloMosaic.Lib.HeldBySlice
public import Idealize.ShloMosaic.Lib.Tactic
public import Idealize.ShloMosaic.Lib.Exec

@[expose] public section

noncomputable section

namespace Cert.FlashIdeal.Hand

open Cert.FlashIdeal Cert.FlashIdeal.Gen
open Idealize.ShloMosaic Idealize.ShloMosaic.TcCoe

variable {F : FTy → Type} [FloatOps F] [Named F]

/-- A buffer last stored whole reads as that store's payload. -/
theorem read_last {κ : Kind} {sp : Space} {S : Shape} {e : EltTy} (v : View sig κ sp S e) {L tail : List (View.Piece (Elt F) S e)} {off : Fin S.rank → ℕ}
    {inb : ∀ a, off a + S.size a ≤ S.size a} {w X : S.Idx → Elt F e} (hL : L = ⟨Rect.unit off S.size inb, w⟩ :: tail) (h : ∀ a, off a = 0) (hw : w = X) :
    v.read (Elt F) (v.writes (Elt F) v.junk L) = X := by
  subst hL
  rw [View.read_writes_junk_eq_canon, View.canon_cons_unit_lit inb w tail h, hw]

abbrev r1 : Rect S512x1 := Rect.unit (s := S512x1) ![0, 0] S512x1.size inb_S512x1_S512x1_0_0
abbrev r128 : Rect S512x128 := Rect.unit (s := S512x128) ![0, 0] S512x128.size inb_S512x128_S512x128_0_0
abbrev slot0 : Rect S2x512x512 := Rect.unit (s := S2x512x512) ![0, 0, 0] S1x512x512.size inb_S2x512x512_S1x512x512_0_0_0
abbrev slot1 : Rect S2x512x512 := Rect.unit (s := S2x512x512) ![1, 0, 0] S1x512x512.size inb_S2x512x512_S1x512x512_1_0_0

theorem ld1 (v : View sig .tc .vmem S512x1 .f32) (w : Vec F S512x1 .f32) (L : List (View.Piece (Elt F) S512x1 .f32)) :
    v.readCov (Val := Elt F) (⟨r1, w⟩ :: L) r1.toLoadRect = w := View.readCov_cons_toLoadRect _ _ _ _

theorem ld128 (v : View sig .tc .vmem S512x128 .f32) (w : Vec F S512x128 .f32) (L : List (View.Piece (Elt F) S512x128 .f32)) :
    v.readCov (Val := Elt F) (⟨r128, w⟩ :: L) r128.toLoadRect = w := View.readCov_cons_toLoadRect _ _ _ _

theorem ldslot0 (v : View sig .tc .vmem S2x512x512 .f32) (w : Vec F S1x512x512 .f32) (L : List (View.Piece (Elt F) S2x512x512 .f32)) :
    v.readCov (Val := Elt F) (⟨slot0, w⟩ :: L) slot0.toLoadRect = w := View.readCov_cons_toLoadRect _ _ _ _

theorem ldslot1 (v : View sig .tc .vmem S2x512x512 .f32) (w : Vec F S1x512x512 .f32) (L : List (View.Piece (Elt F) S2x512x512 .f32)) :
    v.readCov (Val := Elt F) (⟨slot1, w⟩ :: L) slot1.toLoadRect = w := View.readCov_cons_toLoadRect _ _ _ _

theorem ldslot1' (v : View sig .tc .vmem S2x512x512 .f32) (w w' : Vec F S1x512x512 .f32) (L : List (View.Piece (Elt F) S2x512x512 .f32)) :
    v.readCov (Val := Elt F) (⟨slot0, w'⟩ :: ⟨slot1, w⟩ :: L) slot1.toLoadRect = w :=
  (View.readCov_skip _ _ _ _ _ (by decide)).trans (ldslot1 v w L)

/-- The first slot of a score scratch last stored there reads as that store's payload. -/
theorem read_slot0 (v : View sig .tc .vmem S2x512x512 .f32) {L tail : List (View.Piece (Elt F) S2x512x512 .f32)} {w X : Vec F S1x512x512 .f32}
    (hL : L = ⟨slot0, w⟩ :: tail) (hw : w = X) : v.readAt (Elt F) slot0.toLoadRect (v.writes (Elt F) v.junk L) = X := by
  subst hL
  exact (ldslot0 v w tail).trans hw

/-- The same over any contents. -/
theorem read_slot0' (v : View sig .tc .vmem S2x512x512 .f32) (f : v.ty.Contents (Elt F)) {L tail : List (View.Piece (Elt F) S2x512x512 .f32)} {w X : Vec F S1x512x512 .f32}
    (hL : L = ⟨slot0, w⟩ :: tail) (hw : w = X) : v.readAt (Elt F) slot0.toLoadRect (v.writes (Elt F) f L) = X := by
  refine Eq.trans (View.readAt_writes_eq_of_cover v f v.junk L slot0.toLoadRect fun j => ?_) (read_slot0 v hL hw)
  subst hL
  exact ⟨_, List.mem_cons_self .., slot0.toLoadRect.idx_mem j⟩

/-- A whole load of the query block. -/
theorem rd3 (m : Memref sig .tc .vmem S1x1x512x192 .bf16) (h : m.IsWhole) (x : Vec F S1x1x512x192 .bf16) (inb : ∀ a, (![0, 0, 0, 0] : Fin 4 → ℕ) a + S1x1x512x192.size a ≤ S1x1x512x192.size a) :
    m.view.readAt (Elt F) (Rect.unit (s := S1x1x512x192) ![0, 0, 0, 0] S1x1x512x192.size inb).toLoadRect (h.unread (Val := Elt F) x) = x := by
  rw [View.readAt_eq_ld, h.read_unread, View.ld_unit_lit _ _ (by decide)]

theorem rd1 (m : Memref sig .tc .vmem S512x1 .f32) (h : m.IsWhole) (x : Vec F S512x1 .f32) :
    m.view.readAt (Elt F) r1.toLoadRect (h.unread (Val := Elt F) x) = x := by
  rw [View.readAt_eq_ld, h.read_unread, View.ld_unit_lit _ _ (by decide)]

theorem rd128 (m : Memref sig .tc .vmem S512x128 .f32) (h : m.IsWhole) (x : Vec F S512x128 .f32) :
    m.view.readAt (Elt F) r128.toLoadRect (h.unread (Val := Elt F) x) = x := by
  rw [View.readAt_eq_ld, h.read_unread, View.ld_unit_lit _ _ (by decide)]

theorem rdk (m : Memref sig .tc .vmem S1x1x4096x192 .bf16) (h : m.IsWhole) (x : Vec F S1x1x4096x192 .bf16) (j : ℕ) (hj : j < 8) (off : Fin 4 → ℕ)
    (ho : off = ![0, 0, 512 * j, 0]) (inb : ∀ a, off a + S1x1x512x192.size a ≤ S1x1x4096x192.size a) :
    m.view.readAt (Elt F) (Rect.unit (s := S1x1x4096x192) off S1x1x512x192.size inb).toLoadRect (h.unread (Val := Elt F) x) = kblk x j := by
  refine Eq.trans ?_ (ld_kblk x j hj ho inb)
  funext y
  exact h.readAt_unread _ _ _

theorem rdv (m : Memref sig .tc .vmem S1x1x4096x128 .bf16) (h : m.IsWhole) (x : Vec F S1x1x4096x128 .bf16) (j : ℕ) (hj : j < 8) (off : Fin 4 → ℕ)
    (ho : off = ![0, 0, 512 * j, 0]) (inb : ∀ a, off a + S1x1x512x128.size a ≤ S1x1x4096x128.size a) :
    m.view.readAt (Elt F) (Rect.unit (s := S1x1x4096x128) off S1x1x512x128.size inb).toLoadRect (h.unread (Val := Elt F) x) = vblk x j := by
  refine Eq.trans ?_ (ld_vblk x j hj ho inb)
  funext y
  exact h.readAt_unread _ _ _

end Cert.FlashIdeal.Hand
end
-- ==== Proof.FI.Trip.lean ====
/-
  One trip of the flash body's loop: two key blocks. Found with slot 0 of the score scratch holding block `2k`'s scores
  and the running softmax at a state, the trip leaves slot 0 with block `2k + 2`'s scores and the state two steps on.
-/
module

public import proofs.«01_k».proof.Proof.FI.Reads
public import proofs.«01_k».proof.Proof.Gen.FlashIdeal.Frame

@[expose] public section

noncomputable section

namespace Cert.FlashIdeal.Hand

open Cert.FlashIdeal Cert.FlashIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

abbrev 𝒱₀ : Variants := Variants.none

/-- The score scratch, its first slot holding `s`. -/
def ownsSlot (c : Dev nD) (arg7 : Memref sig .tc .vmem S2x512x512 .f32) (s : Vec F S1x512x512 .f32) : sProp 𝕄 :=
  iprop(∃ f7, ⌜arg7.view.readAt (Elt F) slot0.toLoadRect f7 = s⌝ ∗ (arg7.view.loc (c : Thread nD τ) ↦[arg7.view.set]{fullShare} f7))

/-- The running softmax's three buffers at a state. -/
def ownsSt (c : Dev nD) (arg8 arg9 : Memref sig .tc .vmem S512x1 .f32) (arg10 : Memref sig .tc .vmem S512x128 .f32) (z : St F) : sProp 𝕄 :=
  iprop(owns (c : Thread nD τ) arg8 fullShare z.m ∗ owns (c : Thread nD τ) arg9 fullShare z.l ∗ owns (c : Thread nD τ) arg10 fullShare z.a)

set_option maxRecDepth 8192 in
set_option maxHeartbeats 4000000 in
theorem trip (c : Dev nD) (i : grid0.Coords) (arg3 : Memref sig .tc .vmem S1x1x512x192 .bf16) (harg3 : arg3.IsWhole) (arg4 : Memref sig .tc .vmem S1x1x4096x192 .bf16) (harg4 : arg4.IsWhole) (arg5 : Memref sig .tc .vmem S1x1x4096x128 .bf16) (harg5 : arg5.IsWhole) (arg6 : Memref sig .tc .vmem S1x512x128 .bf16) (harg6 : arg6.IsWhole) (arg7 : Memref sig .tc .vmem S2x512x512 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x128 .f32) (harg10 : arg10.IsWhole) (v1 : FVec F S512x192 .bf16) (k : Fin (k0_t1_loop i).trips) (x4 : Vec F S1x1x4096x192 .bf16) (x5 : Vec F S1x1x4096x128 .bf16)
    (s : Vec F S1x512x512 .f32) (z : St F) :
    (iprop(owns (c : Thread nD τ) arg4 fullShare x4 ∗ owns (c : Thread nD τ) arg5 fullShare x5 ∗ ownsSlot c arg7 s ∗ ownsSt c arg8 arg9 arg10 z) : sProp 𝕄)
    ⊢ wp frame (wpE (defs₀ (F := F)) 𝒱₀ (c : Thread nD τ) none) Set.univ (k0_t1_body (F := F) i arg3 harg3 arg4 harg4 arg5 harg5 arg6 harg6 arg7 harg7 arg8 harg8 arg9 harg9 arg10 harg10 v1 k PUnit.unit)
        (fun _ => iprop(owns (c : Thread nD τ) arg4 fullShare x4 ∗ owns (c : Thread nD τ) arg5 fullShare x5 ∗ ownsSlot c arg7 (sc v1 x4 (2 * k.val + 2))
          ∗ ownsSt c arg8 arg9 arg10 (step (sc v1 x4 (2 * k.val + 1)) (vblk x5 (2 * k.val + 1)) (step s (vblk x5 (2 * k.val)) z)))) := by
  have hk : k.val < 3 := Nat.lt_of_lt_of_le k.isLt (k0_t1_abs i).2.1
  have e41 := rdk (F := F) arg4 harg4 x4 (2 * k.val + 1) (by omega) _ (off1_eq1 i k)
  have e42 := rdk (F := F) arg4 harg4 x4 (2 * k.val + 2) (by omega) _ (off1_eq2 i k)
  have e52 := rdv (F := F) arg5 harg5 x5 (2 * k.val) (by omega) _ (off2_eq i k)
  have e53 := rdv (F := F) arg5 harg5 x5 (2 * k.val + 1) (by omega) _ (off3_eq i k)
  obtain ⟨m, l, a⟩ := z
  unfold ownsSlot ownsSt owns
  iintro ⟨⟨%f4, %hf4, H4⟩, ⟨%f5, %hf5, H5⟩, ⟨%f7, %hs, H7⟩, ⟨%f8, %hf8, H8⟩, ⟨%f9, %hf9, H9⟩, ⟨%f10, %hf10, H10⟩⟩
  obtain rfl := harg4.eq_unread hf4; obtain rfl := harg5.eq_unread hf5
  obtain rfl := harg8.eq_unread hf8; obtain rfl := harg9.eq_unread hf9; obtain rfl := harg10.eq_unread hf10
  have e8 := rd1 (F := F) arg8 harg8 m
  have e9 := rd1 (F := F) arg9 harg9 l
  have e10 := rd128 (F := F) arg10 harg10 a
  sl_unfold [k0_t1_body]
  sl_exec!
  sl_step
  isplitl [H4]
  · iexists _; isplitr; swap; · iexact H4
    ipureintro; exact hf4
  isplitl [H5]
  · iexists _; isplitr; swap; · iexact H5
    ipureintro; exact hf5
  isplitl [H7]
  · iexists _; isplitr; swap; · iexact H7
    ipureintro
    refine read_slot0 _ rfl ?_
    rfl
  isplitl [H8]
  · iexists _; isplitr; swap; · iexact H8
    ipureintro
    refine read_last _ rfl (by decide) ?_
    refine Eq.trans (b := (step
      (arg7.view.readCov (Val := Elt F) (⟨slot0, k0_pay8 v1 (kblk x4 (2 * k.val + 2))⟩ :: ⟨slot1, k0_pay8 v1 (kblk x4 (2 * k.val + 1))⟩ :: []) slot1.toLoadRect)
      (vblk x5 (2 * k.val + 1))
      ⟨arg8.view.readCov (Val := Elt F) [⟨r1, (step s (vblk x5 (2 * k.val)) ⟨m, l, a⟩).m⟩] r1.toLoadRect,
        arg9.view.readCov (Val := Elt F) [⟨r1, (step s (vblk x5 (2 * k.val)) ⟨m, l, a⟩).l⟩] r1.toLoadRect,
        arg10.view.readCov (Val := Elt F) [⟨r128, (step s (vblk x5 (2 * k.val)) ⟨m, l, a⟩).a⟩] r128.toLoadRect⟩).m) rfl ?_
    rw [ldslot1', ld1, ld1, ld128]
    rfl
  isplitl [H9]
  · iexists _; isplitr; swap; · iexact H9
    ipureintro
    refine read_last _ rfl (by decide) ?_
    refine Eq.trans (b := (step
      (arg7.view.readCov (Val := Elt F) (⟨slot0, k0_pay8 v1 (kblk x4 (2 * k.val + 2))⟩ :: ⟨slot1, k0_pay8 v1 (kblk x4 (2 * k.val + 1))⟩ :: []) slot1.toLoadRect)
      (vblk x5 (2 * k.val + 1))
      ⟨arg8.view.readCov (Val := Elt F) [⟨r1, (step s (vblk x5 (2 * k.val)) ⟨m, l, a⟩).m⟩] r1.toLoadRect,
        arg9.view.readCov (Val := Elt F) [⟨r1, (step s (vblk x5 (2 * k.val)) ⟨m, l, a⟩).l⟩] r1.toLoadRect,
        arg10.view.readCov (Val := Elt F) [⟨r128, (step s (vblk x5 (2 * k.val)) ⟨m, l, a⟩).a⟩] r128.toLoadRect⟩).l) rfl ?_
    rw [ldslot1', ld1, ld1, ld128]
    rfl
  · iexists _; isplitr; swap; · iexact H10
    ipureintro
    refine read_last _ rfl (by decide) ?_
    refine Eq.trans (b := (step
      (arg7.view.readCov (Val := Elt F) (⟨slot0, k0_pay8 v1 (kblk x4 (2 * k.val + 2))⟩ :: ⟨slot1, k0_pay8 v1 (kblk x4 (2 * k.val + 1))⟩ :: []) slot1.toLoadRect)
      (vblk x5 (2 * k.val + 1))
      ⟨arg8.view.readCov (Val := Elt F) [⟨r1, (step s (vblk x5 (2 * k.val)) ⟨m, l, a⟩).m⟩] r1.toLoadRect,
        arg9.view.readCov (Val := Elt F) [⟨r1, (step s (vblk x5 (2 * k.val)) ⟨m, l, a⟩).l⟩] r1.toLoadRect,
        arg10.view.readCov (Val := Elt F) [⟨r128, (step s (vblk x5 (2 * k.val)) ⟨m, l, a⟩).a⟩] r128.toLoadRect⟩).a) rfl ?_
    rw [ldslot1', ld1, ld1, ld128]
    rfl

end Cert.FlashIdeal.Hand
end
-- ==== Proof.FI.Body.lean ====
/-
  The flash body on whole staging buffers: with a query block, the keys and the values in its inputs and anything in its
  output and scratch, it leaves the inputs as they were and `outTile` of them at the grid point's query block in the output.
-/
module

public import proofs.«01_k».proof.Proof.FI.Trip
public import Idealize.ShloMosaic.Lib.LoopRemainder

@[expose] public section

noncomputable section

namespace Cert.FlashIdeal.Hand

open Cert.FlashIdeal Cert.FlashIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- Before trip `k`: the keys and values as they were, slot 0 with block `2k`'s scores, the state after `2k` blocks. -/
def inv (c : Dev nD) (arg4 : Memref sig .tc .vmem S1x1x4096x192 .bf16) (arg5 : Memref sig .tc .vmem S1x1x4096x128 .bf16) (arg7 : Memref sig .tc .vmem S2x512x512 .f32) (arg8 arg9 : Memref sig .tc .vmem S512x1 .f32) (arg10 : Memref sig .tc .vmem S512x128 .f32)
    (v1 : FVec F S512x192 .bf16) (x4 : Vec F S1x1x4096x192 .bf16) (x5 : Vec F S1x1x4096x128 .bf16) (k : ℕ) (_ : Unit) : sProp 𝕄 :=
  iprop(owns (c : Thread nD τ) arg4 fullShare x4 ∗ owns (c : Thread nD τ) arg5 fullShare x5 ∗ ownsSlot c arg7 (sc v1 x4 (2 * k)) ∗ ownsSt c arg8 arg9 arg10 (st v1 x4 x5 (2 * k)))

set_option maxRecDepth 8192 in
set_option maxHeartbeats 4000000 in
theorem body_run (c : Dev nD) (i : grid0.Coords) (arg3 : Memref sig .tc .vmem S1x1x512x192 .bf16) (harg3 : arg3.IsWhole) (arg4 : Memref sig .tc .vmem S1x1x4096x192 .bf16) (harg4 : arg4.IsWhole) (arg5 : Memref sig .tc .vmem S1x1x4096x128 .bf16) (harg5 : arg5.IsWhole) (arg6 : Memref sig .tc .vmem S1x512x128 .bf16) (harg6 : arg6.IsWhole) (arg7 : Memref sig .tc .vmem S2x512x512 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x128 .f32) (harg10 : arg10.IsWhole)
    (x3 : Vec F S1x1x512x192 .bf16) (x4 : Vec F S1x1x4096x192 .bf16) (x5 : Vec F S1x1x4096x128 .bf16) (K : PUnit → sProp 𝕄) :
    (iprop(owns (c : Thread nD τ) arg3 fullShare x3 ∗ owns (c : Thread nD τ) arg4 fullShare x4 ∗ owns (c : Thread nD τ) arg5 fullShare x5 ∗ (∃ d, owns (c : Thread nD τ) arg6 fullShare d)
        ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg3 fullShare x3 ∗ owns (c : Thread nD τ) arg4 fullShare x4 ∗ owns (c : Thread nD τ) arg5 fullShare x5 ∗ owns (c : Thread nD τ) arg6 fullShare (outTile x3 x4 x5 (i 2).val)
            ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)) -∗ K ⟨⟩)) : sProp 𝕄)
      ⊢ wp frame (wpE (defs₀ (F := F)) 𝒱₀ (c : Thread nD τ) none) Set.univ (cc0_mla_flash (F := F) i arg3 harg3 arg4 harg4 arg5 harg5 arg6 harg6 arg7 harg7 arg8 harg8 arg9 harg9 arg10 harg10) K := by
  unfold owns
  iintro ⟨⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, Hk⟩
  obtain rfl := harg3.eq_unread hf3; obtain rfl := harg4.eq_unread hf4; obtain rfl := harg5.eq_unread hf5
  have e3 := rd3 (F := F) arg3 harg3 x3
  have e40 := rdk (F := F) arg4 harg4 x4 0 (by omega) ![0, 0, 0, 0] rfl
  sl_unfold [cc0_mla_flash]
  sl_exec!
  sl_for (inv c arg4 arg5 arg7 arg8 arg9 arg10 (k0_pay74 x3) x4 x5) $$ [H4 H5 H7 H8 H9 H10]
  case region =>
    intro k a
    unfold inv
    exact trip c i arg3 harg3 arg4 harg4 arg5 harg5 arg6 harg6 arg7 harg7 arg8 harg8 arg9 harg9 arg10 harg10 (k0_pay74 x3) k x4 x5 _ _
  · unfold inv ownsSlot ownsSt owns
    isplitl [H4]
    · iexists _; isplitr; swap; · iexact H4
      ipureintro; exact hf4
    isplitl [H5]
    · iexists _; isplitr; swap; · iexact H5
      ipureintro; exact hf5
    isplitl [H7]
    · iexists _; isplitr; swap; · iexact H7
      ipureintro; exact read_slot0' _ _ rfl rfl
    isplitl [H8]
    · iexists _; isplitr; swap; · iexact H8
      ipureintro; exact read_last _ rfl (by decide) rfl
    isplitl [H9]
    · iexists _; isplitr; swap; · iexact H9
      ipureintro; exact read_last _ rfl (by decide) rfl
    iexists _; isplitr; swap; · iexact H10
    ipureintro; exact read_last _ rfl (by decide) rfl
  iintro %acc HI
  have hn : (i 2).val < 8 := (i 2).isLt
  have ht : Scf.trips (k0_t1_loop i).lb (k0_t1_loop i).ub (k0_t1_loop i).st = (i 2).val / 2 := trips1_eq i
  rw [ht]
  unfold inv ownsSlot ownsSt owns
  clear e40 hf4 hf5
  icases HI with ⟨⟨%f4, %hf4, H4⟩, ⟨%f5, %hf5, H5⟩, ⟨%f7', %hs, H7⟩, ⟨%f8', %hf8, H8⟩, ⟨%f9', %hf9, H9⟩, ⟨%f10', %hf10, H10⟩⟩
  obtain rfl := harg4.eq_unread hf4; obtain rfl := harg5.eq_unread hf5
  obtain rfl := harg8.eq_unread hf8; obtain rfl := harg9.eq_unread hf9; obtain rfl := harg10.eq_unread hf10
  have e8 := rd1 (F := F) arg8 harg8 (st (k0_pay74 x3) x4 x5 (2 * ((i 2).val / 2))).m
  have e9 := rd1 (F := F) arg9 harg9 (st (k0_pay74 x3) x4 x5 (2 * ((i 2).val / 2))).l
  have e10 := rd128 (F := F) arg10 harg10 (st (k0_pay74 x3) x4 x5 (2 * ((i 2).val / 2))).a
  rcases Nat.mod_two_eq_zero_or_one (i 2).val with hp | hp
  · have h1 : ¬ k0_cond1 i = 1#1 := fun h => by have := (cond1_iff i).1 h; omega
    have h2 : k0_cond2 i = 1#1 := (cond2_iff i).2 hp
    have e5 := rdv (F := F) arg5 harg5 x5 (2 * ((i 2).val / 2)) (by omega) _ (off10_eq i hp)
    sl_exec!
    sl_step
    iapply Hk
    isplitl [H3]
    · iexists _; isplitr; swap; · iexact H3
      ipureintro; exact hf3
    isplitl [H4]
    · iexists _; isplitr; swap; · iexact H4
      ipureintro; exact hf4
    isplitl [H5]
    · iexists _; isplitr; swap; · iexact H5
      ipureintro; exact hf5
    isplitl [H6]
    · iexists _; isplitr; swap; · iexact H6
      ipureintro
      have hq : (i 2).val = 2 * ((i 2).val / 2) := by omega
      refine read_last _ rfl (by decide) ?_
      refine Eq.trans (b := k0_pay7
        (arg10.view.readCov (Val := Elt F) [⟨r128, (stepD (sc (k0_pay74 x3) x4 (2 * ((i 2).val / 2))) (vblk x5 (2 * ((i 2).val / 2))) (st (k0_pay74 x3) x4 x5 (2 * ((i 2).val / 2)))).a⟩] r128.toLoadRect)
        (arg9.view.readCov (Val := Elt F) [⟨r1, (stepD (sc (k0_pay74 x3) x4 (2 * ((i 2).val / 2))) (vblk x5 (2 * ((i 2).val / 2))) (st (k0_pay74 x3) x4 x5 (2 * ((i 2).val / 2)))).l⟩] r1.toLoadRect)) rfl ?_
      rw [ld128, ld1]
      conv_rhs => rw [hq]
      rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    iexists _, _; isplitr; swap; · iexact H10
    ipureintro; rfl
  · have h1 : k0_cond1 i = 1#1 := (cond1_iff i).2 hp
    have h2 : ¬ k0_cond2 i = 1#1 := fun h => by have := (cond2_iff i).1 h; omega
    have e4 := rdk (F := F) arg4 harg4 x4 (2 * ((i 2).val / 2) + 1) (by omega) _ (off7_eq i hp)
    have e5 := rdv (F := F) arg5 harg5 x5 (2 * ((i 2).val / 2)) (by omega) _ (off8_eq i hp)
    have e5' := rdv (F := F) arg5 harg5 x5 (2 * ((i 2).val / 2) + 1) (by omega) _ (off9_eq i hp)
    sl_exec!
    sl_step
    iapply Hk
    isplitl [H3]
    · iexists _; isplitr; swap; · iexact H3
      ipureintro; exact hf3
    isplitl [H4]
    · iexists _; isplitr; swap; · iexact H4
      ipureintro; exact hf4
    isplitl [H5]
    · iexists _; isplitr; swap; · iexact H5
      ipureintro; exact hf5
    isplitl [H6]
    · iexists _; isplitr; swap; · iexact H6
      ipureintro
      have hq : (i 2).val = (2 * ((i 2).val / 2)) + 1 := by omega
      refine read_last _ rfl (by decide) ?_
      refine Eq.trans (b := k0_pay7
        (arg10.view.readCov (Val := Elt F) (⟨r128, (stepD (arg7.view.readCov (Val := Elt F) [⟨slot1, sc (k0_pay74 x3) x4 ((2 * ((i 2).val / 2)) + 1)⟩] slot1.toLoadRect) (vblk x5 ((2 * ((i 2).val / 2)) + 1))
          ⟨arg8.view.readCov (Val := Elt F) [⟨r1, (st (k0_pay74 x3) x4 x5 ((2 * ((i 2).val / 2)) + 1)).m⟩] r1.toLoadRect, arg9.view.readCov (Val := Elt F) [⟨r1, (st (k0_pay74 x3) x4 x5 ((2 * ((i 2).val / 2)) + 1)).l⟩] r1.toLoadRect, arg10.view.readCov (Val := Elt F) [⟨r128, (st (k0_pay74 x3) x4 x5 ((2 * ((i 2).val / 2)) + 1)).a⟩] r128.toLoadRect⟩).a⟩ :: ⟨r128, (st (k0_pay74 x3) x4 x5 ((2 * ((i 2).val / 2)) + 1)).a⟩ :: []) r128.toLoadRect)
        (arg9.view.readCov (Val := Elt F) (⟨r1, (stepD (arg7.view.readCov (Val := Elt F) [⟨slot1, sc (k0_pay74 x3) x4 ((2 * ((i 2).val / 2)) + 1)⟩] slot1.toLoadRect) (vblk x5 ((2 * ((i 2).val / 2)) + 1))
          ⟨arg8.view.readCov (Val := Elt F) [⟨r1, (st (k0_pay74 x3) x4 x5 ((2 * ((i 2).val / 2)) + 1)).m⟩] r1.toLoadRect, arg9.view.readCov (Val := Elt F) [⟨r1, (st (k0_pay74 x3) x4 x5 ((2 * ((i 2).val / 2)) + 1)).l⟩] r1.toLoadRect, arg10.view.readCov (Val := Elt F) [⟨r128, (st (k0_pay74 x3) x4 x5 ((2 * ((i 2).val / 2)) + 1)).a⟩] r128.toLoadRect⟩).l⟩ :: ⟨r1, (st (k0_pay74 x3) x4 x5 ((2 * ((i 2).val / 2)) + 1)).l⟩ :: []) r1.toLoadRect)) rfl ?_
      rw [ld128, ld1, ldslot1, ld1, ld1, ld128]
      conv_rhs => rw [hq]
      rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    iexists _, _; isplitr; swap; · iexact H10
    ipureintro; rfl

end Cert.FlashIdeal.Hand
end
-- ==== Proof.FI.Run.lean ====
/-
  The flash program run: at every grid point the body finds its blocks and leaves the output tile; every execution ends,
  leaves the arguments as they were, every counter at zero, and the output array as the tiles written back.
-/
module

public import proofs.«01_k».proof.Proof.FI.Body

@[expose] public section

noncomputable section

namespace Cert.FlashIdeal.Hand

open Cert.FlashIdeal Cert.FlashIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The tile the body leaves at a grid point, from the blocks it finds there. -/
def outsAt (c : Dev nD) (t : Fin cfg0.N) : Vec F S1x512x128 .bf16 :=
  outTile (iblk m c 0 t) (iblk m c 1 t) (iblk m c 2 t) ((grid0.coords t) 2).val

/-- The arrays as the region finds them; after the body each input's buffer at its block and the output's at its tile;
    the scratch at anything; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outsAt m c t
  Φ _ := Pipeline.ΦA spec0 c
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outsAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- A whole buffer at some contents is its memref owned at some contents. -/
theorem some_owns (c : Dev nD) (b : Ref sig .tc) :
    (iprop(∃ f : Buf (Elt F) ((c : Thread nD τ).loc b), ((c : Thread nD τ).loc b) ↦{fullShare} f) : sProp 𝕄)
      = (iprop(∃ d, owns (c : Thread nD τ) (Memref.whole b) fullShare d) : sProp 𝕄) := by
  congr 1
  funext d
  exact (owns_whole (c : Thread nD τ) b fullShare d).symm

/-- Each grid point's body: the blocks found, the tile left, the scratch opened and handed back at whatever it holds. -/
theorem body_obligation (c : Dev nD) : BodyObligation (dats (F := F) m 0 c) (defs₀ (F := F)) 𝒱₀ () Set.univ := fun t => by
  rw [bigSep_W0, bigSep_W0]
  sl_whnfR [defs₀, Defs.onTc]
  simp only [before0_0, before0_1, before0_2]
  rw [show (dats m 0 c).Φ t.succ = (dats m 0 c).Φ t.castSucc from rfl,
    show (dats m 0 c).owesAt () t.succ = (dats m 0 c).owesAt () t.castSucc from rfl, after0_0, after0_1, after0_2, after0_3]
  rw [show (dats m 0 c).Φ t.castSucc = Pipeline.ΦA spec0 c from rfl]
  unfold outsAt Pipeline.ΦA
  rw [scopedRest0_eq, some_owns c cc0_scratch0, some_owns c cc0_scratch1, some_owns c cc0_scratch2, some_owns c cc0_scratch3]
  iintro ⟨⟨⟨S0, S1, S2, S3⟩, HP⟩, Ho, ⟨%d0, H0⟩, ⟨%d1, H1⟩, ⟨%d2, H2⟩, ⟨%d3, H3⟩⟩
  iapply (body_run c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3))
    _ (Memref.isWhole_whole _) _ (Memref.isWhole_whole _) _ (Memref.isWhole_whole _) _ (Memref.isWhole_whole _)
    (iblk m c 0 t) (iblk m c 1 t) (iblk m c 2 t) _)
  isplitl [H0]; · iexact H0
  isplitl [H1]; · iexact H1
  isplitl [H2]; · iexact H2
  isplitl [H3]; · iexists _; iexact H3
  isplitl [S0]; · iexact S0
  isplitl [S1]; · iexact S1
  isplitl [S2]; · iexact S2
  isplitl [S3]; · iexact S3
  iintro ⟨H0, H1, H2, H3, S0, S1, S2, S3⟩
  isplitl [S0 S1 S2 S3 HP]
  · isplitr [HP]; swap; · iexact HP
    isplitl [S0]; · iexact S0
    isplitl [S1]; · iexact S1
    isplitl [S2]; · iexact S2
    iexact S3
  isplitl [Ho]; · iexact Ho
  isplitl [H0]; · iexact H0
  isplitl [H1]; · iexact H1
  isplitl [H2]; · iexact H2
  iexact H3

set_option backward.isDefEq.respectTransparency.types false in
/-- Every execution ends with every array of the pipeline at what the tiles written back make of it, and every counter at zero. -/
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m 𝒱₀) (hA := fun _ _ => rfl) (hΦ := fun _ _ => rfl)

/-- The frame: the arguments as they were and every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_with_sems (frame_of m ρ (dats m) fun _ _ => rfl) (run_main m ρ)

end Cert.FlashIdeal.Hand
end
-- ==== Proof.FV.Read.lean ====
/- The flash kernel's vector operations read at an element, over the extended reals: the score tile, one step of the
   running softmax, the diagonal step with its mask, and the stored quotient. -/
module

public import proofs.«01_k».proof.Proof.FI.Spec
public import proofs.«01_k».proof.Proof.FV.Alg
public import Idealize.ShloMosaic.PureOps.IdealRules

@[expose] public section

set_option maxRecDepth 16384

noncomputable section

namespace Cert.FlashIdeal.Hand

open Idealize.ShloMosaic Idealize.SL.Sem Cert.FlashIdeal Cert.FlashIdeal.Gen
open Cert.FlashIdeal.Facts Cert.Softmax

/-- The mask value is `⊥`. -/
theorem mask_val : (Named.named (F := Ideal) (φ := .f32) κ "mask" 0xF149F2CA#32 : EReal) = ⊥ :=
  IdealRules.named_const.ideal_named_scalar _ _ _ _ rfl

/-- The word of the negative infinity. -/
theorem ofBits_neg_inf : Ideal.ofBits .f32 0xFF800000#32 = ⊥ := by
  simp [Ideal.ofBits, Ideal.ieee]

variable (s : Vec Ideal S1x512x512 .f32) (vb : Vec Ideal S1x1x512x128 .bf16) (z : St Ideal) (r : Fin 512) (d : Fin 128)

/-- The diagonal block's score, masked right of the diagonal. -/
def masked (c : Fin 512) : EReal := if c.val ≤ r.val then s (ix3 0 r c) else ⊥

theorem masked_apply (c : Fin 512) : k0_pay67 s (ix2 r c) = masked s r c := by
  pointwise [k0_pay67, mask_val]
  have : (IntOp.cmpi .sle (BitVec.ofNat 32 c.val) (BitVec.ofNat 32 r.val)) = BitVec.ofBool (decide (c.val ≤ r.val)) := by
    have := c.isLt
    have := r.isLt
    show BitVec.ofBool (BitVec.sle _ _) = _
    congr 1
    rw [Bool.eq_iff_iff, BitVec.sle_iff_toInt_le, decide_eq_true_iff, BitVec.toInt_ofNat', BitVec.toInt_ofNat']
    simp only [Int.bmod]
    omega
  rw [this]
  unfold masked
  by_cases h : c.val ≤ r.val <;> simp [h, Scalar.select]

theorem pay10_apply : k0_pay10 s z.m (ix2 r 0) = max (z.m (ix2 r 0)) (maxLanes fun c => s (ix3 0 r c)) := by
  pointwise [k0_pay10, k0_pay9]
  rw [ofBits_neg_inf]
  rfl

theorem pay68_apply : k0_pay68 s z.m (ix2 r 0) = max (z.m (ix2 r 0)) (maxLanes (masked s r)) := by
  pointwise [k0_pay68]
  rw [ofBits_neg_inf]
  simp only [masked_apply]
  rfl

theorem pay10_real (hs : ∀ c, s (ix3 0 r c) ≠ ⊥ ∧ s (ix3 0 r c) ≠ ⊤) (hm : z.m (ix2 r 0) ≠ ⊤) :
    k0_pay10 s z.m (ix2 r 0) ≠ ⊥ ∧ k0_pay10 s z.m (ix2 r 0) ≠ ⊤ := by
  rw [pay10_apply]
  exact ⟨max_bot_right (maxLanes_ne_bot _ (hs 0).1), max_top hm (maxLanes_ne_top _ fun c => (hs c).2)⟩

theorem pay68_real (hs : ∀ c, s (ix3 0 r c) ≠ ⊥ ∧ s (ix3 0 r c) ≠ ⊤) (hm : z.m (ix2 r 0) ≠ ⊤) :
    k0_pay68 s z.m (ix2 r 0) ≠ ⊥ ∧ k0_pay68 s z.m (ix2 r 0) ≠ ⊤ := by
  rw [pay68_apply]
  refine ⟨max_bot_right (maxLanes_ne_bot _ ?_), max_top hm (maxLanes_ne_top _ fun c => ?_)⟩
  · unfold masked
    rw [if_pos (show (0 : Fin 512).val ≤ r.val from Nat.zero_le _)]
    exact (hs _).1
  · unfold masked
    split
    · exact (hs c).2
    · exact bot_ne_top

theorem pay11_apply (c : Fin 512) : k0_pay11 s z.m (ix2 r c) = Ideal.exp2 (s (ix3 0 r c) - k0_pay10 s z.m (ix2 r 0)) := by
  pointwise [k0_pay11, k0_pay9]
  rfl

theorem pay69_apply (c : Fin 512) : k0_pay69 s z.m (ix2 r c) = Ideal.exp2 (masked s r c - k0_pay68 s z.m (ix2 r 0)) := by
  rw [← masked_apply]
  pointwise [k0_pay69]
  rfl

theorem step_m : (step s vb z).m (ix2 r 0) = k0_pay10 s z.m (ix2 r 0) := by
  show k0_pay18 (k0_pay10 s z.m) (ix2 r 0) = _
  pointwise [k0_pay18]

theorem step_l : (step s vb z).l (ix2 r 0) = Ideal.exp2 (z.m (ix2 r 0) - k0_pay10 s z.m (ix2 r 0)) * z.l (ix2 r 0)
    + ∑ c : Fin 512, Ideal.exp2 (s (ix3 0 r c) - k0_pay10 s z.m (ix2 r 0)) := by
  show k0_pay16 (k0_pay13 s z.m z.l) (k0_pay14 s z.m) (k0_pay15 s z.m) (ix2 r 0) = _
  pointwise [k0_pay16, k0_pay13, k0_pay14, k0_pay15, k0_pay12]
  refine congrArg (_ + ·) ((sum_lanes fun c => k0_pay11 s z.m (ix2 r c)).trans ?_)
  exact Finset.sum_congr rfl fun c _ => pay11_apply s z r c

theorem step_a : (step s vb z).a (ix2 r d) = Ideal.exp2 (z.m (ix2 r 0) - k0_pay10 s z.m (ix2 r 0)) * z.a (ix2 r d)
    + ∑ c : Fin 512, Ideal.exp2 (s (ix3 0 r c) - k0_pay10 s z.m (ix2 r 0)) * vb (ix4 0 0 c d) := by
  show k0_pay17 (k0_pay11 s z.m) (k0_pay12 s z.m) z.a vb (ix2 r d) = _
  pointwise [k0_pay17, k0_pay12]
  refine congrArg (_ + ·) (Finset.sum_congr rfl fun c _ => ?_)
  rw [pay11_apply]

theorem stepD_m : (stepD s vb z).m (ix2 r 0) = k0_pay68 s z.m (ix2 r 0) := by
  show k0_pay6 (k0_pay68 s z.m) (ix2 r 0) = _
  pointwise [k0_pay6]

theorem stepD_l : (stepD s vb z).l (ix2 r 0) = Ideal.exp2 (z.m (ix2 r 0) - k0_pay68 s z.m (ix2 r 0)) * z.l (ix2 r 0)
    + ∑ c : Fin 512, Ideal.exp2 (masked s r c - k0_pay68 s z.m (ix2 r 0)) := by
  show k0_pay71 s z.m z.l (ix2 r 0) = _
  pointwise [k0_pay71, k0_pay70]
  refine congrArg (_ + ·) ((sum_lanes fun c => k0_pay69 s z.m (ix2 r c)).trans ?_)
  exact Finset.sum_congr rfl fun c _ => pay69_apply s z r c

theorem stepD_a : (stepD s vb z).a (ix2 r d) = Ideal.exp2 (z.m (ix2 r 0) - k0_pay68 s z.m (ix2 r 0)) * z.a (ix2 r d)
    + ∑ c : Fin 512, Ideal.exp2 (masked s r c - k0_pay68 s z.m (ix2 r 0)) * vb (ix4 0 0 c d) := by
  show k0_pay5 (k0_pay72 s z.m z.a) (k0_pay73 s z.m) vb (ix2 r d) = _
  pointwise [k0_pay5, k0_pay72, k0_pay73, k0_pay70]
  refine congrArg (_ + ·) (Finset.sum_congr rfl fun c _ => ?_)
  rw [pay69_apply]

/-- A row's score against key `c`. -/
def rowScore (x3 : Vec Ideal S1x1x512x192 .bf16) (x4 : Vec Ideal S1x1x4096x192 .bf16) (r : Fin 512) (c : ℕ) : EReal :=
  ∑ x : Fin 192, x3 (ix4 0 0 r x) * x4 (ix4 0 0 ⟨c % 4096, Nat.mod_lt _ (by decide)⟩ x)

theorem sc_apply (x3 : Vec Ideal S1x1x512x192 .bf16) (x4 : Vec Ideal S1x1x4096x192 .bf16) (j : ℕ) (c : Fin 512) :
    sc (k0_pay74 x3) x4 j (ix3 0 r c) = rowScore x3 x4 r (512 * j + c) := by
  pointwise [sc, k0_pay8, kblk, k0_pay74]
  rfl

theorem out_apply (a : Vec Ideal S512x128 .f32) (l : Vec Ideal S512x1 .f32) :
    k0_pay7 (F := Ideal) a l (ix3 0 r d) = Ideal.div (a (ix2 r d)) (l (ix2 r 0)) := by
  pointwise [k0_pay7]

theorem init_apply : k0_pay75 (F := Ideal) (ix2 r 0) = ⊥ ∧ k0_pay76 (F := Ideal) (ix2 r 0) = 0 ∧ k0_pay77 (F := Ideal) (ix2 r d) = 0 := by
  pointwise [k0_pay75, k0_pay76, k0_pay77, mask_val]

end Cert.FlashIdeal.Hand

end
-- ==== Proof.FV.Rows.lean ====
/- One element of the flash kernel's stored tile: the softmax of its row, by the running form of the row's state. -/
module

public import proofs.«01_k».proof.Proof.FV.Read

@[expose] public section

noncomputable section

namespace Cert.FlashIdeal.Hand

open Idealize.ShloMosaic Idealize.SL.Sem Cert.FlashIdeal Cert.FlashIdeal.Gen
open Cert.FlashIdeal.Facts Cert.Softmax

variable (x3 : Vec Ideal S1x1x512x192 .bf16) (x4 : Vec Ideal S1x1x4096x192 .bf16) (x5 : Vec Ideal S1x1x4096x128 .bf16)
  (qi : ℕ) (r : Fin 512) (d : Fin 128)

/-- A row's scores with the columns after its own position masked. -/
def causal (c : ℕ) : EReal := if c ≤ 512 * qi + r then rowScore x3 x4 r c else ⊥

/-- The value rows' entries in one lane. -/
def valueAt (c : ℕ) : EReal := x5 (ix4 0 0 ⟨c % 4096, Nat.mod_lt _ (by decide)⟩ d)

theorem causal_score (hS : ∀ c, rowScore x3 x4 r c ≠ ⊥ ∧ rowScore x3 x4 r c ≠ ⊤) (c : ℕ) : Score (causal x3 x4 qi r c) := by
  unfold causal Score
  split
  · exact (hS c).2
  · exact bot_ne_top

theorem Acc.max_ne_top {s V : ℕ → EReal} {n : ℕ} {m l a : EReal} (h : Acc s V n m l a) : m ≠ ⊤ := by
  rcases h with ⟨-, rfl, -⟩ | ⟨μ, rfl, -⟩
  · exact bot_ne_top
  · exact EReal.coe_ne_top μ

/-- The state after `j` blocks left of the diagonal. -/
theorem st_acc (hS : ∀ c, rowScore x3 x4 r c ≠ ⊥ ∧ rowScore x3 x4 r c ≠ ⊤) (j : ℕ) (hj : j ≤ qi) :
    Acc (causal x3 x4 qi r) (valueAt x5 d) (512 * j) ((st (k0_pay74 x3) x4 x5 j).m (ix2 r 0))
      ((st (k0_pay74 x3) x4 x5 j).l (ix2 r 0)) ((st (k0_pay74 x3) x4 x5 j).a (ix2 r d)) := by
  induction j with
  | zero =>
    obtain ⟨e1, e2, e3⟩ := init_apply r d
    show Acc _ _ _ (k0_pay75 (F := Ideal) (ix2 r 0)) (k0_pay76 (F := Ideal) (ix2 r 0)) (k0_pay77 (F := Ideal) (ix2 r d))
    rw [e1, e2, e3]
    exact Acc.zero _ _
  | succ j ih =>
    have ih := ih (by omega)
    generalize hz : st (k0_pay74 x3) x4 x5 j = z at ih
    show Acc _ _ _ ((step (sc (k0_pay74 x3) x4 j) (vblk x5 j) (st (k0_pay74 x3) x4 x5 j)).m (ix2 r 0))
      ((step (sc (k0_pay74 x3) x4 j) (vblk x5 j) (st (k0_pay74 x3) x4 x5 j)).l (ix2 r 0))
      ((step (sc (k0_pay74 x3) x4 j) (vblk x5 j) (st (k0_pay74 x3) x4 x5 j)).a (ix2 r d))
    rw [hz, step_m, step_l, step_a]
    have hm := pay10_real (sc (k0_pay74 x3) x4 j) z r (fun c => by rw [sc_apply]; exact hS _) (Acc.max_ne_top ih)
    have := Acc.step (causal_score x3 x4 qi r hS) ih 512 _ hm.1 hm.2
    have e : ∀ c : Fin 512, causal x3 x4 qi r (512 * j + c) = sc (k0_pay74 x3) x4 j (ix3 0 r c) := fun c => by
      rw [sc_apply]
      exact if_pos (by have := c.isLt; omega)
    simp only [e] at this
    exact this

/-- The state after the diagonal block. -/
theorem stF_acc (hS : ∀ c, rowScore x3 x4 r c ≠ ⊥ ∧ rowScore x3 x4 r c ≠ ⊤) :
    Acc (causal x3 x4 qi r) (valueAt x5 d) (512 * qi + 512) ((stF (k0_pay74 x3) x4 x5 qi).m (ix2 r 0))
      ((stF (k0_pay74 x3) x4 x5 qi).l (ix2 r 0)) ((stF (k0_pay74 x3) x4 x5 qi).a (ix2 r d)) := by
  have ih := st_acc x3 x4 x5 qi r d hS qi le_rfl
  unfold stF
  generalize st (k0_pay74 x3) x4 x5 qi = z at ih ⊢
  rw [stepD_m, stepD_l, stepD_a]
  have hm := pay68_real (sc (k0_pay74 x3) x4 qi) z r (fun c => by rw [sc_apply]; exact hS _) (Acc.max_ne_top ih)
  have := Acc.step (causal_score x3 x4 qi r hS) ih 512 _ hm.1 hm.2
  have e : ∀ c : Fin 512, causal x3 x4 qi r (512 * qi + c) = masked (sc (k0_pay74 x3) x4 qi) r c := fun c => by
    unfold masked causal
    rw [sc_apply]
    by_cases h : c.val ≤ r.val
    · rw [if_pos h, if_pos (by omega)]
    · rw [if_neg h, if_neg (by omega)]
  simp only [e] at this
  exact this

/-- The stored tile's element is the softmax of the row's causal scores (times `log 2`, in base `e`), weighting the values. -/
theorem outTile_apply (hS : ∀ c, rowScore x3 x4 r c ≠ ⊥ ∧ rowScore x3 x4 r c ≠ ⊤) (hq : qi < 8) (M : EReal) (hb : M ≠ ⊥) (ht : M ≠ ⊤) :
    outTile x3 x4 x5 qi (ix3 0 r d) = ∑ c : Fin 4096, valueAt x5 d c
      * Ideal.div (Ideal.exp (causal x3 x4 qi r c * ((Real.log 2 : ℝ) : EReal) - M))
        (∑ c : Fin 4096, Ideal.exp (causal x3 x4 qi r c * ((Real.log 2 : ℝ) : EReal) - M)) := by
  unfold outTile
  rw [out_apply]
  refine (stF_acc x3 x4 x5 qi r d hS).quotient (causal_score x3 x4 qi r hS) 4096 (by omega) (fun c hc => ?_) ⟨0, by omega, ?_⟩ M hb ht
  · exact if_neg (by have := r.isLt; omega)
  · unfold causal
    rw [if_pos (Nat.zero_le _)]
    exact (hS 0).1

end Cert.FlashIdeal.Hand

end
-- ==== Proof.FV.Final.lean ====
/- The array that the kernel's pipeline leaves is the reference's result. -/
module

public import proofs.«01_k».proof.Proof.FI.Run
public import proofs.«01_k».proof.Proof.FV.Rows
public import proofs.«01_k».proof.Proof.FV.Finite
public import Idealize.ShloMosaic.Lib.Pipeline.ValueKit

@[expose] public section

set_option maxRecDepth 16384

noncomputable section

namespace Cert.FlashIdeal.Hand

open Idealize.ShloMosaic Idealize.SL.Sem Cert.FlashIdeal Cert.FlashIdeal.Gen

variable (m : (ℓ : Loc nD τ sig) → Buf (Elt Ideal) ℓ) (c : Dev nD)

/-- The queries, the keys and the values as the run finds them. -/
abbrev qs : Vec Ideal S4x8x4096x192 .bf16 := m ((c.tc : Thread nD τ).loc main_arg0)
abbrev ks : Vec Ideal S4x8x4096x192 .bf16 := m ((c.tc : Thread nD τ).loc main_arg1)
abbrev vs : Vec Ideal S4x8x4096x128 .bf16 := m ((c.tc : Thread nD τ).loc main_arg2)

theorem idx0_0 (t : Fin cfg0.N) : win0_0.index t = ![(grid0.coords t 0).val, (grid0.coords t 1).val, (grid0.coords t 2).val, 0] :=
  (by decide +kernel : ∀ t : Fin grid0.N, win0_0.index t = ![(grid0.coords t 0).val, (grid0.coords t 1).val, (grid0.coords t 2).val, 0]) t
theorem idx0_1 (t : Fin cfg0.N) : win0_1.index t = ![(grid0.coords t 0).val, (grid0.coords t 1).val, 0, 0] :=
  (by decide +kernel : ∀ t : Fin grid0.N, win0_1.index t = ![(grid0.coords t 0).val, (grid0.coords t 1).val, 0, 0]) t
theorem idx0_2 (t : Fin cfg0.N) : win0_2.index t = ![(grid0.coords t 0).val, (grid0.coords t 1).val, 0, 0] :=
  (by decide +kernel : ∀ t : Fin grid0.N, win0_2.index t = ![(grid0.coords t 0).val, (grid0.coords t 1).val, 0, 0]) t
theorem idx0_3 (t : Fin cfg0.N) : win0_3.index t = ![(grid0.coords t 0).val, (grid0.coords t 2).val, (grid0.coords t 1).val] :=
  (by decide +kernel : ∀ t : Fin grid0.N, win0_3.index t = ![(grid0.coords t 0).val, (grid0.coords t 2).val, (grid0.coords t 1).val]) t

variable (t : Fin cfg0.N)

/-- The point's batch, head and tile of queries. -/
abbrev tb : Fin 4 := grid0.coords t 0
abbrev th : Fin 8 := grid0.coords t 1
abbrev tq : Fin 8 := grid0.coords t 2
/-- The query of row `r` of the point's tile. -/
abbrev query (r : Fin 512) : Fin 4096 := ⟨512 * (tq t).val + r.val, by have := (tq t).isLt; have := r.isLt; omega⟩

theorem q_read (r : Fin 512) (x : Fin 192) : iblk m c 0 t (ix4 0 0 r x) = qs m c (ix4 (tb t) (th t) (query t r) x) := by
  have := idx0_0 t
  blk_ext [iblk, V, this]
  exacts [rfl, rfl, congrArg (· + r.val) (Nat.mul_comm _ _)]
theorem k_read (j : Fin 4096) (x : Fin 192) : iblk m c 1 t (ix4 0 0 j x) = ks m c (ix4 (tb t) (th t) j x) := by
  have := idx0_1 t
  blk_ext [iblk, V, this]
  exacts [rfl, rfl]
theorem v_read (j : Fin 4096) (d : Fin 128) : iblk m c 2 t (ix4 0 0 j d) = vs m c (ix4 (tb t) (th t) j d) := by
  have := idx0_2 t
  blk_ext [iblk, V, this]
  exacts [rfl, rfl]

theorem whole_col (j : Fin 4096) : (⟨j.val % 4096, Nat.mod_lt _ (by decide)⟩ : Fin 4096) = j := Fin.ext (Nat.mod_eq_of_lt j.isLt)

theorem score_read (r : Fin 512) (j : ℕ) : rowScore (iblk m c 0 t) (iblk m c 1 t) r j
    = FlashRefIdeal.Hand.score (qs m c) (ks m c) (tb t) (th t) (query t r) ⟨j % 4096, Nat.mod_lt _ (by decide)⟩ := by
  unfold rowScore FlashRefIdeal.Hand.score
  refine Finset.sum_congr rfl fun x _ => ?_
  rw [q_read, k_read]

theorem causal_read (r : Fin 512) (j : Fin 4096) : causal (iblk m c 0 t) (iblk m c 1 t) (tq t).val r j.val
    = FlashRefIdeal.Hand.causalScore (qs m c) (ks m c) (tb t) (th t) (query t r) j := by
  unfold causal FlashRefIdeal.Hand.causalScore
  rw [score_read, whole_col]

theorem value_read (j : Fin 4096) (d : Fin 128) : valueAt (iblk m c 2 t) d j.val = vs m c (ix4 (tb t) (th t) j d) := by
  unfold valueAt
  rw [whole_col, v_read]

/-- The tile of a point, at an element, is the reference's result at the element's place. -/
theorem tile_apply (hfin : Cert.Pre_finite.fn (F := Ideal) (qs m c) (ks m c) (vs m c) = fun _ => 1#1)
    (r : Fin 512) (d : Fin 128) (n : Fin 1024) (hn : n.val = 128 * (th t).val + d.val) :
    outsAt m c t (ix3 0 r d) = FlashRefIdeal.Read.val_main_v29 (F := Ideal) (qs m c) (ks m c) (vs m c) (ix3 (tb t) (query t r) n) := by
  have hS := Cert.Pre_finite.Hand.score_real _ _ _ hfin (tb t) (th t) (query t r)
  have hM := FlashRefIdeal.Hand.rowTop_real _ _ _ _ _ hS
  rw [FlashRefIdeal.Hand.ref_apply (qs m c) (ks m c) (vs m c) (tb t) (query t r) n (th t) d hn]
  unfold outsAt
  rw [outTile_apply _ _ _ _ r d (fun j => by rw [score_read]; exact hS _) (tq t).isLt _ hM.1 hM.2]
  simp only [causal_read, value_read]

theorem out_array (hfin : Cert.Pre_finite.fn (F := Ideal) (qs m c) (ks m c) (vs m c) = fun _ => 1#1) :
    (dats m 0 c).arrAt 3 cfg0.N = FlashRefIdeal.Read.val_main_v29 (F := Ideal) (qs m c) (ks m c) (vs m c) := by
  refine (dats m 0 c).arrAt_eq_of_covers 3 _ (by decide +kernel) fun t hf y => ?_
  blk_simp
  rw [after0_3]
  have e := idx0_3 t
  obtain ⟨r, d, rfl⟩ : ∃ (r : Fin 512) (d : Fin 128), y = ix3 (n0 := 1) 0 r d := by
    refine ⟨y 1, y 2, (eq_ix3 (n0 := 1) (n1 := 512) (n2 := 128) y).trans ?_⟩
    congr 1
    exact Subsingleton.elim _ _
  have hn : 128 * (th t).val + d.val < 1024 := by have := (th t).isLt; have := d.isLt; omega
  rw [tile_apply m c t hfin r d ⟨_, hn⟩ rfl]
  congr 1
  symm
  blk_ext [e]
  exacts [rfl, congrArg (· + r.val) (Nat.mul_comm _ _), congrArg (· + d.val) (Nat.mul_comm _ _)]

/-- Every execution leaves the reference's result, and the arguments as they were. -/
theorem value_run (g : Dev nD → PrngReg) (hfin : ∀ c : Dev nD, Cert.Pre_finite.fn (F := Ideal) (qs m c) (ks m c) (vs m c) = fun _ => 1#1) :
    θ_run (defs (F := Ideal)) (onTc (τ := τ) (main (F := Ideal))) ⟨m, fun _ => 0, g⟩ (fun r => ∀ c : Dev nD,
      r.2.mem ((c.tc : Thread nD τ).loc main_v0) = FlashRefIdeal.Read.val_main_v29 (F := Ideal) (qs m c) (ks m c) (vs m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run _ _ _).mono (fun _ h c => ⟨((h.1 c).1 3).trans (out_array m c (hfin c)),
    ((h.1 c).1 0).trans (((dats m 0 c).arrAt_in 0 rfl _).trans (V_main_arg0 m c)),
    ((h.1 c).1 1).trans (((dats m 0 c).arrAt_in 1 rfl _).trans (V_main_arg1 m c)),
    ((h.1 c).1 2).trans (((dats m 0 c).arrAt_in 2 rfl _).trans (V_main_arg2 m c))⟩) (run_main m g)

end Cert.FlashIdeal.Hand
end
-- ==== Proof.lean ====
module

public import proofs.«01_k».proof.Defs
public import proofs.«01_k».proof.Proof.Gen.Flash
public import proofs.«01_k».proof.Proof.Gen.Flash.Skeleton
public import proofs.«01_k».proof.Proof.Gen.Flash.Loops
public import proofs.«01_k».proof.Proof.Gen.Flash.Launch
public import proofs.«01_k».proof.Proof.Gen.Flash.Points
public import proofs.«01_k».proof.Proof.Gen.Flash.Frame
public import proofs.«01_k».proof.Proof.Gen.FlashIdeal
public import proofs.«01_k».proof.Proof.Gen.FlashIdeal.Skeleton
public import proofs.«01_k».proof.Proof.Gen.FlashIdeal.Loops
public import proofs.«01_k».proof.Proof.Gen.FlashIdeal.Launch
public import proofs.«01_k».proof.Proof.Gen.FlashIdeal.Points
public import proofs.«01_k».proof.Proof.Gen.FlashIdeal.Frame
public import proofs.«01_k».proof.Proof.Gen.FlashRefIdeal
public import proofs.«01_k».proof.Proof.Gen.FlashRefIdeal.Run
public import proofs.«01_k».proof.Proof.Gen.FlashRefIdeal.Read
public import proofs.«01_k».proof.Proof.Gen.Pre_finite
public import proofs.«01_k».proof.Proof.Gen.ProjBIdeal.Value
public import proofs.«01_k».proof.Proof.Gen.ProjSIdeal.Value
public import proofs.«01_k».proof.Proof.Gen.ProjGIdeal.Value
public import proofs.«01_k».proof.Proof.Gen.MergeIdeal.Value
public import proofs.«01_k».proof.Proof.Gen.ProjBRefIdeal.Run
public import proofs.«01_k».proof.Proof.Gen.ProjSRefIdeal.Run
public import proofs.«01_k».proof.Proof.Gen.ProjGRefIdeal.Run
public import proofs.«01_k».proof.Proof.Gen.ProjBRefIdeal.Read
public import proofs.«01_k».proof.Proof.Gen.ProjSRefIdeal.Read
public import proofs.«01_k».proof.Proof.Gen.ProjGRefIdeal.Read
public import proofs.«01_k».proof.Proof.Gen.MergeRefIdeal.Run
public import proofs.«01_k».proof.Proof.Gen.MergeRefIdeal.Read
public import proofs.«01_k».proof.Proof.Gen.ProjB
public import proofs.«01_k».proof.Proof.Gen.ProjB.Frame
public import proofs.«01_k».proof.Proof.Gen.ProjBIdeal
public import proofs.«01_k».proof.Proof.Gen.ProjBRefIdeal
public import proofs.«01_k».proof.Proof.Gen.ProjS
public import proofs.«01_k».proof.Proof.Gen.ProjS.Frame
public import proofs.«01_k».proof.Proof.Gen.ProjSIdeal
public import proofs.«01_k».proof.Proof.Gen.ProjSRefIdeal
public import proofs.«01_k».proof.Proof.Gen.ProjG
public import proofs.«01_k».proof.Proof.Gen.ProjG.Frame
public import proofs.«01_k».proof.Proof.Gen.ProjGIdeal
public import proofs.«01_k».proof.Proof.Gen.ProjGRefIdeal
public import proofs.«01_k».proof.Proof.Gen.Merge
public import proofs.«01_k».proof.Proof.Gen.Merge.Frame
public import proofs.«01_k».proof.Proof.Gen.MergeIdeal
public import proofs.«01_k».proof.Proof.Gen.MergeRefIdeal
public import proofs.«01_k».proof.Proof.Gen.Pre_finite_weights
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjRefIdeal
public import proofs.«01_k».proof.Proof.Gen.OutProjRefIdeal.Run
public import proofs.«01_k».proof.Proof.Gen.OutProjRefIdeal.Read
public import proofs.«01_k».proof.Proof.Gen.LatKV
public import proofs.«01_k».proof.Proof.Gen.LatKV.Skeleton
public import proofs.«01_k».proof.Proof.Gen.LatKV.Launch
public import proofs.«01_k».proof.Proof.Gen.LatKV.Points
public import proofs.«01_k».proof.Proof.Gen.LatKV.Frame
public import proofs.«01_k».proof.Proof.Gen.LatKVIdeal
public import proofs.«01_k».proof.Proof.Gen.LatKVIdeal.Skeleton
public import proofs.«01_k».proof.Proof.Gen.LatKVIdeal.Launch
public import proofs.«01_k».proof.Proof.Gen.LatKVIdeal.Points
public import proofs.«01_k».proof.Proof.Gen.LatKVIdeal.Frame
public import proofs.«01_k».proof.Proof.Gen.LatKVIdeal.Value
public import proofs.«01_k».proof.Proof.Gen.LatKVRefIdeal
public import proofs.«01_k».proof.Proof.Gen.LatKVRefIdeal.Run
public import proofs.«01_k».proof.Proof.Gen.LatKVRefIdeal.Read
public import proofs.«01_k».proof.Proof.Gen.LatQ
public import proofs.«01_k».proof.Proof.Gen.LatQ.Skeleton
public import proofs.«01_k».proof.Proof.Gen.LatQ.Launch
public import proofs.«01_k».proof.Proof.Gen.LatQ.Points
public import proofs.«01_k».proof.Proof.Gen.LatQ.Frame
public import proofs.«01_k».proof.Proof.Gen.LatQIdeal
public import proofs.«01_k».proof.Proof.Gen.LatQIdeal.Skeleton
public import proofs.«01_k».proof.Proof.Gen.LatQIdeal.Launch
public import proofs.«01_k».proof.Proof.Gen.LatQIdeal.Points
public import proofs.«01_k».proof.Proof.Gen.LatQIdeal.Frame
public import proofs.«01_k».proof.Proof.Gen.LatQIdeal.Value
public import proofs.«01_k».proof.Proof.Gen.LatQRefIdeal
public import proofs.«01_k».proof.Proof.Gen.LatQRefIdeal.Run
public import proofs.«01_k».proof.Proof.Gen.LatQRefIdeal.Read
public import proofs.«01_k».proof.Proof.Gen.Router
public import proofs.«01_k».proof.Proof.Gen.Router.Skeleton
public import proofs.«01_k».proof.Proof.Gen.Router.Launch
public import proofs.«01_k».proof.Proof.Gen.Router.Points
public import proofs.«01_k».proof.Proof.Gen.Router.Frame
public import proofs.«01_k».proof.Proof.Gen.RouterIdeal
public import proofs.«01_k».proof.Proof.Gen.RouterIdeal.Skeleton
public import proofs.«01_k».proof.Proof.Gen.RouterIdeal.Launch
public import proofs.«01_k».proof.Proof.Gen.RouterIdeal.Points
public import proofs.«01_k».proof.Proof.Gen.RouterIdeal.Frame
public import proofs.«01_k».proof.Proof.Gen.RouterIdeal.Value
public import proofs.«01_k».proof.Proof.Gen.RouterRefIdeal
public import proofs.«01_k».proof.Proof.Gen.RouterRefIdeal.Run
public import proofs.«01_k».proof.Proof.Gen.RouterRefIdeal.Read
public import proofs.«01_k».proof.Proof.Gen.Pre_finite_router
public import proofs.«01_k».proof.Proof.PB
public import proofs.«01_k».proof.Proof.PS
public import proofs.«01_k».proof.Proof.PG
public import proofs.«01_k».proof.Proof.PM
public import proofs.«01_k».proof.Proof.OB
public import proofs.«01_k».proof.Proof.PO
public import proofs.«01_k».proof.Proof.PK
public import proofs.«01_k».proof.Proof.PQ
public import proofs.«01_k».proof.Proof.PV
public import proofs.«01_k».proof.Proof.FB.Run
public import proofs.«01_k».proof.Proof.FI.Run
public import proofs.«01_k».proof.Proof.FV.Final
public import Idealize.ShloMosaic.Lib.Quiescent
public import Idealize.ShloMosaic.Adequacy
public import Idealize.ShloMosaic.Init

@[expose] public section

noncomputable section

namespace Cert.Proof

open Idealize.ShloMosaic Idealize.SL.Sem Cert.Flash

theorem frame_ref : Cert.quiescent_FlashRefIdeal := by
  intro m g _
  exact (θ_run _ _ _).mono (fun _ h => ⟨fun c => (h c).2, sem_eq_zero_of_no_sems rfl _⟩) (FlashRefIdeal.Value.run m g)

/-- From arguments that agree, the kernel's result and the reference's are one array. -/
theorem values : Cert.algebraic_FlashIdeal_FlashRefIdeal_pre_finite := fun m g m' g' hpre hargs =>
  ⟨fun c => FlashRefIdeal.Read.val_main_v29 (F := Ideal) (FlashIdeal.Hand.qs m c) (FlashIdeal.Hand.ks m c) (FlashIdeal.Hand.vs m c),
    FlashIdeal.Hand.value_run m g hpre,
    (θ_run _ _ _).mono (fun _ h c => ⟨(h c).1.trans ((FlashRefIdeal.Read.val_main_v29_eq m' c).trans (by
      rw [(hargs c).1, (hargs c).2.1, (hargs c).2.2])), (h c).2⟩) (FlashRefIdeal.Value.run m' g')⟩

theorem frame_ref_b : Cert.quiescent_ProjBRefIdeal := fun m g _ =>
  (θ_run _ _ _).mono (fun _ h => ⟨fun c => (h c).2.2, sem_eq_zero_of_no_sems rfl _⟩) (ProjBRefIdeal.Value.run m g)

theorem frame_ref_s : Cert.quiescent_ProjSRefIdeal := fun m g _ =>
  (θ_run _ _ _).mono (fun _ h => ⟨fun c => (h c).2, sem_eq_zero_of_no_sems rfl _⟩) (ProjSRefIdeal.Value.run m g)

theorem frame_ref_g : Cert.quiescent_ProjGRefIdeal := fun m g _ =>
  (θ_run _ _ _).mono (fun _ h => ⟨fun c => (h c).2, sem_eq_zero_of_no_sems rfl _⟩) (ProjGRefIdeal.Value.run m g)

theorem frame_ref_m : Cert.quiescent_MergeRefIdeal := fun m g _ =>
  (θ_run _ _ _).mono (fun _ h => ⟨fun c => (h c).2, sem_eq_zero_of_no_sems rfl _⟩) (MergeRefIdeal.Value.run m g)

/-- The bfloat16 part of the in-projection, and the rounded input beside it. -/
theorem values_b : Cert.algebraic_ProjBIdeal_ProjBRefIdeal := fun m g m' g' _ hargs =>
  ⟨fun c => ProjBIdeal.Hand.prod (ProjBIdeal.Hand.rows (m ((c.tc : Thread _ _).loc ProjBIdeal.main_arg0)))
      (ProjBIdeal.Hand.wb (m ((c.tc : Thread _ _).loc ProjBIdeal.main_arg1))),
    fun c => ProjBIdeal.Hand.rows (m ((c.tc : Thread _ _).loc ProjBIdeal.main_arg0)),
    (θ_run _ _ _).mono (fun _ h c => ⟨(h c).1.trans (ProjBIdeal.Hand.out_array m c),
      (h c).2.1.trans (ProjBIdeal.Hand.rows_array m c), (h c).2.2⟩) (ProjBIdeal.Value.run_blocks m g),
    (θ_run _ _ _).mono (fun _ h c => ⟨(h c).1.trans ((ProjBRefIdeal.Read.val_main_v13_eq _ _).trans (by
        rw [(hargs c).1, (hargs c).2]; exact ProjBIdeal.Hand.ref_prod _ _)),
      (h c).2.1.trans ((ProjBRefIdeal.Read.val_main_v15_eq _).trans (by
        rw [(hargs c).1]; exact ProjBIdeal.Hand.ref_rows _)), (h c).2.2⟩) (ProjBRefIdeal.Value.run m' g')⟩

/-- The float32 part of the in-projection. -/
theorem values_s : Cert.algebraic_ProjSIdeal_ProjSRefIdeal_pre_finite_weights := fun m g m' g' hpre hargs =>
  ⟨fun c => ProjSIdeal.Hand.prod (m ((c.tc : Thread _ _).loc ProjSIdeal.main_arg0))
      (ProjSIdeal.Hand.ws (m ((c.tc : Thread _ _).loc ProjSIdeal.main_arg1))),
    (θ_run _ _ _).mono (fun _ h c => ⟨(h c).1.trans (ProjSIdeal.Hand.out_array m c), (h c).2⟩) (ProjSIdeal.Value.run_blocks m g),
    (θ_run _ _ _).mono (fun _ h c => ⟨(h c).1.trans ((ProjSRefIdeal.Read.val_main_v27_eq m' c).trans (by
        rw [(hargs c).1, (hargs c).2]; exact ProjSIdeal.Hand.ref_prod_of_finite _ _ (hpre c))), (h c).2⟩)
      (ProjSRefIdeal.Value.run m' g')⟩

/-- The gates' part of the in-projection. -/
theorem values_g : Cert.algebraic_ProjGIdeal_ProjGRefIdeal := fun m g m' g' _ hargs =>
  ⟨fun c => ProjGIdeal.Hand.gates (m ((c.tc : Thread _ _).loc ProjGIdeal.main_arg0)) (m ((c.tc : Thread _ _).loc ProjGIdeal.main_arg1)),
    (θ_run _ _ _).mono (fun _ h c => ⟨(h c).1.trans (ProjGIdeal.Hand.out_array m c), (h c).2⟩) (ProjGIdeal.Value.run_blocks m g),
    (θ_run _ _ _).mono (fun _ h c => ⟨(h c).1.trans ((ProjGRefIdeal.Read.val_main_v11_eq _ _).trans (by
        rw [(hargs c).1, (hargs c).2]; exact ProjGIdeal.Hand.ref_gates _ _)), (h c).2⟩) (ProjGRefIdeal.Value.run m' g')⟩

/-- The two attention outputs, projected, gated and added. -/
theorem values_m : Cert.algebraic_MergeIdeal_MergeRefIdeal := fun m g m' g' _ hargs =>
  ⟨fun c => MergeIdeal.Hand.merged (m ((c.tc : Thread _ _).loc MergeIdeal.main_arg0)) (m ((c.tc : Thread _ _).loc MergeIdeal.main_arg1))
      (m ((c.tc : Thread _ _).loc MergeIdeal.main_arg2)) (m ((c.tc : Thread _ _).loc MergeIdeal.main_arg3))
      (m ((c.tc : Thread _ _).loc MergeIdeal.main_arg4)),
    (θ_run _ _ _).mono (fun _ h c => ⟨(h c).1.trans (MergeIdeal.Hand.out_array m c), (h c).2⟩) (MergeIdeal.Value.run_blocks m g),
    (θ_run _ _ _).mono (fun _ h c => ⟨(h c).1.trans ((MergeRefIdeal.Read.val_main_v21_eq _ _ _ _ _).trans (by
        rw [(hargs c).1, (hargs c).2.1, (hargs c).2.2.1, (hargs c).2.2.2.1, (hargs c).2.2.2.2]
        exact MergeIdeal.Hand.ref_merged _ _ _ _ _)), (h c).2⟩) (MergeRefIdeal.Value.run m' g')⟩

theorem frame_ref_o : Cert.quiescent_OutProjRefIdeal := fun m g _ =>
  (θ_run _ _ _).mono (fun _ h => ⟨fun c => (h c).2.2, sem_eq_zero_of_no_sems rfl _⟩) (OutProjRefIdeal.Value.run m g)

theorem frame_ref_k : Cert.quiescent_LatKVRefIdeal := fun m g _ =>
  (θ_run _ _ _).mono (fun _ h => ⟨fun c => (h c).2.2, sem_eq_zero_of_no_sems rfl _⟩) (LatKVRefIdeal.Value.run m g)

/-- The out-projection with the normalised sum after it, and the same result in slabs. -/
theorem values_o : Cert.algebraic_OutProjIdeal_OutProjRefIdeal := fun m g m' g' _ hargs =>
  ⟨fun c => OutProjIdeal.Hand.out m c, fun c => OutProjIdeal.Hand.slabs (OutProjIdeal.Hand.out m c),
    (θ_run _ _ _).mono (fun _ h c => ⟨((h.1 c).1 5).trans (OutProjIdeal.Hand.out_array m c),
      ((h.1 c).1 6).trans (OutProjIdeal.Hand.slab_array m c),
      ((h.1 c).1 0).trans (((OutProjIdeal.Hand.dats m 0 c).arrAt_in 0 rfl _).trans (OutProjIdeal.Gen.V_main_arg0 m c)),
      ((h.1 c).2 OutProjIdeal.main_arg1 (Pipeline.mem_restRefs_of OutProjIdeal.main_arg1 (by decide) (by decide))).trans (OutProjIdeal.Gen.V_main_arg1 m c),
      ((h.1 c).2 OutProjIdeal.main_arg2 (Pipeline.mem_restRefs_of OutProjIdeal.main_arg2 (by decide) (by decide))).trans (OutProjIdeal.Gen.V_main_arg2 m c),
      ((h.1 c).2 OutProjIdeal.main_arg3 (Pipeline.mem_restRefs_of OutProjIdeal.main_arg3 (by decide) (by decide))).trans (OutProjIdeal.Gen.V_main_arg3 m c),
      ((h.1 c).2 OutProjIdeal.main_arg4 (Pipeline.mem_restRefs_of OutProjIdeal.main_arg4 (by decide) (by decide))).trans (OutProjIdeal.Gen.V_main_arg4 m c)⟩)
      (OutProjIdeal.Hand.run_main m g),
    (θ_run _ _ _).mono (fun _ h c => ⟨(h c).1.trans ((OutProjRefIdeal.Read.val_main_v29_eq _ _ _ _ _).trans (by
        rw [(hargs c).1, (hargs c).2.1, (hargs c).2.2.1, (hargs c).2.2.2.1, (hargs c).2.2.2.2]
        exact OutProjIdeal.Hand.ref_hidden _ _ _ _ _)),
      (h c).2.1.trans ((OutProjRefIdeal.Read.val_main_v30_eq _ _ _ _ _).trans (by
        rw [(hargs c).1, (hargs c).2.1, (hargs c).2.2.1, (hargs c).2.2.2.1, (hargs c).2.2.2.2]
        exact OutProjIdeal.Hand.ref_slabs _ _ _ _ _)), (h c).2.2⟩) (OutProjRefIdeal.Value.run m' g')⟩

/-- The latent attention's keys and values. -/
theorem values_k : Cert.algebraic_LatKVIdeal_LatKVRefIdeal := fun m g m' g' _ hargs =>
  ⟨fun c => LatKVIdeal.Hand.keys (m ((c.tc : Thread _ _).loc LatKVIdeal.main_arg0)) (m ((c.tc : Thread _ _).loc LatKVIdeal.main_arg1))
      (m ((c.tc : Thread _ _).loc LatKVIdeal.main_arg2)),
    fun c => LatKVIdeal.Hand.values (m ((c.tc : Thread _ _).loc LatKVIdeal.main_arg0)) (m ((c.tc : Thread _ _).loc LatKVIdeal.main_arg1))
      (m ((c.tc : Thread _ _).loc LatKVIdeal.main_arg2)),
    (θ_run _ _ _).mono (fun _ h c => ⟨(h c).1.trans (LatKVIdeal.Hand.keys_array m c),
      (h c).2.1.trans (LatKVIdeal.Hand.values_array m c), (h c).2.2⟩) (LatKVIdeal.Value.run_blocks m g),
    (θ_run _ _ _).mono (fun _ h c => ⟨(h c).1.trans ((LatKVRefIdeal.Read.val_main_v57_eq m' c).trans (by
        rw [(hargs c).1, (hargs c).2.1, (hargs c).2.2]; exact LatKVIdeal.Hand.ref_keys _ _ _)),
      (h c).2.1.trans ((LatKVRefIdeal.Read.val_main_v59_eq _ _ _).trans (by
        rw [(hargs c).1, (hargs c).2.1, (hargs c).2.2]; exact LatKVIdeal.Hand.ref_values _ _ _)), (h c).2.2⟩)
      (LatKVRefIdeal.Value.run m' g')⟩

theorem frame_ref_q : Cert.quiescent_LatQRefIdeal := fun m g _ =>
  (θ_run _ _ _).mono (fun _ h => ⟨fun c => (h c).2, sem_eq_zero_of_no_sems rfl _⟩) (LatQRefIdeal.Value.run m g)

/-- The latent attention's queries. -/
theorem values_q : Cert.algebraic_LatQIdeal_LatQRefIdeal := fun m g m' g' _ hargs =>
  ⟨fun c => LatQIdeal.Hand.queries (m ((c.tc : Thread _ _).loc LatQIdeal.main_arg0)),
    (θ_run _ _ _).mono (fun _ h c => ⟨(h c).1.trans (LatQIdeal.Hand.queries_array m c), (h c).2⟩) (LatQIdeal.Value.run_blocks m g),
    (θ_run _ _ _).mono (fun _ h c => ⟨(h c).1.trans ((LatQRefIdeal.Read.val_main_v45_eq m' c).trans (by
        rw [hargs c]; exact LatQIdeal.Hand.ref_queries _)), (h c).2⟩) (LatQRefIdeal.Value.run m' g')⟩

theorem frame_ref_r : Cert.quiescent_RouterRefIdeal := fun m g _ =>
  (θ_run _ _ _).mono (fun _ h => ⟨fun c => (h c).2.2, sem_eq_zero_of_no_sems rfl _⟩) (RouterRefIdeal.Value.run m g)

/-- The experts of every token, and their weights. -/
theorem values_r : Cert.algebraic_RouterIdeal_RouterRefIdeal_pre_finite_router := fun m g m' g' hpre hargs =>
  have hf := fun c => RouterIdeal.Hand.finite_read _ _ _ _ _ (hpre c)
  have hX := fun (c : Dev RouterIdeal.nD) n e => RouterIdeal.Hand.experts_nonneg (m ((c.tc : Thread _ _).loc RouterIdeal.main_arg0)) (m ((c.tc : Thread _ _).loc RouterIdeal.main_arg1))
    (m ((c.tc : Thread _ _).loc RouterIdeal.main_arg2)) (m ((c.tc : Thread _ _).loc RouterIdeal.main_arg3)) (m ((c.tc : Thread _ _).loc RouterIdeal.main_arg4))
    (hf c).1 (hf c).2.2.1 (hf c).2.2.2 n (RouterIdeal.Hand.group (RouterIdeal.Hand.logit _ _ _ _ _ n)) e
  ⟨fun c => RouterIdeal.Hand.idArray (m ((c.tc : Thread _ _).loc RouterIdeal.main_arg0)) (m ((c.tc : Thread _ _).loc RouterIdeal.main_arg1))
      (m ((c.tc : Thread _ _).loc RouterIdeal.main_arg2)) (m ((c.tc : Thread _ _).loc RouterIdeal.main_arg3)) (m ((c.tc : Thread _ _).loc RouterIdeal.main_arg4)),
    fun c => RouterIdeal.Hand.weightArray (m ((c.tc : Thread _ _).loc RouterIdeal.main_arg0)) (m ((c.tc : Thread _ _).loc RouterIdeal.main_arg1))
      (m ((c.tc : Thread _ _).loc RouterIdeal.main_arg2)) (m ((c.tc : Thread _ _).loc RouterIdeal.main_arg3)) (m ((c.tc : Thread _ _).loc RouterIdeal.main_arg4)),
    (θ_run _ _ _).mono (fun _ h c => ⟨(h c).1.trans (RouterIdeal.Hand.ids_array m c (hf c).1 (hf c).2.1 (hf c).2.2.1 (hf c).2.2.2),
      (h c).2.1.trans (RouterIdeal.Hand.weights_array m c (hf c).1 (hf c).2.1 (hf c).2.2.1 (hf c).2.2.2), (h c).2.2⟩) (RouterIdeal.Value.run_blocks m g),
    (θ_run _ _ _).mono (fun _ h c => ⟨(h c).1.trans ((RouterRefIdeal.Read.val_main_v45_eq _).trans (by
        change RouterRefIdeal.Read.val_main_v45 (F := Ideal) (m' ((c.tc : Thread _ _).loc RouterRefIdeal.main_arg0)) (m' ((c.tc : Thread _ _).loc RouterRefIdeal.main_arg1))
          (m' ((c.tc : Thread _ _).loc RouterRefIdeal.main_arg2)) (m' ((c.tc : Thread _ _).loc RouterRefIdeal.main_arg3)) (m' ((c.tc : Thread _ _).loc RouterRefIdeal.main_arg4)) = _
        rw [(hargs c).1, (hargs c).2.1, (hargs c).2.2.1, (hargs c).2.2.2.1, (hargs c).2.2.2.2]
        exact RouterRefIdeal.Hand.ref_ids _ _ _ _ _ (hX c))),
      (h c).2.1.trans ((RouterRefIdeal.Read.val_main_v47_eq _).trans (by
        change RouterRefIdeal.Read.val_main_v47 (F := Ideal) (m' ((c.tc : Thread _ _).loc RouterRefIdeal.main_arg0)) (m' ((c.tc : Thread _ _).loc RouterRefIdeal.main_arg1))
          (m' ((c.tc : Thread _ _).loc RouterRefIdeal.main_arg2)) (m' ((c.tc : Thread _ _).loc RouterRefIdeal.main_arg3)) (m' ((c.tc : Thread _ _).loc RouterRefIdeal.main_arg4)) = _
        rw [(hargs c).1, (hargs c).2.1, (hargs c).2.2.1, (hargs c).2.2.2.1, (hargs c).2.2.2.2]
        exact RouterRefIdeal.Hand.ref_weights _ _ _ _ _ (hX c))), (h c).2.2⟩) (RouterRefIdeal.Value.run m' g')⟩

theorem claim : Cert.Claim :=
  ⟨Cert.Flash.Gen.facts, Cert.FlashIdeal.Gen.facts, Cert.FlashRefIdeal.Gen.facts,
    Cert.ProjB.Gen.facts, Cert.ProjBIdeal.Gen.facts, Cert.ProjBRefIdeal.Gen.facts,
    Cert.ProjS.Gen.facts, Cert.ProjSIdeal.Gen.facts, Cert.ProjSRefIdeal.Gen.facts,
    Cert.ProjG.Gen.facts, Cert.ProjGIdeal.Gen.facts, Cert.ProjGRefIdeal.Gen.facts,
    Cert.Merge.Gen.facts, Cert.MergeIdeal.Gen.facts, Cert.MergeRefIdeal.Gen.facts,
    Cert.OutProj.Gen.facts, Cert.OutProjIdeal.Gen.facts, Cert.OutProjRefIdeal.Gen.facts,
    Cert.LatKV.Gen.facts, Cert.LatKVIdeal.Gen.facts, Cert.LatKVRefIdeal.Gen.facts,
    Cert.LatQ.Gen.facts, Cert.LatQIdeal.Gen.facts, Cert.LatQRefIdeal.Gen.facts,
    Cert.Router.Gen.facts, Cert.RouterIdeal.Gen.facts, Cert.RouterRefIdeal.Gen.facts,
    Cert.Pre_finite.Gen.facts, Cert.Pre_finite_weights.Gen.facts, Cert.Pre_finite_router.Gen.facts,
    fun m g _ => Cert.Flash.Hand.frame_run m g, fun m g _ => Cert.FlashIdeal.Hand.frame_run m g,
    fun m g _ => Cert.FlashIdeal.Hand.frame_run m g, frame_ref, fun m g _ => frame_ref m g trivial,
    fun m g _ => Cert.ProjB.Gen.frame m g, fun m g _ => Cert.ProjBIdeal.Gen.frame m g, frame_ref_b,
    fun m g _ => Cert.ProjS.Gen.frame m g, fun m g _ => Cert.ProjSIdeal.Gen.frame m g,
    fun m g _ => Cert.ProjSIdeal.Gen.frame m g, frame_ref_s, fun m g _ => frame_ref_s m g trivial,
    fun m g _ => Cert.ProjG.Gen.frame m g, fun m g _ => Cert.ProjGIdeal.Gen.frame m g, frame_ref_g,
    fun m g _ => Cert.Merge.Gen.frame m g, fun m g _ => Cert.MergeIdeal.Gen.frame m g, frame_ref_m,
    fun m g _ => Cert.OutProj.Hand.frame_run m g, fun m g _ => Cert.OutProjIdeal.Hand.frame_run m g, frame_ref_o,
    fun m g _ => Cert.LatKV.Gen.frame m g, fun m g _ => Cert.LatKVIdeal.Gen.frame m g, frame_ref_k,
    fun m g _ => Cert.LatQ.Gen.frame m g, fun m g _ => Cert.LatQIdeal.Gen.frame m g, frame_ref_q,
    fun m g _ => Cert.Router.Gen.frame m g, fun m g _ => Cert.RouterIdeal.Gen.frame m g,
    fun m g _ => Cert.RouterIdeal.Gen.frame m g, frame_ref_r, fun m g _ => frame_ref_r m g trivial,
    IdealRules.named_const.statement Cert.FlashIdeal.κ "mask" .f32 0xF149F2CA#32 ⊥ rfl, values,
    trivial, values_b, trivial, values_s, trivial, values_g, trivial, values_m,
    trivial, values_o, trivial, values_k,
    IdealRules.named_const.statement Cert.LatQIdeal.κ "scale" .f32 0x3DD53B95#32 _ rfl, values_q,
    trivial, values_r⟩

end Cert.Proof

end
